-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_expert_numbers : Cert.Pre_expert_numbers.Facts] (m : (ℓ : Loc Cert.Kernel4.nD Cert.Kernel4.τ Cert.Kernel4.sig) → Buf (Elt Bits) ℓ) : Prop :=
  ∀ c : Dev Cert.Kernel4.nD,
    (Cert.Pre_expert_numbers.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_expert_numbers : Cert.Pre_expert_numbers.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_expert_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_expert_numbers [hPre_expert_numbers : Cert.Pre_expert_numbers.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_expert_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_inputs [hPre_finite_inputs : Cert.Pre_finite_inputs.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_inputs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_inputs [hPre_finite_inputs : Cert.Pre_finite_inputs.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_inputs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_expert_numbers : Cert.Pre_expert_numbers.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_expert_numbers : Cert.Pre_expert_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_expert_numbers [hReference4Ideal : Cert.Reference4Ideal.Facts] [hPre_expert_numbers : Cert.Pre_expert_numbers.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_expert_numbers m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_inputs [hKernel7Ideal : Cert.Kernel7Ideal.Facts] [hPre_finite_inputs : Cert.Pre_finite_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_inputs m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_inputs [hReference7Ideal : Cert.Reference7Ideal.Facts] [hPre_finite_inputs : Cert.Pre_finite_inputs.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_inputs m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_v88) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_expert_numbers : Cert.Pre_expert_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v81) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_inputs [hKernel7Ideal : Cert.Kernel7Ideal.Facts] [hReference7Ideal : Cert.Reference7Ideal.Facts] [hPre_finite_inputs : Cert.Pre_finite_inputs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_inputs m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hPre_expert_numbers : Cert.Pre_expert_numbers.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_expert_numbers := hPre_expert_numbers)
    ∧ quiescent_Kernel4Ideal (hKernel4Ideal := hKernel4Ideal) (hPre_expert_numbers := hPre_expert_numbers)
    ∧ quiescent_Reference4Ideal (hReference4Ideal := hReference4Ideal)
    ∧ quiescent_Reference4Ideal_pre_expert_numbers (hReference4Ideal := hReference4Ideal) (hPre_expert_numbers := hPre_expert_numbers)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_inputs (hKernel7Ideal := hKernel7Ideal) (hPre_finite_inputs := hPre_finite_inputs)
    ∧ quiescent_Reference7Ideal (hReference7Ideal := hReference7Ideal)
    ∧ quiescent_Reference7Ideal_pre_finite_inputs (hReference7Ideal := hReference7Ideal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_expert_numbers := hPre_expert_numbers)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_inputs (hKernel7Ideal := hKernel7Ideal) (hReference7Ideal := hReference7Ideal) (hPre_finite_inputs := hPre_finite_inputs)
-- ==== Pre_expert_numbers.lean ====
abbrev S164 : Shape := ⟨1, ![164]⟩
abbrev S1 : Shape := ⟨1, ![1]⟩
abbrev S83968x1024 : Shape := ⟨2, ![83968, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S164 : S_.BroadcastsInDim S164 (![] : Fin 0 → Fin S164.rank)
  reducesTo_S164_S_d0 : S164.ReducesTo [0] S_
  h_S_ : 0 < S_.numel

variable [Facts]

def fn {F : FTy → Type} [FloatOps F] (main_arg0 : IVec S164 32) (main_arg1 : IVec S1 32) (main_arg2 : FVec F S83968x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S164 32 := broadcastInDim S164 ![] bcast_S_S164 main_c
  let main_v1 : IVec S164 1 := cmpi .sge main_arg0 main_v0
  let main_c_0 : IVec S_ 32 := constantI S_ 32 32#32
  let main_v2 : IVec S164 32 := broadcastInDim S164 ![] bcast_S_S164 main_c_0
  let main_v3 : IVec S164 1 := cmpi .slt main_arg0 main_v2
  let main_v4 : IVec S164 1 := andi main_v1 main_v3
  let main_c_1 : IVec S_ 1 := constantI S_ 1 1#1
  let main_v5 : IVec S_ 1 := (fun x v => Host.reduce IntOp.andi x v reducesTo_S164_S_d0 h_S_) main_v4 main_c_1
  main_v5
-- ==== Pre_finite_inputs.lean ====
abbrev S16896x1024 : Shape := ⟨2, ![16896, 1024]⟩
abbrev S2x8448x1024 : Shape := ⟨3, ![2, 8448, 1024]⟩
abbrev S2x33x1024x256 : Shape := ⟨4, ![2, 33, 1024, 256]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16896x1024 : S_.BroadcastsInDim S16896x1024 (![] : Fin 0 → Fin S16896x1024.rank)
  reducesTo_S16896x1024_S_d0_1 : S16896x1024.ReducesTo [0, 1] S_
  h_S_ : 0 < S_.numel
  bcast_S_S2x8448x1024 : S_.BroadcastsInDim S2x8448x1024 (![] : Fin 0 → Fin S2x8448x1024.rank)
  reducesTo_S2x8448x1024_S_d0_1_2 : S2x8448x1024.ReducesTo [0, 1, 2] S_
  bcast_S_S2x33x1024x256 : S_.BroadcastsInDim S2x33x1024x256 (![] : Fin 0 → Fin S2x33x1024x256.rank)
  reducesTo_S2x33x1024x256_S_d0_1_2_3 : S2x33x1024x256.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S16896x1024 .bf16) (main_arg1 : FVec F S2x8448x1024 .bf16) (main_arg2 : FVec F S2x33x1024x256 .bf16) (main_arg3 : FVec F S4x64 .f32) (main_arg4 : FVec F S128 .f32) : IVec S_ 1 :=
  let main_v0 : FVec F S16896x1024 .f32 := (extf .f32 · bitsLt_bf16_f32) main_arg0
  let main_v1 : FVec F S16896x1024 .f32 := Host.absf main_v0
  let main_cst : FVec F S_ .f32 := constant S_ .f32 0x7F800000#32
  let main_v2 : FVec F S16896x1024 .f32 := broadcastInDim S16896x1024 ![] bcast_S_S16896x1024 main_cst
  let main_v3 : IVec S16896x1024 1 := cmpf .olt main_v1 main_v2
  let main_c : IVec S_ 1 := constantI S_ 1 1#1
  let main_v4 : IVec S_ 1 := (fun x v => Host.reduce IntOp.andi x v reducesTo_S16896x1024_S_d0_1 h_S_) main_v3 main_c
  let main_v5 : FVec F S2x8448x1024 .f32 := (extf .f32 · bitsLt_bf16_f32) main_arg1
  let main_v6 : FVec F S2x8448x1024 .f32 := Host.absf main_v5
  let main_cst_0 : FVec F S_ .f32 := constant S_ .f32 0x7F800000#32
  let main_v7 : FVec F S2x8448x1024 .f32 := broadcastInDim S2x8448x1024 ![] bcast_S_S2x8448x1024 main_cst_0
  let main_v8 : IVec S2x8448x1024 1 := cmpf .olt main_v6 main_v7
  let main_c_1 : IVec S_ 1 := constantI S_ 1 1#1
  let main_v9 : IVec S_ 1 := (fun x v => Host.reduce IntOp.andi x v reducesTo_S2x8448x1024_S_d0_1_2 h_S_) main_v8 main_c_1
  let main_v10 : IVec S_ 1 := andi main_v4 main_v9
  let main_v11 : FVec F S2x33x1024x256 .f32 := (extf .f32 · bitsLt_bf16_f32) main_arg2
  let main_v12 : FVec F S2x33x1024x256 .f32 := Host.absf main_v11
  let main_cst_2 : FVec F S_ .f32 := constant S_ .f32 0x7F800000#32
  let main_v13 : FVec F S2x33x1024x256 .f32 := broadcastInDim S2x33x1024x256 ![] bcast_S_S2x33x1024x256 main_cst_2
  let main_v14 : IVec S2x33x1024x256 1 := cmpf .olt main_v12 main_v13
  let main_c_3 : IVec S_ 1 := constantI S_ 1 1#1
  let main_v15 : IVec S_ 1 := (fun x v => Host.reduce IntOp.andi x v reducesTo_S2x33x1024x256_S_d0_1_2_3 h_S_) main_v14 main_c_3
  let main_v16 : IVec S_ 1 := andi main_v10 main_v15
  let main_v17 : FVec F S4x64 .f32 := Host.absf main_arg3
  fn_part1 (F := F) main_v16 main_v17
-- ==== Kernel.lean ====
abbrev S16896x1024 : Shape := ⟨2, ![16896, 1024]⟩
abbrev S2x8448x1024 : Shape := ⟨3, ![2, 8448, 1024]⟩
abbrev S2x33x1024x256 : Shape := ⟨4, ![2, 33, 1024, 256]⟩
abbrev S4x64 : Shape := ⟨2, ![4, 64]⟩
abbrev S128 : Shape := ⟨1, ![128]⟩
abbrev S1x128 : Shape := ⟨2, ![1, 128]⟩
abbrev S16384x1024 : Shape := ⟨2, ![16384, 1024]⟩
abbrev S1024x128 : Shape := ⟨2, ![1024, 128]⟩
abbrev S1x8448x128 : Shape := ⟨3, ![1, 8448, 128]⟩
abbrev S1x33x128x256 : Shape := ⟨4, ![1, 33, 128, 256]⟩
abbrev S128x2048 : Shape := ⟨2, ![128, 2048]⟩
abbrev S2x1024x2048 : Shape := ⟨3, ![2, 1024, 2048]⟩
abbrev S1x2048 : Shape := ⟨2, ![1, 2048]⟩
abbrev S144x2048 : Shape := ⟨2, ![144, 2048]⟩
abbrev S128x1024 : Shape := ⟨2, ![128, 1024]⟩
abbrev S16x256 : Shape := ⟨2, ![16, 256]⟩
abbrev S1x1024x128 : Shape := ⟨3, ![1, 1024, 128]⟩
abbrev S1024x2048 : Shape := ⟨2, ![1024, 2048]⟩
abbrev S1x1024x2048 : Shape := ⟨3, ![1, 1024, 2048]⟩
abbrev S2048 : Shape := ⟨1, ![2048]⟩
abbrev S1x1x128x256 : Shape := ⟨4, ![1, 1, 128, 256]⟩
abbrev S128x256 : Shape := ⟨2, ![128, 256]⟩
abbrev S144x256 : Shape := ⟨2, ![144, 256]⟩
abbrev S256x2048 : Shape := ⟨2, ![256, 2048]⟩
abbrev S1x256x128 : Shape := ⟨3, ![1, 256, 128]⟩
abbrev S256x128 : Shape := ⟨2, ![256, 128]⟩
abbrev S1x256x2048 : Shape := ⟨3, ![1, 256, 2048]⟩
abbrev S1x64 : Shape := ⟨2, ![1, 64]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S16896x1024, .bf16⟩
  | .hbm, ⟨1, _⟩ => ⟨S2x8448x1024, .bf16⟩
  | .hbm, ⟨2, _⟩ => ⟨S2x33x1024x256, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S1024x128, .bf16⟩
  | .local _ .vmem, ⟨3, _⟩ => ⟨S1024x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x33x128x256, .bf16⟩
  | .local _ .vmem, ⟨7, _⟩ => ⟨S1x33x128x256, .bf16⟩
  | .local _ .vmem, ⟨8, _⟩ => ⟨S1024x128, .bf16⟩
  | .local _ .vmem, ⟨9, _⟩ => ⟨S1024x128, .bf16⟩
  | .local _ .vmem, ⟨10, _⟩ => ⟨S128x2048, .bf16⟩
  | .local _ .vmem, ⟨11, _⟩ => ⟨S2x1024x2048, .f32⟩
  | .local _ .vmem, ⟨12, _⟩ => ⟨S1x2048, .f32⟩
  | .local _ .vmem, ⟨13, _⟩ => ⟨S144x2048, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 8], ![false, false, false]⟩

@[reducible] def k0_t1_loop : Scf.Loop 32 :=
  let c0_i32 : BitVec 32 := 0#32
  let c3_i32 : BitVec 32 := 3#32
  let v33 : BitVec 32 := Scalar.addi c0_i32 c3_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let c4_i32 : BitVec 32 := 4#32
  let v209 : BitVec 32 := Scalar.addi v208 c4_i32
  let c256_i32 : BitVec 32 := 256#32
  let v210 : BitVec 32 := Scalar.muli v209 c256_i32
  v210
def k0_off1 (k0_t1 : Fin k0_t1_loop.trips) (c4_i32 : BitVec 32) : Fin 3 → Nat :=
  let c0_125 : Index := 0#32
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let v209 : BitVec 32 := Scalar.addi v208 c4_i32
  let c256_i32 : BitVec 32 := 256#32
  let v210 : BitVec 32 := Scalar.muli v209 c256_i32
  let v211 : BitVec 32 := v210
  let v212 : Index := Scalar.indexCast v211
  let c0_126 : Index := 0#32
  ![0, v212.toNat, 0]
def k0_off2 (k0_t1 : Fin k0_t1_loop.trips) (c0_i32_139 : BitVec 32) : Fin 4 → Nat :=
  let c0_140 : Index := 0#32
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let v232 : BitVec 32 := Scalar.addi v208 c0_i32_139
  let v233 : Index := Scalar.indexCast v232
  let c0_141 : Index := 0#32
  let c0_142 : Index := 0#32
  ![0, v233.toNat, 0, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let c8_i32_164 : BitVec 32 := 8#32
  let v273 : BitVec 32 := Scalar.addi v208 c8_i32_164
  let c256_i32_165 : BitVec 32 := 256#32
  let v274 : BitVec 32 := Scalar.muli v273 c256_i32_165
  v274
def k0_off3 (k0_t1 : Fin k0_t1_loop.trips) (c0_i32_181 : BitVec 32) : Fin 4 → Nat :=
  let c0_182 : Index := 0#32
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let c4_i32_174 : BitVec 32 := 4#32
  let v284 : BitVec 32 := Scalar.addi v208 c4_i32_174
  let v297 : BitVec 32 := Scalar.addi v284 c0_i32_181
  let v298 : Index := Scalar.indexCast v297
  let c0_183 : Index := 0#32
  let c0_184 : Index := 0#32
  ![0, v298.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x33x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16896x1024 : Shape := ⟨2, ![16896, 1024]⟩
abbrev S2x8448x1024 : Shape := ⟨3, ![2, 8448, 1024]⟩
abbrev S2x33x1024x256 : Shape := ⟨4, ![2, 33, 1024, 256]⟩
abbrev S4x64 : Shape := ⟨2, ![4, 64]⟩
abbrev S128 : Shape := ⟨1, ![128]⟩
abbrev S_ : Shape := ⟨0, ![]⟩
abbrev S16384x1024 : Shape := ⟨2, ![16384, 1024]⟩
abbrev S2x8192x8x2x64 : Shape := ⟨5, ![2, 8192, 8, 2, 64]⟩
abbrev S2x8448x8x2x64 : Shape := ⟨5, ![2, 8448, 8, 2, 64]⟩
abbrev S2x33x256x1024 : Shape := ⟨4, ![2, 33, 256, 1024]⟩
abbrev S2x8448x8x128 : Shape := ⟨4, ![2, 8448, 8, 128]⟩
abbrev S1x64 : Shape := ⟨2, ![1, 64]⟩
abbrev S64 : Shape := ⟨1, ![64]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x128x8192 : Shape := ⟨4, ![2, 8, 128, 8192]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S2x8448x1024, .bf16⟩
  | .hbm, ⟨2, _⟩ => ⟨S2x33x1024x256, .bf16⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x1024, .bf16⟩
  | .hbm, ⟨10, _⟩ => ⟨S16384x1024, .f32⟩
  | .hbm, ⟨11, _⟩ => ⟨S2x8192x8x2x64, .f32⟩
  | .hbm, ⟨12, _⟩ => ⟨S2x8192x8x2x64, .f32⟩
  | .hbm, ⟨13, _⟩ => ⟨S2x8192x8x2x64, .f32⟩
  | .hbm, ⟨14, _⟩ => ⟨S2x8448x1024, .f32⟩
  | .hbm, ⟨15, _⟩ => ⟨S2x8448x8x2x64, .f32⟩
  | .hbm, ⟨16, _⟩ => ⟨S2x33x1024x256, .f32⟩
  | .hbm, ⟨17, _⟩ => ⟨S2x33x256x1024, .f32⟩
  | .hbm, ⟨18, _⟩ => ⟨S2x8448x8x128, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x8x2x8192x8448, .f32⟩
  | .hbm, ⟨39, _⟩ => ⟨S_, .f32⟩
  | .hbm, ⟨40, _⟩ => ⟨S2x8x2x8192x8448, .f32⟩
  | .hbm, ⟨41, _⟩ => ⟨S2x8x2x8192x8448, .f32⟩
  | .hbm, ⟨42, _⟩ => ⟨S_, .f32⟩
  | .hbm, ⟨43, _⟩ => ⟨S2x8x2x8192, .f32⟩
  | .hbm, ⟨44, _⟩ => ⟨S_, .f32⟩
  | .hbm, ⟨45, _⟩ => ⟨S2x8x2x8192, .f32⟩
  | .hbm, ⟨46, _⟩ => ⟨S2x8x2x8192, .f32⟩
  | .hbm, ⟨47, _⟩ => ⟨S2x8x2x8192x1, .f32⟩
  | .hbm, ⟨48, _⟩ => ⟨S2x8x2x8192x8448, .f32⟩
  | .hbm, ⟨49, _⟩ => ⟨S2x8x2x8192x8448, .f32⟩
  | .hbm, ⟨50, _⟩ => ⟨S2x8x2x8192x8448, .f32⟩
  | .hbm, ⟨51, _⟩ => ⟨S_, .f32⟩
  | .hbm, ⟨52, _⟩ => ⟨S2x8x2x8192, .f32⟩
  | .hbm, ⟨53, _⟩ => ⟨S2x8x2x8192x1, .f32⟩
  | .hbm, ⟨54, _⟩ => ⟨S2x8x2x8192x8448, .f32⟩
  | .hbm, ⟨55, _⟩ => ⟨S2x8x2x8192x8448, .f32⟩
  | .hbm, ⟨56, _⟩ => ⟨S2x8x1x8192x8448, .f32⟩
  | .hbm, ⟨57, _⟩ => ⟨S2x8x8192x8448, .f32⟩
  | .hbm, ⟨58, _⟩ => ⟨S2x8x1x8192x8448, .f32⟩
  | .hbm, ⟨59, _⟩ => ⟨S2x8x8192x8448, .f32⟩
  | .hbm, ⟨60, _⟩ => ⟨S2x8x8192x8448, .f32⟩
  | .hbm, ⟨61, _⟩ => ⟨S2x8x8192x8448, .f32⟩
  | .hbm, ⟨62, _⟩ => ⟨S2x8x8192x8448, .f32⟩
  | .hbm, ⟨63, _⟩ => ⟨S2x8x128x8192, .f32⟩
  | .hbm, ⟨64, _⟩ => ⟨S2x8192x8x128, .f32⟩
  | .hbm, ⟨65, _⟩ => ⟨S2x8192x8x128, .f32⟩
  | .hbm, ⟨66, _⟩ => ⟨S_, .f32⟩
  | .hbm, ⟨67, _⟩ => ⟨S2x8192x8, .f32⟩
  | .hbm, ⟨68, _⟩ => ⟨S2x8192x8x1, .f32⟩
  | .hbm, ⟨69, _⟩ => ⟨S_, .f32⟩
  | .hbm, ⟨70, _⟩ => ⟨S2x8192x8x1, .f32⟩
  | .hbm, ⟨71, _⟩ => ⟨S2x8192x8x1, .f32⟩
  | .hbm, ⟨72, _⟩ => ⟨S_, .f32⟩
  | .hbm, ⟨73, _⟩ => ⟨S2x8192x8x1, .f32⟩
  | .hbm, ⟨74, _⟩ => ⟨S2x8192x8x1, .f32⟩
  | .hbm, ⟨75, _⟩ => ⟨S2x8192x8x1, .f32⟩
  | .hbm, ⟨76, _⟩ => ⟨S2x8192x8x128, .f32⟩
  | .hbm, ⟨77, _⟩ => ⟨S2x8192x8x128, .f32⟩
  | .hbm, ⟨78, _⟩ => ⟨S1x1x1x128, .f32⟩
  | .hbm, ⟨79, _⟩ => ⟨S2x8192x8x128, .f32⟩
  | .hbm, ⟨80, _⟩ => ⟨S2x8192x8x128, .f32⟩
  | .hbm, ⟨81, _⟩ => ⟨S_, .f32⟩
  | .hbm, ⟨82, _⟩ => ⟨S2x8192x8x128, .f32⟩
  | .hbm, ⟨83, _⟩ => ⟨S2x8192x8x128, .f32⟩
  | .hbm, ⟨84, _⟩ => ⟨S16384x1024, .f32⟩
  | .hbm, ⟨85, _⟩ => ⟨S16384x1024, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel2.lean ====
abbrev S16896x1024 : Shape := ⟨2, ![16896, 1024]⟩
abbrev S1024x1024 : Shape := ⟨2, ![1024, 1024]⟩
abbrev S3x1x1024 : Shape := ⟨3, ![3, 1, 1024]⟩
abbrev S1024 : Shape := ⟨1, ![1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S3x1x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16896x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16896x1024 : Shape := ⟨2, ![16896, 1024]⟩
abbrev S1024x1024 : Shape := ⟨2, ![1024, 1024]⟩
abbrev S3x1x1024 : Shape := ⟨3, ![3, 1, 1024]⟩
abbrev S1024 : Shape := ⟨1, ![1024]⟩
abbrev S16384x1024 : Shape := ⟨2, ![16384, 1024]⟩
abbrev S2x8192x1024 : Shape := ⟨3, ![2, 8192, 1024]⟩
abbrev S512x1024 : Shape := ⟨2, ![512, 1024]⟩
abbrev S2x256x1024 : Shape := ⟨3, ![2, 256, 1024]⟩
abbrev S_ : Shape := ⟨0, ![]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S1x1024 : Shape := ⟨2, ![1, 1024]⟩
abbrev S2x256 : Shape := ⟨2, ![2, 256]⟩
abbrev S2x256x1 : Shape := ⟨3, ![2, 256, 1]⟩

abbrev nBuf : Space → Nat
  | .hbm => 93
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S3x1x1024, .f32⟩
  | .hbm, ⟨4, _⟩ => ⟨S1024, .f32⟩
  | .hbm, ⟨5, _⟩ => ⟨S1024, .f32⟩
  | .hbm, ⟨6, _⟩ => ⟨S16896x1024, .f32⟩
  | .hbm, ⟨7, _⟩ => ⟨S16896x1024, .f32⟩
  | .hbm, ⟨8, _⟩ => ⟨S16384x1024, .f32⟩
  | .hbm, ⟨9, _⟩ => ⟨S2x8192x1024, .f32⟩
  | .hbm, ⟨10, _⟩ => ⟨S512x1024, .f32⟩
  | .hbm, ⟨11, _⟩ => ⟨S2x256x1024, .f32⟩
  | .hbm, ⟨12, _⟩ => ⟨S16384x1024, .f32⟩
  | .hbm, ⟨13, _⟩ => ⟨S2x8192x1024, .f32⟩
  | .hbm, ⟨14, _⟩ => ⟨S512x1024, .f32⟩
  | .hbm, ⟨15, _⟩ => ⟨S2x256x1024, .f32⟩
  | .hbm, ⟨16, _⟩ => ⟨S_, .f32⟩
  | .hbm, ⟨17, _⟩ => ⟨S2x8192x1024, .f32⟩
  | .hbm, ⟨18, _⟩ => ⟨S2x8192x1024, .f32⟩
  | .hbm, ⟨19, _⟩ => ⟨S2x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x256x1024, .f32⟩
  | .hbm, ⟨54, _⟩ => ⟨S2x256x1024, .f32⟩
  | .hbm, ⟨55, _⟩ => ⟨S1x1x1024, .f32⟩
  | .hbm, ⟨56, _⟩ => ⟨S1x1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S2x256x1024, .f32⟩
  | .hbm, ⟨61, _⟩ => ⟨S_, .f32⟩
  | .hbm, ⟨62, _⟩ => ⟨S2x256, .f32⟩
  | .hbm, ⟨63, _⟩ => ⟨S2x256x1, .f32⟩
  | .hbm, ⟨64, _⟩ => ⟨S_, .f32⟩
  | .hbm, ⟨65, _⟩ => ⟨S2x256x1, .f32⟩
  | .hbm, ⟨66, _⟩ => ⟨S2x256x1, .f32⟩
  | .hbm, ⟨67, _⟩ => ⟨S2x256x1024, .f32⟩
  | .hbm, ⟨68, _⟩ => ⟨S2x256x1024, .f32⟩
  | .hbm, ⟨69, _⟩ => ⟨S2x256x1024, .f32⟩
  | .hbm, ⟨70, _⟩ => ⟨S_, .f32⟩
  | .hbm, ⟨71, _⟩ => ⟨S2x256, .f32⟩
  | .hbm, ⟨72, _⟩ => ⟨S2x256x1, .f32⟩
  | .hbm, ⟨73, _⟩ => ⟨S_, .f32⟩
  | .hbm, ⟨74, _⟩ => ⟨S2x256x1, .f32⟩
  | .hbm, ⟨75, _⟩ => ⟨S2x256x1, .f32⟩
  | .hbm, ⟨76, _⟩ => ⟨S2x256x1024, .f32⟩
  | .hbm, ⟨77, _⟩ => ⟨S2x256x1024, .f32⟩
  | .hbm, ⟨78, _⟩ => ⟨S_, .f32⟩
  | .hbm, ⟨79, _⟩ => ⟨S2x256x1, .f32⟩
  | .hbm, ⟨80, _⟩ => ⟨S2x256x1, .f32⟩
  | .hbm, ⟨81, _⟩ => ⟨S2x256x1, .f32⟩
  | .hbm, ⟨82, _⟩ => ⟨S2x256x1024, .f32⟩
  | .hbm, ⟨83, _⟩ => ⟨S2x256x1024, .f32⟩
  | .hbm, ⟨84, _⟩ => ⟨S1x1x1024, .f32⟩
  | .hbm, ⟨85, _⟩ => ⟨S2x256x1024, .f32⟩
  | .hbm, ⟨86, _⟩ => ⟨S2x256x1024, .f32⟩
  | .hbm, ⟨87, _⟩ => ⟨S1x1x1024, .f32⟩
  | .hbm, ⟨88, _⟩ => ⟨S2x256x1024, .f32⟩
  | .hbm, ⟨89, _⟩ => ⟨S2x256x1024, .f32⟩
  | .hbm, ⟨90, _⟩ => ⟨S16384x1024, .f32⟩
  | .hbm, ⟨91, _⟩ => ⟨S512x1024, .f32⟩
  | .hbm, ⟨92, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Kernel3.lean ====
abbrev S16896x1024 : Shape := ⟨2, ![16896, 1024]⟩
abbrev S3x1x1024 : Shape := ⟨3, ![3, 1, 1024]⟩
abbrev S1024x3072 : Shape := ⟨2, ![1024, 3072]⟩
abbrev S8192x2x16 : Shape := ⟨3, ![8192, 2, 16]⟩
abbrev S8192x1x16 : Shape := ⟨3, ![8192, 1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S_ : Shape := ⟨0, ![]⟩
abbrev S256x128 : Shape := ⟨2, ![256, 128]⟩
abbrev S8448x128 : Shape := ⟨2, ![8448, 128]⟩
abbrev S2x8448x1024 : Shape := ⟨3, ![2, 8448, 1024]⟩
abbrev S2x33x1024x256 : Shape := ⟨4, ![2, 33, 1024, 256]⟩
abbrev S256x1024 : Shape := ⟨2, ![256, 1024]⟩
abbrev S1x1x1024 : Shape := ⟨3, ![1, 1, 1024]⟩
abbrev S1x256x1024 : Shape := ⟨3, ![1, 256, 1024]⟩
abbrev S1x1x1024x256 : Shape := ⟨4, ![1, 1, 1024, 256]⟩
abbrev S1x1024 : Shape := ⟨2, ![1, 1024]⟩
abbrev S256x3072 : Shape := ⟨2, ![256, 3072]⟩
abbrev S1x256x128 : Shape := ⟨3, ![1, 256, 128]⟩
abbrev S1024x256 : Shape := ⟨2, ![1024, 256]⟩

abbrev nBuf : Space → Nat
  | .hbm => 42
  | .vmem => 17
  | .smem => 0
  | _ => 0

abbrev bufTy : (tb : Table) → Fin (tcTables nBuf tb) → BufTy
  | .hbm, ⟨0, _⟩ => ⟨S16896x1024, .f32⟩
  | .hbm, ⟨1, _⟩ => ⟨S3x1x1024, .f32⟩
  | .hbm, ⟨2, _⟩ => ⟨S3x1x1024, .f32⟩
  | .hbm, ⟨3, _⟩ => ⟨S1024x3072, .f32⟩
  | .hbm, ⟨4, _⟩ => ⟨S8192x2x16, .f32⟩
  | .hbm, ⟨5, _⟩ => ⟨S8192x2x16, .f32⟩
  | .hbm, ⟨6, _⟩ => ⟨S8192x1x16, .f32⟩
  | .hbm, ⟨7, _⟩ => ⟨S8192x16, .f32⟩
  | .hbm, ⟨8, _⟩ => ⟨S8192x1x16, .f32⟩
  | .hbm, ⟨9, _⟩ => ⟨S8192x16, .f32⟩
  | .hbm, ⟨10, _⟩ => ⟨S8192x1x16, .f32⟩
  | .hbm, ⟨11, _⟩ => ⟨S8192x16, .f32⟩
  | .hbm, ⟨12, _⟩ => ⟨S8192x1x16, .f32⟩
  | .hbm, ⟨13, _⟩ => ⟨S8192x16, .f32⟩
  | .hbm, ⟨14, _⟩ => ⟨S8192x64, .f32⟩
  | .hbm, ⟨15, _⟩ => ⟨S8192x1x16, .f32⟩
  | .hbm, ⟨16, _⟩ => ⟨S8192x16, .f32⟩
  | .hbm, ⟨17, _⟩ => ⟨S8192x16, .f32⟩
  | .hbm, ⟨18, _⟩ => ⟨S8192x1x16, .f32⟩
  | .hbm, ⟨19, _⟩ => ⟨S8192x16, .f32⟩
  | .hbm, ⟨20, _⟩ => ⟨S8192x1x16, .f32⟩
  | .hbm, ⟨21, _⟩ => ⟨S8192x16, .f32⟩
  | .hbm, ⟨22, _⟩ => ⟨S8192x16, .f32⟩
  | .hbm, ⟨23, _⟩ => ⟨S8192x1x16, .f32⟩
  | .hbm, ⟨24, _⟩ => ⟨S8192x16, .f32⟩
  | .hbm, ⟨25, _⟩ => ⟨S8192x64, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S_, .f32⟩
  | .hbm, ⟨33, _⟩ => ⟨S256x128, .f32⟩
  | .hbm, ⟨34, _⟩ => ⟨S8448x128, .f32⟩
  | .hbm, ⟨35, _⟩ => ⟨S_, .f32⟩
  | .hbm, ⟨36, _⟩ => ⟨S256x128, .f32⟩
  | .hbm, ⟨37, _⟩ => ⟨S8448x128, .f32⟩
  | .hbm, ⟨38, _⟩ => ⟨S1024x3072, .bf16⟩
  | .hbm, ⟨39, _⟩ => ⟨S16896x1024, .bf16⟩
  | .hbm, ⟨40, _⟩ => ⟨S2x8448x1024, .bf16⟩
  | .hbm, ⟨41, _⟩ => ⟨S2x33x1024x256, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x1024, .bf16⟩
  | .local _ .vmem, ⟨12, _⟩ => ⟨S256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x1x1024x256, .bf16⟩
  | .local _ .vmem, ⟨16, _⟩ => ⟨S1x1x1024x256, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let v19 : BitVec 32 := Scalar.select v0 v17 v18
  let c64_i32_5 : BitVec 32 := 64#32
  let v20 : BitVec 1 := Scalar.cmpi .slt arg0 c64_i32_5
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c32_i32_12 : BitVec 32 := 32#32
  let v31 : BitVec 32 := Scalar.select v20 v30 c32_i32_12
  let c0_i32_13 : BitVec 32 := 0#32
  let c0_i32_14 : BitVec 32 := 0#32
  ![v19.toNat, v31.toNat, c0_i32_13.toNat]

def cc0_transform_8 (i : grid0.Coords) : Fin 4 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let v19 : BitVec 32 := Scalar.select v0 v17 v18
  let c64_i32_5 : BitVec 32 := 64#32
  let v20 : BitVec 1 := Scalar.cmpi .slt arg0 c64_i32_5
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c32_i32_12 : BitVec 32 := 32#32
  let v31 : BitVec 32 := Scalar.select v20 v30 c32_i32_12
  let c0_i32_13 : BitVec 32 := 0#32
  let c0_i32_14 : BitVec 32 := 0#32
  let c0_i32_15 : BitVec 32 := 0#32
  ![v19.toNat, v31.toNat, c0_i32_13.toNat, c0_i32_14.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16896x1024 : Shape := ⟨2, ![16896, 1024]⟩
abbrev S3x1x1024 : Shape := ⟨3, ![3, 1, 1024]⟩
abbrev S1024x3072 : Shape := ⟨2, ![1024, 3072]⟩
abbrev S8192x2x16 : Shape := ⟨3, ![8192, 2, 16]⟩
abbrev S16384x1024 : Shape := ⟨2, ![16384, 1024]⟩
abbrev S2x8192x1024 : Shape := ⟨3, ![2, 8192, 1024]⟩
abbrev S2x1x1024 : Shape := ⟨3, ![2, 1, 1024]⟩
abbrev S_ : Shape := ⟨0, ![]⟩
abbrev S512x1024 : Shape := ⟨2, ![512, 1024]⟩
abbrev S2x256x1024 : Shape := ⟨3, ![2, 256, 1024]⟩
abbrev S1x1x1024 : Shape := ⟨3, ![1, 1, 1024]⟩
abbrev S1x1024 : Shape := ⟨2, ![1, 1024]⟩
abbrev S2x8192x3072 : Shape := ⟨3, ![2, 8192, 3072]⟩
abbrev S2x256x3072 : Shape := ⟨3, ![2, 256, 3072]⟩
abbrev S2x8192x8x2x64 : Shape := ⟨5, ![2, 8192, 8, 2, 64]⟩
abbrev S2x8192x8x2x2x2x16 : Shape := ⟨7, ![2, 8192, 8, 2, 2, 2, 16]⟩
abbrev S2x8192x8x2x2x1x16 : Shape := ⟨7, ![2, 8192, 8, 2, 2, 1, 16]⟩
abbrev S2x8192x8x2x2x16 : Shape := ⟨6, ![2, 8192, 8, 2, 2, 16]⟩
abbrev S1x8192x1x1x2x16 : Shape := ⟨6, ![1, 8192, 1, 1, 2, 16]⟩
abbrev S2x8448x1024 : Shape := ⟨3, ![2, 8448, 1024]⟩
abbrev S2x33x256x1024 : Shape := ⟨4, ![2, 33, 256, 1024]⟩
abbrev S2x33x1024x256 : Shape := ⟨4, ![2, 33, 1024, 256]⟩

abbrev nBuf : Space → Nat
  | .hbm => 98
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S3x1x1024, .f32⟩
  | .hbm, ⟨2, _⟩ => ⟨S3x1x1024, .f32⟩
  | .hbm, ⟨3, _⟩ => ⟨S1024x3072, .f32⟩
  | .hbm, ⟨4, _⟩ => ⟨S8192x2x16, .f32⟩
  | .hbm, ⟨5, _⟩ => ⟨S8192x2x16, .f32⟩
  | .hbm, ⟨6, _⟩ => ⟨S16384x1024, .f32⟩
  | .hbm, ⟨7, _⟩ => ⟨S2x8192x1024, .f32⟩
  | .hbm, ⟨8, _⟩ => ⟨S2x1x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S2x8192x1024, .f32⟩
  | .hbm, ⟨14, _⟩ => ⟨S2x1x1024, .f32⟩
  | .hbm, ⟨15, _⟩ => ⟨S2x8192x1024, .f32⟩
  | .hbm, ⟨16, _⟩ => ⟨S2x8192x1024, .f32⟩
  | .hbm, ⟨17, _⟩ => ⟨S512x1024, .f32⟩
  | .hbm, ⟨18, _⟩ => ⟨S2x256x1024, .f32⟩
  | .hbm, ⟨19, _⟩ => ⟨S1x1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1x1024, .f32⟩
  | .hbm, ⟨25, _⟩ => ⟨S2x256x1024, .f32⟩
  | .hbm, ⟨26, _⟩ => ⟨S2x256x1024, .f32⟩
  | .hbm, ⟨27, _⟩ => ⟨S1x1x1024, .f32⟩
  | .hbm, ⟨28, _⟩ => ⟨S1x1024, .f32⟩
  | .hbm, ⟨29, _⟩ => ⟨S1x1x1024, .f32⟩
  | .hbm, ⟨30, _⟩ => ⟨S2x256x1024, .f32⟩
  | .hbm, ⟨31, _⟩ => ⟨S2x256x1024, .f32⟩
  | .hbm, ⟨32, _⟩ => ⟨S2x8192x3072, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x256x3072, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S2x8192x8x2x64, .f32⟩
  | .hbm, ⟨41, _⟩ => ⟨S2x8192x8x2x2x2x16, .f32⟩
  | .hbm, ⟨42, _⟩ => ⟨S2x8192x8x2x2x1x16, .f32⟩
  | .hbm, ⟨43, _⟩ => ⟨S2x8192x8x2x2x16, .f32⟩
  | .hbm, ⟨44, _⟩ => ⟨S2x8192x8x2x2x1x16, .f32⟩
  | .hbm, ⟨45, _⟩ => ⟨S2x8192x8x2x2x16, .f32⟩
  | .hbm, ⟨46, _⟩ => ⟨S1x8192x1x1x2x16, .f32⟩
  | .hbm, ⟨47, _⟩ => ⟨S1x8192x1x1x2x16, .f32⟩
  | .hbm, ⟨48, _⟩ => ⟨S2x8192x8x2x2x16, .f32⟩
  | .hbm, ⟨49, _⟩ => ⟨S2x8192x8x2x2x16, .f32⟩
  | .hbm, ⟨50, _⟩ => ⟨S2x8192x8x2x2x16, .f32⟩
  | .hbm, ⟨51, _⟩ => ⟨S2x8192x8x2x2x16, .f32⟩
  | .hbm, ⟨52, _⟩ => ⟨S2x8192x8x2x2x16, .f32⟩
  | .hbm, ⟨53, _⟩ => ⟨S2x8192x8x2x2x16, .f32⟩
  | .hbm, ⟨54, _⟩ => ⟨S2x8192x8x2x2x16, .f32⟩
  | .hbm, ⟨55, _⟩ => ⟨S2x8192x8x2x2x16, .f32⟩
  | .hbm, ⟨56, _⟩ => ⟨S2x8192x8x2x2x16, .f32⟩
  | .hbm, ⟨57, _⟩ => ⟨S2x8192x8x2x2x16, .f32⟩
  | .hbm, ⟨58, _⟩ => ⟨S2x8192x8x2x2x1x16, .f32⟩
  | .hbm, ⟨59, _⟩ => ⟨S2x8192x8x2x2x1x16, .f32⟩
  | .hbm, ⟨60, _⟩ => ⟨S2x8192x8x2x2x2x16, .f32⟩
  | .hbm, ⟨61, _⟩ => ⟨S2x8192x8x2x64, .f32⟩
  | .hbm, ⟨62, _⟩ => ⟨S16384x1024, .f32⟩
  | .hbm, ⟨63, _⟩ => ⟨S2x8192x8x2x64, .f32⟩
  | .hbm, ⟨64, _⟩ => ⟨S2x8192x8x2x2x2x16, .f32⟩
  | .hbm, ⟨65, _⟩ => ⟨S2x8192x8x2x2x1x16, .f32⟩
  | .hbm, ⟨66, _⟩ => ⟨S2x8192x8x2x2x16, .f32⟩
  | .hbm, ⟨67, _⟩ => ⟨S2x8192x8x2x2x1x16, .f32⟩
  | .hbm, ⟨68, _⟩ => ⟨S2x8192x8x2x2x16, .f32⟩
  | .hbm, ⟨69, _⟩ => ⟨S1x8192x1x1x2x16, .f32⟩
  | .hbm, ⟨70, _⟩ => ⟨S1x8192x1x1x2x16, .f32⟩
  | .hbm, ⟨71, _⟩ => ⟨S2x8192x8x2x2x16, .f32⟩
  | .hbm, ⟨72, _⟩ => ⟨S2x8192x8x2x2x16, .f32⟩
  | .hbm, ⟨73, _⟩ => ⟨S2x8192x8x2x2x16, .f32⟩
  | .hbm, ⟨74, _⟩ => ⟨S2x8192x8x2x2x16, .f32⟩
  | .hbm, ⟨75, _⟩ => ⟨S2x8192x8x2x2x16, .f32⟩
  | .hbm, ⟨76, _⟩ => ⟨S2x8192x8x2x2x16, .f32⟩
  | .hbm, ⟨77, _⟩ => ⟨S2x8192x8x2x2x16, .f32⟩
  | .hbm, ⟨78, _⟩ => ⟨S2x8192x8x2x2x16, .f32⟩
  | .hbm, ⟨79, _⟩ => ⟨S2x8192x8x2x2x16, .f32⟩
  | .hbm, ⟨80, _⟩ => ⟨S2x8192x8x2x2x16, .f32⟩
  | .hbm, ⟨81, _⟩ => ⟨S2x8192x8x2x2x1x16, .f32⟩
  | .hbm, ⟨82, _⟩ => ⟨S2x8192x8x2x2x1x16, .f32⟩
  | .hbm, ⟨83, _⟩ => ⟨S2x8192x8x2x2x2x16, .f32⟩
  | .hbm, ⟨84, _⟩ => ⟨S2x8192x8x2x64, .f32⟩
  | .hbm, ⟨85, _⟩ => ⟨S2x8192x1024, .f32⟩
  | .hbm, ⟨86, _⟩ => ⟨S512x1024, .f32⟩
  | .hbm, ⟨87, _⟩ => ⟨S16896x1024, .f32⟩
  | .hbm, ⟨88, _⟩ => ⟨S_, .f32⟩
  | .hbm, ⟨89, _⟩ => ⟨S16896x1024, .f32⟩
  | .hbm, ⟨90, _⟩ => ⟨S16896x1024, .f32⟩
  | .hbm, ⟨91, _⟩ => ⟨S2x8448x1024, .f32⟩
  | .hbm, ⟨92, _⟩ => ⟨S2x8448x1024, .f32⟩
  | .hbm, ⟨93, _⟩ => ⟨S2x33x256x1024, .f32⟩
  | .hbm, ⟨94, _⟩ => ⟨S2x33x1024x256, .f32⟩
  | .hbm, ⟨95, _⟩ => ⟨S16896x1024, .bf16⟩
  | .hbm, ⟨96, _⟩ => ⟨S2x8448x1024, .bf16⟩
  | .hbm, ⟨97, _⟩ => ⟨S2x33x1024x256, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_1 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩

abbrev nD : Nat := 1
abbrev τ : Topo := Topo.v7x

variable {F : FTy → Type} [FloatOps F]
-- ==== Kernel4.lean ====
abbrev S164 : Shape := ⟨1, ![164]⟩
abbrev S1 : Shape := ⟨1, ![1]⟩
abbrev S83968x1024 : Shape := ⟨2, ![83968, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S83968x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1024x1024, .bf16⟩
  | .hbm, ⟨7, _⟩ => ⟨S32x1x2048, .f32⟩
  | .hbm, ⟨8, _⟩ => ⟨S32x1x1024, .f32⟩
  | .hbm, ⟨9, _⟩ => ⟨S83968x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .smem, ⟨0, _⟩ => ⟨S164, .i32⟩
  | .local _ .smem, ⟨1, _⟩ => ⟨S1, .i32⟩
  | _, _ => ⟨S83968x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S164 : Shape := ⟨1, ![164]⟩
abbrev S1 : Shape := ⟨1, ![1]⟩
abbrev S83968x1024 : Shape := ⟨2, ![83968, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S164x512x1024 : Shape := ⟨3, ![164, 512, 1024]⟩
abbrev S164x1 : Shape := ⟨2, ![164, 1]⟩
abbrev S164x1024x2048 : Shape := ⟨3, ![164, 1024, 2048]⟩
abbrev S164x512x2048 : Shape := ⟨3, ![164, 512, 2048]⟩
abbrev S164x2048 : Shape := ⟨2, ![164, 2048]⟩
abbrev S164x1x2048 : Shape := ⟨3, ![164, 1, 2048]⟩
abbrev S_ : Shape := ⟨0, ![]⟩
abbrev S164x1024x1024 : Shape := ⟨3, ![164, 1024, 1024]⟩
abbrev S164x1024 : Shape := ⟨2, ![164, 1024]⟩
abbrev S164x1x1024 : Shape := ⟨3, ![164, 1, 1024]⟩
abbrev S164x1x1 : Shape := ⟨3, ![164, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S164, .i32⟩
  | .hbm, ⟨1, _⟩ => ⟨S1, .i32⟩
  | .hbm, ⟨2, _⟩ => ⟨S83968x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S164x512x1024, .f32⟩
  | .hbm, ⟨8, _⟩ => ⟨S164x1, .i32⟩
  | .hbm, ⟨9, _⟩ => ⟨S164x1024x2048, .f32⟩
  | .hbm, ⟨10, _⟩ => ⟨S164x512x2048, .f32⟩
  | .hbm, ⟨11, _⟩ => ⟨S164x1, .i32⟩
  | .hbm, ⟨12, _⟩ => ⟨S164x2048, .f32⟩
  | .hbm, ⟨13, _⟩ => ⟨S164x1x2048, .f32⟩
  | .hbm, ⟨14, _⟩ => ⟨S164x512x2048, .f32⟩
  | .hbm, ⟨15, _⟩ => ⟨S164x512x2048, .f32⟩
  | .hbm, ⟨16, _⟩ => ⟨S164x512x1024, .f32⟩
  | .hbm, ⟨17, _⟩ => ⟨S164x512x1024, .f32⟩
  | .hbm, ⟨18, _⟩ => ⟨S_, .f32⟩
  | .hbm, ⟨19, _⟩ => ⟨S164x512x1024, .f32⟩
  | .hbm, ⟨20, _⟩ => ⟨S164x512x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S164x512x1024, .f32⟩
  | .hbm, ⟨25, _⟩ => ⟨S164x512x1024, .f32⟩
  | .hbm, ⟨26, _⟩ => ⟨S_, .f32⟩
  | .hbm, ⟨27, _⟩ => ⟨S164x512x1024, .f32⟩
  | .hbm, ⟨28, _⟩ => ⟨S164x512x1024, .f32⟩
  | .hbm, ⟨29, _⟩ => ⟨S_, .f32⟩
  | .hbm, ⟨30, _⟩ => ⟨S164x512x1024, .f32⟩
  | .hbm, ⟨31, _⟩ => ⟨S164x512x1024, .f32⟩
  | .hbm, ⟨32, _⟩ => ⟨S164x512x1024, .f32⟩
  | .hbm, ⟨33, _⟩ => ⟨S164x512x1024, .f32⟩
  | .hbm, ⟨34, _⟩ => ⟨S_, .f32⟩
  | .hbm, ⟨35, _⟩ => ⟨S164x512x1024, .f32⟩
  | .hbm, ⟨36, _⟩ => ⟨S164x512x1024, .f32⟩
  | .hbm, ⟨37, _⟩ => ⟨S_, .f32⟩
  | .hbm, ⟨38, _⟩ => ⟨S164x512x1024, .f32⟩
  | .hbm, ⟨39, _⟩ => ⟨S164x512x1024, .f32⟩
  | .hbm, ⟨40, _⟩ => ⟨S164x512x1024, .f32⟩
  | .hbm, ⟨41, _⟩ => ⟨S_, .f32⟩
  | .hbm, ⟨42, _⟩ => ⟨S164x512x1024, .f32⟩
  | .hbm, ⟨43, _⟩ => ⟨S164x512x1024, .f32⟩
  | .hbm, ⟨44, _⟩ => ⟨S164x512x1024, .f32⟩
  | .hbm, ⟨45, _⟩ => ⟨S164x1, .i32⟩
  | .hbm, ⟨46, _⟩ => ⟨S164x1024x1024, .f32⟩
  | .hbm, ⟨47, _⟩ => ⟨S164x512x1024, .f32⟩
  | .hbm, ⟨48, _⟩ => ⟨S164x1, .i32⟩
  | .hbm, ⟨49, _⟩ => ⟨S164x1024, .f32⟩
  | .hbm, ⟨50, _⟩ => ⟨S164x1x1024, .f32⟩
  | .hbm, ⟨51, _⟩ => ⟨S164x512x1024, .f32⟩
  | .hbm, ⟨52, _⟩ => ⟨S164x512x1024, .f32⟩
  | .hbm, ⟨53, _⟩ => ⟨S164, .i32⟩
  | .hbm, ⟨54, _⟩ => ⟨S_, .i32⟩
  | .hbm, ⟨55, _⟩ => ⟨S164, .i32⟩
  | .hbm, ⟨56, _⟩ => ⟨S164, .i1⟩
  | .hbm, ⟨57, _⟩ => ⟨S164x1x1, .i1⟩
  | .hbm, ⟨58, _⟩ => ⟨S_, .f32⟩
  | .hbm, ⟨59, _⟩ => ⟨S_, .f32⟩
  | .hbm, ⟨60, _⟩ => ⟨S164x512x1024, .i1⟩
  | .hbm, ⟨61, _⟩ => ⟨S164x512x1024, .f32⟩
  | .hbm, ⟨62, _⟩ => ⟨S164x512x1024, .f32⟩
  | .hbm, ⟨63, _⟩ => ⟨S83968x1024, .f32⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel5.lean ====
abbrev S544768x128 : Shape := ⟨2, ![544768, 128]⟩
abbrev S16896x128 : Shape := ⟨2, ![16896, 128]⟩
abbrev S16896x1024 : Shape := ⟨2, ![16896, 1024]⟩
abbrev S3x1x1024 : Shape := ⟨3, ![3, 1, 1024]⟩
abbrev S1024 : Shape := ⟨1, ![1024]⟩
abbrev S1x1024 : Shape := ⟨2, ![1, 1024]⟩
abbrev S2048x128 : Shape := ⟨2, ![2048, 128]⟩
abbrev S256x128 : Shape := ⟨2, ![256, 128]⟩
abbrev S256x1024 : Shape := ⟨2, ![256, 1024]⟩
abbrev S1x1x1024 : Shape := ⟨3, ![1, 1, 1024]⟩
abbrev S256x1 : Shape := ⟨2, ![256, 1]⟩
abbrev S256 : Shape := ⟨1, ![256]⟩

abbrev nBuf : Space → Nat
  | .hbm => 9
  | .vmem => 18
  | .smem => 0
  | _ => 0

abbrev bufTy : (tb : Table) → Fin (tcTables nBuf tb) → BufTy
  | .hbm, ⟨0, _⟩ => ⟨S544768x128, .f32⟩
  | .hbm, ⟨1, _⟩ => ⟨S16896x128, .f32⟩
  | .hbm, ⟨2, _⟩ => ⟨S16896x1024, .f32⟩
  | .hbm, ⟨3, _⟩ => ⟨S3x1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16896x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S544768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c66_i32 : BitVec 32 := 66#32
  let v0 : BitVec 32 := Scalar.addi c66_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c132_i32 : BitVec 32 := 132#32
  let v0 : BitVec 32 := Scalar.addi c132_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c198_i32 : BitVec 32 := 198#32
  let v0 : BitVec 32 := Scalar.addi c198_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S544768x128 : Shape := ⟨2, ![544768, 128]⟩
abbrev S16896x128 : Shape := ⟨2, ![16896, 128]⟩
abbrev S16896x1024 : Shape := ⟨2, ![16896, 1024]⟩
abbrev S3x1x1024 : Shape := ⟨3, ![3, 1, 1024]⟩
abbrev S1024 : Shape := ⟨1, ![1024]⟩
abbrev S68096x1024 : Shape := ⟨2, ![68096, 1024]⟩
abbrev S67584x1024 : Shape := ⟨2, ![67584, 1024]⟩
abbrev S4x16896x1024 : Shape := ⟨3, ![4, 16896, 1024]⟩
abbrev S16896x4 : Shape := ⟨2, ![16896, 4]⟩
abbrev S4x16896 : Shape := ⟨2, ![4, 16896]⟩
abbrev S4x16896x1 : Shape := ⟨3, ![4, 16896, 1]⟩
abbrev S_ : Shape := ⟨0, ![]⟩
abbrev S16384x1024 : Shape := ⟨2, ![16384, 1024]⟩
abbrev S2x8192x1024 : Shape := ⟨3, ![2, 8192, 1024]⟩
abbrev S512x1024 : Shape := ⟨2, ![512, 1024]⟩
abbrev S2x256x1024 : Shape := ⟨3, ![2, 256, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S1x1024 : Shape := ⟨2, ![1, 1024]⟩
abbrev S2x256 : Shape := ⟨2, ![2, 256]⟩
abbrev S2x256x1 : Shape := ⟨3, ![2, 256, 1]⟩

abbrev nBuf : Space → Nat
  | .hbm => 101
  | .vmem => 0
  | .smem => 0
  | _ => 0

abbrev bufTy : (tb : Table) → Fin (tcTables nBuf tb) → BufTy
  | .hbm, ⟨0, _⟩ => ⟨S544768x128, .f32⟩
  | .hbm, ⟨1, _⟩ => ⟨S16896x128, .f32⟩
  | .hbm, ⟨2, _⟩ => ⟨S16896x1024, .f32⟩
  | .hbm, ⟨3, _⟩ => ⟨S3x1x1024, .f32⟩
  | .hbm, ⟨4, _⟩ => ⟨S1024, .f32⟩
  | .hbm, ⟨5, _⟩ => ⟨S1024, .f32⟩
  | .hbm, ⟨6, _⟩ => ⟨S68096x1024, .f32⟩
  | .hbm, ⟨7, _⟩ => ⟨S67584x1024, .f32⟩
  | .hbm, ⟨8, _⟩ => ⟨S4x16896x1024, .f32⟩
  | .hbm, ⟨9, _⟩ => ⟨S16896x4, .f32⟩
  | .hbm, ⟨10, _⟩ => ⟨S4x16896, .f32⟩
  | .hbm, ⟨11, _⟩ => ⟨S4x16896x1, .f32⟩
  | .hbm, ⟨12, _⟩ => ⟨S4x16896x1024, .f32⟩
  | .hbm, ⟨13, _⟩ => ⟨S4x16896x1024, .f32⟩
  | .hbm, ⟨14, _⟩ => ⟨S_, .f32⟩
  | .hbm, ⟨15, _⟩ => ⟨S16896x1024, .f32⟩
  | .hbm, ⟨16, _⟩ => ⟨S16384x1024, .f32⟩
  | .hbm, ⟨17, _⟩ => ⟨S2x8192x1024, .f32⟩
  | .hbm, ⟨18, _⟩ => ⟨S512x1024, .f32⟩
  | .hbm, ⟨19, _⟩ => ⟨S2x256x1024, .f32⟩
  | .hbm, ⟨20, _⟩ => ⟨S16384x1024, .f32⟩
  | .hbm, ⟨21, _⟩ => ⟨S2x8192x1024, .f32⟩
  | .hbm, ⟨22, _⟩ => ⟨S512x1024, .f32⟩
  | .hbm, ⟨23, _⟩ => ⟨S2x256x1024, .f32⟩
  | .hbm, ⟨24, _⟩ => ⟨S_, .f32⟩
  | .hbm, ⟨25, _⟩ => ⟨S2x8192x1024, .f32⟩
  | .hbm, ⟨26, _⟩ => ⟨S2x8192x1024, .f32⟩
  | .hbm, ⟨27, _⟩ => ⟨S2x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x1024, .f32⟩
  | .hbm, ⟨53, _⟩ => ⟨S2x8192x1024, .f32⟩
  | .hbm, ⟨54, _⟩ => ⟨S1x1x1024, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x256x1024, .f32⟩
  | .hbm, ⟨62, _⟩ => ⟨S2x256x1024, .f32⟩
  | .hbm, ⟨63, _⟩ => ⟨S1x1x1024, .f32⟩
  | .hbm, ⟨64, _⟩ => ⟨S1x1024, .f32⟩
  | .hbm, ⟨65, _⟩ => ⟨S1x1x1024, .f32⟩
  | .hbm, ⟨66, _⟩ => ⟨S2x256x1024, .f32⟩
  | .hbm, ⟨67, _⟩ => ⟨S2x256x1024, .f32⟩
  | .hbm, ⟨68, _⟩ => ⟨S2x256x1024, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S2x256x1024, .f32⟩
  | .hbm, ⟨76, _⟩ => ⟨S2x256x1024, .f32⟩
  | .hbm, ⟨77, _⟩ => ⟨S2x256x1024, .f32⟩
  | .hbm, ⟨78, _⟩ => ⟨S_, .f32⟩
  | .hbm, ⟨79, _⟩ => ⟨S2x256, .f32⟩
  | .hbm, ⟨80, _⟩ => ⟨S2x256x1, .f32⟩
  | .hbm, ⟨81, _⟩ => ⟨S_, .f32⟩
  | .hbm, ⟨82, _⟩ => ⟨S2x256x1, .f32⟩
  | .hbm, ⟨83, _⟩ => ⟨S2x256x1, .f32⟩
  | .hbm, ⟨84, _⟩ => ⟨S2x256x1024, .f32⟩
  | .hbm, ⟨85, _⟩ => ⟨S2x256x1024, .f32⟩
  | .hbm, ⟨86, _⟩ => ⟨S_, .f32⟩
  | .hbm, ⟨87, _⟩ => ⟨S2x256x1, .f32⟩
  | .hbm, ⟨88, _⟩ => ⟨S2x256x1, .f32⟩
  | .hbm, ⟨89, _⟩ => ⟨S2x256x1, .f32⟩
  | .hbm, ⟨90, _⟩ => ⟨S2x256x1024, .f32⟩
  | .hbm, ⟨91, _⟩ => ⟨S2x256x1024, .f32⟩
  | .hbm, ⟨92, _⟩ => ⟨S1x1x1024, .f32⟩
  | .hbm, ⟨93, _⟩ => ⟨S2x256x1024, .f32⟩
  | .hbm, ⟨94, _⟩ => ⟨S2x256x1024, .f32⟩
  | .hbm, ⟨95, _⟩ => ⟨S1x1x1024, .f32⟩
  | .hbm, ⟨96, _⟩ => ⟨S2x256x1024, .f32⟩
  | .hbm, ⟨97, _⟩ => ⟨S2x256x1024, .f32⟩
  | .hbm, ⟨98, _⟩ => ⟨S16384x1024, .f32⟩
  | .hbm, ⟨99, _⟩ => ⟨S512x1024, .f32⟩
  | .hbm, ⟨100, _⟩ => ⟨S16896x1024, .f32⟩
  | _, _ => ⟨S544768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel6.lean ====
abbrev S16896x1024 : Shape := ⟨2, ![16896, 1024]⟩
abbrev S3x1x1024 : Shape := ⟨3, ![3, 1, 1024]⟩
abbrev S1024x1024 : Shape := ⟨2, ![1024, 1024]⟩
abbrev S1024 : Shape := ⟨1, ![1024]⟩
abbrev S128x128 : Shape := ⟨2, ![128, 128]⟩
abbrev S128x256 : Shape := ⟨2, ![128, 256]⟩
abbrev S1x1024 : Shape := ⟨2, ![1, 1024]⟩
abbrev S2x16x512x1024 : Shape := ⟨4, ![2, 16, 512, 1024]⟩
abbrev S256x1024 : Shape := ⟨2, ![256, 1024]⟩
abbrev S1x1x1024 : Shape := ⟨3, ![1, 1, 1024]⟩
abbrev S1x16x16x1024 : Shape := ⟨4, ![1, 16, 16, 1024]⟩
abbrev S8x256x128 : Shape := ⟨3, ![8, 256, 128]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S256x256 : Shape := ⟨2, ![256, 256]⟩
abbrev S1x256x128 : Shape := ⟨3, ![1, 256, 128]⟩
abbrev S1x16x128 : Shape := ⟨3, ![1, 16, 128]⟩
abbrev S16x128 : Shape := ⟨2, ![16, 128]⟩
abbrev S16x1024 : Shape := ⟨2, ![16, 1024]⟩
abbrev S1x1x16x1024 : Shape := ⟨4, ![1, 1, 16, 1024]⟩

abbrev nBuf : Space → Nat
  | .hbm => 13
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S3x1x1024, .f32⟩
  | .hbm, ⟨2, _⟩ => ⟨S3x1x1024, .f32⟩
  | .hbm, ⟨3, _⟩ => ⟨S1024x1024, .f32⟩
  | .hbm, ⟨4, _⟩ => ⟨S1024, .f32⟩
  | .hbm, ⟨5, _⟩ => ⟨S128x128, .f32⟩
  | .hbm, ⟨6, _⟩ => ⟨S128x128, .f32⟩
  | .hbm, ⟨7, _⟩ => ⟨S128x256, .f32⟩
  | .hbm, ⟨8, _⟩ => ⟨S128x256, .bf16⟩
  | .hbm, ⟨9, _⟩ => ⟨S1024x1024, .bf16⟩
  | .hbm, ⟨10, _⟩ => ⟨S1x1024, .f32⟩
  | .hbm, ⟨11, _⟩ => ⟨S2x16x512x1024, .bf16⟩
  | .hbm, ⟨12, _⟩ => ⟨S2x16x512x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S128x256, .bf16⟩
  | .local _ .vmem, ⟨9, _⟩ => ⟨S1x16x16x1024, .bf16⟩
  | .local _ .vmem, ⟨10, _⟩ => ⟨S1x16x16x1024, .bf16⟩
  | .local _ .vmem, ⟨11, _⟩ => ⟨S1x16x16x1024, .bf16⟩
  | .local _ .vmem, ⟨12, _⟩ => ⟨S1x16x16x1024, .bf16⟩
  | .local _ .vmem, ⟨13, _⟩ => ⟨S8x256x128, .f32⟩
  | .local _ .vmem, ⟨14, _⟩ => ⟨S8x256x128, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16896x1024 : Shape := ⟨2, ![16896, 1024]⟩
abbrev S3x1x1024 : Shape := ⟨3, ![3, 1, 1024]⟩
abbrev S1024x1024 : Shape := ⟨2, ![1024, 1024]⟩
abbrev S1024 : Shape := ⟨1, ![1024]⟩
abbrev S128x128 : Shape := ⟨2, ![128, 128]⟩
abbrev S16384x1024 : Shape := ⟨2, ![16384, 1024]⟩
abbrev S2x8192x1024 : Shape := ⟨3, ![2, 8192, 1024]⟩
abbrev S2x1x1024 : Shape := ⟨3, ![2, 1, 1024]⟩
abbrev S_ : Shape := ⟨0, ![]⟩
abbrev S2x8192x8x128 : Shape := ⟨4, ![2, 8192, 8, 128]⟩
abbrev S8x128 : Shape := ⟨2, ![8, 128]⟩
abbrev S2x8192x8 : Shape := ⟨3, ![2, 8192, 8]⟩
abbrev S2x8192x8x1 : Shape := ⟨4, ![2, 8192, 8, 1]⟩
abbrev S1x1x8x128 : Shape := ⟨4, ![1, 1, 8, 128]⟩
abbrev S2x512x16x1024 : Shape := ⟨4, ![2, 512, 16, 1024]⟩
abbrev S2x16x512x1024 : Shape := ⟨4, ![2, 16, 512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S3x1x1024, .f32⟩
  | .hbm, ⟨2, _⟩ => ⟨S3x1x1024, .f32⟩
  | .hbm, ⟨3, _⟩ => ⟨S1024x1024, .f32⟩
  | .hbm, ⟨4, _⟩ => ⟨S1024, .f32⟩
  | .hbm, ⟨5, _⟩ => ⟨S128x128, .f32⟩
  | .hbm, ⟨6, _⟩ => ⟨S128x128, .f32⟩
  | .hbm, ⟨7, _⟩ => ⟨S16384x1024, .f32⟩
  | .hbm, ⟨8, _⟩ => ⟨S2x8192x1024, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x8192x1024, .f32⟩
  | .hbm, ⟨14, _⟩ => ⟨S2x8192x1024, .f32⟩
  | .hbm, ⟨15, _⟩ => ⟨S2x1x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x8x128, .f32⟩
  | .hbm, ⟨20, _⟩ => ⟨S8x128, .f32⟩
  | .hbm, ⟨21, _⟩ => ⟨S2x8192x8x128, .f32⟩
  | .hbm, ⟨22, _⟩ => ⟨S_, .f32⟩
  | .hbm, ⟨23, _⟩ => ⟨S2x8192x8, .f32⟩
  | .hbm, ⟨24, _⟩ => ⟨S2x8192x8x1, .f32⟩
  | .hbm, ⟨25, _⟩ => ⟨S_, .f32⟩
  | .hbm, ⟨26, _⟩ => ⟨S2x8192x8x1, .f32⟩
  | .hbm, ⟨27, _⟩ => ⟨S2x8192x8x1, .f32⟩
  | .hbm, ⟨28, _⟩ => ⟨S_, .f32⟩
  | .hbm, ⟨29, _⟩ => ⟨S2x8192x8x1, .f32⟩
  | .hbm, ⟨30, _⟩ => ⟨S2x8192x8x1, .f32⟩
  | .hbm, ⟨31, _⟩ => ⟨S2x8192x8x1, .f32⟩
  | .hbm, ⟨32, _⟩ => ⟨S2x8192x8x128, .f32⟩
  | .hbm, ⟨33, _⟩ => ⟨S2x8192x8x128, .f32⟩
  | .hbm, ⟨34, _⟩ => ⟨S1x1x8x128, .f32⟩
  | .hbm, ⟨35, _⟩ => ⟨S2x8192x8x128, .f32⟩
  | .hbm, ⟨36, _⟩ => ⟨S2x8192x8x128, .f32⟩
  | .hbm, ⟨37, _⟩ => ⟨S2x8192x8x128, .f32⟩
  | .hbm, ⟨38, _⟩ => ⟨S2x8192x8x128, .f32⟩
  | .hbm, ⟨39, _⟩ => ⟨S2x512x16x1024, .f32⟩
  | .hbm, ⟨40, _⟩ => ⟨S2x16x512x1024, .f32⟩
  | .hbm, ⟨41, _⟩ => ⟨S2x512x16x1024, .f32⟩
  | .hbm, ⟨42, _⟩ => ⟨S2x16x512x1024, .f32⟩
  | .hbm, ⟨43, _⟩ => ⟨S2x16x512x1024, .bf16⟩
  | .hbm, ⟨44, _⟩ => ⟨S2x16x512x1024, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel7.lean ====
abbrev S16896x1024 : Shape := ⟨2, ![16896, 1024]⟩
abbrev S2x8448x1024 : Shape := ⟨3, ![2, 8448, 1024]⟩
abbrev S2x33x1024x256 : Shape := ⟨4, ![2, 33, 1024, 256]⟩
abbrev S4x64 : Shape := ⟨2, ![4, 64]⟩
abbrev S128 : Shape := ⟨1, ![128]⟩
abbrev S1x128 : Shape := ⟨2, ![1, 128]⟩
abbrev S16384x1024 : Shape := ⟨2, ![16384, 1024]⟩
abbrev S1024x128 : Shape := ⟨2, ![1024, 128]⟩
abbrev S1x8448x128 : Shape := ⟨3, ![1, 8448, 128]⟩
abbrev S1x33x128x256 : Shape := ⟨4, ![1, 33, 128, 256]⟩
abbrev S128x2048 : Shape := ⟨2, ![128, 2048]⟩
abbrev S2x1024x2048 : Shape := ⟨3, ![2, 1024, 2048]⟩
abbrev S1x2048 : Shape := ⟨2, ![1, 2048]⟩
abbrev S144x2048 : Shape := ⟨2, ![144, 2048]⟩
abbrev S128x1024 : Shape := ⟨2, ![128, 1024]⟩
abbrev S16x256 : Shape := ⟨2, ![16, 256]⟩
abbrev S1x1024x128 : Shape := ⟨3, ![1, 1024, 128]⟩
abbrev S1024x2048 : Shape := ⟨2, ![1024, 2048]⟩
abbrev S1x1024x2048 : Shape := ⟨3, ![1, 1024, 2048]⟩
abbrev S2048 : Shape := ⟨1, ![2048]⟩
abbrev S1x1x128x256 : Shape := ⟨4, ![1, 1, 128, 256]⟩
abbrev S128x256 : Shape := ⟨2, ![128, 256]⟩
abbrev S144x256 : Shape := ⟨2, ![144, 256]⟩
abbrev S256x2048 : Shape := ⟨2, ![256, 2048]⟩
abbrev S1x256x128 : Shape := ⟨3, ![1, 256, 128]⟩
abbrev S256x128 : Shape := ⟨2, ![256, 128]⟩
abbrev S1x256x2048 : Shape := ⟨3, ![1, 256, 2048]⟩
abbrev S1x64 : Shape := ⟨2, ![1, 64]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S16896x1024, .bf16⟩
  | .hbm, ⟨1, _⟩ => ⟨S2x8448x1024, .bf16⟩
  | .hbm, ⟨2, _⟩ => ⟨S2x33x1024x256, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S1024x128, .bf16⟩
  | .local _ .vmem, ⟨3, _⟩ => ⟨S1024x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x33x128x256, .bf16⟩
  | .local _ .vmem, ⟨7, _⟩ => ⟨S1x33x128x256, .bf16⟩
  | .local _ .vmem, ⟨8, _⟩ => ⟨S1024x128, .bf16⟩
  | .local _ .vmem, ⟨9, _⟩ => ⟨S1024x128, .bf16⟩
  | .local _ .vmem, ⟨10, _⟩ => ⟨S128x2048, .bf16⟩
  | .local _ .vmem, ⟨11, _⟩ => ⟨S2x1024x2048, .f32⟩
  | .local _ .vmem, ⟨12, _⟩ => ⟨S1x2048, .f32⟩
  | .local _ .vmem, ⟨13, _⟩ => ⟨S144x2048, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 8], ![false, false, false]⟩

@[reducible] def k0_t1_loop : Scf.Loop 32 :=
  let c0_i32 : BitVec 32 := 0#32
  let c3_i32 : BitVec 32 := 3#32
  let v33 : BitVec 32 := Scalar.addi c0_i32 c3_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let c4_i32 : BitVec 32 := 4#32
  let v209 : BitVec 32 := Scalar.addi v208 c4_i32
  let c256_i32 : BitVec 32 := 256#32
  let v210 : BitVec 32 := Scalar.muli v209 c256_i32
  v210
def k0_off1 (k0_t1 : Fin k0_t1_loop.trips) (c4_i32 : BitVec 32) : Fin 3 → Nat :=
  let c0_125 : Index := 0#32
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let v209 : BitVec 32 := Scalar.addi v208 c4_i32
  let c256_i32 : BitVec 32 := 256#32
  let v210 : BitVec 32 := Scalar.muli v209 c256_i32
  let v211 : BitVec 32 := v210
  let v212 : Index := Scalar.indexCast v211
  let c0_126 : Index := 0#32
  ![0, v212.toNat, 0]
def k0_off2 (k0_t1 : Fin k0_t1_loop.trips) (c0_i32_139 : BitVec 32) : Fin 4 → Nat :=
  let c0_140 : Index := 0#32
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let v232 : BitVec 32 := Scalar.addi v208 c0_i32_139
  let v233 : Index := Scalar.indexCast v232
  let c0_141 : Index := 0#32
  let c0_142 : Index := 0#32
  ![0, v233.toNat, 0, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let c8_i32_164 : BitVec 32 := 8#32
  let v273 : BitVec 32 := Scalar.addi v208 c8_i32_164
  let c256_i32_165 : BitVec 32 := 256#32
  let v274 : BitVec 32 := Scalar.muli v273 c256_i32_165
  v274
def k0_off3 (k0_t1 : Fin k0_t1_loop.trips) (c0_i32_181 : BitVec 32) : Fin 4 → Nat :=
  let c0_182 : Index := 0#32
  let c0_i32 : BitVec 32 := 0#32
  let c1_i32 : BitVec 32 := 1#32
  let arg13 : BitVec 32 := Scf.iv c0_i32 c1_i32 k0_t1
  let c8_i32 : BitVec 32 := 8#32
  let v208 : BitVec 32 := Scalar.muli arg13 c8_i32
  let c4_i32_174 : BitVec 32 := 4#32
  let v284 : BitVec 32 := Scalar.addi v208 c4_i32_174
  let v297 : BitVec 32 := Scalar.addi v284 c0_i32_181
  let v298 : Index := Scalar.indexCast v297
  let c0_183 : Index := 0#32
  let c0_184 : Index := 0#32
  ![0, v298.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x33x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference7Ideal.lean ====
abbrev S16896x1024 : Shape := ⟨2, ![16896, 1024]⟩
abbrev S2x8448x1024 : Shape := ⟨3, ![2, 8448, 1024]⟩
abbrev S2x33x1024x256 : Shape := ⟨4, ![2, 33, 1024, 256]⟩
abbrev S4x64 : Shape := ⟨2, ![4, 64]⟩
abbrev S128 : Shape := ⟨1, ![128]⟩
abbrev S_ : Shape := ⟨0, ![]⟩
abbrev S16384x1024 : Shape := ⟨2, ![16384, 1024]⟩
abbrev S2x8192x8x2x64 : Shape := ⟨5, ![2, 8192, 8, 2, 64]⟩
abbrev S2x8448x8x2x64 : Shape := ⟨5, ![2, 8448, 8, 2, 64]⟩
abbrev S2x33x256x1024 : Shape := ⟨4, ![2, 33, 256, 1024]⟩
abbrev S2x8448x8x128 : Shape := ⟨4, ![2, 8448, 8, 128]⟩
abbrev S1x64 : Shape := ⟨2, ![1, 64]⟩
abbrev S64 : Shape := ⟨1, ![64]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x128x8192 : Shape := ⟨4, ![2, 8, 128, 8192]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S2x8448x1024, .bf16⟩
  | .hbm, ⟨2, _⟩ => ⟨S2x33x1024x256, .bf16⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x1024, .bf16⟩
  | .hbm, ⟨10, _⟩ => ⟨S16384x1024, .f32⟩
  | .hbm, ⟨11, _⟩ => ⟨S2x8192x8x2x64, .f32⟩
  | .hbm, ⟨12, _⟩ => ⟨S2x8192x8x2x64, .f32⟩
  | .hbm, ⟨13, _⟩ => ⟨S2x8192x8x2x64, .f32⟩
  | .hbm, ⟨14, _⟩ => ⟨S2x8448x1024, .f32⟩
  | .hbm, ⟨15, _⟩ => ⟨S2x8448x8x2x64, .f32⟩
  | .hbm, ⟨16, _⟩ => ⟨S2x33x1024x256, .f32⟩
  | .hbm, ⟨17, _⟩ => ⟨S2x33x256x1024, .f32⟩
  | .hbm, ⟨18, _⟩ => ⟨S2x8448x8x128, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x8x2x8192x8448, .f32⟩
  | .hbm, ⟨39, _⟩ => ⟨S_, .f32⟩
  | .hbm, ⟨40, _⟩ => ⟨S2x8x2x8192x8448, .f32⟩
  | .hbm, ⟨41, _⟩ => ⟨S2x8x2x8192x8448, .f32⟩
  | .hbm, ⟨42, _⟩ => ⟨S_, .f32⟩
  | .hbm, ⟨43, _⟩ => ⟨S2x8x2x8192, .f32⟩
  | .hbm, ⟨44, _⟩ => ⟨S_, .f32⟩
  | .hbm, ⟨45, _⟩ => ⟨S2x8x2x8192, .f32⟩
  | .hbm, ⟨46, _⟩ => ⟨S2x8x2x8192, .f32⟩
  | .hbm, ⟨47, _⟩ => ⟨S2x8x2x8192x1, .f32⟩
  | .hbm, ⟨48, _⟩ => ⟨S2x8x2x8192x8448, .f32⟩
  | .hbm, ⟨49, _⟩ => ⟨S2x8x2x8192x8448, .f32⟩
  | .hbm, ⟨50, _⟩ => ⟨S2x8x2x8192x8448, .f32⟩
  | .hbm, ⟨51, _⟩ => ⟨S_, .f32⟩
  | .hbm, ⟨52, _⟩ => ⟨S2x8x2x8192, .f32⟩
  | .hbm, ⟨53, _⟩ => ⟨S2x8x2x8192x1, .f32⟩
  | .hbm, ⟨54, _⟩ => ⟨S2x8x2x8192x8448, .f32⟩
  | .hbm, ⟨55, _⟩ => ⟨S2x8x2x8192x8448, .f32⟩
  | .hbm, ⟨56, _⟩ => ⟨S2x8x1x8192x8448, .f32⟩
  | .hbm, ⟨57, _⟩ => ⟨S2x8x8192x8448, .f32⟩
  | .hbm, ⟨58, _⟩ => ⟨S2x8x1x8192x8448, .f32⟩
  | .hbm, ⟨59, _⟩ => ⟨S2x8x8192x8448, .f32⟩
  | .hbm, ⟨60, _⟩ => ⟨S2x8x8192x8448, .f32⟩
  | .hbm, ⟨61, _⟩ => ⟨S2x8x8192x8448, .f32⟩
  | .hbm, ⟨62, _⟩ => ⟨S2x8x8192x8448, .f32⟩
  | .hbm, ⟨63, _⟩ => ⟨S2x8x128x8192, .f32⟩
  | .hbm, ⟨64, _⟩ => ⟨S2x8192x8x128, .f32⟩
  | .hbm, ⟨65, _⟩ => ⟨S2x8192x8x128, .f32⟩
  | .hbm, ⟨66, _⟩ => ⟨S_, .f32⟩
  | .hbm, ⟨67, _⟩ => ⟨S2x8192x8, .f32⟩
  | .hbm, ⟨68, _⟩ => ⟨S2x8192x8x1, .f32⟩
  | .hbm, ⟨69, _⟩ => ⟨S_, .f32⟩
  | .hbm, ⟨70, _⟩ => ⟨S2x8192x8x1, .f32⟩
  | .hbm, ⟨71, _⟩ => ⟨S2x8192x8x1, .f32⟩
  | .hbm, ⟨72, _⟩ => ⟨S_, .f32⟩
  | .hbm, ⟨73, _⟩ => ⟨S2x8192x8x1, .f32⟩
  | .hbm, ⟨74, _⟩ => ⟨S2x8192x8x1, .f32⟩
  | .hbm, ⟨75, _⟩ => ⟨S2x8192x8x1, .f32⟩
  | .hbm, ⟨76, _⟩ => ⟨S2x8192x8x128, .f32⟩
  | .hbm, ⟨77, _⟩ => ⟨S2x8192x8x128, .f32⟩
  | .hbm, ⟨78, _⟩ => ⟨S1x1x1x128, .f32⟩
  | .hbm, ⟨79, _⟩ => ⟨S2x8192x8x128, .f32⟩
  | .hbm, ⟨80, _⟩ => ⟨S2x8192x8x128, .f32⟩
  | .hbm, ⟨81, _⟩ => ⟨S_, .f32⟩
  | .hbm, ⟨82, _⟩ => ⟨S2x8192x8x128, .f32⟩
  | .hbm, ⟨83, _⟩ => ⟨S2x8192x8x128, .f32⟩
  | .hbm, ⟨84, _⟩ => ⟨S16384x1024, .f32⟩
  | .hbm, ⟨85, _⟩ => ⟨S16384x1024, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Proof.Att.KernelIdealBody.lean ====
/- The attention kernel's body, run by values: what one trip of the loop over the key chunks, and the whole body at a grid point, leave in the
   scratch buffers and in the output block, as plain functions of the blocks of queries, keys, values, mixing weights and gain. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The windows the body loads, as functions of a block -/

/-- The `1024` keys from key `n` on. -/
def keys (x : Vec F S1x8448x128 .bf16) (n : ℕ) : Vec F S1x1024x128 .bf16 :=
  fun y => x (fun a => match a with
    | ⟨0, _⟩ => (y 0 : Fin 1)
    | ⟨1, _⟩ => (Fin.ofNat 8448 (n + (y 1).val) : Fin 8448)
    | ⟨2, _⟩ => (y 2 : Fin 128)
    | ⟨_ + 3, h⟩ => absurd h (Nat.not_lt.2 (Nat.le_add_left _ _)))

/-- The `256` keys from key `n` on. -/
def keysTail (x : Vec F S1x8448x128 .bf16) (n : ℕ) : Vec F S1x256x128 .bf16 :=
  fun y => x (fun a => match a with
    | ⟨0, _⟩ => (y 0 : Fin 1)
    | ⟨1, _⟩ => (Fin.ofNat 8448 (n + (y 1).val) : Fin 8448)
    | ⟨2, _⟩ => (y 2 : Fin 128)
    | ⟨_ + 3, h⟩ => absurd h (Nat.not_lt.2 (Nat.le_add_left _ _)))

/-- Block `n` of the values. -/
def vals (x : Vec F S1x33x128x256 .bf16) (n : ℕ) : Vec F S1x1x128x256 .bf16 :=
  fun y => x (fun a => match a with
    | ⟨0, _⟩ => (y 0 : Fin 1)
    | ⟨1, _⟩ => (Fin.ofNat 33 (n + (y 1).val) : Fin 33)
    | ⟨2, _⟩ => (y 2 : Fin 128)
    | ⟨3, _⟩ => (y 3 : Fin 256)
    | ⟨_ + 4, h⟩ => absurd h (Nat.not_lt.2 (Nat.le_add_left _ _)))

theorem readAt_keys {κ : Kind} {sp : Space} (v : View sig κ sp S1x8448x128 .bf16) (x : Vec F S1x8448x128 .bf16) {off : Fin 3 → ℕ} (n : ℕ) (inb : ∀ a, off a + S1x1024x128.size a ≤ S1x8448x128.size a)
    (h : off = ![0, n, 0]) :
    v.readAt (Elt F) (Rect.unit (s := S1x8448x128) off S1x1024x128.size inb).toLoadRect (v.rep x) = keys x n := by
  subst h
  rw [View.readAt_rep_unit v x inb rfl inb]
  funext y
  refine congrArg x (funext fun a => ?_)
  have h1 := inb 1
  have e : ![0, n, 0] 1 = n := rfl
  have e' : S1x1024x128.size 1 = 1024 := rfl
  have e'' : S1x8448x128.size 1 = 8448 := rfl
  have hy : (y 1).val < 1024 := (y 1).isLt
  match a with
  | ⟨0, _⟩ => exact Fin.ext (show 0 + 1 * (y 0).val = (y 0).val by omega)
  | ⟨1, _⟩ => exact Fin.ext (show n + 1 * (y 1).val = (n + (y 1).val) % 8448 by rw [Nat.mod_eq_of_lt (by omega)]; omega)
  | ⟨2, _⟩ => exact Fin.ext (show 0 + 1 * (y 2).val = (y 2).val by omega)
  | ⟨_ + 3, h⟩ => exact absurd h (Nat.not_lt.2 (Nat.le_add_left _ _))

theorem readAt_keysTail {κ : Kind} {sp : Space} (v : View sig κ sp S1x8448x128 .bf16) (x : Vec F S1x8448x128 .bf16) {off : Fin 3 → ℕ} (n : ℕ) (inb : ∀ a, off a + S1x256x128.size a ≤ S1x8448x128.size a)
    (h : off = ![0, n, 0]) :
    v.readAt (Elt F) (Rect.unit (s := S1x8448x128) off S1x256x128.size inb).toLoadRect (v.rep x) = keysTail x n := by
  subst h
  rw [View.readAt_rep_unit v x inb rfl inb]
  funext y
  refine congrArg x (funext fun a => ?_)
  have h1 := inb 1
  have e : ![0, n, 0] 1 = n := rfl
  have e' : S1x256x128.size 1 = 256 := rfl
  have e'' : S1x8448x128.size 1 = 8448 := rfl
  have hy : (y 1).val < 256 := (y 1).isLt
  match a with
  | ⟨0, _⟩ => exact Fin.ext (show 0 + 1 * (y 0).val = (y 0).val by omega)
  | ⟨1, _⟩ => exact Fin.ext (show n + 1 * (y 1).val = (n + (y 1).val) % 8448 by rw [Nat.mod_eq_of_lt (by omega)]; omega)
  | ⟨2, _⟩ => exact Fin.ext (show 0 + 1 * (y 2).val = (y 2).val by omega)
  | ⟨_ + 3, h⟩ => exact absurd h (Nat.not_lt.2 (Nat.le_add_left _ _))

theorem readAt_vals {κ : Kind} {sp : Space} (v : View sig κ sp S1x33x128x256 .bf16) (x : Vec F S1x33x128x256 .bf16) {off : Fin 4 → ℕ} (n : ℕ) (inb : ∀ a, off a + S1x1x128x256.size a ≤ S1x33x128x256.size a)
    (h : off = ![0, n, 0, 0]) :
    v.readAt (Elt F) (Rect.unit (s := S1x33x128x256) off S1x1x128x256.size inb).toLoadRect (v.rep x) = vals x n := by
  subst h
  rw [View.readAt_rep_unit v x inb rfl inb]
  funext y
  refine congrArg x (funext fun a => ?_)
  have h1 := inb 1
  have e : ![0, n, 0, 0] 1 = n := rfl
  have e' : S1x1x128x256.size 1 = 1 := rfl
  have e'' : S1x33x128x256.size 1 = 33 := rfl
  have hy : (y 1).val < 1 := (y 1).isLt
  match a with
  | ⟨0, _⟩ => exact Fin.ext (show 0 + 1 * (y 0).val = (y 0).val by omega)
  | ⟨1, _⟩ => exact Fin.ext (show n + 1 * (y 1).val = (n + (y 1).val) % 33 by rw [Nat.mod_eq_of_lt (by omega)]; omega)
  | ⟨2, _⟩ => exact Fin.ext (show 0 + 1 * (y 2).val = (y 2).val by omega)
  | ⟨3, _⟩ => exact Fin.ext (show 0 + 1 * (y 3).val = (y 3).val by omega)
  | ⟨_ + 4, h⟩ => exact absurd h (Nat.not_lt.2 (Nat.le_add_left _ _))

/-! ## The running state of the loop -/

/-- What the loop carries in scratch before a trip: the scores of the chunk about to be taken in, the running maximum and the running sums. -/
structure St (F : FTy → Type) [FloatOps F] where
  sc : Vec F S1x1024x2048 .f32
  mx : Vec F S1x2048 .f32
  acc : Vec F S144x2048 .f32

/-- Trip `k`: two chunks are taken in, and the scores of the two that follow are made ready. -/
def tripSt (K : Vec F S1x8448x128 .bf16) (W : Vec F S1x33x128x256 .bf16) (qq : Vec F S128x2048 .bf16) (k : ℕ) (s : St F) : St F :=
  let one : FVec F S16x256 .bf16 := k0_pay19 (F := F)
  let s1 : Vec F S1x1024x2048 .f32 := k0_pay2 (keys K (2048 * k + 1024)) qq
  let m1 : Vec F S1x2048 .f32 := k0_pay9 (k0_pay4 s.sc s.mx)
  let a1 : Vec F S144x2048 .f32 := k0_pay8 one (k0_pay5 s.sc s.mx) (k0_pay6 s.sc s.mx) (k0_pay7 one s.sc s.mx (vals W (8 * k))) (vals W (8 * k + 1)) (vals W (8 * k + 2)) (vals W (8 * k + 3)) s.acc
  ⟨k0_pay10 (keys K (2048 * k + 2048)) qq,
   k0_pay23 (k0_pay12 s1 m1),
   k0_pay22 one (k0_pay13 s1 m1) (k0_pay14 s1 m1) (k0_pay15 one s1 m1 (vals W (8 * k + 4)) (vals W (8 * k + 5))) (vals W (8 * k + 6)) (vals W (8 * k + 7)) a1⟩

/-- The state before trip `k`, from the state `s` at the loop's entry. -/
def stAt (K : Vec F S1x8448x128 .bf16) (W : Vec F S1x33x128x256 .bf16) (qq : Vec F S128x2048 .bf16) (s : St F) : ℕ → St F
  | 0 => s
  | k + 1 => tripSt K W qq k (stAt K W qq s k)

/-- The loop's resources at state `s`: the blocks read, and the scratch buffers; of the scores' two slots only the first is described. -/
def LoopRes (c : Dev nD) (arg6 : Memref sig .tc .vmem S1x8448x128 .bf16) (arg7 : Memref sig .tc .vmem S1x33x128x256 .bf16) (arg9 : Memref sig .tc .vmem S128x2048 .bf16) (arg10 : Memref sig .tc .vmem S2x1024x2048 .f32) (arg11 : Memref sig .tc .vmem S1x2048 .f32) (arg12 : Memref sig .tc .vmem S144x2048 .f32)
    (K : Vec F S1x8448x128 .bf16) (W : Vec F S1x33x128x256 .bf16) (qq : Vec F S128x2048 .bf16) (s : St F) : sProp 𝕄 :=
  iprop((arg6.view.loc (c : Thread nD τ) ↦[arg6.view.set]{fullShare} arg6.view.rep K) ∗ (arg7.view.loc (c : Thread nD τ) ↦[arg7.view.set]{fullShare} arg7.view.rep W) ∗ (arg9.view.loc (c : Thread nD τ) ↦[arg9.view.set]{fullShare} arg9.view.rep qq)
    ∗ (∃ x, (arg10.view.loc (c : Thread nD τ) ↦[arg10.view.set]{fullShare} arg10.view.rep x) ∗ ⌜VecWindow.window x ![0, 0, 0] S1x1024x2048.size inb_S2x1024x2048_S1x1024x2048_0_0_0 = s.sc⌝)
    ∗ (arg11.view.loc (c : Thread nD τ) ↦[arg11.view.set]{fullShare} arg11.view.rep s.mx) ∗ (arg12.view.loc (c : Thread nD τ) ↦[arg12.view.set]{fullShare} arg12.view.rep s.acc))

/-- A load of a whole buffer held by values. -/
theorem ld_full {κ : Kind} {sp : Space} {s : Shape} {e : EltTy} (v : View sig κ sp s e) (x : Vec F s e) {off : Fin s.rank → ℕ} (inb : ∀ a, off a + s.size a ≤ s.size a) :
    v.readAt (Elt F) (Rect.unit off s.size inb).toLoadRect (v.rep x) = x := View.readAt_rep_full v x inb

/-- A load of what one store just before wrote. -/
theorem ld_same {κ : Kind} {sp : Space} {s : Shape} {e : EltTy} (v : View sig κ sp s e) {off size : Fin s.rank → ℕ} (inb : ∀ a, off a + size a ≤ s.size a)
    (w : (Rect.unit off size inb).shape.Idx → Elt F e) (L : List (View.Piece (Elt F) s e)) :
    v.readCov (⟨Rect.unit off size inb, w⟩ :: L) (Rect.unit off size inb).toLoadRect = w := by
  show v.readAt (Elt F) _ _ = w
  rw [View.readAt_unit v _ inb rfl inb, View.read_writes_cons_put v _ inb w L rfl, VecWindow.window_put_same]

/-- A load of a window that the store just before lies apart from, on the first axis. -/
theorem ld_apart {κ : Kind} {sp : Space} {s : Shape} {e : EltTy} (v : View sig κ sp s e) {off size off' size' : Fin s.rank → ℕ} (inb : ∀ a, off a + size a ≤ s.size a)
    (inb' : ∀ a, off' a + size' a ≤ s.size a) (w : (Rect.unit off size inb).shape.Idx → Elt F e) (L : List (View.Piece (Elt F) s e)) (a : Fin s.rank)
    (ha : off' a + size' a ≤ off a ∨ off a + size a ≤ off' a) :
    v.readCov (⟨Rect.unit off size inb, w⟩ :: L) (Rect.unit off' size' inb').toLoadRect = v.readCov L (Rect.unit off' size' inb').toLoadRect := by
  show v.readAt (Elt F) _ _ = v.readAt (Elt F) _ _
  rw [View.readAt_unit v _ inb' rfl inb', View.readAt_unit v _ inb' rfl inb', View.read_writes_cons_put v _ inb w L rfl, VecWindow.window_put_of_disjoint _ _ _ _ _ _ _ a ha]

/-- A load of a window of what one store of the whole buffer just before wrote. -/
theorem ld_window {κ : Kind} {sp : Space} {s : Shape} {e : EltTy} (v : View sig κ sp s e) {off off' size' : Fin s.rank → ℕ} (inb : ∀ a, off a + s.size a ≤ s.size a) (inb' : ∀ a, off' a + size' a ≤ s.size a)
    (w : s.Idx → Elt F e) (L : List (View.Piece (Elt F) s e)) :
    v.readCov (⟨Rect.unit off s.size inb, w⟩ :: L) (Rect.unit off' size' inb').toLoadRect = VecWindow.window w off' size' inb' := by
  show v.readAt (Elt F) _ _ = _
  rw [View.readAt_unit v _ inb' rfl inb', View.read_writes_full v _ inb w L]

set_option maxHeartbeats 600000 in
/-- One trip of the loop, by values. -/
theorem trip (𝒱 : Variants) (c : Dev nD) (bd : Option 𝒱.V) (E : Set ℕ) (i : grid0.Coords) (arg3 : Memref sig .tc .vmem S4x64 .f32) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x8448x128 .bf16) (harg6 : arg6.IsWhole) (arg7 : Memref sig .tc .vmem S1x33x128x256 .bf16) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S2x1024x2048 .f32) (harg10 : arg10.IsWhole) (arg11 : Memref sig .tc .vmem S1x2048 .f32) (harg11 : arg11.IsWhole) (arg12 : Memref sig .tc .vmem S144x2048 .f32) (harg12 : arg12.IsWhole) (v29 : FVec F S1024x2048 .f32)
    (K : Vec F S1x8448x128 .bf16) (W : Vec F S1x33x128x256 .bf16) (qq : Vec F S128x2048 .bf16) (s : St F) (k : Fin k0_t1_loop.trips) :
    LoopRes c arg6 arg7 arg9 arg10 arg11 arg12 K W qq s
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 (k0_pay19 (F := F)) v29 k PUnit.unit)
          (fun _ => LoopRes c arg6 arg7 arg9 arg10 arg11 arg12 K W qq (tripSt K W qq k.val s)) := by
  have hk : k.val < 3 := Nat.lt_of_lt_of_le k.isLt k0_t1_abs.2.1
  unfold k0_t1_body LoopRes
  simp only [k0_part1_eq_skeleton, k0_part2_eq_skeleton, k0_part3_eq_skeleton]
  unfold k0_part1_skel k0_part2_skel k0_part3_skel
  iintro ⟨H6, H7, H9, ⟨%x, H10, %hx⟩, H11, H12⟩
  sl_exec
  sl_step
  isplitl [H6]; · iexact H6
  isplitl [H7]; · iexact H7
  isplitl [H9]; · iexact H9
  have e220 : trip.sl.v220 arg10 x = s.sc := (View.readAt_rep_unit arg10.view x _ rfl _).trans hx
  have e285 : trip.sl.v285 arg6 arg9 arg10 K qq k = k0_pay2 (keys K (2048 * k.val + 1024)) qq := by
    unfold trip.sl.v285 trip.sl.H10_2
    rw [ld_apart (a := (0 : Fin 3)) (ha := Or.inr (by decide)), ld_same]
    rw [ld_full]
    exact congrArg (fun a => k0_pay2 a qq) (readAt_keys arg6.view K (2048 * k.val + 1024) (k0_off1_inb k 0) (k0_off1_eq k ⟨0, by decide⟩))
  have e287 : trip.sl.v287 arg7 arg10 arg11 W s k x = k0_pay9 (k0_pay4 s.sc s.mx) := by
    unfold trip.sl.v287 trip.sl.H11_1
    rw [ld_same]
    dsimp only
    rw [e220, ld_full]
  have e328 : trip.sl.v328 arg7 arg10 arg11 arg12 W s k x = k0_pay8 (k0_pay19 (F := F)) (k0_pay5 s.sc s.mx) (k0_pay6 s.sc s.mx) (k0_pay7 (k0_pay19 (F := F)) s.sc s.mx (vals W (8 * k.val))) (vals W (8 * k.val + 1)) (vals W (8 * k.val + 2)) (vals W (8 * k.val + 3)) s.acc := by
    unfold trip.sl.v328 trip.sl.H12_1
    rw [ld_same]
    dsimp only
    rw [e220, ld_full, ld_full, readAt_vals _ _ (8 * k.val) _ (k0_off2_eq k ⟨0, by decide⟩), readAt_vals _ _ (8 * k.val + 1) _ (k0_off2_eq k ⟨1, by decide⟩),
      readAt_vals _ _ (8 * k.val + 2) _ (k0_off2_eq k ⟨2, by decide⟩), readAt_vals _ _ (8 * k.val + 3) _ (k0_off2_eq k ⟨3, by decide⟩)]
  isplitl [H10]
  · iexists _
    isplitl [H10]
    · iapply (pointsTo_rep_of_read (c : Thread nD τ) arg10 _ fullShare _ rfl)
      iexact H10
    · ipureintro
      unfold trip.sl.H10_2
      rw [View.read_writes_cons_put arg10.view _ _ _ _ rfl]
      refine (VecWindow.window_put_same _ _ _ _ _).trans ?_
      rw [ld_full]
      exact congrArg (fun a => k0_pay10 a qq) (readAt_keys arg6.view K (2048 * k.val + 2048) (k0_off1_inb k 1) (k0_off1_eq k ⟨1, by decide⟩))
  isplitl [H11]
  · iapply (rep_of_owns (c : Thread nD τ) arg11 fullShare _)
    unfold owns
    iexists _; isplitr
    swap; · iexact H11
    ipureintro
    rw [View.read_writes_full]
    dsimp only
    rw [e285, e287]
    rfl
  iapply (rep_of_owns (c : Thread nD τ) arg12 fullShare _)
  unfold owns
  iexists _; isplitr
  swap; · iexact H12
  ipureintro
  rw [View.read_writes_full]
  dsimp only
  rw [e285, e287, e328, readAt_vals _ _ (8 * k.val + 4) _ (k0_off3_eq k ⟨0, by decide⟩), readAt_vals _ _ (8 * k.val + 5) _ (k0_off3_eq k ⟨1, by decide⟩)]
  have e6 := readAt_vals arg7.view W (8 * k.val + 6) (k0_off3_inb k 2) (k0_off3_eq k ⟨2, by decide⟩)
  have e7 := readAt_vals arg7.view W (8 * k.val + 7) (k0_off3_inb k 3) (k0_off3_eq k ⟨3, by decide⟩)
  exact congrArg₂ (fun a b => k0_pay22 (k0_pay19 (F := F)) _ _ _ a b _) e6 e7

/-! ## The whole body at a grid point -/

/-- The state at the loop's entry: the first chunk's scores, no maximum yet, no sums yet. -/
def st0 (K : Vec F S1x8448x128 .bf16) (qq : Vec F S128x2048 .bf16) : St F :=
  ⟨k0_pay21 (k0_pay20 (keys K 0) qq), k0_pay17 (F := F), k0_pay18 (F := F)⟩

/-- The first chunk after the loop. -/
def m7 (s : St F) : Vec F S1x2048 .f32 := k0_pay31 (k0_pay26 s.sc s.mx)
def a7 (W : Vec F S1x33x128x256 .bf16) (s : St F) : Vec F S144x2048 .f32 :=
  k0_pay30 (k0_pay19 (F := F)) (k0_pay27 s.sc s.mx) (k0_pay28 s.sc s.mx) (k0_pay29 (k0_pay19 (F := F)) s.sc s.mx (vals W 24)) (vals W 25) (vals W 26) (vals W 27) s.acc
/-- The second chunk after the loop. -/
def m8 (s1 : Vec F S1x1024x2048 .f32) (m : Vec F S1x2048 .f32) : Vec F S1x2048 .f32 := k0_pay41 (k0_pay35 s1 m)
def a8 (W : Vec F S1x33x128x256 .bf16) (s1 : Vec F S1x1024x2048 .f32) (m : Vec F S1x2048 .f32) (a : Vec F S144x2048 .f32) : Vec F S144x2048 .f32 :=
  k0_pay40 (k0_pay36 s1 m) (k0_pay37 s1 m) (k0_pay38 (k0_pay19 (F := F)) s1 m (vals W 28) (vals W 29) (vals W 30)) (k0_pay39 (k0_pay19 (F := F)) (vals W 31)) a
/-- The last keys, a quarter of a chunk. -/
def a9 (W : Vec F S1x33x128x256 .bf16) (s1 : Vec F S1x256x2048 .f32) (m : Vec F S1x2048 .f32) (a : Vec F S144x2048 .f32) : Vec F S144x2048 .f32 :=
  k0_pay44 (k0_pay19 (F := F)) s1 m (vals W 32) a
/-- The output block, from the sums over every key. -/
def outOf (l : Vec F S4x64 .f32) (g : Vec F S1x128 .f32) (a : Vec F S144x2048 .f32) : Vec F S1024x128 .bf16 :=
  k0_pay1 (k0_pay46 l (VecWindow.window a ![0, 0] S128x2048.size inb_S144x2048_S128x2048_0_0) (VecWindow.window a ![128, 0] S1x2048.size inb_S144x2048_S1x2048_128_0)) (k0_pay47 g)

/-- The sums over every key, from the blocks of queries, keys and values. -/
def accAll (q : Vec F S1024x128 .bf16) (K : Vec F S1x8448x128 .bf16) (W : Vec F S1x33x128x256 .bf16) : Vec F S144x2048 .f32 :=
  let qq : Vec F S128x2048 .bf16 := k0_pay16 q
  let s := stAt K W qq (st0 K qq) 3
  let s1 : Vec F S1x1024x2048 .f32 := k0_pay24 (keys K 7168) qq
  a9 W (k0_pay33 (k0_pay32 (keysTail K 8192) qq)) (m8 s1 (m7 s)) (a8 W s1 (m7 s) (a7 W s))

/-- The output block, from the input blocks. -/
def out (l : Vec F S4x64 .f32) (g : Vec F S1x128 .f32) (q : Vec F S1024x128 .bf16) (K : Vec F S1x8448x128 .bf16) (W : Vec F S1x33x128x256 .bf16) : Vec F S1024x128 .bf16 :=
  outOf l g (accAll q K W)

set_option maxHeartbeats 1000000 in
/-- The body on whole buffers, the inputs at their blocks, the output and the scratch at anything, runs to the continuation holding the inputs as they
    were and the output at `out` of them. -/
theorem sound_kernel (c : Dev nD) (E : Set ℕ) (i : grid0.Coords) (arg3 : Memref sig .tc .vmem S4x64 .f32) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x8448x128 .bf16) (harg6 : arg6.IsWhole) (arg7 : Memref sig .tc .vmem S1x33x128x256 .bf16) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S2x1024x2048 .f32) (harg10 : arg10.IsWhole) (arg11 : Memref sig .tc .vmem S1x2048 .f32) (harg11 : arg11.IsWhole) (arg12 : Memref sig .tc .vmem S144x2048 .f32) (harg12 : arg12.IsWhole)
    (l : Vec F S4x64 .f32) (g : Vec F S1x128 .f32) (q : Vec F S1024x128 .bf16) (K : Vec F S1x8448x128 .bf16) (W : Vec F S1x33x128x256 .bf16) (Q : PUnit → sProp 𝕄) :
    iprop(owns (c : Thread nD τ) arg3 fullShare l ∗ owns (c : Thread nD τ) arg4 fullShare g ∗ owns (c : Thread nD τ) arg5 fullShare q ∗ owns (c : Thread nD τ) arg6 fullShare K ∗ owns (c : Thread nD τ) arg7 fullShare W ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare l ∗ owns (c : Thread nD τ) arg4 fullShare g ∗ owns (c : Thread nD τ) arg5 fullShare q ∗ owns (c : Thread nD τ) arg6 fullShare K ∗ owns (c : Thread nD τ) arg7 fullShare W ∗ owns (c : Thread nD τ) arg8 fullShare (out l g q K W)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ Q ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12) Q := by
  simp only [cc0_diff_attn_eq_skeleton]; unfold cc0_diff_attn_skel
  simp only [k0_part4_eq_skeleton, k0_part5_eq_skeleton, k0_part6_eq_skeleton, k0_part7_eq_skeleton, k0_part8_eq_skeleton, k0_part9_eq_skeleton]
  simp only [owns_eq_rep]
  iintro ⟨H3, H4, H5, H6, H7, ⟨%d8, H8⟩, ⟨%d9, H9⟩, ⟨%d10, H10⟩, ⟨%d11, H11⟩, ⟨%d12, H12⟩, Hk⟩
  sl_exec
  sl_for (fun k _ => LoopRes c arg6 arg7 arg9 arg10 arg11 arg12 K W (k0_pay16 q) (stAt K W (k0_pay16 q) (st0 K (k0_pay16 q)) k)) $$ [H6 H7 H9 H10 H11 H12]
  · intro k acc
    exact trip Variants.none c none E i arg3 harg3 arg4 harg4 arg5 harg5 arg6 harg6 arg7 harg7 arg8 harg8 arg9 harg9 arg10 harg10 arg11 harg11 arg12 harg12 _ K W _ _ k
  · unfold LoopRes
    isplitl [H6]; · iexact H6
    isplitl [H7]; · iexact H7
    isplitl [H9]
    · iapply (rep_of_owns (c : Thread nD τ) arg9 fullShare _)
      unfold owns
      iexists _; isplitr
      swap; · iexact H9
      ipureintro
      unfold sound_kernel.sl.H9_1
      rw [View.read_writes_full, ld_full]
    isplitl [H10]
    · iexists _
      isplitl [H10]
      · iapply (pointsTo_rep_of_read (c : Thread nD τ) arg10 _ fullShare _ rfl)
        iexact H10
      · ipureintro
        rw [View.read_writes_cons_put arg10.view _ _ _ _ rfl]
        refine (VecWindow.window_put_same _ _ _ _ _).trans ?_
        unfold sound_kernel.sl.r
        unfold sound_kernel.sl.v28 sound_kernel.sl.H9_1
        rw [ld_same, ld_full]
        exact congrArg (fun a => k0_pay21 (k0_pay20 a (k0_pay16 q))) (readAt_keys arg6.view K 0 _ rfl)
    isplitl [H11]
    · iapply (rep_of_owns (c : Thread nD τ) arg11 fullShare _)
      unfold owns
      iexists _; isplitr
      swap; · iexact H11
      ipureintro
      exact View.read_writes_full arg11.view _ _ _ _
    iapply (rep_of_owns (c : Thread nD τ) arg12 fullShare _)
    unfold owns
    iexists _; isplitr
    swap; · iexact H12
    ipureintro
    exact View.read_writes_full arg12.view _ _ _ _
  iintro %acc HI
  unfold LoopRes
  icases HI with ⟨H6, H7, H9, ⟨%x, H10, %hx⟩, H11, H12⟩
  sl_exec
  have ht : Scf.trips k0_t1_loop.lb k0_t1_loop.ub k0_t1_loop.st = 3 := by decide
  rw [ht] at hx
  have v41 : sound_kernel.sl.v41 arg10 x = (stAt K W (k0_pay16 q) (st0 K (k0_pay16 q)) 3).sc := (View.readAt_rep_unit arg10.view x _ rfl _).trans hx
  have v93 : sound_kernel.sl.v93 arg6 arg9 arg10 q K = k0_pay24 (keys K 7168) (k0_pay16 q) := by
    unfold sound_kernel.sl.v93 sound_kernel.sl.H10_2
    rw [ld_apart (a := (0 : Fin 3)) (ha := Or.inr (by decide)), ld_same, ld_full]
    exact congrArg (fun a => k0_pay24 a (k0_pay16 q)) (readAt_keys arg6.view K 7168 _ rfl)
  have v138 : sound_kernel.sl.v138 arg6 arg9 arg10 q K = k0_pay33 (k0_pay32 (keysTail K 8192) (k0_pay16 q)) := by
    unfold sound_kernel.sl.v138 sound_kernel.sl.H10_2 sound_kernel.sl.r_6
    rw [ld_same, ld_full]
    exact congrArg (fun a => k0_pay33 (k0_pay32 a (k0_pay16 q))) (readAt_keysTail arg6.view K 8192 _ rfl)
  have v95 : sound_kernel.sl.v95 arg10 arg11 q K W x = m7 (stAt K W (k0_pay16 q) (st0 K (k0_pay16 q)) 3) := by
    unfold sound_kernel.sl.v95 sound_kernel.sl.H11_1_1 sound_kernel.sl.r_1
    rw [ld_same, ld_full, v41, ht]; rfl
  have v140 : sound_kernel.sl.v140 arg6 arg9 arg10 arg11 q K W x = m8 (k0_pay24 (keys K 7168) (k0_pay16 q)) (m7 (stAt K W (k0_pay16 q) (st0 K (k0_pay16 q)) 3)) := by
    unfold sound_kernel.sl.v140 sound_kernel.sl.H11_2 sound_kernel.sl.r_7
    rw [ld_same, v93, v95]; rfl
  have v128 : sound_kernel.sl.v128 arg7 arg10 arg11 arg12 q K W x = a7 W (stAt K W (k0_pay16 q) (st0 K (k0_pay16 q)) 3) := by
    unfold sound_kernel.sl.v128 sound_kernel.sl.H12_1_1 sound_kernel.sl.r_2 sound_kernel.sl.r_3 sound_kernel.sl.r_4 sound_kernel.sl.r_5
    rw [ld_same, ld_full, ld_full, v41, ht, readAt_vals arg7.view W 24 _ rfl, readAt_vals arg7.view W 25 _ rfl, readAt_vals arg7.view W 26 _ rfl, readAt_vals arg7.view W 27 _ rfl]; rfl
  have v154 : sound_kernel.sl.v154 arg6 arg7 arg9 arg10 arg11 arg12 q K W x = a8 W (k0_pay24 (keys K 7168) (k0_pay16 q)) (m7 (stAt K W (k0_pay16 q) (st0 K (k0_pay16 q)) 3)) (a7 W (stAt K W (k0_pay16 q) (st0 K (k0_pay16 q)) 3)) := by
    unfold sound_kernel.sl.v154 sound_kernel.sl.H12_2 sound_kernel.sl.r_8 sound_kernel.sl.r_9 sound_kernel.sl.r_10 sound_kernel.sl.r_11
    rw [ld_same, v128, v93, v95, readAt_vals arg7.view W 28 _ rfl, readAt_vals arg7.view W 29 _ rfl, readAt_vals arg7.view W 30 _ rfl, readAt_vals arg7.view W 31 _ rfl]; rfl
  have hacc : sound_kernel.sl.r_13 arg6 arg7 arg9 arg10 arg11 arg12 q K W x = accAll q K W := by
    unfold sound_kernel.sl.r_13
    rw [v138, v140, v154, readAt_vals arg7.view W 32 _ rfl]; rfl
  have v180 : sound_kernel.sl.v180 arg6 arg7 arg9 arg10 arg11 arg12 q K W x = VecWindow.window (accAll q K W) ![0, 0] S128x2048.size inb_S144x2048_S128x2048_0_0 := by
    unfold sound_kernel.sl.v180 sound_kernel.sl.H12_3
    rw [ld_window, hacc]
  have v181 : sound_kernel.sl.v181 arg6 arg7 arg9 arg10 arg11 arg12 q K W x = VecWindow.window (accAll q K W) ![128, 0] S1x2048.size inb_S144x2048_S1x2048_128_0 := by
    unfold sound_kernel.sl.v181 sound_kernel.sl.H12_3
    rw [ld_window, hacc]
  sl_step
  iapply Hk
  isplitl [H3]; · iexact H3
  isplitl [H4]; · iexact H4
  isplitl [H5]; · iexact H5
  isplitl [H6]; · iexact H6
  isplitl [H7]; · iexact H7
  isplitl [H8]
  · iapply (rep_of_owns (c : Thread nD τ) arg8 fullShare _)
    unfold owns
    iexists _; isplitr
    swap; · iexact H8
    ipureintro
    rw [View.read_writes_full]
    unfold sound_kernel.sl.r_14 sound_kernel.sl.r_15
    rw [v180, v181, ld_full, ld_full]; rfl
  isplitl [H9]; · iexists _; iexact H9
  isplitl [H10]
  · iexists _; iapply (pointsTo_rep_of_read (c : Thread nD τ) arg10 _ fullShare _ rfl); iexact H10
  isplitl [H11]
  · iexists _; iapply (pointsTo_rep_of_read (c : Thread nD τ) arg11 _ fullShare _ rfl); iexact H11
  iexists _; iapply (pointsTo_rep_of_read (c : Thread nD τ) arg12 _ fullShare _ rfl); iexact H12

end Cert.KernelIdeal.Att

end
-- ==== Proof.Att.KernelIdealRun.lean ====
/- The attention kernel's launch: the body's triple at every grid point gives the run of the whole program, its frame, and what the output array holds at the end. -/
module

public import proofs.«01_k».proof.Proof.Att.KernelIdealBody
public import proofs.«01_k».proof.Proof.Gen.KernelIdeal.Frame

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's invariant between points: its four scratch buffers at some contents, and the generator register. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body leaves in each window at a point: the inputs as they were, the output at `out` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => out (iblk m c 0 t) (iblk m c 1 t) (X0_2 m c t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out (iblk m c 0 t) (iblk m c 1 t) (X0_2 m c t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ _ _ (iblk m c 0 t) (iblk m c 1 t) (X0_2 m c t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every execution ends, the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim: the argument arrays unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

/-- The same with the output array: what the proof data writes back, over every point. -/
theorem run_value : θ_run defs (onTc (τ := τ) (main (F := F))) ⟨m, fun _ => 0, ρ⟩ (fun r => (∀ c : Dev nD,
      r.2.mem ((c.tc : Thread nD τ).loc main_v1) = (dats m 0 c).arrAt 5 (cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h c => ⟨(h.1 c).1 5, h.2 c⟩) (θ_run_and (run_main m ρ) (unchanged m ρ))

end Cert.KernelIdeal.Att

end
-- ==== Proof.Att.Online.lean ====
/- The online softmax over extended reals: a running maximum and running sums, taken chunk by chunk, keep the weighted sums of `2` to the scores. -/
module

public import Idealize.ShloMosaic.PureOps.Ideal

@[expose] public section

noncomputable section

namespace Cert.Online

open Idealize.ShloMosaic

/-- A finite sum of reals, read as extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : ((max a b : ℝ) : EReal) = max (a : EReal) (b : EReal) := EReal.coe_strictMono.monotone.map_max

/-- The maximum of finitely many reals, at least one, is a real; -/
theorem fold_max_real {n : ℕ} (hn : 0 < n) (f : Fin n → ℝ) :
    ∃ M : ℝ, Finset.univ.fold max (⊥ : EReal) (fun i => ((f i : ℝ) : EReal)) = (M : EReal) := by
  have key : ∀ s : Finset (Fin n), s.Nonempty → ∃ M : ℝ, s.fold max (⊥ : EReal) (fun i => ((f i : ℝ) : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, coe_max]⟩
  exact key _ ⟨⟨0, hn⟩, Finset.mem_univ _⟩

/-- After `n` keys with scores `S` and weights `w`: nothing taken yet, or the running maximum is a real `M` and the running
    sum is the sum of `w k * 2 ^ (S k - M)`. -/
def Inv (S w : ℕ → ℝ) (n : ℕ) (m a : EReal) : Prop :=
  (n = 0 ∧ m = ⊥ ∧ a = 0) ∨ ∃ M : ℝ, m = (M : EReal) ∧ a = ((∑ k ∈ Finset.range n, w k * (2 : ℝ) ^ (S k - M) : ℝ) : EReal)

theorem exp2_sub (x M : ℝ) : Ideal.exp2 ((x : EReal) - (M : EReal)) = (((2 : ℝ) ^ (x - M) : ℝ) : EReal) := by
  rw [← EReal.coe_sub]; rfl

/-- One chunk taken in. -/
theorem Inv.step {S w : ℕ → ℝ} {n : ℕ} {m a : EReal} (h : Inv S w n m a) {L : ℕ} (hL : 0 < L) :
    Inv S w (n + L) (max m (Finset.univ.fold max ⊥ fun j : Fin L => ((S (n + j.val) : ℝ) : EReal)))
      (Ideal.exp2 (m - max m (Finset.univ.fold max ⊥ fun j : Fin L => ((S (n + j.val) : ℝ) : EReal))) * a
        + ∑ j ∈ Finset.range L, ((w (n + j) : ℝ) : EReal)
            * Ideal.exp2 (((S (n + j) : ℝ) : EReal) - max m (Finset.univ.fold max ⊥ fun j : Fin L => ((S (n + j.val) : ℝ) : EReal)))) := by
  obtain ⟨M', hM'⟩ := fold_max_real hL fun j : Fin L => S (n + j.val)
  rw [hM']
  rcases h with ⟨h0, hm, ha⟩ | ⟨M, hm, ha⟩
  · subst h0 hm ha
    refine .inr ⟨M', by simp, ?_⟩
    rw [mul_zero, zero_add, max_eq_right bot_le]
    simp only [exp2_sub, ← EReal.coe_mul, coe_sum, Nat.zero_add]
  · subst hm ha
    refine .inr ⟨max M M', (coe_max _ _).symm, ?_⟩
    rw [← coe_max]
    simp only [exp2_sub, ← EReal.coe_mul, coe_sum, ← EReal.coe_add]
    rw [Finset.sum_range_add, Finset.mul_sum]
    congr 2
    refine Finset.sum_congr rfl fun k _ => ?_
    rw [mul_left_comm, ← Real.rpow_add (by norm_num)]
    congr 2; ring

/-- The quotient of two running sums no longer depends on the maximum. -/
theorem Inv.ratio {S w : ℕ → ℝ} {n : ℕ} (hn : n ≠ 0) {m a l : EReal} (h : Inv S w n m a) (h1 : Inv S (fun _ => 1) n m l) :
    Ideal.div a l = (((∑ k ∈ Finset.range n, w k * (2 : ℝ) ^ S k) / ∑ k ∈ Finset.range n, (2 : ℝ) ^ S k : ℝ) : EReal) := by
  rcases h with ⟨h0, _⟩ | ⟨M, hm, ha⟩
  · exact absurd h0 hn
  rcases h1 with ⟨h0, _⟩ | ⟨M', hm', hl⟩
  · exact absurd h0 hn
  have hMM : M' = M := EReal.coe_injective (hm'.symm.trans hm)
  subst hMM ha hl
  have h2 : ∀ x : ℝ, (2 : ℝ) ^ (x - M') = (2 : ℝ) ^ x * (2 : ℝ) ^ (-M') := fun x => by
    rw [← Real.rpow_add (by norm_num)]; rfl
  have pos : ∀ x : ℝ, 0 < (2 : ℝ) ^ x := fun x => Real.rpow_pos_of_pos (by norm_num) x
  have hne : (Finset.range n).Nonempty := ⟨0, Finset.mem_range.2 (Nat.pos_of_ne_zero hn)⟩
  have hs : 0 < ∑ k ∈ Finset.range n, (2 : ℝ) ^ S k := Finset.sum_pos (fun k _ => pos _) hne
  simp only [h2, one_mul, ← mul_assoc, ← Finset.sum_mul]
  rw [Ideal.div_coe (mul_pos hs (pos _)).ne', ← EReal.coe_mul]
  congr 1
  field_simp [(pos (-M')).ne', hs.ne']

/-- A softmax entry of real scores: the subtracted maximum cancels. -/
theorem softmax_real {n : ℕ} (hn : 0 < n) (X : Fin n → ℝ) (i : Fin n) (m : EReal)
    (hm : m = max ⊥ (Finset.univ.fold max (⊥ : EReal) fun j => ((X j : ℝ) : EReal))) :
    Ideal.div (Ideal.exp (((X i : ℝ) : EReal) - m)) (∑ j, Ideal.exp (((X j : ℝ) : EReal) - m))
      = ((Real.exp (X i) / ∑ j, Real.exp (X j) : ℝ) : EReal) := by
  obtain ⟨M, hM⟩ := fold_max_real hn X
  rw [max_eq_right bot_le, hM] at hm
  subst hm
  have he : ∀ x : ℝ, Ideal.exp ((x : EReal) - (M : EReal)) = ((Real.exp x * Real.exp (-M) : ℝ) : EReal) := fun x => by
    rw [← EReal.coe_sub, ← Real.exp_add]; rfl
  have hne : (Finset.univ : Finset (Fin n)).Nonempty := ⟨⟨0, hn⟩, Finset.mem_univ _⟩
  have hs : 0 < ∑ j, Real.exp (X j) := Finset.sum_pos (fun k _ => Real.exp_pos _) hne
  simp only [he, coe_sum, ← Finset.sum_mul]
  rw [Ideal.div_coe (mul_pos hs (Real.exp_pos _)).ne', ← EReal.coe_mul]
  congr 1
  field_simp [(Real.exp_pos (-M)).ne', hs.ne']

/-- `2 ^ x` is the exponential of `x` times the logarithm of two. -/
theorem exp_mul_log_two (x : ℝ) : Real.exp (x * Real.log 2) = (2 : ℝ) ^ x := by
  rw [Real.rpow_def_of_pos (by norm_num), mul_comm]

/-- The mixing coefficient from the four lambda vectors. -/
def lamE (l : Fin 4 → Fin 64 → EReal) : EReal :=
  Ideal.exp (∑ k : Fin 64, l 0 k * l 1 k) - Ideal.exp (∑ k : Fin 64, l 2 k * l 3 k) + Ideal.ofBits .f32 0x3E4CCCCD#32

/-- The normalisation of one head's output row: each entry over the root of the mean square, times the gain, times one minus the initial coefficient. -/
def tail (o : Fin 128 → EReal) (g : EReal) (e : Fin 128) : EReal :=
  o e * Ideal.rsqrt (Ideal.div (∑ x : Fin 128, o x * o x) (Ideal.ofBits .f32 0x43000000#32) + Ideal.ofBits .f32 0x3727C5AC#32) * g
    * Ideal.ofBits .f32 0x3F4CCCCD#32

/-- With finite lambda vectors the mixing coefficient is a real. -/
theorem lamE_real (l : Fin 4 → Fin 64 → ℝ) : ∃ r : ℝ, lamE (fun i k => ((l i k : ℝ) : EReal)) = (r : EReal) := by
  refine ⟨Real.exp (∑ k, l 0 k * l 1 k) - Real.exp (∑ k, l 2 k * l 3 k) + (Ideal.ofBits .f32 0x3E4CCCCD#32).toReal, ?_⟩
  unfold lamE
  simp only [← EReal.coe_mul, coe_sum]
  rw [EReal.coe_add, EReal.coe_sub, EReal.coe_toReal (by simp [Ideal.ofBits, Ideal.ieee, -EReal.coe_mul]) (by simp [Ideal.ofBits, Ideal.ieee, -EReal.coe_mul])]
  rfl

end Cert.Online

end
-- ==== Proof.Att.Pay.lean ====
/- The body's arithmetic at an index, over extended reals: the scores of a chunk, one chunk taken into the running maximum and the running sums. -/
module

public import proofs.«01_k».proof.Proof.Att.KernelIdealBody
public import Idealize.ShloMosaic.Lib.Pointwise
public import proofs.«01_k».proof.Proof.Att.Online

@[expose] public section

set_option maxRecDepth 16384

noncomputable section

namespace Cert.KernelIdeal.Att

open Cert.KernelIdeal Cert.KernelIdeal.Gen
open Idealize.ShloMosaic Idealize.ShloMosaic.TcCoe

open Cert.Online

/-- An array of reals read as extended reals. -/
def toE {s : Shape} (f : s.Idx → ℝ) : s.Idx → EReal := fun i => ((f i : ℝ) : EReal)

variable (q : S1024x128.Idx → ℝ) (K : S1x8448x128.Idx → ℝ) (W : S1x33x128x256.Idx → ℝ)

/-- Column `b` of the doubled queries: query `b`'s first half, then query `b - 1024`'s second half, zeros elsewhere. -/
def qcol (b : Fin 2048) (d : Fin 128) : ℝ :=
  if h : b.val < 1024 then (if d.val < 64 then q (ix2 ⟨b.val, h⟩ d) else 0)
  else (if 64 ≤ d.val then q (ix2 ⟨b.val - 1024, by omega⟩ d) else 0)

/-- The score of key `k` against column `b`. -/
def score (b : Fin 2048) (k : ℕ) : ℝ := ∑ d : Fin 128, K (ix3 0 (Fin.ofNat 8448 k) d) * qcol q b d

/-- The weight of key `k` in row `r` of the running sums: a value below row `128`, one from there on. -/
def weight (r : Fin 144) (k : ℕ) : ℝ :=
  if h : r.val < 128 then W (ix4 0 (Fin.ofNat 33 (k / 256)) ⟨r.val, h⟩ (Fin.ofNat 256 k)) else 1

theorem negInf : Ideal.ofBits .f32 0xFF800000#32 = ⊥ := by simp [Ideal.ofBits, Ideal.ieee]

theorem low_half : ∀ d : Fin 128, IntOp.cmpi .slt (BitVec.ofNat 32 d.val) 64#32 = if d.val < 64 then 1#1 else 0#1 := by decide
theorem high_half : ∀ d : Fin 128, IntOp.cmpi .sge (BitVec.ofNat 32 d.val) 64#32 = if 64 ≤ d.val then 1#1 else 0#1 := by decide

theorem qq_at (d : Fin 128) (b : Fin 2048) : k0_pay16 (F := Ideal) (toE q) (ix2 d b) = ((qcol q b d : ℝ) : EReal) := by
  pointwise [k0_pay16]
  rw [low_half, high_half]
  unfold qcol toE Scalar.select
  by_cases h : b.val < 1024
  · rw [dif_pos h, dif_pos h]; by_cases h2 : d.val < 64 <;> simp [h2]
  · rw [dif_neg h, dif_neg h]; by_cases h2 : 64 ≤ d.val <;> simp [h2]

theorem keys_at (X : FVec Ideal S1x8448x128 .bf16) (n : ℕ) (a : Fin 1024) (d : Fin 128) :
    keys (F := Ideal) X n (ix3 0 a d) = X (ix3 0 (Fin.ofNat 8448 (n + a.val)) d) :=
  congrArg X (funext fun j => by match j with | ⟨0, _⟩ => rfl | ⟨1, _⟩ => rfl | ⟨2, _⟩ => rfl)

theorem keysTail_at (X : FVec Ideal S1x8448x128 .bf16) (n : ℕ) (a : Fin 256) (d : Fin 128) :
    keysTail (F := Ideal) X n (ix3 0 a d) = X (ix3 0 (Fin.ofNat 8448 (n + a.val)) d) :=
  congrArg X (funext fun j => by match j with | ⟨0, _⟩ => rfl | ⟨1, _⟩ => rfl | ⟨2, _⟩ => rfl)

theorem vals_ix (X : FVec Ideal S1x33x128x256 .bf16) (n : ℕ) (r : Fin 128) (x : Fin 256) :
    vals (F := Ideal) X n (ix4 0 0 r x) = X (ix4 0 (Fin.ofNat 33 n) r x) :=
  congrArg X (funext fun j => by match j with | ⟨0, _⟩ => rfl | ⟨1, _⟩ => rfl | ⟨2, _⟩ => rfl | ⟨3, _⟩ => rfl)

theorem score_at (n : ℕ) (a : Fin 1024) (b : Fin 2048) :
    k0_pay2 (F := Ideal) (keys (F := Ideal) (toE K) n) (k0_pay16 (F := Ideal) (toE q)) (ix3 0 a b) = ((score q K b (n + a.val) : ℝ) : EReal) := by
  have h : k0_pay2 (F := Ideal) (keys (F := Ideal) (toE K) n) (k0_pay16 (F := Ideal) (toE q)) (ix3 0 a b)
      = ∑ d : Fin 128, keys (F := Ideal) (toE K) n (ix3 0 a d) * k0_pay16 (F := Ideal) (toE q) (ix2 d b) := by
    pointwise [k0_pay2]
  rw [h]; unfold score; rw [← coe_sum]
  refine Finset.sum_congr rfl fun d _ => ?_
  rw [qq_at, EReal.coe_mul, keys_at]
  rfl

theorem tail_score_at (n : ℕ) (a : Fin 256) (b : Fin 2048) :
    k0_pay33 (F := Ideal) (k0_pay32 (keysTail (F := Ideal) (toE K) n) (k0_pay16 (F := Ideal) (toE q))) (ix3 0 a b) = ((score q K b (n + a.val) : ℝ) : EReal) := by
  have h : k0_pay33 (F := Ideal) (k0_pay32 (keysTail (F := Ideal) (toE K) n) (k0_pay16 (F := Ideal) (toE q))) (ix3 0 a b)
      = ∑ d : Fin 128, keysTail (F := Ideal) (toE K) n (ix3 0 a d) * k0_pay16 (F := Ideal) (toE q) (ix2 d b) := by
    pointwise [k0_pay33, k0_pay32]
  rw [h]; unfold score; rw [← coe_sum]
  refine Finset.sum_congr rfl fun d _ => ?_
  rw [qq_at, EReal.coe_mul, keysTail_at]
  rfl

/-- The maximum after a chunk, -/
def stepM (sc : FVec Ideal S1x1024x2048 .f32) (mx : FVec Ideal S1x2048 .f32) : FVec Ideal S1x2048 .f32 :=
  k0_pay9 (F := Ideal) (k0_pay4 sc mx)

/-- and the sums after it. -/
def stepA (sc : FVec Ideal S1x1024x2048 .f32) (mx : FVec Ideal S1x2048 .f32) (v0 v1 v2 v3 : FVec Ideal S1x1x128x256 .bf16) (acc : FVec Ideal S144x2048 .f32) :
    FVec Ideal S144x2048 .f32 :=
  k0_pay8 (F := Ideal) k0_pay19 (k0_pay5 sc mx) (k0_pay6 sc mx) (k0_pay7 k0_pay19 sc mx v0) v1 v2 v3 acc

theorem stepM_at (sc : FVec Ideal S1x1024x2048 .f32) (mx : FVec Ideal S1x2048 .f32) (b : Fin 2048) :
    stepM sc mx (ix2 0 b) = max (mx (ix2 0 b)) (Finset.univ.fold max ⊥ fun a : Fin 1024 => sc (ix3 0 a b)) := by
  pointwise [stepM, k0_pay9, k0_pay4, k0_pay3]
  rw [negInf]

theorem stepA_at (sc : FVec Ideal S1x1024x2048 .f32) (mx : FVec Ideal S1x2048 .f32) (v0 v1 v2 v3 : FVec Ideal S1x1x128x256 .bf16) (acc : FVec Ideal S144x2048 .f32) (r : Fin 144) (b : Fin 2048) :
    stepA sc mx v0 v1 v2 v3 acc (ix2 r b)
      = Ideal.exp2 (mx (ix2 0 b) - stepM sc mx (ix2 0 b)) * acc (ix2 r b)
        + ((((∑ x : Fin 256, (if h : r.val < 128 then v0 (ix4 0 0 ⟨r.val, h⟩ x) else 1) * Ideal.exp2 (sc (ix3 0 ⟨x.val, by omega⟩ b) - stepM sc mx (ix2 0 b)))
            + ∑ x : Fin 256, (if h : r.val < 128 then v1 (ix4 0 0 ⟨r.val, h⟩ x) else 1) * Ideal.exp2 (sc (ix3 0 ⟨256 + x.val, by omega⟩ b) - stepM sc mx (ix2 0 b)))
            + ∑ x : Fin 256, (if h : r.val < 128 then v2 (ix4 0 0 ⟨r.val, h⟩ x) else 1) * Ideal.exp2 (sc (ix3 0 ⟨512 + x.val, by omega⟩ b) - stepM sc mx (ix2 0 b)))
            + ∑ x : Fin 256, (if h : r.val < 128 then v3 (ix4 0 0 ⟨r.val, h⟩ x) else 1) * Ideal.exp2 (sc (ix3 0 ⟨768 + x.val, by omega⟩ b) - stepM sc mx (ix2 0 b))) := by
  pointwise [stepA, stepM, k0_pay9, k0_pay8, k0_pay7, k0_pay6, k0_pay5, k0_pay4, k0_pay3, k0_pay19]
  all_goals (try rfl)

/-- The last, shorter chunk. -/
theorem a9_at (v : FVec Ideal S1x33x128x256 .bf16) (sc : FVec Ideal S1x256x2048 .f32) (mx : FVec Ideal S1x2048 .f32) (acc : FVec Ideal S144x2048 .f32) (r : Fin 144) (b : Fin 2048) :
    a9 (F := Ideal) v sc mx acc (ix2 r b)
      = Ideal.exp2 (mx (ix2 0 b) - max (mx (ix2 0 b)) (Finset.univ.fold max ⊥ fun a : Fin 256 => sc (ix3 0 a b))) * acc (ix2 r b)
        + ∑ x : Fin 256, (if h : r.val < 128 then vals (F := Ideal) v 32 (ix4 0 0 ⟨r.val, h⟩ x) else 1)
            * Ideal.exp2 (sc (ix3 0 x b) - max (mx (ix2 0 b)) (Finset.univ.fold max ⊥ fun a : Fin 256 => sc (ix3 0 a b))) := by
  pointwise [a9, k0_pay44, k0_pay43, k0_pay42, k0_pay19]
  rw [negInf]
  all_goals (try rfl)

/-- Two chunks' worth of four blocks of `256` keys are one run of `1024`. -/
theorem four_blocks (f : ℕ → EReal) :
    ((((∑ x : Fin 256, f x.val) + ∑ x : Fin 256, f (256 + x.val)) + ∑ x : Fin 256, f (512 + x.val)) + ∑ x : Fin 256, f (768 + x.val))
      = ∑ j ∈ Finset.range 1024, f j := by
  have h : ∀ c, (∑ x : Fin 256, f (c + x.val)) = ∑ x ∈ Finset.range 256, f (c + x) := fun c => (Finset.sum_range fun x => f (c + x)).symm
  have h0 : (∑ x : Fin 256, f x.val) = ∑ x ∈ Finset.range 256, f x := (Finset.sum_range fun x => f x).symm
  rw [h0, h, h, h, show (1024 : ℕ) = 256 + 256 + 256 + 256 from rfl, Finset.sum_range_add, Finset.sum_range_add, Finset.sum_range_add]

theorem vals_at (n : ℕ) (k : ℕ) (hn : k / 256 = n) (r : Fin 144) (x : Fin 256) (hx : k % 256 = x.val) :
    (if h : r.val < 128 then vals (F := Ideal) (toE W) n (ix4 0 0 ⟨r.val, h⟩ x) else 1) = ((weight W r k : ℝ) : EReal) := by
  unfold weight
  split
  · rename_i h
    have e : (Fin.ofNat 256 k : Fin 256) = x := Fin.ext hx
    rw [hn, e, vals_ix]; rfl
  · rfl

/-- What holds after `n` keys: the next chunk's scores are ready, the running maximum and sums are those of the keys taken. -/
def Good (n : ℕ) (s : St Ideal) : Prop :=
  (∀ (a : Fin 1024) (b : Fin 2048), s.sc (ix3 0 a b) = ((score q K b (n + a.val) : ℝ) : EReal))
    ∧ ∀ (r : Fin 144) (b : Fin 2048), Inv (score q K b) (weight W r) n (s.mx (ix2 0 b)) (s.acc (ix2 r b))

/-- One chunk taken in. -/
theorem chunk {n c : ℕ} (hc : n = 256 * c) (sc : FVec Ideal S1x1024x2048 .f32) (mx : FVec Ideal S1x2048 .f32) (acc : FVec Ideal S144x2048 .f32)
    (hs : ∀ (a : Fin 1024) (b : Fin 2048), sc (ix3 0 a b) = ((score q K b (n + a.val) : ℝ) : EReal))
    (h : ∀ (r : Fin 144) (b : Fin 2048), Inv (score q K b) (weight W r) n (mx (ix2 0 b)) (acc (ix2 r b))) (r : Fin 144) (b : Fin 2048) :
    Inv (score q K b) (weight W r) (n + 1024) (stepM sc mx (ix2 0 b))
      (stepA sc mx (vals (F := Ideal) (toE W) c) (vals (F := Ideal) (toE W) (c + 1)) (vals (F := Ideal) (toE W) (c + 2)) (vals (F := Ideal) (toE W) (c + 3)) acc (ix2 r b)) := by
  have hM : stepM sc mx (ix2 0 b) = max (mx (ix2 0 b)) (Finset.univ.fold max ⊥ fun j : Fin 1024 => ((score q K b (n + j.val) : ℝ) : EReal)) := by
    rw [stepM_at]; congr 2; funext a; exact hs a b
  have hA : stepA sc mx (vals (F := Ideal) (toE W) c) (vals (F := Ideal) (toE W) (c + 1)) (vals (F := Ideal) (toE W) (c + 2)) (vals (F := Ideal) (toE W) (c + 3)) acc (ix2 r b)
      = Ideal.exp2 (mx (ix2 0 b) - stepM sc mx (ix2 0 b)) * acc (ix2 r b)
        + ∑ j ∈ Finset.range 1024, ((weight W r (n + j) : ℝ) : EReal) * Ideal.exp2 (((score q K b (n + j) : ℝ) : EReal) - stepM sc mx (ix2 0 b)) := by
    rw [stepA_at, ← four_blocks]
    have e : ∀ (d i : ℕ) (hd : d = 256 * i) (hi : d + 256 ≤ 1024) (x : Fin 256),
        (if h : r.val < 128 then vals (F := Ideal) (toE W) (c + i) (ix4 0 0 ⟨r.val, h⟩ x) else 1)
            * Ideal.exp2 (sc (ix3 0 ⟨d + x.val, by omega⟩ b) - stepM sc mx (ix2 0 b))
          = ((weight W r (n + (d + x.val)) : ℝ) : EReal) * Ideal.exp2 (((score q K b (n + (d + x.val)) : ℝ) : EReal) - stepM sc mx (ix2 0 b)) := by
      intro d i hd hi x
      rw [vals_at W (c + i) (n + (d + x.val)) (by omega) r x (by omega), hs]
    have e0 : ∀ (x : Fin 256),
        (if h : r.val < 128 then vals (F := Ideal) (toE W) c (ix4 0 0 ⟨r.val, h⟩ x) else 1)
            * Ideal.exp2 (sc (ix3 0 ⟨x.val, by omega⟩ b) - stepM sc mx (ix2 0 b))
          = ((weight W r (n + x.val) : ℝ) : EReal) * Ideal.exp2 (((score q K b (n + x.val) : ℝ) : EReal) - stepM sc mx (ix2 0 b)) := by
      intro x
      rw [vals_at W c (n + x.val) (by omega) r x (by omega), hs]
    exact congrArg₂ (· + ·) rfl (congrArg₂ (· + ·) (congrArg₂ (· + ·) (congrArg₂ (· + ·) (Finset.sum_congr rfl fun x _ => e0 x)
      (Finset.sum_congr rfl fun x _ => e 256 1 rfl (by omega) x)) (Finset.sum_congr rfl fun x _ => e 512 2 rfl (by omega) x))
      (Finset.sum_congr rfl fun x _ => e 768 3 rfl (by omega) x))
  rw [hA, hM]
  exact (h r b).step (by norm_num)

/-- A trip takes two chunks in. -/
theorem trip_eq (k : ℕ) (qq : FVec Ideal S128x2048 .bf16) (V : FVec Ideal S1x33x128x256 .bf16) (X : FVec Ideal S1x8448x128 .bf16) (s : St Ideal) :
    tripSt (F := Ideal) X V qq k s
      = ⟨k0_pay2 (F := Ideal) (keys (F := Ideal) X (2048 * k + 2048)) qq,
         stepM (k0_pay2 (F := Ideal) (keys (F := Ideal) X (2048 * k + 1024)) qq) (stepM s.sc s.mx),
         stepA (k0_pay2 (F := Ideal) (keys (F := Ideal) X (2048 * k + 1024)) qq) (stepM s.sc s.mx) (vals (F := Ideal) V (8 * k + 4)) (vals (F := Ideal) V (8 * k + 5)) (vals (F := Ideal) V (8 * k + 6)) (vals (F := Ideal) V (8 * k + 7))
           (stepA s.sc s.mx (vals (F := Ideal) V (8 * k)) (vals (F := Ideal) V (8 * k + 1)) (vals (F := Ideal) V (8 * k + 2)) (vals (F := Ideal) V (8 * k + 3)) s.acc)⟩ := rfl

theorem Good.trip (k : ℕ) (s : St Ideal) (h : Good q K W (2048 * k) s) :
    Good q K W (2048 * (k + 1)) (tripSt (F := Ideal) (toE K) (toE W) (k0_pay16 (F := Ideal) (toE q)) k s) := by
  rw [trip_eq]
  refine ⟨fun a b => ?_, fun r b => ?_⟩
  · exact score_at q K (2048 * k + 2048) a b
  · have h1 := chunk q K W (n := 2048 * k) (c := 8 * k) (by omega) s.sc s.mx s.acc h.1 h.2
    exact chunk q K W (n := 2048 * k + 1024) (c := 8 * k + 4) (by omega) _ _ _ (fun a b => score_at q K (2048 * k + 1024) a b) h1 r b

theorem Good.start : Good q K W 0 (st0 (F := Ideal) (toE K) (k0_pay16 (F := Ideal) (toE q))) := by
  refine ⟨fun a b => score_at q K 0 a b, fun r b => .inl ⟨rfl, ?_, ?_⟩⟩
  · show k0_pay17 (F := Ideal) (ix2 0 b) = ⊥
    pointwise [k0_pay17]; exact negInf
  · show k0_pay18 (F := Ideal) (ix2 r b) = 0
    pointwise [k0_pay18]

theorem Good.loop (n : ℕ) : Good q K W (2048 * n) (stAt (F := Ideal) (toE K) (toE W) (k0_pay16 (F := Ideal) (toE q)) (st0 (F := Ideal) (toE K) (k0_pay16 (F := Ideal) (toE q))) n) := by
  induction n with
  | zero => exact Good.start q K W
  | succ n ih => exact Good.trip q K W n _ ih

/-- The sums after all the keys. -/
theorem accAll_at (b : Fin 2048) : ∃ m : EReal, ∀ r : Fin 144,
    Inv (score q K b) (weight W r) 8448 m (accAll (F := Ideal) (toE q) (toE K) (toE W) (ix2 r b)) := by
  have h := Good.loop q K W 3
  generalize hs : stAt (F := Ideal) (toE K) (toE W) (k0_pay16 (F := Ideal) (toE q)) (st0 (F := Ideal) (toE K) (k0_pay16 (F := Ideal) (toE q))) 3 = s at h
  have h7 := chunk q K W (n := 2048 * 3) (c := 24) (by omega) s.sc s.mx s.acc h.1 h.2
  have h8 := chunk q K W (n := 2048 * 3 + 1024) (c := 28) (by omega) _ _ _ (fun a b => score_at q K (2048 * 3 + 1024) a b) h7
  refine ⟨max (stepM (k0_pay2 (F := Ideal) (keys (F := Ideal) (toE K) (2048 * 3 + 1024)) (k0_pay16 (F := Ideal) (toE q))) (stepM s.sc s.mx) (ix2 0 b))
    (Finset.univ.fold max ⊥ fun j : Fin 256 => ((score q K b (8192 + j.val) : ℝ) : EReal)), fun r => ?_⟩
  have h9 := (h8 r b).step (L := 256) (by norm_num)
  have e : accAll (F := Ideal) (toE q) (toE K) (toE W)
      = a9 (F := Ideal) (toE W) (k0_pay33 (F := Ideal) (k0_pay32 (F := Ideal) (keysTail (F := Ideal) (toE K) 8192) (k0_pay16 (F := Ideal) (toE q))))
          (stepM (k0_pay2 (F := Ideal) (keys (F := Ideal) (toE K) (2048 * 3 + 1024)) (k0_pay16 (F := Ideal) (toE q))) (stepM s.sc s.mx))
          (stepA (k0_pay2 (F := Ideal) (keys (F := Ideal) (toE K) (2048 * 3 + 1024)) (k0_pay16 (F := Ideal) (toE q))) (stepM s.sc s.mx)
            (vals (F := Ideal) (toE W) 28) (vals (F := Ideal) (toE W) 29) (vals (F := Ideal) (toE W) 30) (vals (F := Ideal) (toE W) 31)
            (stepA s.sc s.mx (vals (F := Ideal) (toE W) 24) (vals (F := Ideal) (toE W) 25) (vals (F := Ideal) (toE W) 26) (vals (F := Ideal) (toE W) 27) s.acc)) := by
    subst hs; rfl
  rw [e, a9_at]
  simp only [tail_score_at]
  have ef : (∑ x : Fin 256, (if h : r.val < 128 then vals (F := Ideal) (toE W) 32 (ix4 0 0 ⟨r.val, h⟩ x) else 1)
        * Ideal.exp2 (((score q K b (8192 + x.val) : ℝ) : EReal) - max (stepM (k0_pay2 (F := Ideal) (keys (F := Ideal) (toE K) (2048 * 3 + 1024)) (k0_pay16 (F := Ideal) (toE q))) (stepM s.sc s.mx) (ix2 0 b)) (Finset.univ.fold max ⊥ fun j : Fin 256 => ((score q K b (8192 + j.val) : ℝ) : EReal))))
      = ∑ j ∈ Finset.range 256, ((weight W r (8192 + j) : ℝ) : EReal)
        * Ideal.exp2 (((score q K b (8192 + j) : ℝ) : EReal) - max (stepM (k0_pay2 (F := Ideal) (keys (F := Ideal) (toE K) (2048 * 3 + 1024)) (k0_pay16 (F := Ideal) (toE q))) (stepM s.sc s.mx) (ix2 0 b)) (Finset.univ.fold max ⊥ fun j : Fin 256 => ((score q K b (8192 + j.val) : ℝ) : EReal))) := by
    rw [Finset.sum_range]
    refine Finset.sum_congr rfl fun x _ => ?_
    rw [vals_at W 32 (8192 + x.val) (by omega) r x (by omega)]
  rw [ef]
  exact h9

end Cert.KernelIdeal.Att

end
-- ==== Proof.Att.Out.lean ====
/- What the body writes at an index: the normalised difference of two softmax averages. -/
module

public import proofs.«01_k».proof.Proof.Att.KernelIdealBody
public import proofs.«01_k».proof.Proof.Att.Pay

@[expose] public section

set_option maxRecDepth 16384

noncomputable section

namespace Cert.KernelIdeal.Att

open Cert.KernelIdeal Cert.KernelIdeal.Gen
open Idealize.ShloMosaic Idealize.ShloMosaic.TcCoe

open Cert.Online

theorem outOf_at (l : FVec Ideal S4x64 .f32) (g : FVec Ideal S1x128 .f32) (a : FVec Ideal S144x2048 .f32) (r : Fin 1024) (e : Fin 128) :
    outOf (F := Ideal) l g a (ix2 r e)
      = tail (fun x => Ideal.div (a (ix2 ⟨x.val, by omega⟩ ⟨r.val, by omega⟩)) (a (ix2 128 ⟨r.val, by omega⟩))
          - lamE (fun i k => l (ix2 i k)) * Ideal.div (a (ix2 ⟨x.val, by omega⟩ ⟨1024 + r.val, by omega⟩)) (a (ix2 128 ⟨1024 + r.val, by omega⟩))) (g (ix2 0 e)) e := by
  have h0 : ∀ (x : Fin 128) (c : Fin 2048), VecWindow.window a ![0, 0] S128x2048.size (by decide) (ix2 x c) = a (ix2 ⟨x.val, by omega⟩ c) := fun x c =>
    congrArg a (funext fun j => by
      match j with
      | ⟨0, _⟩ => exact Fin.ext (show 0 + 1 * x.val = x.val by omega)
      | ⟨1, _⟩ => exact Fin.ext (show 0 + 1 * c.val = c.val by omega))
  have h1 : ∀ (c : Fin 2048), VecWindow.window a ![128, 0] S1x2048.size (by decide) (ix2 0 c) = a (ix2 128 c) := fun c =>
    congrArg a (funext fun j => by
      match j with
      | ⟨0, _⟩ => rfl
      | ⟨1, _⟩ => exact Fin.ext (show 0 + 1 * c.val = c.val by omega))
  unfold outOf
  generalize VecWindow.window a ![0, 0] S128x2048.size _ = A at h0 ⊢
  generalize VecWindow.window a ![128, 0] S1x2048.size _ = L at h1 ⊢
  simp only [← h0, ← h1]
  unfold tail lamE
  pointwise [k0_pay1, k0_pay46, k0_pay47]

end Cert.KernelIdeal.Att

end
-- ==== Proof.Att.OutReal.lean ====
/- What the body writes for finite queries, keys and values, over the reals. -/
module

public import proofs.«01_k».proof.Proof.Att.Out

@[expose] public section

set_option maxRecDepth 16384

noncomputable section

namespace Cert.KernelIdeal.Att

open Cert.KernelIdeal Cert.KernelIdeal.Gen
open Idealize.ShloMosaic Idealize.ShloMosaic.TcCoe

open Cert.Online

variable (q : S1024x128.Idx → ℝ) (K : S1x8448x128.Idx → ℝ) (W : S1x33x128x256.Idx → ℝ)

/-- The score of key `k` for query `r` of the block, in half `c`. -/
def bsc (c : Fin 2) (r : Fin 1024) (k : Fin 8448) : ℝ :=
  ∑ d : Fin 64, q (ix2 r ⟨c.val * 64 + d.val, by omega⟩) * K (ix3 0 k ⟨c.val * 64 + d.val, by omega⟩)

theorem score_half0 (r : Fin 1024) (k : Fin 8448) : score q K ⟨r.val, by omega⟩ k.val = bsc q K 0 r k := by
  have hc : ∀ d : Fin 128, qcol q ⟨r.val, by omega⟩ d = if d.val < 64 then q (ix2 r d) else 0 := fun d => dif_pos r.isLt
  unfold score bsc
  simp only [hc]
  rw [Fin.sum_univ_add (a := 64) (b := 64)]
  have hk : Fin.ofNat 8448 k.val = k := Fin.ext (Nat.mod_eq_of_lt k.isLt)
  rw [hk]
  have z : ∀ d : Fin 64, K (ix3 0 k (Fin.natAdd 64 d)) * (if (Fin.natAdd 64 d : Fin (64 + 64)).val < 64 then q (ix2 r (Fin.natAdd 64 d)) else 0) = 0 := fun d => by
    rw [if_neg (by simp), mul_zero]
  rw [Finset.sum_congr rfl fun d _ => z d, Finset.sum_const_zero, add_zero]
  refine Finset.sum_congr rfl fun d _ => ?_
  have e : (Fin.castAdd 64 d : Fin 128) = ⟨(0 : Fin 2).val * 64 + d.val, by have := d.isLt; simp; omega⟩ := Fin.ext (by simp)
  rw [if_pos (by simp), mul_comm, e]

theorem score_half1 (r : Fin 1024) (k : Fin 8448) : score q K ⟨1024 + r.val, by omega⟩ k.val = bsc q K 1 r k := by
  have hr : (⟨1024 + r.val - 1024, by omega⟩ : Fin 1024) = r := Fin.ext (Nat.add_sub_cancel_left _ _)
  have hc : ∀ d : Fin 128, qcol q ⟨1024 + r.val, by omega⟩ d = if 64 ≤ d.val then q (ix2 r d) else 0 := fun d =>
    (dif_neg (by simp)).trans (by rw [hr])
  unfold score bsc
  simp only [hc]
  rw [Fin.sum_univ_add (a := 64) (b := 64)]
  have hk : Fin.ofNat 8448 k.val = k := Fin.ext (Nat.mod_eq_of_lt k.isLt)
  rw [hk]
  have z : ∀ d : Fin 64, K (ix3 0 k (Fin.castAdd 64 d)) * (if 64 ≤ (Fin.castAdd 64 d : Fin (64 + 64)).val then q (ix2 r (Fin.castAdd 64 d)) else 0) = 0 := fun d => by
    rw [if_neg (by simp), mul_zero]
  rw [Finset.sum_congr rfl fun d _ => z d, Finset.sum_const_zero, zero_add]
  refine Finset.sum_congr rfl fun d _ => ?_
  have e : (Fin.natAdd 64 d : Fin 128) = ⟨(1 : Fin 2).val * 64 + d.val, by have := d.isLt; simp; omega⟩ := Fin.ext (by simp [Nat.add_comm])
  rw [if_pos (by simp), mul_comm, e]

/-- A block's average of the values under the softmax of one half's scores. -/
def bav (c : Fin 2) (r : Fin 1024) (x : Fin 128) : ℝ :=
  (∑ k : Fin 8448, W (ix4 0 ⟨k.val / 256, by omega⟩ x ⟨k.val % 256, by omega⟩) * (2 : ℝ) ^ bsc q K c r k) / ∑ k : Fin 8448, (2 : ℝ) ^ bsc q K c r k

/-- A quotient of two running sums of one column is that average. -/
theorem quot (c : Fin 2) (r : Fin 1024) (x : Fin 128) (b : Fin 2048) (hb : ∀ k : Fin 8448, score q K b k.val = bsc q K c r k) :
    Ideal.div (accAll (F := Ideal) (toE q) (toE K) (toE W) (ix2 ⟨x.val, by omega⟩ b)) (accAll (F := Ideal) (toE q) (toE K) (toE W) (ix2 128 b))
      = ((bav q K W c r x : ℝ) : EReal) := by
  obtain ⟨m, hm⟩ := accAll_at q K W b
  have h1 : weight W 128 = fun _ => 1 := funext fun k => by unfold weight; rw [dif_neg (by decide)]
  have hl := hm 128
  rw [h1] at hl
  rw [Inv.ratio (by norm_num) (hm ⟨x.val, by omega⟩) hl]
  refine congrArg (fun t : ℝ => (t : EReal)) ?_
  rw [Finset.sum_range, Finset.sum_range]
  unfold bav
  refine congrArg₂ (· / ·) ?_ ?_
  · refine Finset.sum_congr rfl fun k _ => ?_
    rw [hb k]
    refine congrArg (· * _) ?_
    unfold weight
    rw [dif_pos x.isLt]
    have e1 : Fin.ofNat 33 (k.val / 256) = ⟨k.val / 256, by omega⟩ := Fin.ext (Nat.mod_eq_of_lt (by omega))
    have e2 : Fin.ofNat 256 k.val = ⟨k.val % 256, by omega⟩ := Fin.ext rfl
    rw [e1, e2]
  · exact Finset.sum_congr rfl fun k _ => by rw [hb k]

/-- The output block at an index. -/
theorem out_real (l : FVec Ideal S4x64 .f32) (g : FVec Ideal S1x128 .f32) (L : ℝ) (hL : lamE (fun i k => l (ix2 i k)) = (L : EReal)) (r : Fin 1024) (e : Fin 128) :
    out (F := Ideal) l g (toE q) (toE K) (toE W) (ix2 r e)
      = tail (fun x => ((bav q K W 0 r x - L * bav q K W 1 r x : ℝ) : EReal)) (g (ix2 0 e)) e := by
  unfold out
  rw [outOf_at]
  refine congrArg (fun f => tail f (g (ix2 0 e)) e) (funext fun x => ?_)
  rw [quot q K W 0 r x _ (score_half0 q K r), quot q K W 1 r x _ (score_half1 q K r), hL, ← EReal.coe_mul, ← EReal.coe_sub]

end Cert.KernelIdeal.Att

end
-- ==== Proof.Att.Math.lean ====
/- The attention over the reals, that both programs compute: base two scores, two softmax maps per head, their difference applied to the values. -/
module

public import proofs.«01_k».proof.Proof.Att.Online

@[expose] public section

noncomputable section

namespace Cert.Att

open Idealize.ShloMosaic
open Cert.Online

variable (Q : Fin 16896 → Fin 1024 → ℝ) (K : Fin 2 → Fin 8448 → Fin 1024 → ℝ) (V : Fin 2 → Fin 33 → Fin 1024 → Fin 256 → ℝ) (l : ℝ)

/-- The score of key `k` for query `i` of batch `b`, in half `c` of head `h`. -/
def sc (b : Fin 2) (h : Fin 8) (c : Fin 2) (i : Fin 8192) (k : Fin 8448) : ℝ :=
  ∑ d : Fin 64, Q ⟨b.val * 8192 + i.val, by omega⟩ ⟨h.val * 128 + c.val * 64 + d.val, by omega⟩ * K b k ⟨h.val * 128 + c.val * 64 + d.val, by omega⟩

/-- Its softmax, with base two. -/
def pr (b : Fin 2) (h : Fin 8) (c : Fin 2) (i : Fin 8192) (k : Fin 8448) : ℝ :=
  (2 : ℝ) ^ sc Q K b h c i k / ∑ x : Fin 8448, (2 : ℝ) ^ sc Q K b h c i x

/-- Coordinate `e` of head `h`: the values averaged by the first map less `l` times the second. -/
def ob (b : Fin 2) (h : Fin 8) (i : Fin 8192) (e : Fin 128) : ℝ :=
  ∑ k : Fin 8448, V b ⟨k.val / 256, by omega⟩ ⟨h.val * 128 + e.val, by omega⟩ ⟨k.val % 256, by omega⟩ * (pr Q K b h 0 i k - l * pr Q K b h 1 i k)

/-- The result at row `r` and column `x`. -/
def res (g : Fin 128 → EReal) (r : Fin 16384) (x : Fin 1024) : EReal :=
  tail (fun e => ((ob Q K V l ⟨r.val / 8192, by omega⟩ ⟨x.val / 128, by omega⟩ ⟨r.val % 8192, by omega⟩ e : ℝ) : EReal)) (g ⟨x.val % 128, by omega⟩) ⟨x.val % 128, by omega⟩

/-- The difference of two averages is the average by the difference. -/
theorem ob_eq (b : Fin 2) (h : Fin 8) (i : Fin 8192) (e : Fin 128) :
    ob Q K V l b h i e
      = (∑ k : Fin 8448, V b ⟨k.val / 256, by omega⟩ ⟨h.val * 128 + e.val, by omega⟩ ⟨k.val % 256, by omega⟩ * (2 : ℝ) ^ sc Q K b h 0 i k) / (∑ x : Fin 8448, (2 : ℝ) ^ sc Q K b h 0 i x)
        - l * ((∑ k : Fin 8448, V b ⟨k.val / 256, by omega⟩ ⟨h.val * 128 + e.val, by omega⟩ ⟨k.val % 256, by omega⟩ * (2 : ℝ) ^ sc Q K b h 1 i k) / (∑ x : Fin 8448, (2 : ℝ) ^ sc Q K b h 1 i x)) := by
  unfold ob pr
  rw [Finset.sum_div, Finset.sum_div, Finset.mul_sum, ← Finset.sum_sub_distrib]
  exact Finset.sum_congr rfl fun k _ => by ring

end Cert.Att

end
-- ==== Proof.Att.Array.lean ====
/- The output array after the run: every row and column, from the arguments. -/
module

public import proofs.«01_k».proof.Proof.Att.KernelIdealRun
public import proofs.«01_k».proof.Proof.Att.OutReal
public import proofs.«01_k».proof.Proof.Att.Math
public import Idealize.ShloMosaic.Lib.Pipeline.ValueKit
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat)
open Cert.Online Cert.Att

/-- Where each window's block lies, at every point. -/
theorem idx : ∀ t : Fin cfg0.N, win0_0.index t = ![0, 0] ∧ win0_1.index t = ![0, 0]
    ∧ win0_2.index t = ![(grid0.coords t 0).val * 8 + (grid0.coords t 2).val, (grid0.coords t 1).val]
    ∧ win0_3.index t = ![(grid0.coords t 0).val, 0, (grid0.coords t 1).val]
    ∧ win0_4.index t = ![(grid0.coords t 0).val, 0, (grid0.coords t 1).val, 0]
    ∧ win0_5.index t = ![(grid0.coords t 0).val * 8 + (grid0.coords t 2).val, (grid0.coords t 1).val] :=
  (by decide +kernel : ∀ t : Fin grid0.N, _)

theorem covers : (cfg0.win 5).Covers := by decide +kernel

variable (m : (ℓ : Loc nD τ sig) → Buf (Elt Ideal) ℓ) (c : Dev nD) (t : Fin cfg0.N)

/-- The batch, the head and the tile of rows of a point. -/
def pb : Fin 2 := ⟨(grid0.coords t 0).val, (grid0.coords t 0).isLt⟩
def ph : Fin 8 := ⟨(grid0.coords t 1).val, (grid0.coords t 1).isLt⟩
def pt : Fin 8 := ⟨(grid0.coords t 2).val, (grid0.coords t 2).isLt⟩

theorem lam_at (i : Fin 4) (k : Fin 64) : (iblk m c 0 t : FVec Ideal S4x64 .f32) (ix2 i k) = (m ((c : Thread nD τ).loc main_arg3) : FVec Ideal S4x64 .f32) (ix2 i k) := by
  blk_ext [iblk, V, idx t]

theorem q_at (a : Fin 1024) (d : Fin 128) : (X0_2 m c t : FVec Ideal S1024x128 .bf16) (ix2 a d)
    = (m ((c : Thread nD τ).loc main_arg0) : FVec Ideal S16896x1024 .bf16) (ix2 ⟨((pb t).val * 8 + (pt t).val) * 1024 + a.val, by omega⟩ ⟨(ph t).val * 128 + d.val, by omega⟩) := by
  unfold X0_2 Pipeline.Window.fill
  rw [dif_pos (moved0_2 t _)]
  blk_ext [iblk, V, idx t, pb, ph, pt]

theorem k_at (a : Fin 8448) (d : Fin 128) : (iblk m c 3 t : FVec Ideal S1x8448x128 .bf16) (ix3 0 a d)
    = (m ((c : Thread nD τ).loc main_arg1) : FVec Ideal S2x8448x1024 .bf16) (ix3 (pb t) a ⟨(ph t).val * 128 + d.val, by omega⟩) := by
  blk_ext [iblk, V, idx t, pb, ph, pt]

theorem v_at (x : Fin 33) (a : Fin 128) (d : Fin 256) : (iblk m c 4 t : FVec Ideal S1x33x128x256 .bf16) (ix4 0 x a d)
    = (m ((c : Thread nD τ).loc main_arg2) : FVec Ideal S2x33x1024x256 .bf16) (ix4 (pb t) x ⟨(ph t).val * 128 + a.val, by omega⟩ d) := by
  blk_ext [iblk, V, idx t, pb, ph, pt]

theorem g_at (e : Fin 128) : (iblk m c 1 t : FVec Ideal S1x128 .f32) (ix2 0 e) = (m ((c : Thread nD τ).loc main_arg4) : FVec Ideal S128 .f32) (ix1 e) := by
  have h : (V m c main_v0 : FVec Ideal S1x128 .f32) = shapeCast S1x128 (m ((c : Thread nD τ).loc main_arg4) : FVec Ideal S128 .f32) shapeCasts_S128_S1x128 := by
    entry_read
    rfl
  have h2 : (iblk m c 1 t : FVec Ideal S1x128 .f32) (ix2 0 e) = (V m c main_v0 : FVec Ideal S1x128 .f32) (ix2 0 e) := by
    blk_ext [iblk, idx t]
  rw [h2, h]
  pointwise []

/-- The attention as an array. -/
def G (Q : Fin 16896 → Fin 1024 → ℝ) (K : Fin 2 → Fin 8448 → Fin 1024 → ℝ) (W : Fin 2 → Fin 33 → Fin 1024 → Fin 256 → ℝ) (L : ℝ) (g : Fin 128 → EReal) :
    FVec Ideal S16384x1024 .bf16 := fun j => res Q K W L g (j 0) (j 1)

/-- Where row `r` and column `e` of a point's output block lie in the array. -/
theorem G_emb (f : FVec Ideal S16384x1024 .bf16) (y : ((cfg0.win 5).xblock (cfg0.grid.coords t)).Idx) : f ((win0_5.blk t).view.emb y)
    = f (ix2 ⟨((pb t).val * 8 + (pt t).val) * 1024 + (show Fin 1024 from y 0).val, by have := (show Fin 1024 from y 0).isLt; omega⟩
        ⟨(ph t).val * 128 + (show Fin 128 from y 1).val, by have := (show Fin 128 from y 1).isLt; omega⟩) := by
  blk_ext [idx t, pb, ph, pt]

/-- An array that each point's block agrees with, whatever the points write, is what the output array ends holding. -/
theorem final_of (o : Fin cfg0.N → FVec Ideal S1024x128 .bf16) (f : FVec Ideal S16384x1024 .bf16) (ho : ∀ t, (dats m 0 c).after 5 t = o t)
    (hf : ∀ (t : Fin cfg0.N) (r : Fin 1024) (e : Fin 128), o t (ix2 r e)
      = f (ix2 ⟨((pb t).val * 8 + (pt t).val) * 1024 + r.val, by omega⟩ ⟨(ph t).val * 128 + e.val, by omega⟩)) : (dats m 0 c).arrAt 5 cfg0.N = f := by
  generalize dats m 0 c = D at ho ⊢
  refine D.arrAt_eq_of_covers 5 f covers fun t _ y => ?_
  blk_simp
  rw [ho]
  refine Eq.trans ?_ (G_emb t f y).symm
  refine Eq.trans ?_ (hf t (show Fin 1024 from y 0) (show Fin 128 from y 1))
  have hy : y = ix2 (show Fin 1024 from y 0) (show Fin 128 from y 1) := funext fun a => by
    match a with
    | ⟨0, _⟩ => rfl
    | ⟨1, _⟩ => rfl
  exact congrArg (o t) hy

section Real

variable (Q : Fin 16896 → Fin 1024 → ℝ) (K : Fin 2 → Fin 8448 → Fin 1024 → ℝ) (W : Fin 2 → Fin 33 → Fin 1024 → Fin 256 → ℝ)
  (hQ : ∀ a b, (m ((c : Thread nD τ).loc main_arg0) : FVec Ideal S16896x1024 .bf16) (ix2 a b) = ((Q a b : ℝ) : EReal))
  (hK : ∀ a b d, (m ((c : Thread nD τ).loc main_arg1) : FVec Ideal S2x8448x1024 .bf16) (ix3 a b d) = ((K a b d : ℝ) : EReal))
  (hW : ∀ a x b d, (m ((c : Thread nD τ).loc main_arg2) : FVec Ideal S2x33x1024x256 .bf16) (ix4 a x b d) = ((W a x b d : ℝ) : EReal))

/-- A point's blocks of queries, keys and values. -/
def bq : S1024x128.Idx → ℝ := fun j =>
  Q ⟨((pb t).val * 8 + (pt t).val) * 1024 + (show Fin 1024 from j 0).val, by have := (show Fin 1024 from j 0).isLt; omega⟩
    ⟨(ph t).val * 128 + (show Fin 128 from j 1).val, by have := (show Fin 128 from j 1).isLt; omega⟩

def bk : S1x8448x128.Idx → ℝ := fun j => K (pb t) (j 1) ⟨(ph t).val * 128 + (show Fin 128 from j 2).val, by have := (show Fin 128 from j 2).isLt; omega⟩

def bv : S1x33x128x256.Idx → ℝ := fun j => W (pb t) (j 1) ⟨(ph t).val * 128 + (show Fin 128 from j 2).val, by have := (show Fin 128 from j 2).isLt; omega⟩ (j 3)

include hQ in
theorem q_eq : (X0_2 m c t : FVec Ideal S1024x128 .bf16) = toE (bq t Q) := by
  funext j
  idx_vars j
  rw [q_at, hQ]
  rfl

include hK in
theorem k_eq : (iblk m c 3 t : FVec Ideal S1x8448x128 .bf16) = toE (bk t K) := by
  funext j
  idx_vars j
  rw [show j0 = 0 from Subsingleton.elim _ _, k_at, hK]
  rfl

include hW in
theorem v_eq : (iblk m c 4 t : FVec Ideal S1x33x128x256 .bf16) = toE (bv t W) := by
  funext j
  idx_vars j
  rw [show j0 = 0 from Subsingleton.elim _ _, v_at, hW]
  rfl

/-- The row of the batch that row `r` of a point's block is. -/
def rowOf (r : Fin 1024) : Fin 8192 := ⟨(pt t).val * 1024 + r.val, by omega⟩

theorem bsc_eq (d : Fin 2) (r : Fin 1024) (k : Fin 8448) : bsc (bq t Q) (bk t K) d r k = sc Q K (pb t) (ph t) d (rowOf t r) k := by
  unfold bsc sc
  refine Finset.sum_congr rfl fun x _ => congrArg₂ (· * ·) (congrArg₂ Q ?_ ?_) (congrArg (K (pb t) k) ?_)
  · exact Fin.ext (show ((pb t).val * 8 + (pt t).val) * 1024 + r.val = (pb t).val * 8192 + ((pt t).val * 1024 + r.val) by omega)
  · exact Fin.ext (show (ph t).val * 128 + (d.val * 64 + x.val) = (ph t).val * 128 + d.val * 64 + x.val by omega)
  · exact Fin.ext (show (ph t).val * 128 + (d.val * 64 + x.val) = (ph t).val * 128 + d.val * 64 + x.val by omega)

/-- A point's difference of averages is the attention's at its batch, head and row. -/
theorem bav_eq (L : ℝ) (r : Fin 1024) (x : Fin 128) :
    bav (bq t Q) (bk t K) (bv t W) 0 r x - L * bav (bq t Q) (bk t K) (bv t W) 1 r x = ob Q K W L (pb t) (ph t) (rowOf t r) x := by
  rw [ob_eq]
  unfold bav
  simp only [bsc_eq]
  rfl

variable (L : ℝ) (hL : lamE (fun i k => (m ((c : Thread nD τ).loc main_arg3) : FVec Ideal S4x64 .f32) (ix2 i k)) = (L : EReal))

include hQ hK hW hL

/-- What a point writes, at row `r` and column `e` of its block. -/
theorem point (r : Fin 1024) (e : Fin 128) :
    out (F := Ideal) (iblk m c 0 t) (iblk m c 1 t) (X0_2 m c t) (iblk m c 3 t) (iblk m c 4 t) (ix2 r e)
      = res Q K W L (fun e => (m ((c : Thread nD τ).loc main_arg4) : FVec Ideal S128 .f32) (ix1 e))
          ⟨((pb t).val * 8 + (pt t).val) * 1024 + r.val, by omega⟩ ⟨(ph t).val * 128 + e.val, by omega⟩ := by
  have hl : lamE (fun i k => (iblk m c 0 t : FVec Ideal S4x64 .f32) (ix2 i k)) = (L : EReal) := by
    rw [← hL]; exact congrArg lamE (funext fun i => funext fun k => lam_at m c t i k)
  have h := out_real (bq t Q) (bk t K) (bv t W) (iblk m c 0 t : FVec Ideal S4x64 .f32) (iblk m c 1 t : FVec Ideal S1x128 .f32) L hl r e
  rw [← q_eq m c t Q hQ, ← k_eq m c t K hK, ← v_eq m c t W hW] at h
  refine h.trans ?_
  rw [g_at]
  simp only [bav_eq]
  unfold res
  have e1 : (⟨(((pb t).val * 8 + (pt t).val) * 1024 + r.val) / 8192, by omega⟩ : Fin 2) = pb t := Fin.ext (show _ = (pb t).val by dsimp only; omega)
  have e2 : (⟨(((pb t).val * 8 + (pt t).val) * 1024 + r.val) % 8192, by omega⟩ : Fin 8192) = rowOf t r := Fin.ext (show _ = (pt t).val * 1024 + r.val by dsimp only; omega)
  have e3 : (⟨((ph t).val * 128 + e.val) / 128, by omega⟩ : Fin 8) = ph t := Fin.ext (show _ = (ph t).val by dsimp only; omega)
  have e4 : (⟨((ph t).val * 128 + e.val) % 128, by omega⟩ : Fin 128) = e := Fin.ext (show _ = e.val by dsimp only; omega)
  simp only [e1, e2, e3, e4]

/-- The output array after the run. -/
theorem final : (dats m 0 c).arrAt 5 cfg0.N
    = G Q K W L (fun e => (m ((c : Thread nD τ).loc main_arg4) : FVec Ideal S128 .f32) (ix1 e)) :=
  final_of m c (fun t => out (F := Ideal) (iblk m c 0 t) (iblk m c 1 t) (X0_2 m c t) (iblk m c 3 t) (iblk m c 4 t)) _ (after_5 m c)
    fun t r e => point m c t Q K W hQ hK hW L hL r e

end Real

end Cert.KernelIdeal.Att

end
-- ==== Proof.Att.Ref.lean ====
/- The reference at an index: scores, softmax, the difference of the two maps, the average of the values, the normalisation. -/
module

public import proofs.«01_k».proof.Proof.Gen.ReferenceIdeal.Run
public import proofs.«01_k».proof.Proof.Att.Online
public import Idealize.ShloMosaic.Lib.Pointwise

@[expose] public section

noncomputable section

namespace Cert.ReferenceIdeal.Att

open Cert.ReferenceIdeal Cert.ReferenceIdeal.Gen Cert.ReferenceIdeal.Value
open Idealize.ShloMosaic Idealize.ShloMosaic.TcCoe
open Cert.Online

section Stages

variable {F : FTy → Type} [FloatOps F]

/-- The scores of every query of every half head against every key. -/
def scores (q : Vec F S16896x1024 .bf16) (k : Vec F S2x8448x1024 .bf16) : Vec F S2x8x2x8192x8448 .f32 :=
  mulf (Host.dotGeneral dot_S2x8192x8x2x64_S2x8448x8x2x64_S2x8x2x8192x8448_4_4_1_1_023_023 none
      (mulf (shapeCast _ (extf .f32 (extractStridedSlice S16384x1024 ![0, 0] q slices_S16896x1024_S16384x1024_0_0) bitsLt_bf16_f32) shapeCasts_S16384x1024_S2x8192x8x2x64)
        (broadcastInDim S2x8192x8x2x64 ![] bcast_S_S2x8192x8x2x64 (mulf (constant S_ .f32 0x41000000#32) (Host.log (constant S_ .f32 0x40000000#32)))))
      (shapeCast _ (extf .f32 k bitsLt_bf16_f32) shapeCasts_S2x8448x1024_S2x8448x8x2x64))
    (broadcastInDim S2x8x2x8192x8448 ![] bcast_S_S2x8x2x8192x8448 (constant S_ .f32 0x3E000000#32))

/-- The exponential of a score less its row's maximum `M`; -/
def expoOf (s : Vec F S2x8x2x8192x8448 .f32) (M : Vec F S2x8x2x8192 .f32) : Vec F S2x8x2x8192x8448 .f32 :=
  Host.exp (subf s (broadcastInDim S2x8x2x8192x8448 ![0, 1, 2, 3, 4] bcast_S2x8x2x8192x1_S2x8x2x8192x8448_0_1_2_3_4
    (broadcastInDim S2x8x2x8192x1 ![0, 1, 2, 3] bcast_S2x8x2x8192_S2x8x2x8192x1_0_1_2_3
      (maximumf (broadcastInDim S2x8x2x8192 ![] bcast_S_S2x8x2x8192 (constant S_ .f32 0xFF800000#32)) M))))

/-- that maximum taken over the keys; -/
def expo (s : Vec F S2x8x2x8192x8448 .f32) : Vec F S2x8x2x8192x8448 .f32 :=
  expoOf s (Host.reduce FloatOps.maximumf s (constant S_ .f32 0xFF800000#32) reducesTo_S2x8x2x8192x8448_S2x8x2x8192_d4 h_S_)

/-- over the row's sum of these. -/
def soft (x : Vec F S2x8x2x8192x8448 .f32) : Vec F S2x8x2x8192x8448 .f32 :=
  Host.divf x (broadcastInDim S2x8x2x8192x8448 ![0, 1, 2, 3, 4] bcast_S2x8x2x8192x1_S2x8x2x8192x8448_0_1_2_3_4
    (broadcastInDim S2x8x2x8192x1 ![0, 1, 2, 3] bcast_S2x8x2x8192_S2x8x2x8192x1_0_1_2_3
      (Host.reduceAdd x (constant S_ .f32 0x00000000#32) reducesTo_S2x8x2x8192x8448_S2x8x2x8192_d4 h_S_)))

/-- The mixing coefficient. -/
def coef (l : Vec F S4x64 .f32) : Vec F S_ .f32 :=
  addf (subf
      (Host.exp (Host.reduceAdd (mulf (shapeCast _ (extractStridedSlice S1x64 ![0, 0] l slices_S4x64_S1x64_0_0) shapeCasts_S1x64_S64)
        (shapeCast _ (extractStridedSlice S1x64 ![1, 0] l slices_S4x64_S1x64_1_0) shapeCasts_S1x64_S64)) (constant S_ .f32 0x00000000#32) reducesTo_S64_S_d0 h_S_))
      (Host.exp (Host.reduceAdd (mulf (shapeCast _ (extractStridedSlice S1x64 ![2, 0] l slices_S4x64_S1x64_2_0) shapeCasts_S1x64_S64)
        (shapeCast _ (extractStridedSlice S1x64 ![3, 0] l slices_S4x64_S1x64_3_0) shapeCasts_S1x64_S64)) (constant S_ .f32 0x00000000#32) reducesTo_S64_S_d0 h_S_)))
    (constant S_ .f32 0x3E4CCCCD#32)

/-- The first map less the coefficient times the second. -/
def mix (l : Vec F S_ .f32) (p : Vec F S2x8x2x8192x8448 .f32) : Vec F S2x8x8192x8448 .f32 :=
  subf (shapeCast _ (extractStridedSlice S2x8x1x8192x8448 ![0, 0, 0, 0, 0] p slices_S2x8x2x8192x8448_S2x8x1x8192x8448_0_0_0_0_0) shapeCasts_S2x8x1x8192x8448_S2x8x8192x8448)
    (mulf (broadcastInDim S2x8x8192x8448 ![] bcast_S_S2x8x8192x8448 l)
      (shapeCast _ (extractStridedSlice S2x8x1x8192x8448 ![0, 0, 1, 0, 0] p slices_S2x8x2x8192x8448_S2x8x1x8192x8448_0_0_1_0_0) shapeCasts_S2x8x1x8192x8448_S2x8x8192x8448))

/-- The values averaged by the mixed map. -/
def avg (v : Vec F S2x33x1024x256 .bf16) (a : Vec F S2x8x8192x8448 .f32) : Vec F S2x8192x8x128 .f32 :=
  transpose S2x8192x8x128 [0, 3, 1, 2] (Host.dotGeneral dot_S2x8448x8x128_S2x8x8192x8448_S2x8x128x8192_1_3_3_2_02_01 none
    (shapeCast _ (transpose S2x33x256x1024 [0, 1, 3, 2] (extf .f32 v bitsLt_bf16_f32) transposes_S2x33x1024x256_S2x33x256x1024_0_1_3_2) shapeCasts_S2x33x256x1024_S2x8448x8x128)
    a) transposes_S2x8x128x8192_S2x8192x8x128_0_3_1_2

/-- The normalisation of each head's row, and the result's layout. -/
def norm (o : Vec F S2x8192x8x128 .f32) (g : Vec F S128 .f32) : Vec F S16384x1024 .bf16 :=
  truncf .bf16 (shapeCast _ (mulf (mulf (mulf o (broadcastInDim S2x8192x8x128 ![0, 1, 2, 3] bcast_S2x8192x8x1_S2x8192x8x128_0_1_2_3
      (Host.rsqrt (addf (Host.divf (broadcastInDim S2x8192x8x1 ![0, 1, 2] bcast_S2x8192x8_S2x8192x8x1_0_1_2
          (Host.reduceAdd (mulf o o) (constant S_ .f32 0x00000000#32) reducesTo_S2x8192x8x128_S2x8192x8_d3 h_S_))
          (broadcastInDim S2x8192x8x1 ![] bcast_S_S2x8192x8x1 (constant S_ .f32 0x43000000#32)))
        (broadcastInDim S2x8192x8x1 ![] bcast_S_S2x8192x8x1 (constant S_ .f32 0x3727C5AC#32))))))
      (broadcastInDim S2x8192x8x128 ![0, 1, 2, 3] bcast_S1x1x1x128_S2x8192x8x128_0_1_2_3 (broadcastInDim S1x1x1x128 ![3] bcast_S128_S1x1x1x128_3 g)))
      (broadcastInDim S2x8192x8x128 ![] bcast_S_S2x8192x8x128 (constant S_ .f32 0x3F4CCCCD#32))) shapeCasts_S2x8192x8x128_S16384x1024) bitsLt_bf16_f32

/-- The reference's result is these stages, one after the other. -/
theorem res_eq (m : (ℓ : Loc nD τ sig) → Buf (Elt F) ℓ) (c : Dev nD) :
    res_main_v67 m c = norm (avg (m ((c.tc : Thread nD τ).loc main_arg2)) (mix (coef (m ((c.tc : Thread nD τ).loc main_arg3)))
      (soft (expo (scores (m ((c.tc : Thread nD τ).loc main_arg0)) (m ((c.tc : Thread nD τ).loc main_arg1))))))) (m ((c.tc : Thread nD τ).loc main_arg4)) := rfl

end Stages

theorem scores_at (q : FVec Ideal S16896x1024 .bf16) (k : FVec Ideal S2x8448x1024 .bf16) (b : Fin 2) (h : Fin 8) (c : Fin 2) (i : Fin 8192) (j : Fin 8448) :
    scores (F := Ideal) q k (ix5 b h c i j)
      = (∑ d : Fin 64, q (ix2 ⟨b.val * 8192 + i.val, by omega⟩ ⟨h.val * 128 + c.val * 64 + d.val, by omega⟩)
          * (Ideal.ofBits .f32 0x41000000#32 * Ideal.log (Ideal.ofBits .f32 0x40000000#32))
          * k (ix3 b j ⟨h.val * 128 + c.val * 64 + d.val, by omega⟩)) * Ideal.ofBits .f32 0x3E000000#32 := by
  unfold scores
  pointwise []

theorem soft_at (s : FVec Ideal S2x8x2x8192x8448 .f32) (b : Fin 2) (h : Fin 8) (c : Fin 2) (i : Fin 8192) (j : Fin 8448) :
    soft (F := Ideal) s (ix5 b h c i j) = Ideal.div (s (ix5 b h c i j)) (∑ x : Fin 8448, s (ix5 b h c i x)) := by
  unfold soft
  pointwise []

theorem coef_at (l : FVec Ideal S4x64 .f32) : coef (F := Ideal) l ix0 = lamE (fun i k => l (ix2 i k)) := by
  unfold coef lamE
  pointwise []

theorem mix_at (l : FVec Ideal S_ .f32) (p : FVec Ideal S2x8x2x8192x8448 .f32) (b : Fin 2) (h : Fin 8) (i : Fin 8192) (j : Fin 8448) :
    mix (F := Ideal) l p (ix4 b h i j) = p (ix5 b h 0 i j) - l ix0 * p (ix5 b h 1 i j) := by
  unfold mix
  pointwise []

theorem avg_at (v : FVec Ideal S2x33x1024x256 .bf16) (a : FVec Ideal S2x8x8192x8448 .f32) (b : Fin 2) (i : Fin 8192) (h : Fin 8) (e : Fin 128) :
    avg (F := Ideal) v a (ix4 b i h e)
      = ∑ j : Fin 8448, v (ix4 b ⟨j.val / 256, by omega⟩ ⟨h.val * 128 + e.val, by omega⟩ ⟨j.val % 256, by omega⟩) * a (ix4 b h i j) := by
  unfold avg
  pointwise []

theorem norm_at (o : FVec Ideal S2x8192x8x128 .f32) (g : FVec Ideal S128 .f32) (r : Fin 16384) (x : Fin 1024) :
    norm (F := Ideal) o g (ix2 r x)
      = tail (fun e => o (ix4 ⟨r.val / 8192, by omega⟩ ⟨r.val % 8192, by omega⟩ ⟨x.val / 128, by omega⟩ e)) (g (ix1 ⟨x.val % 128, by omega⟩)) ⟨x.val % 128, by omega⟩ := by
  unfold norm tail
  pointwise []

end Cert.ReferenceIdeal.Att

end
-- ==== Proof.Att.RefValue.lean ====
/- The reference's result for finite queries, keys, values and lambda vectors: the attention over the reals. -/
module

public import proofs.«01_k».proof.Proof.Gen.ReferenceIdeal.Run
public import proofs.«01_k».proof.Proof.Att.Ref
public import proofs.«01_k».proof.Proof.Att.Math
public import Idealize.ShloMosaic.Lib.Pointwise

@[expose] public section

noncomputable section

namespace Cert.ReferenceIdeal.Att

open Cert.ReferenceIdeal Cert.ReferenceIdeal.Gen Cert.ReferenceIdeal.Value
open Idealize.ShloMosaic Idealize.ShloMosaic.TcCoe
open Cert.Online

/-- A maximum along the last of five axes, at an index. -/
theorem rowMax {n0 n1 n2 n3 n4 : Nat} (x : (⟨5, ![n0, n1, n2, n3, n4]⟩ : Shape).Idx → EReal) (z : EReal) {u : Shape} (hu : 0 < u.numel)
    (h : (⟨5, ![n0, n1, n2, n3, n4]⟩ : Shape).ReducesTo [4] ⟨4, ![n0, n1, n2, n3]⟩) (a : Fin n0) (b : Fin n1) (c : Fin n2) (i : Fin n3) :
    Host.reduce (max : EReal → EReal → EReal) x (fun _ : u.Idx => z) h hu (ix4 a b c i)
      = Finset.univ.fold max z fun k : Fin n4 => x (ix5 a b c i k) := by
  rw [Host.reduce_eq_fold, Shape.ReducesTo.fold_fiber_r5_a4]
  rfl

theorem maximumf_eq : (FloatOps.maximumf : Ideal .f32 → Ideal .f32 → Ideal .f32) = (max : EReal → EReal → EReal) := rfl

theorem init_eq : (constant S_ .f32 0xFF800000#32 : FVec Ideal S_ .f32) = fun _ => Ideal.ofBits .f32 0xFF800000#32 := rfl

theorem expoOf_at (s : FVec Ideal S2x8x2x8192x8448 .f32) (M : FVec Ideal S2x8x2x8192 .f32) (b : Fin 2) (h : Fin 8) (c : Fin 2) (i : Fin 8192) (j : Fin 8448) :
    expoOf (F := Ideal) s M (ix5 b h c i j) = Ideal.exp (s (ix5 b h c i j) - max (Ideal.ofBits .f32 0xFF800000#32) (M (ix4 b h c i))) := by
  unfold expoOf
  pointwise []

theorem expo_eq (s : FVec Ideal S2x8x2x8192x8448 .f32) :
    expo (F := Ideal) s = expoOf (F := Ideal) s (Host.reduce (max : EReal → EReal → EReal) s (fun _ => Ideal.ofBits .f32 0xFF800000#32) reducesTo_S2x8x2x8192x8448_S2x8x2x8192_d4 h_S_) := by
  unfold expo
  rw [maximumf_eq, init_eq]

theorem expo_at (s : FVec Ideal S2x8x2x8192x8448 .f32) (b : Fin 2) (h : Fin 8) (c : Fin 2) (i : Fin 8192) (j : Fin 8448) :
    expo (F := Ideal) s (ix5 b h c i j)
      = Ideal.exp (s (ix5 b h c i j) - max (Ideal.ofBits .f32 0xFF800000#32) (Finset.univ.fold max (Ideal.ofBits .f32 0xFF800000#32) fun x : Fin 8448 => s (ix5 b h c i x))) := by
  rw [expo_eq, expoOf_at]
  exact congrArg (fun z => Ideal.exp (s (ix5 b h c i j) - max (Ideal.ofBits .f32 0xFF800000#32) z))
    (rowMax (n0 := 2) (n1 := 8) (n2 := 2) (n3 := 8192) (n4 := 8448) s (Ideal.ofBits .f32 0xFF800000#32) h_S_ reducesTo_S2x8x2x8192x8448_S2x8x2x8192_d4 b h c i)

open Cert.Att

section Real

variable (Q : Fin 16896 → Fin 1024 → ℝ) (K : Fin 2 → Fin 8448 → Fin 1024 → ℝ) (V : Fin 2 → Fin 33 → Fin 1024 → Fin 256 → ℝ)

theorem eight : Ideal.ofBits .f32 0x41000000#32 = ((8 : ℝ) : EReal) := by simp [Ideal.ofBits, Ideal.ieee, -EReal.coe_mul]; norm_num

theorem eighth : Ideal.ofBits .f32 0x3E000000#32 = ((1 / 8 : ℝ) : EReal) := by simp [Ideal.ofBits, Ideal.ieee, -EReal.coe_mul]; norm_num

theorem logTwo : Ideal.log (Ideal.ofBits .f32 0x40000000#32) = ((Real.log 2 : ℝ) : EReal) := by
  have h : Ideal.ofBits .f32 0x40000000#32 = ((2 : ℝ) : EReal) := by simp [Ideal.ofBits, Ideal.ieee, -EReal.coe_mul]; norm_num
  rw [h]
  show (if (2 : ℝ) ≤ 0 then (⊥ : EReal) else ((Real.log 2 : ℝ) : EReal)) = _
  rw [if_neg (by norm_num)]

theorem negInf : Ideal.ofBits .f32 0xFF800000#32 = ⊥ := by simp [Ideal.ofBits, Ideal.ieee]

variable (q : FVec Ideal S16896x1024 .bf16) (k : FVec Ideal S2x8448x1024 .bf16) (v : FVec Ideal S2x33x1024x256 .bf16)
  (hq : ∀ a b, q (ix2 a b) = ((Q a b : ℝ) : EReal)) (hk : ∀ a b c, k (ix3 a b c) = ((K a b c : ℝ) : EReal)) (hv : ∀ a b c d, v (ix4 a b c d) = ((V a b c d : ℝ) : EReal))
include hq hk

theorem scores_real (b : Fin 2) (h : Fin 8) (c : Fin 2) (i : Fin 8192) (j : Fin 8448) :
    scores (F := Ideal) q k (ix5 b h c i j) = ((sc Q K b h c i j * Real.log 2 : ℝ) : EReal) := by
  rw [scores_at, eight, eighth, logTwo]
  simp only [hq, hk, ← EReal.coe_mul, coe_sum]
  congr 1
  unfold sc
  rw [Finset.sum_mul, Finset.sum_mul]
  exact Finset.sum_congr rfl fun d _ => by ring

theorem soft_real (b : Fin 2) (h : Fin 8) (c : Fin 2) (i : Fin 8192) (j : Fin 8448) :
    soft (F := Ideal) (expo (F := Ideal) (scores (F := Ideal) q k)) (ix5 b h c i j) = ((pr Q K b h c i j : ℝ) : EReal) := by
  rw [soft_at]
  simp only [expo_at, scores_real Q K q k hq hk, negInf]
  rw [softmax_real (by norm_num) (fun x => sc Q K b h c i x * Real.log 2) j _ rfl]
  simp only [exp_mul_log_two]
  rfl

include hv

/-- The reference's result, at an index. -/
theorem res_real (l : FVec Ideal S4x64 .f32) (g : FVec Ideal S128 .f32) (L : ℝ) (hl : lamE (fun i k => l (ix2 i k)) = (L : EReal)) (r : Fin 16384) (x : Fin 1024) :
    norm (F := Ideal) (avg (F := Ideal) v (mix (F := Ideal) (coef (F := Ideal) l) (soft (F := Ideal) (expo (F := Ideal) (scores (F := Ideal) q k))))) g (ix2 r x)
      = res Q K V L (fun e => g (ix1 e)) r x := by
  rw [norm_at]
  simp only [avg_at, mix_at, coef_at, hl, soft_real Q K q k hq hk, hv, ← EReal.coe_mul, ← EReal.coe_sub, coe_sum]
  rfl

end Real

end Cert.ReferenceIdeal.Att

end
-- ==== Proof.Att.Pre.lean ====
/- The precondition read back: where it holds, queries, keys, values and lambda vectors are reals. -/
module

public import proofs.«01_k».proof.Pre_finite_inputs
public import Idealize.ShloMosaic.PureOps.Ideal
public import Idealize.ShloMosaic.Lib.ReduceAll
public import Idealize.ShloMosaic.Lib.Pointwise

@[expose] public section

noncomputable section

namespace Cert.Pre_finite_inputs.Att

open Cert.Pre_finite_inputs
open Idealize.ShloMosaic

/-- An extended real whose magnitude is below infinity is a real. -/
theorem real_of_lt (x : EReal) (h : Ideal.cmp .olt (max x (-x)) (Ideal.ofBits .f32 0x7F800000#32) = 1#1) : ∃ r : ℝ, x = (r : EReal) := by
  have hi : Ideal.ofBits .f32 0x7F800000#32 = ⊤ := by simp [Ideal.ofBits, Ideal.ieee]
  rw [hi] at h
  induction x using EReal.rec with
  | bot => simp [Ideal.cmp] at h
  | coe r => exact ⟨r, rfl⟩
  | top => simp [Ideal.cmp] at h

instance : Subsingleton S_.Idx := ⟨fun a b => funext fun i => i.elim0⟩

variable [Facts]

/-- Under the precondition every query, key, value and lambda is a real. -/
theorem reals (q : FVec Ideal S16896x1024 .bf16) (k : FVec Ideal S2x8448x1024 .bf16) (v : FVec Ideal S2x33x1024x256 .bf16) (l : FVec Ideal S4x64 .f32)
    (g : FVec Ideal S128 .f32) (h : fn (F := Ideal) q k v l g = fun _ => 1#1) :
    (∀ i, ∃ r : ℝ, q i = (r : EReal)) ∧ (∀ i, ∃ r : ℝ, k i = (r : EReal)) ∧ (∀ i, ∃ r : ℝ, v i = (r : EReal)) ∧ ∀ i, ∃ r : ℝ, l i = (r : EReal) := by
  have h0 := congrFun h ix0
  obtain ⟨h1, hl⟩ := IntOp.andi_eq_one.1 h0
  obtain ⟨h2, hv⟩ := IntOp.andi_eq_one.1 h1
  obtain ⟨hq, hk⟩ := IntOp.andi_eq_one.1 h2
  exact ⟨fun i => real_of_lt _ (Host.reduce_andi_all _ _ _ _ _ hq i), fun i => real_of_lt _ (Host.reduce_andi_all _ _ _ _ _ hk i),
    fun i => real_of_lt _ (Host.reduce_andi_all _ _ _ _ _ hv i), fun i => real_of_lt _ (Host.reduce_andi_all _ _ _ _ _ hl i)⟩

end Cert.Pre_finite_inputs.Att

end
-- ==== Proof.Att2.KernelIdealBody.lean ====
/- The attention kernel's body, run by values: what one trip of the loop over the key chunks, and the whole body at a grid point, leave in the
   scratch buffers and in the output block, as plain functions of the blocks of queries, keys, values, mixing weights and gain. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel7Ideal.Att

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The windows the body loads, as functions of a block -/

/-- The `1024` keys from key `n` on. -/
def keys (x : Vec F S1x8448x128 .bf16) (n : ℕ) : Vec F S1x1024x128 .bf16 :=
  fun y => x (fun a => match a with
    | ⟨0, _⟩ => (y 0 : Fin 1)
    | ⟨1, _⟩ => (Fin.ofNat 8448 (n + (y 1).val) : Fin 8448)
    | ⟨2, _⟩ => (y 2 : Fin 128)
    | ⟨_ + 3, h⟩ => absurd h (Nat.not_lt.2 (Nat.le_add_left _ _)))

/-- The `256` keys from key `n` on. -/
def keysTail (x : Vec F S1x8448x128 .bf16) (n : ℕ) : Vec F S1x256x128 .bf16 :=
  fun y => x (fun a => match a with
    | ⟨0, _⟩ => (y 0 : Fin 1)
    | ⟨1, _⟩ => (Fin.ofNat 8448 (n + (y 1).val) : Fin 8448)
    | ⟨2, _⟩ => (y 2 : Fin 128)
    | ⟨_ + 3, h⟩ => absurd h (Nat.not_lt.2 (Nat.le_add_left _ _)))

/-- Block `n` of the values. -/
def vals (x : Vec F S1x33x128x256 .bf16) (n : ℕ) : Vec F S1x1x128x256 .bf16 :=
  fun y => x (fun a => match a with
    | ⟨0, _⟩ => (y 0 : Fin 1)
    | ⟨1, _⟩ => (Fin.ofNat 33 (n + (y 1).val) : Fin 33)
    | ⟨2, _⟩ => (y 2 : Fin 128)
    | ⟨3, _⟩ => (y 3 : Fin 256)
    | ⟨_ + 4, h⟩ => absurd h (Nat.not_lt.2 (Nat.le_add_left _ _)))

theorem readAt_keys {κ : Kind} {sp : Space} (v : View sig κ sp S1x8448x128 .bf16) (x : Vec F S1x8448x128 .bf16) {off : Fin 3 → ℕ} (n : ℕ) (inb : ∀ a, off a + S1x1024x128.size a ≤ S1x8448x128.size a)
    (h : off = ![0, n, 0]) :
    v.readAt (Elt F) (Rect.unit (s := S1x8448x128) off S1x1024x128.size inb).toLoadRect (v.rep x) = keys x n := by
  subst h
  rw [View.readAt_rep_unit v x inb rfl inb]
  funext y
  refine congrArg x (funext fun a => ?_)
  have h1 := inb 1
  have e : ![0, n, 0] 1 = n := rfl
  have e' : S1x1024x128.size 1 = 1024 := rfl
  have e'' : S1x8448x128.size 1 = 8448 := rfl
  have hy : (y 1).val < 1024 := (y 1).isLt
  match a with
  | ⟨0, _⟩ => exact Fin.ext (show 0 + 1 * (y 0).val = (y 0).val by omega)
  | ⟨1, _⟩ => exact Fin.ext (show n + 1 * (y 1).val = (n + (y 1).val) % 8448 by rw [Nat.mod_eq_of_lt (by omega)]; omega)
  | ⟨2, _⟩ => exact Fin.ext (show 0 + 1 * (y 2).val = (y 2).val by omega)
  | ⟨_ + 3, h⟩ => exact absurd h (Nat.not_lt.2 (Nat.le_add_left _ _))

theorem readAt_keysTail {κ : Kind} {sp : Space} (v : View sig κ sp S1x8448x128 .bf16) (x : Vec F S1x8448x128 .bf16) {off : Fin 3 → ℕ} (n : ℕ) (inb : ∀ a, off a + S1x256x128.size a ≤ S1x8448x128.size a)
    (h : off = ![0, n, 0]) :
    v.readAt (Elt F) (Rect.unit (s := S1x8448x128) off S1x256x128.size inb).toLoadRect (v.rep x) = keysTail x n := by
  subst h
  rw [View.readAt_rep_unit v x inb rfl inb]
  funext y
  refine congrArg x (funext fun a => ?_)
  have h1 := inb 1
  have e : ![0, n, 0] 1 = n := rfl
  have e' : S1x256x128.size 1 = 256 := rfl
  have e'' : S1x8448x128.size 1 = 8448 := rfl
  have hy : (y 1).val < 256 := (y 1).isLt
  match a with
  | ⟨0, _⟩ => exact Fin.ext (show 0 + 1 * (y 0).val = (y 0).val by omega)
  | ⟨1, _⟩ => exact Fin.ext (show n + 1 * (y 1).val = (n + (y 1).val) % 8448 by rw [Nat.mod_eq_of_lt (by omega)]; omega)
  | ⟨2, _⟩ => exact Fin.ext (show 0 + 1 * (y 2).val = (y 2).val by omega)
  | ⟨_ + 3, h⟩ => exact absurd h (Nat.not_lt.2 (Nat.le_add_left _ _))

theorem readAt_vals {κ : Kind} {sp : Space} (v : View sig κ sp S1x33x128x256 .bf16) (x : Vec F S1x33x128x256 .bf16) {off : Fin 4 → ℕ} (n : ℕ) (inb : ∀ a, off a + S1x1x128x256.size a ≤ S1x33x128x256.size a)
    (h : off = ![0, n, 0, 0]) :
    v.readAt (Elt F) (Rect.unit (s := S1x33x128x256) off S1x1x128x256.size inb).toLoadRect (v.rep x) = vals x n := by
  subst h
  rw [View.readAt_rep_unit v x inb rfl inb]
  funext y
  refine congrArg x (funext fun a => ?_)
  have h1 := inb 1
  have e : ![0, n, 0, 0] 1 = n := rfl
  have e' : S1x1x128x256.size 1 = 1 := rfl
  have e'' : S1x33x128x256.size 1 = 33 := rfl
  have hy : (y 1).val < 1 := (y 1).isLt
  match a with
  | ⟨0, _⟩ => exact Fin.ext (show 0 + 1 * (y 0).val = (y 0).val by omega)
  | ⟨1, _⟩ => exact Fin.ext (show n + 1 * (y 1).val = (n + (y 1).val) % 33 by rw [Nat.mod_eq_of_lt (by omega)]; omega)
  | ⟨2, _⟩ => exact Fin.ext (show 0 + 1 * (y 2).val = (y 2).val by omega)
  | ⟨3, _⟩ => exact Fin.ext (show 0 + 1 * (y 3).val = (y 3).val by omega)
  | ⟨_ + 4, h⟩ => exact absurd h (Nat.not_lt.2 (Nat.le_add_left _ _))

/-! ## The running state of the loop -/

/-- What the loop carries in scratch before a trip: the scores of the chunk about to be taken in, the running maximum and the running sums. -/
structure St (F : FTy → Type) [FloatOps F] where
  sc : Vec F S1x1024x2048 .f32
  mx : Vec F S1x2048 .f32
  acc : Vec F S144x2048 .f32

/-- Trip `k`: two chunks are taken in, and the scores of the two that follow are made ready. -/
def tripSt (K : Vec F S1x8448x128 .bf16) (W : Vec F S1x33x128x256 .bf16) (qq : Vec F S128x2048 .bf16) (k : ℕ) (s : St F) : St F :=
  let one : FVec F S16x256 .bf16 := k0_pay19 (F := F)
  let s1 : Vec F S1x1024x2048 .f32 := k0_pay2 (keys K (2048 * k + 1024)) qq
  let m1 : Vec F S1x2048 .f32 := k0_pay9 (k0_pay4 s.sc s.mx)
  let a1 : Vec F S144x2048 .f32 := k0_pay8 one (k0_pay5 s.sc s.mx) (k0_pay6 s.sc s.mx) (k0_pay7 one s.sc s.mx (vals W (8 * k))) (vals W (8 * k + 1)) (vals W (8 * k + 2)) (vals W (8 * k + 3)) s.acc
  ⟨k0_pay10 (keys K (2048 * k + 2048)) qq,
   k0_pay23 (k0_pay12 s1 m1),
   k0_pay22 one (k0_pay13 s1 m1) (k0_pay14 s1 m1) (k0_pay15 one s1 m1 (vals W (8 * k + 4)) (vals W (8 * k + 5))) (vals W (8 * k + 6)) (vals W (8 * k + 7)) a1⟩

/-- The state before trip `k`, from the state `s` at the loop's entry. -/
def stAt (K : Vec F S1x8448x128 .bf16) (W : Vec F S1x33x128x256 .bf16) (qq : Vec F S128x2048 .bf16) (s : St F) : ℕ → St F
  | 0 => s
  | k + 1 => tripSt K W qq k (stAt K W qq s k)

/-- The loop's resources at state `s`: the blocks read, and the scratch buffers; of the scores' two slots only the first is described. -/
def LoopRes (c : Dev nD) (arg6 : Memref sig .tc .vmem S1x8448x128 .bf16) (arg7 : Memref sig .tc .vmem S1x33x128x256 .bf16) (arg9 : Memref sig .tc .vmem S128x2048 .bf16) (arg10 : Memref sig .tc .vmem S2x1024x2048 .f32) (arg11 : Memref sig .tc .vmem S1x2048 .f32) (arg12 : Memref sig .tc .vmem S144x2048 .f32)
    (K : Vec F S1x8448x128 .bf16) (W : Vec F S1x33x128x256 .bf16) (qq : Vec F S128x2048 .bf16) (s : St F) : sProp 𝕄 :=
  iprop((arg6.view.loc (c : Thread nD τ) ↦[arg6.view.set]{fullShare} arg6.view.rep K) ∗ (arg7.view.loc (c : Thread nD τ) ↦[arg7.view.set]{fullShare} arg7.view.rep W) ∗ (arg9.view.loc (c : Thread nD τ) ↦[arg9.view.set]{fullShare} arg9.view.rep qq)
    ∗ (∃ x, (arg10.view.loc (c : Thread nD τ) ↦[arg10.view.set]{fullShare} arg10.view.rep x) ∗ ⌜VecWindow.window x ![0, 0, 0] S1x1024x2048.size inb_S2x1024x2048_S1x1024x2048_0_0_0 = s.sc⌝)
    ∗ (arg11.view.loc (c : Thread nD τ) ↦[arg11.view.set]{fullShare} arg11.view.rep s.mx) ∗ (arg12.view.loc (c : Thread nD τ) ↦[arg12.view.set]{fullShare} arg12.view.rep s.acc))

/-- A load of a whole buffer held by values. -/
theorem ld_full {κ : Kind} {sp : Space} {s : Shape} {e : EltTy} (v : View sig κ sp s e) (x : Vec F s e) {off : Fin s.rank → ℕ} (inb : ∀ a, off a + s.size a ≤ s.size a) :
    v.readAt (Elt F) (Rect.unit off s.size inb).toLoadRect (v.rep x) = x := View.readAt_rep_full v x inb

/-- A load of what one store just before wrote. -/
theorem ld_same {κ : Kind} {sp : Space} {s : Shape} {e : EltTy} (v : View sig κ sp s e) {off size : Fin s.rank → ℕ} (inb : ∀ a, off a + size a ≤ s.size a)
    (w : (Rect.unit off size inb).shape.Idx → Elt F e) (L : List (View.Piece (Elt F) s e)) :
    v.readCov (⟨Rect.unit off size inb, w⟩ :: L) (Rect.unit off size inb).toLoadRect = w := by
  show v.readAt (Elt F) _ _ = w
  rw [View.readAt_unit v _ inb rfl inb, View.read_writes_cons_put v _ inb w L rfl, VecWindow.window_put_same]

/-- A load of a window that the store just before lies apart from, on the first axis. -/
theorem ld_apart {κ : Kind} {sp : Space} {s : Shape} {e : EltTy} (v : View sig κ sp s e) {off size off' size' : Fin s.rank → ℕ} (inb : ∀ a, off a + size a ≤ s.size a)
    (inb' : ∀ a, off' a + size' a ≤ s.size a) (w : (Rect.unit off size inb).shape.Idx → Elt F e) (L : List (View.Piece (Elt F) s e)) (a : Fin s.rank)
    (ha : off' a + size' a ≤ off a ∨ off a + size a ≤ off' a) :
    v.readCov (⟨Rect.unit off size inb, w⟩ :: L) (Rect.unit off' size' inb').toLoadRect = v.readCov L (Rect.unit off' size' inb').toLoadRect := by
  show v.readAt (Elt F) _ _ = v.readAt (Elt F) _ _
  rw [View.readAt_unit v _ inb' rfl inb', View.readAt_unit v _ inb' rfl inb', View.read_writes_cons_put v _ inb w L rfl, VecWindow.window_put_of_disjoint _ _ _ _ _ _ _ a ha]

/-- A load of a window of what one store of the whole buffer just before wrote. -/
theorem ld_window {κ : Kind} {sp : Space} {s : Shape} {e : EltTy} (v : View sig κ sp s e) {off off' size' : Fin s.rank → ℕ} (inb : ∀ a, off a + s.size a ≤ s.size a) (inb' : ∀ a, off' a + size' a ≤ s.size a)
    (w : s.Idx → Elt F e) (L : List (View.Piece (Elt F) s e)) :
    v.readCov (⟨Rect.unit off s.size inb, w⟩ :: L) (Rect.unit off' size' inb').toLoadRect = VecWindow.window w off' size' inb' := by
  show v.readAt (Elt F) _ _ = _
  rw [View.readAt_unit v _ inb' rfl inb', View.read_writes_full v _ inb w L]

set_option maxHeartbeats 600000 in
/-- One trip of the loop, by values. -/
theorem trip (𝒱 : Variants) (c : Dev nD) (bd : Option 𝒱.V) (E : Set ℕ) (i : grid0.Coords) (arg3 : Memref sig .tc .vmem S4x64 .f32) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x8448x128 .bf16) (harg6 : arg6.IsWhole) (arg7 : Memref sig .tc .vmem S1x33x128x256 .bf16) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S2x1024x2048 .f32) (harg10 : arg10.IsWhole) (arg11 : Memref sig .tc .vmem S1x2048 .f32) (harg11 : arg11.IsWhole) (arg12 : Memref sig .tc .vmem S144x2048 .f32) (harg12 : arg12.IsWhole) (v29 : FVec F S1024x2048 .f32)
    (K : Vec F S1x8448x128 .bf16) (W : Vec F S1x33x128x256 .bf16) (qq : Vec F S128x2048 .bf16) (s : St F) (k : Fin k0_t1_loop.trips) :
    LoopRes c arg6 arg7 arg9 arg10 arg11 arg12 K W qq s
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 (k0_pay19 (F := F)) v29 k PUnit.unit)
          (fun _ => LoopRes c arg6 arg7 arg9 arg10 arg11 arg12 K W qq (tripSt K W qq k.val s)) := by
  have hk : k.val < 3 := Nat.lt_of_lt_of_le k.isLt k0_t1_abs.2.1
  unfold k0_t1_body LoopRes
  simp only [k0_part1_eq_skeleton, k0_part2_eq_skeleton, k0_part3_eq_skeleton]
  unfold k0_part1_skel k0_part2_skel k0_part3_skel
  iintro ⟨H6, H7, H9, ⟨%x, H10, %hx⟩, H11, H12⟩
  sl_exec
  sl_step
  isplitl [H6]; · iexact H6
  isplitl [H7]; · iexact H7
  isplitl [H9]; · iexact H9
  have e220 : trip.sl.v220 arg10 x = s.sc := (View.readAt_rep_unit arg10.view x _ rfl _).trans hx
  have e285 : trip.sl.v285 arg6 arg9 arg10 K qq k = k0_pay2 (keys K (2048 * k.val + 1024)) qq := by
    unfold trip.sl.v285 trip.sl.H10_2
    rw [ld_apart (a := (0 : Fin 3)) (ha := Or.inr (by decide)), ld_same]
    rw [ld_full]
    exact congrArg (fun a => k0_pay2 a qq) (readAt_keys arg6.view K (2048 * k.val + 1024) (k0_off1_inb k 0) (k0_off1_eq k ⟨0, by decide⟩))
  have e287 : trip.sl.v287 arg7 arg10 arg11 W s k x = k0_pay9 (k0_pay4 s.sc s.mx) := by
    unfold trip.sl.v287 trip.sl.H11_1
    rw [ld_same]
    dsimp only
    rw [e220, ld_full]
  have e328 : trip.sl.v328 arg7 arg10 arg11 arg12 W s k x = k0_pay8 (k0_pay19 (F := F)) (k0_pay5 s.sc s.mx) (k0_pay6 s.sc s.mx) (k0_pay7 (k0_pay19 (F := F)) s.sc s.mx (vals W (8 * k.val))) (vals W (8 * k.val + 1)) (vals W (8 * k.val + 2)) (vals W (8 * k.val + 3)) s.acc := by
    unfold trip.sl.v328 trip.sl.H12_1
    rw [ld_same]
    dsimp only
    rw [e220, ld_full, ld_full, readAt_vals _ _ (8 * k.val) _ (k0_off2_eq k ⟨0, by decide⟩), readAt_vals _ _ (8 * k.val + 1) _ (k0_off2_eq k ⟨1, by decide⟩),
      readAt_vals _ _ (8 * k.val + 2) _ (k0_off2_eq k ⟨2, by decide⟩), readAt_vals _ _ (8 * k.val + 3) _ (k0_off2_eq k ⟨3, by decide⟩)]
  isplitl [H10]
  · iexists _
    isplitl [H10]
    · iapply (pointsTo_rep_of_read (c : Thread nD τ) arg10 _ fullShare _ rfl)
      iexact H10
    · ipureintro
      unfold trip.sl.H10_2
      rw [View.read_writes_cons_put arg10.view _ _ _ _ rfl]
      refine (VecWindow.window_put_same _ _ _ _ _).trans ?_
      rw [ld_full]
      exact congrArg (fun a => k0_pay10 a qq) (readAt_keys arg6.view K (2048 * k.val + 2048) (k0_off1_inb k 1) (k0_off1_eq k ⟨1, by decide⟩))
  isplitl [H11]
  · iapply (rep_of_owns (c : Thread nD τ) arg11 fullShare _)
    unfold owns
    iexists _; isplitr
    swap; · iexact H11
    ipureintro
    rw [View.read_writes_full]
    dsimp only
    rw [e285, e287]
    rfl
  iapply (rep_of_owns (c : Thread nD τ) arg12 fullShare _)
  unfold owns
  iexists _; isplitr
  swap; · iexact H12
  ipureintro
  rw [View.read_writes_full]
  dsimp only
  rw [e285, e287, e328, readAt_vals _ _ (8 * k.val + 4) _ (k0_off3_eq k ⟨0, by decide⟩), readAt_vals _ _ (8 * k.val + 5) _ (k0_off3_eq k ⟨1, by decide⟩)]
  have e6 := readAt_vals arg7.view W (8 * k.val + 6) (k0_off3_inb k 2) (k0_off3_eq k ⟨2, by decide⟩)
  have e7 := readAt_vals arg7.view W (8 * k.val + 7) (k0_off3_inb k 3) (k0_off3_eq k ⟨3, by decide⟩)
  exact congrArg₂ (fun a b => k0_pay22 (k0_pay19 (F := F)) _ _ _ a b _) e6 e7

/-! ## The whole body at a grid point -/

/-- The state at the loop's entry: the first chunk's scores, no maximum yet, no sums yet. -/
def st0 (K : Vec F S1x8448x128 .bf16) (qq : Vec F S128x2048 .bf16) : St F :=
  ⟨k0_pay21 (k0_pay20 (keys K 0) qq), k0_pay17 (F := F), k0_pay18 (F := F)⟩

/-- The first chunk after the loop. -/
def m7 (s : St F) : Vec F S1x2048 .f32 := k0_pay31 (k0_pay26 s.sc s.mx)
def a7 (W : Vec F S1x33x128x256 .bf16) (s : St F) : Vec F S144x2048 .f32 :=
  k0_pay30 (k0_pay19 (F := F)) (k0_pay27 s.sc s.mx) (k0_pay28 s.sc s.mx) (k0_pay29 (k0_pay19 (F := F)) s.sc s.mx (vals W 24)) (vals W 25) (vals W 26) (vals W 27) s.acc
/-- The second chunk after the loop. -/
def m8 (s1 : Vec F S1x1024x2048 .f32) (m : Vec F S1x2048 .f32) : Vec F S1x2048 .f32 := k0_pay41 (k0_pay35 s1 m)
def a8 (W : Vec F S1x33x128x256 .bf16) (s1 : Vec F S1x1024x2048 .f32) (m : Vec F S1x2048 .f32) (a : Vec F S144x2048 .f32) : Vec F S144x2048 .f32 :=
  k0_pay40 (k0_pay36 s1 m) (k0_pay37 s1 m) (k0_pay38 (k0_pay19 (F := F)) s1 m (vals W 28) (vals W 29) (vals W 30)) (k0_pay39 (k0_pay19 (F := F)) (vals W 31)) a
/-- The last keys, a quarter of a chunk. -/
def a9 (W : Vec F S1x33x128x256 .bf16) (s1 : Vec F S1x256x2048 .f32) (m : Vec F S1x2048 .f32) (a : Vec F S144x2048 .f32) : Vec F S144x2048 .f32 :=
  k0_pay44 (k0_pay19 (F := F)) s1 m (vals W 32) a
/-- The output block, from the sums over every key. -/
def outOf (l : Vec F S4x64 .f32) (g : Vec F S1x128 .f32) (a : Vec F S144x2048 .f32) : Vec F S1024x128 .bf16 :=
  k0_pay1 (k0_pay46 l (VecWindow.window a ![0, 0] S128x2048.size inb_S144x2048_S128x2048_0_0) (VecWindow.window a ![128, 0] S1x2048.size inb_S144x2048_S1x2048_128_0)) (k0_pay47 g)

/-- The sums over every key, from the blocks of queries, keys and values. -/
def accAll (q : Vec F S1024x128 .bf16) (K : Vec F S1x8448x128 .bf16) (W : Vec F S1x33x128x256 .bf16) : Vec F S144x2048 .f32 :=
  let qq : Vec F S128x2048 .bf16 := k0_pay16 q
  let s := stAt K W qq (st0 K qq) 3
  let s1 : Vec F S1x1024x2048 .f32 := k0_pay24 (keys K 7168) qq
  a9 W (k0_pay33 (k0_pay32 (keysTail K 8192) qq)) (m8 s1 (m7 s)) (a8 W s1 (m7 s) (a7 W s))

/-- The output block, from the input blocks. -/
def out (l : Vec F S4x64 .f32) (g : Vec F S1x128 .f32) (q : Vec F S1024x128 .bf16) (K : Vec F S1x8448x128 .bf16) (W : Vec F S1x33x128x256 .bf16) : Vec F S1024x128 .bf16 :=
  outOf l g (accAll q K W)

set_option maxHeartbeats 1000000 in
/-- The body on whole buffers, the inputs at their blocks, the output and the scratch at anything, runs to the continuation holding the inputs as they
    were and the output at `out` of them. -/
theorem sound_kernel (c : Dev nD) (E : Set ℕ) (i : grid0.Coords) (arg3 : Memref sig .tc .vmem S4x64 .f32) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1x8448x128 .bf16) (harg6 : arg6.IsWhole) (arg7 : Memref sig .tc .vmem S1x33x128x256 .bf16) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S2x1024x2048 .f32) (harg10 : arg10.IsWhole) (arg11 : Memref sig .tc .vmem S1x2048 .f32) (harg11 : arg11.IsWhole) (arg12 : Memref sig .tc .vmem S144x2048 .f32) (harg12 : arg12.IsWhole)
    (l : Vec F S4x64 .f32) (g : Vec F S1x128 .f32) (q : Vec F S1024x128 .bf16) (K : Vec F S1x8448x128 .bf16) (W : Vec F S1x33x128x256 .bf16) (Q : PUnit → sProp 𝕄) :
    iprop(owns (c : Thread nD τ) arg3 fullShare l ∗ owns (c : Thread nD τ) arg4 fullShare g ∗ owns (c : Thread nD τ) arg5 fullShare q ∗ owns (c : Thread nD τ) arg6 fullShare K ∗ owns (c : Thread nD τ) arg7 fullShare W ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare l ∗ owns (c : Thread nD τ) arg4 fullShare g ∗ owns (c : Thread nD τ) arg5 fullShare q ∗ owns (c : Thread nD τ) arg6 fullShare K ∗ owns (c : Thread nD τ) arg7 fullShare W ∗ owns (c : Thread nD τ) arg8 fullShare (out l g q K W)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ Q ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12) Q := by
  simp only [cc0_diff_attn_eq_skeleton]; unfold cc0_diff_attn_skel
  simp only [k0_part4_eq_skeleton, k0_part5_eq_skeleton, k0_part6_eq_skeleton, k0_part7_eq_skeleton, k0_part8_eq_skeleton, k0_part9_eq_skeleton]
  simp only [owns_eq_rep]
  iintro ⟨H3, H4, H5, H6, H7, ⟨%d8, H8⟩, ⟨%d9, H9⟩, ⟨%d10, H10⟩, ⟨%d11, H11⟩, ⟨%d12, H12⟩, Hk⟩
  sl_exec
  sl_for (fun k _ => LoopRes c arg6 arg7 arg9 arg10 arg11 arg12 K W (k0_pay16 q) (stAt K W (k0_pay16 q) (st0 K (k0_pay16 q)) k)) $$ [H6 H7 H9 H10 H11 H12]
  · intro k acc
    exact trip Variants.none c none E i arg3 harg3 arg4 harg4 arg5 harg5 arg6 harg6 arg7 harg7 arg8 harg8 arg9 harg9 arg10 harg10 arg11 harg11 arg12 harg12 _ K W _ _ k
  · unfold LoopRes
    isplitl [H6]; · iexact H6
    isplitl [H7]; · iexact H7
    isplitl [H9]
    · iapply (rep_of_owns (c : Thread nD τ) arg9 fullShare _)
      unfold owns
      iexists _; isplitr
      swap; · iexact H9
      ipureintro
      unfold sound_kernel.sl.H9_1
      rw [View.read_writes_full, ld_full]
    isplitl [H10]
    · iexists _
      isplitl [H10]
      · iapply (pointsTo_rep_of_read (c : Thread nD τ) arg10 _ fullShare _ rfl)
        iexact H10
      · ipureintro
        rw [View.read_writes_cons_put arg10.view _ _ _ _ rfl]
        refine (VecWindow.window_put_same _ _ _ _ _).trans ?_
        unfold sound_kernel.sl.r
        unfold sound_kernel.sl.v28 sound_kernel.sl.H9_1
        rw [ld_same, ld_full]
        exact congrArg (fun a => k0_pay21 (k0_pay20 a (k0_pay16 q))) (readAt_keys arg6.view K 0 _ rfl)
    isplitl [H11]
    · iapply (rep_of_owns (c : Thread nD τ) arg11 fullShare _)
      unfold owns
      iexists _; isplitr
      swap; · iexact H11
      ipureintro
      exact View.read_writes_full arg11.view _ _ _ _
    iapply (rep_of_owns (c : Thread nD τ) arg12 fullShare _)
    unfold owns
    iexists _; isplitr
    swap; · iexact H12
    ipureintro
    exact View.read_writes_full arg12.view _ _ _ _
  iintro %acc HI
  unfold LoopRes
  icases HI with ⟨H6, H7, H9, ⟨%x, H10, %hx⟩, H11, H12⟩
  sl_exec
  have ht : Scf.trips k0_t1_loop.lb k0_t1_loop.ub k0_t1_loop.st = 3 := by decide
  rw [ht] at hx
  have v41 : sound_kernel.sl.v41 arg10 x = (stAt K W (k0_pay16 q) (st0 K (k0_pay16 q)) 3).sc := (View.readAt_rep_unit arg10.view x _ rfl _).trans hx
  have v93 : sound_kernel.sl.v93 arg6 arg9 arg10 q K = k0_pay24 (keys K 7168) (k0_pay16 q) := by
    unfold sound_kernel.sl.v93 sound_kernel.sl.H10_2
    rw [ld_apart (a := (0 : Fin 3)) (ha := Or.inr (by decide)), ld_same, ld_full]
    exact congrArg (fun a => k0_pay24 a (k0_pay16 q)) (readAt_keys arg6.view K 7168 _ rfl)
  have v138 : sound_kernel.sl.v138 arg6 arg9 arg10 q K = k0_pay33 (k0_pay32 (keysTail K 8192) (k0_pay16 q)) := by
    unfold sound_kernel.sl.v138 sound_kernel.sl.H10_2 sound_kernel.sl.r_6
    rw [ld_same, ld_full]
    exact congrArg (fun a => k0_pay33 (k0_pay32 a (k0_pay16 q))) (readAt_keysTail arg6.view K 8192 _ rfl)
  have v95 : sound_kernel.sl.v95 arg10 arg11 q K W x = m7 (stAt K W (k0_pay16 q) (st0 K (k0_pay16 q)) 3) := by
    unfold sound_kernel.sl.v95 sound_kernel.sl.H11_1_1 sound_kernel.sl.r_1
    rw [ld_same, ld_full, v41, ht]; rfl
  have v140 : sound_kernel.sl.v140 arg6 arg9 arg10 arg11 q K W x = m8 (k0_pay24 (keys K 7168) (k0_pay16 q)) (m7 (stAt K W (k0_pay16 q) (st0 K (k0_pay16 q)) 3)) := by
    unfold sound_kernel.sl.v140 sound_kernel.sl.H11_2 sound_kernel.sl.r_7
    rw [ld_same, v93, v95]; rfl
  have v128 : sound_kernel.sl.v128 arg7 arg10 arg11 arg12 q K W x = a7 W (stAt K W (k0_pay16 q) (st0 K (k0_pay16 q)) 3) := by
    unfold sound_kernel.sl.v128 sound_kernel.sl.H12_1_1 sound_kernel.sl.r_2 sound_kernel.sl.r_3 sound_kernel.sl.r_4 sound_kernel.sl.r_5
    rw [ld_same, ld_full, ld_full, v41, ht, readAt_vals arg7.view W 24 _ rfl, readAt_vals arg7.view W 25 _ rfl, readAt_vals arg7.view W 26 _ rfl, readAt_vals arg7.view W 27 _ rfl]; rfl
  have v154 : sound_kernel.sl.v154 arg6 arg7 arg9 arg10 arg11 arg12 q K W x = a8 W (k0_pay24 (keys K 7168) (k0_pay16 q)) (m7 (stAt K W (k0_pay16 q) (st0 K (k0_pay16 q)) 3)) (a7 W (stAt K W (k0_pay16 q) (st0 K (k0_pay16 q)) 3)) := by
    unfold sound_kernel.sl.v154 sound_kernel.sl.H12_2 sound_kernel.sl.r_8 sound_kernel.sl.r_9 sound_kernel.sl.r_10 sound_kernel.sl.r_11
    rw [ld_same, v128, v93, v95, readAt_vals arg7.view W 28 _ rfl, readAt_vals arg7.view W 29 _ rfl, readAt_vals arg7.view W 30 _ rfl, readAt_vals arg7.view W 31 _ rfl]; rfl
  have hacc : sound_kernel.sl.r_13 arg6 arg7 arg9 arg10 arg11 arg12 q K W x = accAll q K W := by
    unfold sound_kernel.sl.r_13
    rw [v138, v140, v154, readAt_vals arg7.view W 32 _ rfl]; rfl
  have v180 : sound_kernel.sl.v180 arg6 arg7 arg9 arg10 arg11 arg12 q K W x = VecWindow.window (accAll q K W) ![0, 0] S128x2048.size inb_S144x2048_S128x2048_0_0 := by
    unfold sound_kernel.sl.v180 sound_kernel.sl.H12_3
    rw [ld_window, hacc]
  have v181 : sound_kernel.sl.v181 arg6 arg7 arg9 arg10 arg11 arg12 q K W x = VecWindow.window (accAll q K W) ![128, 0] S1x2048.size inb_S144x2048_S1x2048_128_0 := by
    unfold sound_kernel.sl.v181 sound_kernel.sl.H12_3
    rw [ld_window, hacc]
  sl_step
  iapply Hk
  isplitl [H3]; · iexact H3
  isplitl [H4]; · iexact H4
  isplitl [H5]; · iexact H5
  isplitl [H6]; · iexact H6
  isplitl [H7]; · iexact H7
  isplitl [H8]
  · iapply (rep_of_owns (c : Thread nD τ) arg8 fullShare _)
    unfold owns
    iexists _; isplitr
    swap; · iexact H8
    ipureintro
    rw [View.read_writes_full]
    unfold sound_kernel.sl.r_14 sound_kernel.sl.r_15
    rw [v180, v181, ld_full, ld_full]; rfl
  isplitl [H9]; · iexists _; iexact H9
  isplitl [H10]
  · iexists _; iapply (pointsTo_rep_of_read (c : Thread nD τ) arg10 _ fullShare _ rfl); iexact H10
  isplitl [H11]
  · iexists _; iapply (pointsTo_rep_of_read (c : Thread nD τ) arg11 _ fullShare _ rfl); iexact H11
  iexists _; iapply (pointsTo_rep_of_read (c : Thread nD τ) arg12 _ fullShare _ rfl); iexact H12

end Cert.Kernel7Ideal.Att

end
-- ==== Proof.Att2.KernelIdealRun.lean ====
/- The attention kernel's launch: the body's triple at every grid point gives the run of the whole program, its frame, and what the output array holds at the end. -/
module

public import proofs.«01_k».proof.Proof.Att2.KernelIdealBody
public import proofs.«01_k».proof.Proof.Gen.Kernel7Ideal.Frame

@[expose] public section

set_option maxRecDepth 16384

noncomputable section

namespace Cert.Kernel7Ideal.Att

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's invariant between points: its four scratch buffers at some contents, and the generator register. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body leaves in each window at a point: the inputs as they were, the output at `out` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => out (iblk m c 0 t) (iblk m c 1 t) (X0_2 m c t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out (iblk m c 0 t) (iblk m c 1 t) (X0_2 m c t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ _ _ (iblk m c 0 t) (iblk m c 1 t) (X0_2 m c t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every execution ends, the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim: the argument arrays unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

/-- The same with the output array: what the proof data writes back, over every point. -/
theorem run_value : θ_run defs (onTc (τ := τ) (main (F := F))) ⟨m, fun _ => 0, ρ⟩ (fun r => (∀ c : Dev nD,
      r.2.mem ((c.tc : Thread nD τ).loc main_v1) = (dats m 0 c).arrAt 5 (cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h c => ⟨(h.1 c).1 5, h.2 c⟩) (θ_run_and (run_main m ρ) (unchanged m ρ))

end Cert.Kernel7Ideal.Att

end
-- ==== Proof.Att2.Math.lean ====
/- What the second attention layer's call computes over the reals: the first's, with its own initial mixing coefficient. -/
module

public import proofs.«01_k».proof.Proof.Att.Online
public import proofs.«01_k».proof.Proof.Att.Math

@[expose] public section

noncomputable section

namespace Cert.Online

open Idealize.ShloMosaic

/-- The mixing coefficient from the four lambda vectors, in the second attention layer. -/
def lamE2 (l : Fin 4 → Fin 64 → EReal) : EReal :=
  Ideal.exp (∑ k : Fin 64, l 0 k * l 1 k) - Ideal.exp (∑ k : Fin 64, l 2 k * l 3 k) + Ideal.ofBits .f32 0x3EF1014C#32

/-- The normalisation of one head's output row, with the second attention layer's last factor. -/
def tail2 (o : Fin 128 → EReal) (g : EReal) (e : Fin 128) : EReal :=
  o e * Ideal.rsqrt (Ideal.div (∑ x : Fin 128, o x * o x) (Ideal.ofBits .f32 0x43000000#32) + Ideal.ofBits .f32 0x3727C5AC#32) * g
    * Ideal.ofBits .f32 0x3F077F5A#32

/-- With finite lambda vectors the mixing coefficient is a real. -/
theorem lamE2_real (l : Fin 4 → Fin 64 → ℝ) : ∃ r : ℝ, lamE2 (fun i k => ((l i k : ℝ) : EReal)) = (r : EReal) := by
  refine ⟨Real.exp (∑ k, l 0 k * l 1 k) - Real.exp (∑ k, l 2 k * l 3 k) + (Ideal.ofBits .f32 0x3EF1014C#32).toReal, ?_⟩
  unfold lamE2
  simp only [← EReal.coe_mul, coe_sum]
  rw [EReal.coe_add, EReal.coe_sub, EReal.coe_toReal (by simp [Ideal.ofBits, Ideal.ieee, -EReal.coe_mul]) (by simp [Ideal.ofBits, Ideal.ieee, -EReal.coe_mul])]
  rfl

end Cert.Online

namespace Cert.Att

open Idealize.ShloMosaic
open Cert.Online

variable (Q : Fin 16896 → Fin 1024 → ℝ) (K : Fin 2 → Fin 8448 → Fin 1024 → ℝ) (V : Fin 2 → Fin 33 → Fin 1024 → Fin 256 → ℝ) (l : ℝ)

/-- The result at row `r` and column `x`, in the second attention layer. -/
def res2 (g : Fin 128 → EReal) (r : Fin 16384) (x : Fin 1024) : EReal :=
  tail2 (fun e => ((ob Q K V l ⟨r.val / 8192, by omega⟩ ⟨x.val / 128, by omega⟩ ⟨r.val % 8192, by omega⟩ e : ℝ) : EReal)) (g ⟨x.val % 128, by omega⟩) ⟨x.val % 128, by omega⟩

end Cert.Att

end
-- ==== Proof.Att2.Pay.lean ====
/- The body's arithmetic at an index, over extended reals: the scores of a chunk, one chunk taken into the running maximum and the running sums. -/
module

public import proofs.«01_k».proof.Proof.Att2.KernelIdealBody
public import Idealize.ShloMosaic.Lib.Pointwise
public import proofs.«01_k».proof.Proof.Att2.Math

@[expose] public section

set_option maxRecDepth 16384

noncomputable section

namespace Cert.Kernel7Ideal.Att

open Cert.Kernel7Ideal Cert.Kernel7Ideal.Gen
open Idealize.ShloMosaic Idealize.ShloMosaic.TcCoe

open Cert.Online

/-- An array of reals read as extended reals. -/
def toE {s : Shape} (f : s.Idx → ℝ) : s.Idx → EReal := fun i => ((f i : ℝ) : EReal)

variable (q : S1024x128.Idx → ℝ) (K : S1x8448x128.Idx → ℝ) (W : S1x33x128x256.Idx → ℝ)

/-- Column `b` of the doubled queries: query `b`'s first half, then query `b - 1024`'s second half, zeros elsewhere. -/
def qcol (b : Fin 2048) (d : Fin 128) : ℝ :=
  if h : b.val < 1024 then (if d.val < 64 then q (ix2 ⟨b.val, h⟩ d) else 0)
  else (if 64 ≤ d.val then q (ix2 ⟨b.val - 1024, by omega⟩ d) else 0)

/-- The score of key `k` against column `b`. -/
def score (b : Fin 2048) (k : ℕ) : ℝ := ∑ d : Fin 128, K (ix3 0 (Fin.ofNat 8448 k) d) * qcol q b d

/-- The weight of key `k` in row `r` of the running sums: a value below row `128`, one from there on. -/
def weight (r : Fin 144) (k : ℕ) : ℝ :=
  if h : r.val < 128 then W (ix4 0 (Fin.ofNat 33 (k / 256)) ⟨r.val, h⟩ (Fin.ofNat 256 k)) else 1

theorem negInf : Ideal.ofBits .f32 0xFF800000#32 = ⊥ := by simp [Ideal.ofBits, Ideal.ieee]

theorem low_half : ∀ d : Fin 128, IntOp.cmpi .slt (BitVec.ofNat 32 d.val) 64#32 = if d.val < 64 then 1#1 else 0#1 := by decide
theorem high_half : ∀ d : Fin 128, IntOp.cmpi .sge (BitVec.ofNat 32 d.val) 64#32 = if 64 ≤ d.val then 1#1 else 0#1 := by decide

theorem qq_at (d : Fin 128) (b : Fin 2048) : k0_pay16 (F := Ideal) (toE q) (ix2 d b) = ((qcol q b d : ℝ) : EReal) := by
  pointwise [k0_pay16]
  rw [low_half, high_half]
  unfold qcol toE Scalar.select
  by_cases h : b.val < 1024
  · rw [dif_pos h, dif_pos h]; by_cases h2 : d.val < 64 <;> simp [h2]
  · rw [dif_neg h, dif_neg h]; by_cases h2 : 64 ≤ d.val <;> simp [h2]

theorem keys_at (X : FVec Ideal S1x8448x128 .bf16) (n : ℕ) (a : Fin 1024) (d : Fin 128) :
    keys (F := Ideal) X n (ix3 0 a d) = X (ix3 0 (Fin.ofNat 8448 (n + a.val)) d) :=
  congrArg X (funext fun j => by match j with | ⟨0, _⟩ => rfl | ⟨1, _⟩ => rfl | ⟨2, _⟩ => rfl)

theorem keysTail_at (X : FVec Ideal S1x8448x128 .bf16) (n : ℕ) (a : Fin 256) (d : Fin 128) :
    keysTail (F := Ideal) X n (ix3 0 a d) = X (ix3 0 (Fin.ofNat 8448 (n + a.val)) d) :=
  congrArg X (funext fun j => by match j with | ⟨0, _⟩ => rfl | ⟨1, _⟩ => rfl | ⟨2, _⟩ => rfl)

theorem vals_ix (X : FVec Ideal S1x33x128x256 .bf16) (n : ℕ) (r : Fin 128) (x : Fin 256) :
    vals (F := Ideal) X n (ix4 0 0 r x) = X (ix4 0 (Fin.ofNat 33 n) r x) :=
  congrArg X (funext fun j => by match j with | ⟨0, _⟩ => rfl | ⟨1, _⟩ => rfl | ⟨2, _⟩ => rfl | ⟨3, _⟩ => rfl)

theorem score_at (n : ℕ) (a : Fin 1024) (b : Fin 2048) :
    k0_pay2 (F := Ideal) (keys (F := Ideal) (toE K) n) (k0_pay16 (F := Ideal) (toE q)) (ix3 0 a b) = ((score q K b (n + a.val) : ℝ) : EReal) := by
  have h : k0_pay2 (F := Ideal) (keys (F := Ideal) (toE K) n) (k0_pay16 (F := Ideal) (toE q)) (ix3 0 a b)
      = ∑ d : Fin 128, keys (F := Ideal) (toE K) n (ix3 0 a d) * k0_pay16 (F := Ideal) (toE q) (ix2 d b) := by
    pointwise [k0_pay2]
  rw [h]; unfold score; rw [← coe_sum]
  refine Finset.sum_congr rfl fun d _ => ?_
  rw [qq_at, EReal.coe_mul, keys_at]
  rfl

theorem tail_score_at (n : ℕ) (a : Fin 256) (b : Fin 2048) :
    k0_pay33 (F := Ideal) (k0_pay32 (keysTail (F := Ideal) (toE K) n) (k0_pay16 (F := Ideal) (toE q))) (ix3 0 a b) = ((score q K b (n + a.val) : ℝ) : EReal) := by
  have h : k0_pay33 (F := Ideal) (k0_pay32 (keysTail (F := Ideal) (toE K) n) (k0_pay16 (F := Ideal) (toE q))) (ix3 0 a b)
      = ∑ d : Fin 128, keysTail (F := Ideal) (toE K) n (ix3 0 a d) * k0_pay16 (F := Ideal) (toE q) (ix2 d b) := by
    pointwise [k0_pay33, k0_pay32]
  rw [h]; unfold score; rw [← coe_sum]
  refine Finset.sum_congr rfl fun d _ => ?_
  rw [qq_at, EReal.coe_mul, keysTail_at]
  rfl

/-- The maximum after a chunk, -/
def stepM (sc : FVec Ideal S1x1024x2048 .f32) (mx : FVec Ideal S1x2048 .f32) : FVec Ideal S1x2048 .f32 :=
  k0_pay9 (F := Ideal) (k0_pay4 sc mx)

/-- and the sums after it. -/
def stepA (sc : FVec Ideal S1x1024x2048 .f32) (mx : FVec Ideal S1x2048 .f32) (v0 v1 v2 v3 : FVec Ideal S1x1x128x256 .bf16) (acc : FVec Ideal S144x2048 .f32) :
    FVec Ideal S144x2048 .f32 :=
  k0_pay8 (F := Ideal) k0_pay19 (k0_pay5 sc mx) (k0_pay6 sc mx) (k0_pay7 k0_pay19 sc mx v0) v1 v2 v3 acc

theorem stepM_at (sc : FVec Ideal S1x1024x2048 .f32) (mx : FVec Ideal S1x2048 .f32) (b : Fin 2048) :
    stepM sc mx (ix2 0 b) = max (mx (ix2 0 b)) (Finset.univ.fold max ⊥ fun a : Fin 1024 => sc (ix3 0 a b)) := by
  pointwise [stepM, k0_pay9, k0_pay4, k0_pay3]
  rw [negInf]

theorem stepA_at (sc : FVec Ideal S1x1024x2048 .f32) (mx : FVec Ideal S1x2048 .f32) (v0 v1 v2 v3 : FVec Ideal S1x1x128x256 .bf16) (acc : FVec Ideal S144x2048 .f32) (r : Fin 144) (b : Fin 2048) :
    stepA sc mx v0 v1 v2 v3 acc (ix2 r b)
      = Ideal.exp2 (mx (ix2 0 b) - stepM sc mx (ix2 0 b)) * acc (ix2 r b)
        + ((((∑ x : Fin 256, (if h : r.val < 128 then v0 (ix4 0 0 ⟨r.val, h⟩ x) else 1) * Ideal.exp2 (sc (ix3 0 ⟨x.val, by omega⟩ b) - stepM sc mx (ix2 0 b)))
            + ∑ x : Fin 256, (if h : r.val < 128 then v1 (ix4 0 0 ⟨r.val, h⟩ x) else 1) * Ideal.exp2 (sc (ix3 0 ⟨256 + x.val, by omega⟩ b) - stepM sc mx (ix2 0 b)))
            + ∑ x : Fin 256, (if h : r.val < 128 then v2 (ix4 0 0 ⟨r.val, h⟩ x) else 1) * Ideal.exp2 (sc (ix3 0 ⟨512 + x.val, by omega⟩ b) - stepM sc mx (ix2 0 b)))
            + ∑ x : Fin 256, (if h : r.val < 128 then v3 (ix4 0 0 ⟨r.val, h⟩ x) else 1) * Ideal.exp2 (sc (ix3 0 ⟨768 + x.val, by omega⟩ b) - stepM sc mx (ix2 0 b))) := by
  pointwise [stepA, stepM, k0_pay9, k0_pay8, k0_pay7, k0_pay6, k0_pay5, k0_pay4, k0_pay3, k0_pay19]
  all_goals (try rfl)

/-- The last, shorter chunk. -/
theorem a9_at (v : FVec Ideal S1x33x128x256 .bf16) (sc : FVec Ideal S1x256x2048 .f32) (mx : FVec Ideal S1x2048 .f32) (acc : FVec Ideal S144x2048 .f32) (r : Fin 144) (b : Fin 2048) :
    a9 (F := Ideal) v sc mx acc (ix2 r b)
      = Ideal.exp2 (mx (ix2 0 b) - max (mx (ix2 0 b)) (Finset.univ.fold max ⊥ fun a : Fin 256 => sc (ix3 0 a b))) * acc (ix2 r b)
        + ∑ x : Fin 256, (if h : r.val < 128 then vals (F := Ideal) v 32 (ix4 0 0 ⟨r.val, h⟩ x) else 1)
            * Ideal.exp2 (sc (ix3 0 x b) - max (mx (ix2 0 b)) (Finset.univ.fold max ⊥ fun a : Fin 256 => sc (ix3 0 a b))) := by
  pointwise [a9, k0_pay44, k0_pay43, k0_pay42, k0_pay19]
  rw [negInf]
  all_goals (try rfl)

/-- Two chunks' worth of four blocks of `256` keys are one run of `1024`. -/
theorem four_blocks (f : ℕ → EReal) :
    ((((∑ x : Fin 256, f x.val) + ∑ x : Fin 256, f (256 + x.val)) + ∑ x : Fin 256, f (512 + x.val)) + ∑ x : Fin 256, f (768 + x.val))
      = ∑ j ∈ Finset.range 1024, f j := by
  have h : ∀ c, (∑ x : Fin 256, f (c + x.val)) = ∑ x ∈ Finset.range 256, f (c + x) := fun c => (Finset.sum_range fun x => f (c + x)).symm
  have h0 : (∑ x : Fin 256, f x.val) = ∑ x ∈ Finset.range 256, f x := (Finset.sum_range fun x => f x).symm
  rw [h0, h, h, h, show (1024 : ℕ) = 256 + 256 + 256 + 256 from rfl, Finset.sum_range_add, Finset.sum_range_add, Finset.sum_range_add]

theorem vals_at (n : ℕ) (k : ℕ) (hn : k / 256 = n) (r : Fin 144) (x : Fin 256) (hx : k % 256 = x.val) :
    (if h : r.val < 128 then vals (F := Ideal) (toE W) n (ix4 0 0 ⟨r.val, h⟩ x) else 1) = ((weight W r k : ℝ) : EReal) := by
  unfold weight
  split
  · rename_i h
    have e : (Fin.ofNat 256 k : Fin 256) = x := Fin.ext hx
    rw [hn, e, vals_ix]; rfl
  · rfl

/-- What holds after `n` keys: the next chunk's scores are ready, the running maximum and sums are those of the keys taken. -/
def Good (n : ℕ) (s : St Ideal) : Prop :=
  (∀ (a : Fin 1024) (b : Fin 2048), s.sc (ix3 0 a b) = ((score q K b (n + a.val) : ℝ) : EReal))
    ∧ ∀ (r : Fin 144) (b : Fin 2048), Inv (score q K b) (weight W r) n (s.mx (ix2 0 b)) (s.acc (ix2 r b))

/-- One chunk taken in. -/
theorem chunk {n c : ℕ} (hc : n = 256 * c) (sc : FVec Ideal S1x1024x2048 .f32) (mx : FVec Ideal S1x2048 .f32) (acc : FVec Ideal S144x2048 .f32)
    (hs : ∀ (a : Fin 1024) (b : Fin 2048), sc (ix3 0 a b) = ((score q K b (n + a.val) : ℝ) : EReal))
    (h : ∀ (r : Fin 144) (b : Fin 2048), Inv (score q K b) (weight W r) n (mx (ix2 0 b)) (acc (ix2 r b))) (r : Fin 144) (b : Fin 2048) :
    Inv (score q K b) (weight W r) (n + 1024) (stepM sc mx (ix2 0 b))
      (stepA sc mx (vals (F := Ideal) (toE W) c) (vals (F := Ideal) (toE W) (c + 1)) (vals (F := Ideal) (toE W) (c + 2)) (vals (F := Ideal) (toE W) (c + 3)) acc (ix2 r b)) := by
  have hM : stepM sc mx (ix2 0 b) = max (mx (ix2 0 b)) (Finset.univ.fold max ⊥ fun j : Fin 1024 => ((score q K b (n + j.val) : ℝ) : EReal)) := by
    rw [stepM_at]; congr 2; funext a; exact hs a b
  have hA : stepA sc mx (vals (F := Ideal) (toE W) c) (vals (F := Ideal) (toE W) (c + 1)) (vals (F := Ideal) (toE W) (c + 2)) (vals (F := Ideal) (toE W) (c + 3)) acc (ix2 r b)
      = Ideal.exp2 (mx (ix2 0 b) - stepM sc mx (ix2 0 b)) * acc (ix2 r b)
        + ∑ j ∈ Finset.range 1024, ((weight W r (n + j) : ℝ) : EReal) * Ideal.exp2 (((score q K b (n + j) : ℝ) : EReal) - stepM sc mx (ix2 0 b)) := by
    rw [stepA_at, ← four_blocks]
    have e : ∀ (d i : ℕ) (hd : d = 256 * i) (hi : d + 256 ≤ 1024) (x : Fin 256),
        (if h : r.val < 128 then vals (F := Ideal) (toE W) (c + i) (ix4 0 0 ⟨r.val, h⟩ x) else 1)
            * Ideal.exp2 (sc (ix3 0 ⟨d + x.val, by omega⟩ b) - stepM sc mx (ix2 0 b))
          = ((weight W r (n + (d + x.val)) : ℝ) : EReal) * Ideal.exp2 (((score q K b (n + (d + x.val)) : ℝ) : EReal) - stepM sc mx (ix2 0 b)) := by
      intro d i hd hi x
      rw [vals_at W (c + i) (n + (d + x.val)) (by omega) r x (by omega), hs]
    have e0 : ∀ (x : Fin 256),
        (if h : r.val < 128 then vals (F := Ideal) (toE W) c (ix4 0 0 ⟨r.val, h⟩ x) else 1)
            * Ideal.exp2 (sc (ix3 0 ⟨x.val, by omega⟩ b) - stepM sc mx (ix2 0 b))
          = ((weight W r (n + x.val) : ℝ) : EReal) * Ideal.exp2 (((score q K b (n + x.val) : ℝ) : EReal) - stepM sc mx (ix2 0 b)) := by
      intro x
      rw [vals_at W c (n + x.val) (by omega) r x (by omega), hs]
    exact congrArg₂ (· + ·) rfl (congrArg₂ (· + ·) (congrArg₂ (· + ·) (congrArg₂ (· + ·) (Finset.sum_congr rfl fun x _ => e0 x)
      (Finset.sum_congr rfl fun x _ => e 256 1 rfl (by omega) x)) (Finset.sum_congr rfl fun x _ => e 512 2 rfl (by omega) x))
      (Finset.sum_congr rfl fun x _ => e 768 3 rfl (by omega) x))
  rw [hA, hM]
  exact (h r b).step (by norm_num)

/-- A trip takes two chunks in. -/
theorem trip_eq (k : ℕ) (qq : FVec Ideal S128x2048 .bf16) (V : FVec Ideal S1x33x128x256 .bf16) (X : FVec Ideal S1x8448x128 .bf16) (s : St Ideal) :
    tripSt (F := Ideal) X V qq k s
      = ⟨k0_pay2 (F := Ideal) (keys (F := Ideal) X (2048 * k + 2048)) qq,
         stepM (k0_pay2 (F := Ideal) (keys (F := Ideal) X (2048 * k + 1024)) qq) (stepM s.sc s.mx),
         stepA (k0_pay2 (F := Ideal) (keys (F := Ideal) X (2048 * k + 1024)) qq) (stepM s.sc s.mx) (vals (F := Ideal) V (8 * k + 4)) (vals (F := Ideal) V (8 * k + 5)) (vals (F := Ideal) V (8 * k + 6)) (vals (F := Ideal) V (8 * k + 7))
           (stepA s.sc s.mx (vals (F := Ideal) V (8 * k)) (vals (F := Ideal) V (8 * k + 1)) (vals (F := Ideal) V (8 * k + 2)) (vals (F := Ideal) V (8 * k + 3)) s.acc)⟩ := rfl

theorem Good.trip (k : ℕ) (s : St Ideal) (h : Good q K W (2048 * k) s) :
    Good q K W (2048 * (k + 1)) (tripSt (F := Ideal) (toE K) (toE W) (k0_pay16 (F := Ideal) (toE q)) k s) := by
  rw [trip_eq]
  refine ⟨fun a b => ?_, fun r b => ?_⟩
  · exact score_at q K (2048 * k + 2048) a b
  · have h1 := chunk q K W (n := 2048 * k) (c := 8 * k) (by omega) s.sc s.mx s.acc h.1 h.2
    exact chunk q K W (n := 2048 * k + 1024) (c := 8 * k + 4) (by omega) _ _ _ (fun a b => score_at q K (2048 * k + 1024) a b) h1 r b

theorem Good.start : Good q K W 0 (st0 (F := Ideal) (toE K) (k0_pay16 (F := Ideal) (toE q))) := by
  refine ⟨fun a b => score_at q K 0 a b, fun r b => .inl ⟨rfl, ?_, ?_⟩⟩
  · show k0_pay17 (F := Ideal) (ix2 0 b) = ⊥
    pointwise [k0_pay17]; exact negInf
  · show k0_pay18 (F := Ideal) (ix2 r b) = 0
    pointwise [k0_pay18]

theorem Good.loop (n : ℕ) : Good q K W (2048 * n) (stAt (F := Ideal) (toE K) (toE W) (k0_pay16 (F := Ideal) (toE q)) (st0 (F := Ideal) (toE K) (k0_pay16 (F := Ideal) (toE q))) n) := by
  induction n with
  | zero => exact Good.start q K W
  | succ n ih => exact Good.trip q K W n _ ih

/-- The sums after all the keys. -/
theorem accAll_at (b : Fin 2048) : ∃ m : EReal, ∀ r : Fin 144,
    Inv (score q K b) (weight W r) 8448 m (accAll (F := Ideal) (toE q) (toE K) (toE W) (ix2 r b)) := by
  have h := Good.loop q K W 3
  generalize hs : stAt (F := Ideal) (toE K) (toE W) (k0_pay16 (F := Ideal) (toE q)) (st0 (F := Ideal) (toE K) (k0_pay16 (F := Ideal) (toE q))) 3 = s at h
  have h7 := chunk q K W (n := 2048 * 3) (c := 24) (by omega) s.sc s.mx s.acc h.1 h.2
  have h8 := chunk q K W (n := 2048 * 3 + 1024) (c := 28) (by omega) _ _ _ (fun a b => score_at q K (2048 * 3 + 1024) a b) h7
  refine ⟨max (stepM (k0_pay2 (F := Ideal) (keys (F := Ideal) (toE K) (2048 * 3 + 1024)) (k0_pay16 (F := Ideal) (toE q))) (stepM s.sc s.mx) (ix2 0 b))
    (Finset.univ.fold max ⊥ fun j : Fin 256 => ((score q K b (8192 + j.val) : ℝ) : EReal)), fun r => ?_⟩
  have h9 := (h8 r b).step (L := 256) (by norm_num)
  have e : accAll (F := Ideal) (toE q) (toE K) (toE W)
      = a9 (F := Ideal) (toE W) (k0_pay33 (F := Ideal) (k0_pay32 (F := Ideal) (keysTail (F := Ideal) (toE K) 8192) (k0_pay16 (F := Ideal) (toE q))))
          (stepM (k0_pay2 (F := Ideal) (keys (F := Ideal) (toE K) (2048 * 3 + 1024)) (k0_pay16 (F := Ideal) (toE q))) (stepM s.sc s.mx))
          (stepA (k0_pay2 (F := Ideal) (keys (F := Ideal) (toE K) (2048 * 3 + 1024)) (k0_pay16 (F := Ideal) (toE q))) (stepM s.sc s.mx)
            (vals (F := Ideal) (toE W) 28) (vals (F := Ideal) (toE W) 29) (vals (F := Ideal) (toE W) 30) (vals (F := Ideal) (toE W) 31)
            (stepA s.sc s.mx (vals (F := Ideal) (toE W) 24) (vals (F := Ideal) (toE W) 25) (vals (F := Ideal) (toE W) 26) (vals (F := Ideal) (toE W) 27) s.acc)) := by
    subst hs; rfl
  rw [e, a9_at]
  simp only [tail_score_at]
  have ef : (∑ x : Fin 256, (if h : r.val < 128 then vals (F := Ideal) (toE W) 32 (ix4 0 0 ⟨r.val, h⟩ x) else 1)
        * Ideal.exp2 (((score q K b (8192 + x.val) : ℝ) : EReal) - max (stepM (k0_pay2 (F := Ideal) (keys (F := Ideal) (toE K) (2048 * 3 + 1024)) (k0_pay16 (F := Ideal) (toE q))) (stepM s.sc s.mx) (ix2 0 b)) (Finset.univ.fold max ⊥ fun j : Fin 256 => ((score q K b (8192 + j.val) : ℝ) : EReal))))
      = ∑ j ∈ Finset.range 256, ((weight W r (8192 + j) : ℝ) : EReal)
        * Ideal.exp2 (((score q K b (8192 + j) : ℝ) : EReal) - max (stepM (k0_pay2 (F := Ideal) (keys (F := Ideal) (toE K) (2048 * 3 + 1024)) (k0_pay16 (F := Ideal) (toE q))) (stepM s.sc s.mx) (ix2 0 b)) (Finset.univ.fold max ⊥ fun j : Fin 256 => ((score q K b (8192 + j.val) : ℝ) : EReal))) := by
    rw [Finset.sum_range]
    refine Finset.sum_congr rfl fun x _ => ?_
    rw [vals_at W 32 (8192 + x.val) (by omega) r x (by omega)]
  rw [ef]
  exact h9

end Cert.Kernel7Ideal.Att

end
-- ==== Proof.Att2.Out.lean ====
/- What the body writes at an index: the normalised difference of two softmax averages. -/
module

public import proofs.«01_k».proof.Proof.Att2.KernelIdealBody
public import proofs.«01_k».proof.Proof.Att2.Pay

@[expose] public section

set_option maxRecDepth 16384

noncomputable section

namespace Cert.Kernel7Ideal.Att

open Cert.Kernel7Ideal Cert.Kernel7Ideal.Gen
open Idealize.ShloMosaic Idealize.ShloMosaic.TcCoe

open Cert.Online

theorem outOf_at (l : FVec Ideal S4x64 .f32) (g : FVec Ideal S1x128 .f32) (a : FVec Ideal S144x2048 .f32) (r : Fin 1024) (e : Fin 128) :
    outOf (F := Ideal) l g a (ix2 r e)
      = tail2 (fun x => Ideal.div (a (ix2 ⟨x.val, by omega⟩ ⟨r.val, by omega⟩)) (a (ix2 128 ⟨r.val, by omega⟩))
          - lamE2 (fun i k => l (ix2 i k)) * Ideal.div (a (ix2 ⟨x.val, by omega⟩ ⟨1024 + r.val, by omega⟩)) (a (ix2 128 ⟨1024 + r.val, by omega⟩))) (g (ix2 0 e)) e := by
  have h0 : ∀ (x : Fin 128) (c : Fin 2048), VecWindow.window a ![0, 0] S128x2048.size (by decide) (ix2 x c) = a (ix2 ⟨x.val, by omega⟩ c) := fun x c =>
    congrArg a (funext fun j => by
      match j with
      | ⟨0, _⟩ => exact Fin.ext (show 0 + 1 * x.val = x.val by omega)
      | ⟨1, _⟩ => exact Fin.ext (show 0 + 1 * c.val = c.val by omega))
  have h1 : ∀ (c : Fin 2048), VecWindow.window a ![128, 0] S1x2048.size (by decide) (ix2 0 c) = a (ix2 128 c) := fun c =>
    congrArg a (funext fun j => by
      match j with
      | ⟨0, _⟩ => rfl
      | ⟨1, _⟩ => exact Fin.ext (show 0 + 1 * c.val = c.val by omega))
  unfold outOf
  generalize VecWindow.window a ![0, 0] S128x2048.size _ = A at h0 ⊢
  generalize VecWindow.window a ![128, 0] S1x2048.size _ = L at h1 ⊢
  simp only [← h0, ← h1]
  unfold tail2 lamE2
  pointwise [k0_pay1, k0_pay46, k0_pay47]

end Cert.Kernel7Ideal.Att

end
-- ==== Proof.Att2.OutReal.lean ====
/- What the body writes for finite queries, keys and values, over the reals. -/
module

public import proofs.«01_k».proof.Proof.Att2.Out

@[expose] public section

set_option maxRecDepth 16384

noncomputable section

namespace Cert.Kernel7Ideal.Att

open Cert.Kernel7Ideal Cert.Kernel7Ideal.Gen
open Idealize.ShloMosaic Idealize.ShloMosaic.TcCoe

open Cert.Online

variable (q : S1024x128.Idx → ℝ) (K : S1x8448x128.Idx → ℝ) (W : S1x33x128x256.Idx → ℝ)

/-- The score of key `k` for query `r` of the block, in half `c`. -/
def bsc (c : Fin 2) (r : Fin 1024) (k : Fin 8448) : ℝ :=
  ∑ d : Fin 64, q (ix2 r ⟨c.val * 64 + d.val, by omega⟩) * K (ix3 0 k ⟨c.val * 64 + d.val, by omega⟩)

theorem score_half0 (r : Fin 1024) (k : Fin 8448) : score q K ⟨r.val, by omega⟩ k.val = bsc q K 0 r k := by
  have hc : ∀ d : Fin 128, qcol q ⟨r.val, by omega⟩ d = if d.val < 64 then q (ix2 r d) else 0 := fun d => dif_pos r.isLt
  unfold score bsc
  simp only [hc]
  rw [Fin.sum_univ_add (a := 64) (b := 64)]
  have hk : Fin.ofNat 8448 k.val = k := Fin.ext (Nat.mod_eq_of_lt k.isLt)
  rw [hk]
  have z : ∀ d : Fin 64, K (ix3 0 k (Fin.natAdd 64 d)) * (if (Fin.natAdd 64 d : Fin (64 + 64)).val < 64 then q (ix2 r (Fin.natAdd 64 d)) else 0) = 0 := fun d => by
    rw [if_neg (by simp), mul_zero]
  rw [Finset.sum_congr rfl fun d _ => z d, Finset.sum_const_zero, add_zero]
  refine Finset.sum_congr rfl fun d _ => ?_
  have e : (Fin.castAdd 64 d : Fin 128) = ⟨(0 : Fin 2).val * 64 + d.val, by have := d.isLt; simp; omega⟩ := Fin.ext (by simp)
  rw [if_pos (by simp), mul_comm, e]

theorem score_half1 (r : Fin 1024) (k : Fin 8448) : score q K ⟨1024 + r.val, by omega⟩ k.val = bsc q K 1 r k := by
  have hr : (⟨1024 + r.val - 1024, by omega⟩ : Fin 1024) = r := Fin.ext (Nat.add_sub_cancel_left _ _)
  have hc : ∀ d : Fin 128, qcol q ⟨1024 + r.val, by omega⟩ d = if 64 ≤ d.val then q (ix2 r d) else 0 := fun d =>
    (dif_neg (by simp)).trans (by rw [hr])
  unfold score bsc
  simp only [hc]
  rw [Fin.sum_univ_add (a := 64) (b := 64)]
  have hk : Fin.ofNat 8448 k.val = k := Fin.ext (Nat.mod_eq_of_lt k.isLt)
  rw [hk]
  have z : ∀ d : Fin 64, K (ix3 0 k (Fin.castAdd 64 d)) * (if 64 ≤ (Fin.castAdd 64 d : Fin (64 + 64)).val then q (ix2 r (Fin.castAdd 64 d)) else 0) = 0 := fun d => by
    rw [if_neg (by simp), mul_zero]
  rw [Finset.sum_congr rfl fun d _ => z d, Finset.sum_const_zero, zero_add]
  refine Finset.sum_congr rfl fun d _ => ?_
  have e : (Fin.natAdd 64 d : Fin 128) = ⟨(1 : Fin 2).val * 64 + d.val, by have := d.isLt; simp; omega⟩ := Fin.ext (by simp [Nat.add_comm])
  rw [if_pos (by simp), mul_comm, e]

/-- A block's average of the values under the softmax of one half's scores. -/
def bav (c : Fin 2) (r : Fin 1024) (x : Fin 128) : ℝ :=
  (∑ k : Fin 8448, W (ix4 0 ⟨k.val / 256, by omega⟩ x ⟨k.val % 256, by omega⟩) * (2 : ℝ) ^ bsc q K c r k) / ∑ k : Fin 8448, (2 : ℝ) ^ bsc q K c r k

/-- A quotient of two running sums of one column is that average. -/
theorem quot (c : Fin 2) (r : Fin 1024) (x : Fin 128) (b : Fin 2048) (hb : ∀ k : Fin 8448, score q K b k.val = bsc q K c r k) :
    Ideal.div (accAll (F := Ideal) (toE q) (toE K) (toE W) (ix2 ⟨x.val, by omega⟩ b)) (accAll (F := Ideal) (toE q) (toE K) (toE W) (ix2 128 b))
      = ((bav q K W c r x : ℝ) : EReal) := by
  obtain ⟨m, hm⟩ := accAll_at q K W b
  have h1 : weight W 128 = fun _ => 1 := funext fun k => by unfold weight; rw [dif_neg (by decide)]
  have hl := hm 128
  rw [h1] at hl
  rw [Inv.ratio (by norm_num) (hm ⟨x.val, by omega⟩) hl]
  refine congrArg (fun t : ℝ => (t : EReal)) ?_
  rw [Finset.sum_range, Finset.sum_range]
  unfold bav
  refine congrArg₂ (· / ·) ?_ ?_
  · refine Finset.sum_congr rfl fun k _ => ?_
    rw [hb k]
    refine congrArg (· * _) ?_
    unfold weight
    rw [dif_pos x.isLt]
    have e1 : Fin.ofNat 33 (k.val / 256) = ⟨k.val / 256, by omega⟩ := Fin.ext (Nat.mod_eq_of_lt (by omega))
    have e2 : Fin.ofNat 256 k.val = ⟨k.val % 256, by omega⟩ := Fin.ext rfl
    rw [e1, e2]
  · exact Finset.sum_congr rfl fun k _ => by rw [hb k]

/-- The output block at an index. -/
theorem out_real (l : FVec Ideal S4x64 .f32) (g : FVec Ideal S1x128 .f32) (L : ℝ) (hL : lamE2 (fun i k => l (ix2 i k)) = (L : EReal)) (r : Fin 1024) (e : Fin 128) :
    out (F := Ideal) l g (toE q) (toE K) (toE W) (ix2 r e)
      = tail2 (fun x => ((bav q K W 0 r x - L * bav q K W 1 r x : ℝ) : EReal)) (g (ix2 0 e)) e := by
  unfold out
  rw [outOf_at]
  refine congrArg (fun f => tail2 f (g (ix2 0 e)) e) (funext fun x => ?_)
  rw [quot q K W 0 r x _ (score_half0 q K r), quot q K W 1 r x _ (score_half1 q K r), hL, ← EReal.coe_mul, ← EReal.coe_sub]

end Cert.Kernel7Ideal.Att

end
-- ==== Proof.Att2.Array.lean ====
/- The output array after the run: every row and column, from the arguments. -/
module

public import proofs.«01_k».proof.Proof.Att2.KernelIdealRun
public import proofs.«01_k».proof.Proof.Att2.OutReal
public import proofs.«01_k».proof.Proof.Att2.Math
public import Idealize.ShloMosaic.Lib.Pipeline.ValueKit
public import Idealize.ShloMosaic.Lib.Claim

@[expose] public section

set_option maxRecDepth 16384

noncomputable section

namespace Cert.Kernel7Ideal.Att

open Cert.Kernel7Ideal Cert.Kernel7Ideal.Gen
open Idealize.ShloMosaic Idealize.ShloMosaic.TcCoe Idealize.SL.Sem
open Idealize.ShloMosaic.Pipeline (Dat)
open Cert.Online Cert.Att

/-- Where each window's block lies, at every point. -/
theorem idx : ∀ t : Fin cfg0.N, win0_0.index t = ![0, 0] ∧ win0_1.index t = ![0, 0]
    ∧ win0_2.index t = ![(grid0.coords t 0).val * 8 + (grid0.coords t 2).val, (grid0.coords t 1).val]
    ∧ win0_3.index t = ![(grid0.coords t 0).val, 0, (grid0.coords t 1).val]
    ∧ win0_4.index t = ![(grid0.coords t 0).val, 0, (grid0.coords t 1).val, 0]
    ∧ win0_5.index t = ![(grid0.coords t 0).val * 8 + (grid0.coords t 2).val, (grid0.coords t 1).val] :=
  (by decide +kernel : ∀ t : Fin grid0.N, _)

theorem covers : (cfg0.win 5).Covers := by decide +kernel

variable (m : (ℓ : Loc nD τ sig) → Buf (Elt Ideal) ℓ) (c : Dev nD) (t : Fin cfg0.N)

/-- The batch, the head and the tile of rows of a point. -/
def pb : Fin 2 := ⟨(grid0.coords t 0).val, (grid0.coords t 0).isLt⟩
def ph : Fin 8 := ⟨(grid0.coords t 1).val, (grid0.coords t 1).isLt⟩
def pt : Fin 8 := ⟨(grid0.coords t 2).val, (grid0.coords t 2).isLt⟩

theorem lam_at (i : Fin 4) (k : Fin 64) : (iblk m c 0 t : FVec Ideal S4x64 .f32) (ix2 i k) = (m ((c : Thread nD τ).loc main_arg3) : FVec Ideal S4x64 .f32) (ix2 i k) := by
  blk_ext [iblk, V, idx t]

theorem q_at (a : Fin 1024) (d : Fin 128) : (X0_2 m c t : FVec Ideal S1024x128 .bf16) (ix2 a d)
    = (m ((c : Thread nD τ).loc main_arg0) : FVec Ideal S16896x1024 .bf16) (ix2 ⟨((pb t).val * 8 + (pt t).val) * 1024 + a.val, by omega⟩ ⟨(ph t).val * 128 + d.val, by omega⟩) := by
  unfold X0_2 Pipeline.Window.fill
  rw [dif_pos (moved0_2 t _)]
  blk_ext [iblk, V, idx t, pb, ph, pt]

theorem k_at (a : Fin 8448) (d : Fin 128) : (iblk m c 3 t : FVec Ideal S1x8448x128 .bf16) (ix3 0 a d)
    = (m ((c : Thread nD τ).loc main_arg1) : FVec Ideal S2x8448x1024 .bf16) (ix3 (pb t) a ⟨(ph t).val * 128 + d.val, by omega⟩) := by
  blk_ext [iblk, V, idx t, pb, ph, pt]

theorem v_at (x : Fin 33) (a : Fin 128) (d : Fin 256) : (iblk m c 4 t : FVec Ideal S1x33x128x256 .bf16) (ix4 0 x a d)
    = (m ((c : Thread nD τ).loc main_arg2) : FVec Ideal S2x33x1024x256 .bf16) (ix4 (pb t) x ⟨(ph t).val * 128 + a.val, by omega⟩ d) := by
  blk_ext [iblk, V, idx t, pb, ph, pt]

theorem g_at (e : Fin 128) : (iblk m c 1 t : FVec Ideal S1x128 .f32) (ix2 0 e) = (m ((c : Thread nD τ).loc main_arg4) : FVec Ideal S128 .f32) (ix1 e) := by
  have h : (V m c main_v0 : FVec Ideal S1x128 .f32) = shapeCast S1x128 (m ((c : Thread nD τ).loc main_arg4) : FVec Ideal S128 .f32) shapeCasts_S128_S1x128 := by
    entry_read
    rfl
  have h2 : (iblk m c 1 t : FVec Ideal S1x128 .f32) (ix2 0 e) = (V m c main_v0 : FVec Ideal S1x128 .f32) (ix2 0 e) := by
    blk_ext [iblk, idx t]
  rw [h2, h]
  pointwise []

/-- The attention as an array. -/
def G (Q : Fin 16896 → Fin 1024 → ℝ) (K : Fin 2 → Fin 8448 → Fin 1024 → ℝ) (W : Fin 2 → Fin 33 → Fin 1024 → Fin 256 → ℝ) (L : ℝ) (g : Fin 128 → EReal) :
    FVec Ideal S16384x1024 .bf16 := fun j => res2 Q K W L g (j 0) (j 1)

/-- Where row `r` and column `e` of a point's output block lie in the array. -/
theorem G_emb (f : FVec Ideal S16384x1024 .bf16) (y : ((cfg0.win 5).xblock (cfg0.grid.coords t)).Idx) : f ((win0_5.blk t).view.emb y)
    = f (ix2 ⟨((pb t).val * 8 + (pt t).val) * 1024 + (show Fin 1024 from y 0).val, by have := (show Fin 1024 from y 0).isLt; omega⟩
        ⟨(ph t).val * 128 + (show Fin 128 from y 1).val, by have := (show Fin 128 from y 1).isLt; omega⟩) := by
  blk_ext [idx t, pb, ph, pt]

/-- An array that each point's block agrees with, whatever the points write, is what the output array ends holding. -/
theorem final_of (o : Fin cfg0.N → FVec Ideal S1024x128 .bf16) (f : FVec Ideal S16384x1024 .bf16) (ho : ∀ t, (dats m 0 c).after 5 t = o t)
    (hf : ∀ (t : Fin cfg0.N) (r : Fin 1024) (e : Fin 128), o t (ix2 r e)
      = f (ix2 ⟨((pb t).val * 8 + (pt t).val) * 1024 + r.val, by omega⟩ ⟨(ph t).val * 128 + e.val, by omega⟩)) : (dats m 0 c).arrAt 5 cfg0.N = f := by
  generalize dats m 0 c = D at ho ⊢
  refine D.arrAt_eq_of_covers 5 f covers fun t _ y => ?_
  blk_simp
  rw [ho]
  refine Eq.trans ?_ (G_emb t f y).symm
  refine Eq.trans ?_ (hf t (show Fin 1024 from y 0) (show Fin 128 from y 1))
  have hy : y = ix2 (show Fin 1024 from y 0) (show Fin 128 from y 1) := funext fun a => by
    match a with
    | ⟨0, _⟩ => rfl
    | ⟨1, _⟩ => rfl
  exact congrArg (o t) hy

section Real

variable (Q : Fin 16896 → Fin 1024 → ℝ) (K : Fin 2 → Fin 8448 → Fin 1024 → ℝ) (W : Fin 2 → Fin 33 → Fin 1024 → Fin 256 → ℝ)
  (hQ : ∀ a b, (m ((c : Thread nD τ).loc main_arg0) : FVec Ideal S16896x1024 .bf16) (ix2 a b) = ((Q a b : ℝ) : EReal))
  (hK : ∀ a b d, (m ((c : Thread nD τ).loc main_arg1) : FVec Ideal S2x8448x1024 .bf16) (ix3 a b d) = ((K a b d : ℝ) : EReal))
  (hW : ∀ a x b d, (m ((c : Thread nD τ).loc main_arg2) : FVec Ideal S2x33x1024x256 .bf16) (ix4 a x b d) = ((W a x b d : ℝ) : EReal))

/-- A point's blocks of queries, keys and values. -/
def bq : S1024x128.Idx → ℝ := fun j =>
  Q ⟨((pb t).val * 8 + (pt t).val) * 1024 + (show Fin 1024 from j 0).val, by have := (show Fin 1024 from j 0).isLt; omega⟩
    ⟨(ph t).val * 128 + (show Fin 128 from j 1).val, by have := (show Fin 128 from j 1).isLt; omega⟩

def bk : S1x8448x128.Idx → ℝ := fun j => K (pb t) (j 1) ⟨(ph t).val * 128 + (show Fin 128 from j 2).val, by have := (show Fin 128 from j 2).isLt; omega⟩

def bv : S1x33x128x256.Idx → ℝ := fun j => W (pb t) (j 1) ⟨(ph t).val * 128 + (show Fin 128 from j 2).val, by have := (show Fin 128 from j 2).isLt; omega⟩ (j 3)

include hQ in
theorem q_eq : (X0_2 m c t : FVec Ideal S1024x128 .bf16) = toE (bq t Q) := by
  funext j
  idx_vars j
  rw [q_at, hQ]
  rfl

include hK in
theorem k_eq : (iblk m c 3 t : FVec Ideal S1x8448x128 .bf16) = toE (bk t K) := by
  funext j
  idx_vars j
  rw [show j0 = 0 from Subsingleton.elim _ _, k_at, hK]
  rfl

include hW in
theorem v_eq : (iblk m c 4 t : FVec Ideal S1x33x128x256 .bf16) = toE (bv t W) := by
  funext j
  idx_vars j
  rw [show j0 = 0 from Subsingleton.elim _ _, v_at, hW]
  rfl

/-- The row of the batch that row `r` of a point's block is. -/
def rowOf (r : Fin 1024) : Fin 8192 := ⟨(pt t).val * 1024 + r.val, by omega⟩

theorem bsc_eq (d : Fin 2) (r : Fin 1024) (k : Fin 8448) : bsc (bq t Q) (bk t K) d r k = sc Q K (pb t) (ph t) d (rowOf t r) k := by
  unfold bsc sc
  refine Finset.sum_congr rfl fun x _ => congrArg₂ (· * ·) (congrArg₂ Q ?_ ?_) (congrArg (K (pb t) k) ?_)
  · exact Fin.ext (show ((pb t).val * 8 + (pt t).val) * 1024 + r.val = (pb t).val * 8192 + ((pt t).val * 1024 + r.val) by omega)
  · exact Fin.ext (show (ph t).val * 128 + (d.val * 64 + x.val) = (ph t).val * 128 + d.val * 64 + x.val by omega)
  · exact Fin.ext (show (ph t).val * 128 + (d.val * 64 + x.val) = (ph t).val * 128 + d.val * 64 + x.val by omega)

/-- A point's difference of averages is the attention's at its batch, head and row. -/
theorem bav_eq (L : ℝ) (r : Fin 1024) (x : Fin 128) :
    bav (bq t Q) (bk t K) (bv t W) 0 r x - L * bav (bq t Q) (bk t K) (bv t W) 1 r x = ob Q K W L (pb t) (ph t) (rowOf t r) x := by
  rw [ob_eq]
  unfold bav
  simp only [bsc_eq]
  rfl

variable (L : ℝ) (hL : lamE2 (fun i k => (m ((c : Thread nD τ).loc main_arg3) : FVec Ideal S4x64 .f32) (ix2 i k)) = (L : EReal))

include hQ hK hW hL

/-- What a point writes, at row `r` and column `e` of its block. -/
theorem point (r : Fin 1024) (e : Fin 128) :
    out (F := Ideal) (iblk m c 0 t) (iblk m c 1 t) (X0_2 m c t) (iblk m c 3 t) (iblk m c 4 t) (ix2 r e)
      = res2 Q K W L (fun e => (m ((c : Thread nD τ).loc main_arg4) : FVec Ideal S128 .f32) (ix1 e))
          ⟨((pb t).val * 8 + (pt t).val) * 1024 + r.val, by omega⟩ ⟨(ph t).val * 128 + e.val, by omega⟩ := by
  have hl : lamE2 (fun i k => (iblk m c 0 t : FVec Ideal S4x64 .f32) (ix2 i k)) = (L : EReal) := by
    rw [← hL]; exact congrArg lamE2 (funext fun i => funext fun k => lam_at m c t i k)
  have h := out_real (bq t Q) (bk t K) (bv t W) (iblk m c 0 t : FVec Ideal S4x64 .f32) (iblk m c 1 t : FVec Ideal S1x128 .f32) L hl r e
  rw [← q_eq m c t Q hQ, ← k_eq m c t K hK, ← v_eq m c t W hW] at h
  refine h.trans ?_
  rw [g_at]
  simp only [bav_eq]
  unfold res2
  have e1 : (⟨(((pb t).val * 8 + (pt t).val) * 1024 + r.val) / 8192, by omega⟩ : Fin 2) = pb t := Fin.ext (show _ = (pb t).val by dsimp only; omega)
  have e2 : (⟨(((pb t).val * 8 + (pt t).val) * 1024 + r.val) % 8192, by omega⟩ : Fin 8192) = rowOf t r := Fin.ext (show _ = (pt t).val * 1024 + r.val by dsimp only; omega)
  have e3 : (⟨((ph t).val * 128 + e.val) / 128, by omega⟩ : Fin 8) = ph t := Fin.ext (show _ = (ph t).val by dsimp only; omega)
  have e4 : (⟨((ph t).val * 128 + e.val) % 128, by omega⟩ : Fin 128) = e := Fin.ext (show _ = e.val by dsimp only; omega)
  simp only [e1, e2, e3, e4]

/-- The output array after the run. -/
theorem final : (dats m 0 c).arrAt 5 cfg0.N
    = G Q K W L (fun e => (m ((c : Thread nD τ).loc main_arg4) : FVec Ideal S128 .f32) (ix1 e)) :=
  final_of m c (fun t => out (F := Ideal) (iblk m c 0 t) (iblk m c 1 t) (X0_2 m c t) (iblk m c 3 t) (iblk m c 4 t)) _ (after_5 m c)
    fun t r e => point m c t Q K W hQ hK hW L hL r e

end Real

end Cert.Kernel7Ideal.Att

end
-- ==== Proof.Att2.Ref.lean ====
/- The reference at an index: scores, softmax, the difference of the two maps, the average of the values, the normalisation. -/
module

public import proofs.«01_k».proof.Proof.Gen.Reference7Ideal.Run
public import proofs.«01_k».proof.Proof.Att2.Math
public import Idealize.ShloMosaic.Lib.Pointwise

@[expose] public section

noncomputable section

namespace Cert.Reference7Ideal.Att

open Cert.Reference7Ideal Cert.Reference7Ideal.Gen Cert.Reference7Ideal.Value
open Idealize.ShloMosaic Idealize.ShloMosaic.TcCoe
open Cert.Online

section Stages

variable {F : FTy → Type} [FloatOps F]

/-- The scores of every query of every half head against every key. -/
def scores (q : Vec F S16896x1024 .bf16) (k : Vec F S2x8448x1024 .bf16) : Vec F S2x8x2x8192x8448 .f32 :=
  mulf (Host.dotGeneral dot_S2x8192x8x2x64_S2x8448x8x2x64_S2x8x2x8192x8448_4_4_1_1_023_023 none
      (mulf (shapeCast _ (extf .f32 (extractStridedSlice S16384x1024 ![0, 0] q slices_S16896x1024_S16384x1024_0_0) bitsLt_bf16_f32) shapeCasts_S16384x1024_S2x8192x8x2x64)
        (broadcastInDim S2x8192x8x2x64 ![] bcast_S_S2x8192x8x2x64 (mulf (constant S_ .f32 0x41000000#32) (Host.log (constant S_ .f32 0x40000000#32)))))
      (shapeCast _ (extf .f32 k bitsLt_bf16_f32) shapeCasts_S2x8448x1024_S2x8448x8x2x64))
    (broadcastInDim S2x8x2x8192x8448 ![] bcast_S_S2x8x2x8192x8448 (constant S_ .f32 0x3E000000#32))

/-- The exponential of a score less its row's maximum `M`; -/
def expoOf (s : Vec F S2x8x2x8192x8448 .f32) (M : Vec F S2x8x2x8192 .f32) : Vec F S2x8x2x8192x8448 .f32 :=
  Host.exp (subf s (broadcastInDim S2x8x2x8192x8448 ![0, 1, 2, 3, 4] bcast_S2x8x2x8192x1_S2x8x2x8192x8448_0_1_2_3_4
    (broadcastInDim S2x8x2x8192x1 ![0, 1, 2, 3] bcast_S2x8x2x8192_S2x8x2x8192x1_0_1_2_3
      (maximumf (broadcastInDim S2x8x2x8192 ![] bcast_S_S2x8x2x8192 (constant S_ .f32 0xFF800000#32)) M))))

/-- that maximum taken over the keys; -/
def expo (s : Vec F S2x8x2x8192x8448 .f32) : Vec F S2x8x2x8192x8448 .f32 :=
  expoOf s (Host.reduce FloatOps.maximumf s (constant S_ .f32 0xFF800000#32) reducesTo_S2x8x2x8192x8448_S2x8x2x8192_d4 h_S_)

/-- over the row's sum of these. -/
def soft (x : Vec F S2x8x2x8192x8448 .f32) : Vec F S2x8x2x8192x8448 .f32 :=
  Host.divf x (broadcastInDim S2x8x2x8192x8448 ![0, 1, 2, 3, 4] bcast_S2x8x2x8192x1_S2x8x2x8192x8448_0_1_2_3_4
    (broadcastInDim S2x8x2x8192x1 ![0, 1, 2, 3] bcast_S2x8x2x8192_S2x8x2x8192x1_0_1_2_3
      (Host.reduceAdd x (constant S_ .f32 0x00000000#32) reducesTo_S2x8x2x8192x8448_S2x8x2x8192_d4 h_S_)))

/-- The mixing coefficient. -/
def coef (l : Vec F S4x64 .f32) : Vec F S_ .f32 :=
  addf (subf
      (Host.exp (Host.reduceAdd (mulf (shapeCast _ (extractStridedSlice S1x64 ![0, 0] l slices_S4x64_S1x64_0_0) shapeCasts_S1x64_S64)
        (shapeCast _ (extractStridedSlice S1x64 ![1, 0] l slices_S4x64_S1x64_1_0) shapeCasts_S1x64_S64)) (constant S_ .f32 0x00000000#32) reducesTo_S64_S_d0 h_S_))
      (Host.exp (Host.reduceAdd (mulf (shapeCast _ (extractStridedSlice S1x64 ![2, 0] l slices_S4x64_S1x64_2_0) shapeCasts_S1x64_S64)
        (shapeCast _ (extractStridedSlice S1x64 ![3, 0] l slices_S4x64_S1x64_3_0) shapeCasts_S1x64_S64)) (constant S_ .f32 0x00000000#32) reducesTo_S64_S_d0 h_S_)))
    (constant S_ .f32 0x3EF1014C#32)

/-- The first map less the coefficient times the second. -/
def mix (l : Vec F S_ .f32) (p : Vec F S2x8x2x8192x8448 .f32) : Vec F S2x8x8192x8448 .f32 :=
  subf (shapeCast _ (extractStridedSlice S2x8x1x8192x8448 ![0, 0, 0, 0, 0] p slices_S2x8x2x8192x8448_S2x8x1x8192x8448_0_0_0_0_0) shapeCasts_S2x8x1x8192x8448_S2x8x8192x8448)
    (mulf (broadcastInDim S2x8x8192x8448 ![] bcast_S_S2x8x8192x8448 l)
      (shapeCast _ (extractStridedSlice S2x8x1x8192x8448 ![0, 0, 1, 0, 0] p slices_S2x8x2x8192x8448_S2x8x1x8192x8448_0_0_1_0_0) shapeCasts_S2x8x1x8192x8448_S2x8x8192x8448))

/-- The values averaged by the mixed map. -/
def avg (v : Vec F S2x33x1024x256 .bf16) (a : Vec F S2x8x8192x8448 .f32) : Vec F S2x8192x8x128 .f32 :=
  transpose S2x8192x8x128 [0, 3, 1, 2] (Host.dotGeneral dot_S2x8448x8x128_S2x8x8192x8448_S2x8x128x8192_1_3_3_2_02_01 none
    (shapeCast _ (transpose S2x33x256x1024 [0, 1, 3, 2] (extf .f32 v bitsLt_bf16_f32) transposes_S2x33x1024x256_S2x33x256x1024_0_1_3_2) shapeCasts_S2x33x256x1024_S2x8448x8x128)
    a) transposes_S2x8x128x8192_S2x8192x8x128_0_3_1_2

/-- The normalisation of each head's row, and the result's layout. -/
def norm (o : Vec F S2x8192x8x128 .f32) (g : Vec F S128 .f32) : Vec F S16384x1024 .bf16 :=
  truncf .bf16 (shapeCast _ (mulf (mulf (mulf o (broadcastInDim S2x8192x8x128 ![0, 1, 2, 3] bcast_S2x8192x8x1_S2x8192x8x128_0_1_2_3
      (Host.rsqrt (addf (Host.divf (broadcastInDim S2x8192x8x1 ![0, 1, 2] bcast_S2x8192x8_S2x8192x8x1_0_1_2
          (Host.reduceAdd (mulf o o) (constant S_ .f32 0x00000000#32) reducesTo_S2x8192x8x128_S2x8192x8_d3 h_S_))
          (broadcastInDim S2x8192x8x1 ![] bcast_S_S2x8192x8x1 (constant S_ .f32 0x43000000#32)))
        (broadcastInDim S2x8192x8x1 ![] bcast_S_S2x8192x8x1 (constant S_ .f32 0x3727C5AC#32))))))
      (broadcastInDim S2x8192x8x128 ![0, 1, 2, 3] bcast_S1x1x1x128_S2x8192x8x128_0_1_2_3 (broadcastInDim S1x1x1x128 ![3] bcast_S128_S1x1x1x128_3 g)))
      (broadcastInDim S2x8192x8x128 ![] bcast_S_S2x8192x8x128 (constant S_ .f32 0x3F077F5A#32))) shapeCasts_S2x8192x8x128_S16384x1024) bitsLt_bf16_f32

/-- The reference's result is these stages, one after the other. -/
theorem res_eq (m : (ℓ : Loc nD τ sig) → Buf (Elt F) ℓ) (c : Dev nD) :
    res_main_v67 m c = norm (avg (m ((c.tc : Thread nD τ).loc main_arg2)) (mix (coef (m ((c.tc : Thread nD τ).loc main_arg3)))
      (soft (expo (scores (m ((c.tc : Thread nD τ).loc main_arg0)) (m ((c.tc : Thread nD τ).loc main_arg1))))))) (m ((c.tc : Thread nD τ).loc main_arg4)) := rfl

end Stages

theorem scores_at (q : FVec Ideal S16896x1024 .bf16) (k : FVec Ideal S2x8448x1024 .bf16) (b : Fin 2) (h : Fin 8) (c : Fin 2) (i : Fin 8192) (j : Fin 8448) :
    scores (F := Ideal) q k (ix5 b h c i j)
      = (∑ d : Fin 64, q (ix2 ⟨b.val * 8192 + i.val, by omega⟩ ⟨h.val * 128 + c.val * 64 + d.val, by omega⟩)
          * (Ideal.ofBits .f32 0x41000000#32 * Ideal.log (Ideal.ofBits .f32 0x40000000#32))
          * k (ix3 b j ⟨h.val * 128 + c.val * 64 + d.val, by omega⟩)) * Ideal.ofBits .f32 0x3E000000#32 := by
  unfold scores
  pointwise []

theorem soft_at (s : FVec Ideal S2x8x2x8192x8448 .f32) (b : Fin 2) (h : Fin 8) (c : Fin 2) (i : Fin 8192) (j : Fin 8448) :
    soft (F := Ideal) s (ix5 b h c i j) = Ideal.div (s (ix5 b h c i j)) (∑ x : Fin 8448, s (ix5 b h c i x)) := by
  unfold soft
  pointwise []

theorem coef_at (l : FVec Ideal S4x64 .f32) : coef (F := Ideal) l ix0 = lamE2 (fun i k => l (ix2 i k)) := by
  unfold coef lamE2
  pointwise []

theorem mix_at (l : FVec Ideal S_ .f32) (p : FVec Ideal S2x8x2x8192x8448 .f32) (b : Fin 2) (h : Fin 8) (i : Fin 8192) (j : Fin 8448) :
    mix (F := Ideal) l p (ix4 b h i j) = p (ix5 b h 0 i j) - l ix0 * p (ix5 b h 1 i j) := by
  unfold mix
  pointwise []

theorem avg_at (v : FVec Ideal S2x33x1024x256 .bf16) (a : FVec Ideal S2x8x8192x8448 .f32) (b : Fin 2) (i : Fin 8192) (h : Fin 8) (e : Fin 128) :
    avg (F := Ideal) v a (ix4 b i h e)
      = ∑ j : Fin 8448, v (ix4 b ⟨j.val / 256, by omega⟩ ⟨h.val * 128 + e.val, by omega⟩ ⟨j.val % 256, by omega⟩) * a (ix4 b h i j) := by
  unfold avg
  pointwise []

theorem norm_at (o : FVec Ideal S2x8192x8x128 .f32) (g : FVec Ideal S128 .f32) (r : Fin 16384) (x : Fin 1024) :
    norm (F := Ideal) o g (ix2 r x)
      = tail2 (fun e => o (ix4 ⟨r.val / 8192, by omega⟩ ⟨r.val % 8192, by omega⟩ ⟨x.val / 128, by omega⟩ e)) (g (ix1 ⟨x.val % 128, by omega⟩)) ⟨x.val % 128, by omega⟩ := by
  unfold norm tail2
  pointwise []

end Cert.Reference7Ideal.Att

end
-- ==== Proof.Att2.RefValue.lean ====
/- The reference's result for finite queries, keys, values and lambda vectors: the attention over the reals. -/
module

public import proofs.«01_k».proof.Proof.Gen.Reference7Ideal.Run
public import proofs.«01_k».proof.Proof.Att2.Ref
public import proofs.«01_k».proof.Proof.Att2.Math
public import Idealize.ShloMosaic.Lib.Pointwise

@[expose] public section

noncomputable section

namespace Cert.Reference7Ideal.Att

open Cert.Reference7Ideal Cert.Reference7Ideal.Gen Cert.Reference7Ideal.Value
open Idealize.ShloMosaic Idealize.ShloMosaic.TcCoe
open Cert.Online

/-- A maximum along the last of five axes, at an index. -/
theorem rowMax {n0 n1 n2 n3 n4 : Nat} (x : (⟨5, ![n0, n1, n2, n3, n4]⟩ : Shape).Idx → EReal) (z : EReal) {u : Shape} (hu : 0 < u.numel)
    (h : (⟨5, ![n0, n1, n2, n3, n4]⟩ : Shape).ReducesTo [4] ⟨4, ![n0, n1, n2, n3]⟩) (a : Fin n0) (b : Fin n1) (c : Fin n2) (i : Fin n3) :
    Host.reduce (max : EReal → EReal → EReal) x (fun _ : u.Idx => z) h hu (ix4 a b c i)
      = Finset.univ.fold max z fun k : Fin n4 => x (ix5 a b c i k) := by
  rw [Host.reduce_eq_fold, Shape.ReducesTo.fold_fiber_r5_a4]
  rfl

theorem maximumf_eq : (FloatOps.maximumf : Ideal .f32 → Ideal .f32 → Ideal .f32) = (max : EReal → EReal → EReal) := rfl

theorem init_eq : (constant S_ .f32 0xFF800000#32 : FVec Ideal S_ .f32) = fun _ => Ideal.ofBits .f32 0xFF800000#32 := rfl

theorem expoOf_at (s : FVec Ideal S2x8x2x8192x8448 .f32) (M : FVec Ideal S2x8x2x8192 .f32) (b : Fin 2) (h : Fin 8) (c : Fin 2) (i : Fin 8192) (j : Fin 8448) :
    expoOf (F := Ideal) s M (ix5 b h c i j) = Ideal.exp (s (ix5 b h c i j) - max (Ideal.ofBits .f32 0xFF800000#32) (M (ix4 b h c i))) := by
  unfold expoOf
  pointwise []

theorem expo_eq (s : FVec Ideal S2x8x2x8192x8448 .f32) :
    expo (F := Ideal) s = expoOf (F := Ideal) s (Host.reduce (max : EReal → EReal → EReal) s (fun _ => Ideal.ofBits .f32 0xFF800000#32) reducesTo_S2x8x2x8192x8448_S2x8x2x8192_d4 h_S_) := by
  unfold expo
  rw [maximumf_eq, init_eq]

theorem expo_at (s : FVec Ideal S2x8x2x8192x8448 .f32) (b : Fin 2) (h : Fin 8) (c : Fin 2) (i : Fin 8192) (j : Fin 8448) :
    expo (F := Ideal) s (ix5 b h c i j)
      = Ideal.exp (s (ix5 b h c i j) - max (Ideal.ofBits .f32 0xFF800000#32) (Finset.univ.fold max (Ideal.ofBits .f32 0xFF800000#32) fun x : Fin 8448 => s (ix5 b h c i x))) := by
  rw [expo_eq, expoOf_at]
  exact congrArg (fun z => Ideal.exp (s (ix5 b h c i j) - max (Ideal.ofBits .f32 0xFF800000#32) z))
    (rowMax (n0 := 2) (n1 := 8) (n2 := 2) (n3 := 8192) (n4 := 8448) s (Ideal.ofBits .f32 0xFF800000#32) h_S_ reducesTo_S2x8x2x8192x8448_S2x8x2x8192_d4 b h c i)

open Cert.Att

section Real

variable (Q : Fin 16896 → Fin 1024 → ℝ) (K : Fin 2 → Fin 8448 → Fin 1024 → ℝ) (V : Fin 2 → Fin 33 → Fin 1024 → Fin 256 → ℝ)

theorem eight : Ideal.ofBits .f32 0x41000000#32 = ((8 : ℝ) : EReal) := by simp [Ideal.ofBits, Ideal.ieee, -EReal.coe_mul]; norm_num

theorem eighth : Ideal.ofBits .f32 0x3E000000#32 = ((1 / 8 : ℝ) : EReal) := by simp [Ideal.ofBits, Ideal.ieee, -EReal.coe_mul]; norm_num

theorem logTwo : Ideal.log (Ideal.ofBits .f32 0x40000000#32) = ((Real.log 2 : ℝ) : EReal) := by
  have h : Ideal.ofBits .f32 0x40000000#32 = ((2 : ℝ) : EReal) := by simp [Ideal.ofBits, Ideal.ieee, -EReal.coe_mul]; norm_num
  rw [h]
  show (if (2 : ℝ) ≤ 0 then (⊥ : EReal) else ((Real.log 2 : ℝ) : EReal)) = _
  rw [if_neg (by norm_num)]

theorem negInf : Ideal.ofBits .f32 0xFF800000#32 = ⊥ := by simp [Ideal.ofBits, Ideal.ieee]

variable (q : FVec Ideal S16896x1024 .bf16) (k : FVec Ideal S2x8448x1024 .bf16) (v : FVec Ideal S2x33x1024x256 .bf16)
  (hq : ∀ a b, q (ix2 a b) = ((Q a b : ℝ) : EReal)) (hk : ∀ a b c, k (ix3 a b c) = ((K a b c : ℝ) : EReal)) (hv : ∀ a b c d, v (ix4 a b c d) = ((V a b c d : ℝ) : EReal))
include hq hk

theorem scores_real (b : Fin 2) (h : Fin 8) (c : Fin 2) (i : Fin 8192) (j : Fin 8448) :
    scores (F := Ideal) q k (ix5 b h c i j) = ((sc Q K b h c i j * Real.log 2 : ℝ) : EReal) := by
  rw [scores_at, eight, eighth, logTwo]
  simp only [hq, hk, ← EReal.coe_mul, coe_sum]
  congr 1
  unfold sc
  rw [Finset.sum_mul, Finset.sum_mul]
  exact Finset.sum_congr rfl fun d _ => by ring

theorem soft_real (b : Fin 2) (h : Fin 8) (c : Fin 2) (i : Fin 8192) (j : Fin 8448) :
    soft (F := Ideal) (expo (F := Ideal) (scores (F := Ideal) q k)) (ix5 b h c i j) = ((pr Q K b h c i j : ℝ) : EReal) := by
  rw [soft_at]
  simp only [expo_at, scores_real Q K q k hq hk, negInf]
  rw [softmax_real (by norm_num) (fun x => sc Q K b h c i x * Real.log 2) j _ rfl]
  simp only [exp_mul_log_two]
  rfl

include hv

/-- The reference's result, at an index. -/
theorem res_real (l : FVec Ideal S4x64 .f32) (g : FVec Ideal S128 .f32) (L : ℝ) (hl : lamE2 (fun i k => l (ix2 i k)) = (L : EReal)) (r : Fin 16384) (x : Fin 1024) :
    norm (F := Ideal) (avg (F := Ideal) v (mix (F := Ideal) (coef (F := Ideal) l) (soft (F := Ideal) (expo (F := Ideal) (scores (F := Ideal) q k))))) g (ix2 r x)
      = res2 Q K V L (fun e => g (ix1 e)) r x := by
  rw [norm_at]
  simp only [avg_at, mix_at, coef_at, hl, soft_real Q K q k hq hk, hv, ← EReal.coe_mul, ← EReal.coe_sub, coe_sum]
  rfl

end Real

end Cert.Reference7Ideal.Att

end
-- ==== Proof.Att2.Claims.lean ====
/- The claims of the second attention layer's call: the reference runs, and from finite arguments the kernel's array and the reference's are equal. -/
module

public import proofs.«01_k».proof.Defs
public import proofs.«01_k».proof.Proof.Gen.Kernel7Ideal
public import proofs.«01_k».proof.Proof.Gen.Reference7Ideal
public import proofs.«01_k».proof.Proof.Gen.Pre_finite_inputs
public import proofs.«01_k».proof.Proof.Att2.Array
public import proofs.«01_k».proof.Proof.Att2.RefValue
public import proofs.«01_k».proof.Proof.Att.Pre
public import Idealize.ShloMosaic.Adequacy
public import Idealize.ShloMosaic.Init

@[expose] public section

noncomputable section

namespace Cert.Att2

open Idealize.ShloMosaic Idealize.ShloMosaic.TcCoe Idealize.SL.Sem

/-- The reference runs, leaves its arguments alone and has no semaphore. -/
theorem ref_frame : Cert.quiescent_Reference7Ideal := fun m g _ =>
  (θ_run (Cert.Reference7Ideal.defs (F := Ideal)) _ _).mono
    (fun r h => ⟨fun c => (h c).2, sem_eq_zero_of_no_sems (by decide) r.2⟩)
    (Cert.Reference7Ideal.Value.run (F := Ideal) m g)

/-- The two arrays agree. -/
theorem equal (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (hpre : Cert.Pre_finite_inputs.fn (F := Ideal) (m (c.tc.loc Cert.Kernel7Ideal.main_arg0)) (m (c.tc.loc Cert.Kernel7Ideal.main_arg1))
      (m (c.tc.loc Cert.Kernel7Ideal.main_arg2)) (m (c.tc.loc Cert.Kernel7Ideal.main_arg3)) (m (c.tc.loc Cert.Kernel7Ideal.main_arg4)) = fun _ => 1#1)
    (h0 : m' (c.tc.loc Cert.Reference7Ideal.main_arg0) = m (c.tc.loc Cert.Kernel7Ideal.main_arg0))
    (h1 : m' (c.tc.loc Cert.Reference7Ideal.main_arg1) = m (c.tc.loc Cert.Kernel7Ideal.main_arg1))
    (h2 : m' (c.tc.loc Cert.Reference7Ideal.main_arg2) = m (c.tc.loc Cert.Kernel7Ideal.main_arg2))
    (h3 : m' (c.tc.loc Cert.Reference7Ideal.main_arg3) = m (c.tc.loc Cert.Kernel7Ideal.main_arg3))
    (h4 : m' (c.tc.loc Cert.Reference7Ideal.main_arg4) = m (c.tc.loc Cert.Kernel7Ideal.main_arg4)) :
    (Cert.Reference7Ideal.Value.res_main_v67 (F := Ideal) m' c : FVec Ideal Cert.Kernel7Ideal.S16384x1024 .bf16)
      = (Cert.Kernel7Ideal.Att.dats (F := Ideal) m 0 c).arrAt 5 Cert.Kernel7Ideal.cfg0.N := by
  obtain ⟨hq, hk, hv, hl⟩ := Cert.Pre_finite_inputs.Att.reals _ _ _ _ _ hpre
  choose q hq using hq
  choose k hk using hk
  choose v hv using hv
  choose l hl using hl
  obtain ⟨L, hL⟩ := Cert.Online.lamE2_real fun i j => l (ix2 i j)
  have hL' : Cert.Online.lamE2 (fun i j => (m (c.tc.loc Cert.Kernel7Ideal.main_arg3) : FVec Ideal Cert.Kernel7Ideal.S4x64 .f32) (ix2 i j)) = (L : EReal) :=
    (congrArg Cert.Online.lamE2 (funext fun i => funext fun j => hl (ix2 i j))).trans hL
  rw [Cert.Kernel7Ideal.Att.final m c (fun a b => q (ix2 a b)) (fun a b d => k (ix3 a b d)) (fun a b d e => v (ix4 a b d e)) (fun a b => hq _) (fun a b d => hk _)
    (fun a b d e => hv _) L hL', Cert.Reference7Ideal.Att.res_eq, h0, h1, h2, h3, h4]
  funext j
  have hj : j = ix2 (show Fin 16384 from j 0) (show Fin 1024 from j 1) := funext fun a => by
    match a with
    | ⟨0, _⟩ => rfl
    | ⟨1, _⟩ => rfl
  rw [hj]
  exact Cert.Reference7Ideal.Att.res_real (fun a b => q (ix2 a b)) (fun a b d => k (ix3 a b d)) (fun a b d e => v (ix4 a b d e)) _ _ _ (fun a b => hq _)
    (fun a b d => hk _) (fun a b d e => hv _) _ _ L hL' _ _

/-- From finite arguments the kernel and the reference end with the same array. -/
theorem algebraic : Cert.algebraic_Kernel7Ideal_Reference7Ideal_pre_finite_inputs :=
  fun m g m' g' hpre hm => ⟨fun c => (Cert.Kernel7Ideal.Att.dats (F := Ideal) m 0 c).arrAt 5 Cert.Kernel7Ideal.cfg0.N,
    Cert.Kernel7Ideal.Att.run_value m g,
    (θ_run (Cert.Reference7Ideal.defs (F := Ideal)) _ _).mono
      (fun r h c => ⟨(h c).1.trans (equal m m' c (hpre c) (hm c).1 (hm c).2.1 (hm c).2.2.1 (hm c).2.2.2.1 (hm c).2.2.2.2), (h c).2⟩)
      (Cert.Reference7Ideal.Value.run (F := Ideal) m' g')⟩

end Cert.Att2

end
-- ==== Proof.Proj.Norm.lean ====
/- The projection's row: the weighted input row plus the gated branch, normalised. The kernel and the reference both compute this. -/
module

public import Idealize.ShloMosaic.PureOps
public import Idealize.ShloMosaic.Lib.Pointwise

@[expose] public section

noncomputable section

namespace Cert.Proj

open Idealize.ShloMosaic

/-- A row before its normalisation: the weighted input and the gated branch. -/
def mixed (x y g : Fin 1024 → EReal) (j : Fin 1024) : EReal := Ideal.ofBits .f32 0x3FD744FD#32 * x j + g j * y j

/-- A row's mean. -/
def mean (z : Fin 1024 → EReal) : EReal := Ideal.div (∑ k : Fin 1024, z k) (Ideal.ofBits .f32 0x44800000#32)

/-- The layer norm of a row with gain `g` and bias `b`. -/
def lnRow (z g b : Fin 1024 → EReal) (j : Fin 1024) : EReal :=
  (z j - mean z) * Ideal.rsqrt (mean (fun k => (z k - mean z) * (z k - mean z)) + Ideal.ofBits .f32 0x3727C5AC#32) * g j + b j

/-- A row of the stream after a branch `Y`: mixed with it under the row's gate, normalised. -/
def row (X Y : Fin 16896 → Fin 1024 → EReal) (G : Fin 3 → Fin 1024 → EReal) (g b : Fin 1024 → EReal) (r : Fin 16896) (j : Fin 1024) : EReal :=
  lnRow (mixed (X r) (Y r) (G ⟨min (r.val / 8192) 2, by omega⟩)) g b j

/-- The result at a row and a column. -/
def res (A : Fin 16896 → Fin 1024 → EReal) (W : Fin 1024 → Fin 1024 → EReal) (X : Fin 16896 → Fin 1024 → EReal) (G : Fin 3 → Fin 1024 → EReal)
    (g b : Fin 1024 → EReal) (r : Fin 16896) (j : Fin 1024) : EReal :=
  row X (fun r k => ∑ d : Fin 1024, A r d * W d k) G g b r j

end Cert.Proj

end
-- ==== Proof.Proj.Kernel.lean ====
/- The projection kernel's output array after the run. -/
module

public import proofs.«01_k».proof.Proof.Gen.Kernel2Ideal.Value
public import proofs.«01_k».proof.Proof.Gen.Kernel2Ideal.Skeleton
public import proofs.«01_k».proof.Proof.Proj.Norm
public import Idealize.ShloMosaic.Lib.Pipeline.ValueKit
public import Idealize.ShloMosaic.Lib.Claim

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Proj

/-- What the body computes, at a row and a column of its block. -/
theorem pay_at (a : FVec Ideal S256x1024 .bf16) (w : FVec Ideal S1024x1024 .bf16) (x : FVec Ideal S256x1024 .f32) (g : FVec Ideal S1x1x1024 .f32)
    (lg lb : FVec Ideal S1x1024 .f32) (r : Fin 256) (j : Fin 1024) :
    k0_pay1 (F := Ideal) a w x g lg lb (ix2 r j)
      = lnRow (mixed (fun k => x (ix2 r k)) (fun k => ∑ d : Fin 1024, a (ix2 r d) * w (ix2 d k)) (fun k => g (ix3 0 0 k)))
          (fun k => lg (ix2 0 k)) (fun k => lb (ix2 0 k)) j := by
  unfold lnRow mean mixed
  pointwise [k0_pay1]

theorem out_eq (a : FVec Ideal S256x1024 .bf16) (w : FVec Ideal S1024x1024 .bf16) (x : FVec Ideal S256x1024 .f32) (g : FVec Ideal S1x1x1024 .f32)
    (lg lb : FVec Ideal S1x1024 .f32) : out0_6 (F := Ideal) a w x g lg lb = k0_pay1 (F := Ideal) a w x g lg lb := by
  frame_out [out0_6]

theorem idx : ∀ t : Fin cfg0.N, win0_0.index t = ![t.val, 0] ∧ win0_1.index t = ![0, 0]
    ∧ win0_2.index t = ![t.val, 0] ∧ win0_3.index t = ![min (t.val / 32) 2, 0, 0]
    ∧ win0_4.index t = ![0, 0] ∧ win0_5.index t = ![0, 0] ∧ win0_6.index t = ![t.val, 0] :=
  (by decide +kernel : ∀ t : Fin grid0.N, _)

theorem covers : (cfg0.win 6).Covers := by decide +kernel

variable (m : (ℓ : Loc nD τ sig) → Buf (Elt Ideal) ℓ) (c : Dev nD) (t : Fin cfg0.N)

theorem lt (t : Fin cfg0.N) : t.val < 66 := t.isLt

theorem a_at (r : Fin 256) (d : Fin 1024) : (iblk m c 0 t : FVec Ideal S256x1024 .bf16) (ix2 r d)
    = (m ((c : Thread nD τ).loc main_arg0) : FVec Ideal S16896x1024 .bf16) (ix2 ⟨t.val * 256 + r.val, by have := lt t; omega⟩ d) := by
  blk_ext [iblk, V, idx t]

theorem x_at (r : Fin 256) (d : Fin 1024) : (iblk m c 2 t : FVec Ideal S256x1024 .f32) (ix2 r d)
    = (m ((c : Thread nD τ).loc main_arg2) : FVec Ideal S16896x1024 .f32) (ix2 ⟨t.val * 256 + r.val, by have := lt t; omega⟩ d) := by
  blk_ext [iblk, V, idx t]

theorem g_at (d : Fin 1024) : (iblk m c 3 t : FVec Ideal S1x1x1024 .f32) (ix3 0 0 d)
    = (m ((c : Thread nD τ).loc main_arg3) : FVec Ideal S3x1x1024 .f32) (ix3 ⟨min (t.val / 32) 2, by omega⟩ 0 d) := by
  blk_ext [iblk, V, idx t]

theorem w_at (d k : Fin 1024) : (iblk m c 1 t : FVec Ideal S1024x1024 .bf16) (ix2 d k)
    = (m ((c : Thread nD τ).loc main_arg1) : FVec Ideal S1024x1024 .f32) (ix2 d k) := by
  have h : (V m c main_v0 : FVec Ideal S1024x1024 .bf16) = (truncf .bf16 (m ((c : Thread nD τ).loc main_arg1) : FVec Ideal S1024x1024 .f32) bitsLt_bf16_f32 : FVec Ideal S1024x1024 .bf16) := by
    entry_read
    rfl
  have h2 : (iblk m c 1 t : FVec Ideal S1024x1024 .bf16) (ix2 d k) = (V m c main_v0 : FVec Ideal S1024x1024 .bf16) (ix2 d k) := by
    blk_ext [iblk, idx t]
  rw [h2, h]
  pointwise []

theorem lg_at (d : Fin 1024) : (iblk m c 4 t : FVec Ideal S1x1024 .f32) (ix2 0 d) = (m ((c : Thread nD τ).loc main_arg4) : FVec Ideal S1024 .f32) (ix1 d) := by
  have h : (V m c main_v1 : FVec Ideal S1x1024 .f32) = shapeCast S1x1024 (m ((c : Thread nD τ).loc main_arg4) : FVec Ideal S1024 .f32) shapeCasts_S1024_S1x1024 := by
    entry_read
    rfl
  have h2 : (iblk m c 4 t : FVec Ideal S1x1024 .f32) (ix2 0 d) = (V m c main_v1 : FVec Ideal S1x1024 .f32) (ix2 0 d) := by
    blk_ext [iblk, idx t]
  rw [h2, h]
  pointwise []

theorem lb_at (d : Fin 1024) : (iblk m c 5 t : FVec Ideal S1x1024 .f32) (ix2 0 d) = (m ((c : Thread nD τ).loc main_arg5) : FVec Ideal S1024 .f32) (ix1 d) := by
  have h : (V m c main_v2 : FVec Ideal S1x1024 .f32) = shapeCast S1x1024 (m ((c : Thread nD τ).loc main_arg5) : FVec Ideal S1024 .f32) shapeCasts_S1024_S1x1024 := by
    entry_read
    rfl
  have h2 : (iblk m c 5 t : FVec Ideal S1x1024 .f32) (ix2 0 d) = (V m c main_v2 : FVec Ideal S1x1024 .f32) (ix2 0 d) := by
    blk_ext [iblk, idx t]
  rw [h2, h]
  pointwise []

/-- The projection as an array. -/
def G : FVec Ideal S16896x1024 .f32 := fun j =>
  res (fun r d => (m ((c : Thread nD τ).loc main_arg0) : FVec Ideal S16896x1024 .bf16) (ix2 r d))
    (fun d k => (m ((c : Thread nD τ).loc main_arg1) : FVec Ideal S1024x1024 .f32) (ix2 d k))
    (fun r d => (m ((c : Thread nD τ).loc main_arg2) : FVec Ideal S16896x1024 .f32) (ix2 r d))
    (fun s d => (m ((c : Thread nD τ).loc main_arg3) : FVec Ideal S3x1x1024 .f32) (ix3 s 0 d))
    (fun d => (m ((c : Thread nD τ).loc main_arg4) : FVec Ideal S1024 .f32) (ix1 d))
    (fun d => (m ((c : Thread nD τ).loc main_arg5) : FVec Ideal S1024 .f32) (ix1 d)) (j 0) (j 1)

/-- What a point writes is its block of that array. -/
theorem point (r : Fin 256) (j : Fin 1024) :
    out0_6 (F := Ideal) (iblk m c 0 t) (iblk m c 1 t) (iblk m c 2 t) (iblk m c 3 t) (iblk m c 4 t) (iblk m c 5 t) (ix2 r j)
      = G m c (ix2 ⟨t.val * 256 + r.val, by have := lt t; omega⟩ j) := by
  rw [out_eq, pay_at]
  simp only [a_at, x_at, g_at, w_at, lg_at, lb_at]
  unfold G res row
  have e : (⟨min ((t.val * 256 + r.val) / 8192) 2, by omega⟩ : Fin 3) = ⟨min (t.val / 32) 2, by omega⟩ :=
    Fin.ext (show min ((t.val * 256 + r.val) / 8192) 2 = min (t.val / 32) 2 by omega)
  dsimp only [ix2]
  simp only [e]

theorem G_emb (f : FVec Ideal S16896x1024 .f32) (y : ((cfg0.win 6).xblock (cfg0.grid.coords t)).Idx) : f ((win0_6.blk t).view.emb y)
    = f (ix2 ⟨t.val * 256 + (show Fin 256 from y 0).val, by have := (show Fin 256 from y 0).isLt; have := lt t; omega⟩ (show Fin 1024 from y 1)) := by
  blk_ext [idx t]

theorem final_of (o : Fin cfg0.N → FVec Ideal S256x1024 .f32) (f : FVec Ideal S16896x1024 .f32) (ho : ∀ t, (dats m 0 c).after 6 t = o t)
    (hf : ∀ (t : Fin cfg0.N) (r : Fin 256) (e : Fin 1024), o t (ix2 r e) = f (ix2 ⟨t.val * 256 + r.val, by have := lt t; omega⟩ e)) :
    (dats m 0 c).arrAt 6 cfg0.N = f := by
  generalize dats m 0 c = D at ho ⊢
  refine D.arrAt_eq_of_covers 6 f covers fun t _ y => ?_
  blk_simp
  rw [ho]
  refine Eq.trans ?_ (G_emb t f y).symm
  refine Eq.trans ?_ (hf t (show Fin 256 from y 0) (show Fin 1024 from y 1))
  have hy : y = ix2 (show Fin 256 from y 0) (show Fin 1024 from y 1) := funext fun a => by
    match a with
    | ⟨0, _⟩ => rfl
    | ⟨1, _⟩ => rfl
  exact congrArg (o t) hy

/-- The output array after the run. -/
theorem final : (dats m 0 c).arrAt 6 cfg0.N = G m c :=
  final_of m c _ _ (after0_6 m c) (point m c)

end Cert.Kernel2Ideal.Proj

end
-- ==== Proof.Proj.Ref.lean ====
/- The projection's reference at an index. -/
module

public import proofs.«01_k».proof.Proof.Gen.Reference2Ideal.Run
public import proofs.«01_k».proof.Proof.Proj.Norm
public import Idealize.ShloMosaic.Lib.Pointwise

@[expose] public section

set_option maxRecDepth 16384

noncomputable section

namespace Cert.Reference2Ideal.Proj

open Cert.Reference2Ideal Cert.Reference2Ideal.Gen Cert.Reference2Ideal.Value
open Idealize.ShloMosaic Idealize.ShloMosaic.TcCoe
open Cert.Proj

section Stages

variable {F : FTy → Type} [FloatOps F]

/-- The branch times its weight. -/
def branch (a : Vec F S16896x1024 .bf16) (w : Vec F S1024x1024 .f32) : Vec F S16896x1024 .f32 :=
  Host.dotGeneral dot_S16896x1024_S1024x1024_S16896x1024_1_0_0_1_n_n none (extf .f32 a bitsLt_bf16_f32) w

/-- The latent rows before their normalisation; -/
def mixL (x y : Vec F S16896x1024 .f32) (g : Vec F S3x1x1024 .f32) : Vec F S2x8192x1024 .f32 :=
  addf (mulf (broadcastInDim S2x8192x1024 ![] bcast_S_S2x8192x1024 (constant S_ .f32 0x3FD744FD#32))
      (shapeCast _ (extractStridedSlice S16384x1024 ![0, 0] x slices_S16896x1024_S16384x1024_0_0) shapeCasts_S16384x1024_S2x8192x1024))
    (mulf (broadcastInDim S2x8192x1024 ![0, 1, 2] bcast_S2x1x1024_S2x8192x1024_0_1_2 (extractStridedSlice S2x1x1024 ![0, 0, 0] g slices_S3x1x1024_S2x1x1024_0_0_0))
      (shapeCast _ (extractStridedSlice S16384x1024 ![0, 0] y slices_S16896x1024_S16384x1024_0_0) shapeCasts_S16384x1024_S2x8192x1024))

/-- the context rows before theirs. -/
def mixC (x y : Vec F S16896x1024 .f32) (g : Vec F S3x1x1024 .f32) : Vec F S2x256x1024 .f32 :=
  addf (mulf (broadcastInDim S2x256x1024 ![] bcast_S_S2x256x1024 (constant S_ .f32 0x3FD744FD#32))
      (shapeCast _ (extractStridedSlice S512x1024 ![16384, 0] x slices_S16896x1024_S512x1024_16384_0) shapeCasts_S512x1024_S2x256x1024))
    (mulf (broadcastInDim S2x256x1024 ![0, 1, 2] bcast_S1x1x1024_S2x256x1024_0_1_2
        (broadcastInDim S1x1x1024 ![1, 2] bcast_S1x1024_S1x1x1024_1_2 (shapeCast _ (extractStridedSlice S1x1x1024 ![2, 0, 0] g slices_S3x1x1024_S1x1x1024_2_0_0) shapeCasts_S1x1x1024_S1x1024)))
      (shapeCast _ (extractStridedSlice S512x1024 ![16384, 0] y slices_S16896x1024_S512x1024_16384_0) shapeCasts_S512x1024_S2x256x1024))

/-- The normalisation of the latent rows; -/
def normL (z : Vec F S2x8192x1024 .f32) (g b : Vec F S1024 .f32) : Vec F S2x8192x1024 .f32 :=
  addf (mulf (mulf (subf z (broadcastInDim S2x8192x1024 ![0, 1, 2] bcast_S2x8192x1_S2x8192x1024_0_1_2
          (Host.divf (broadcastInDim S2x8192x1 ![0, 1] bcast_S2x8192_S2x8192x1_0_1 (Host.reduceAdd z (constant S_ .f32 0x00000000#32) reducesTo_S2x8192x1024_S2x8192_d2 h_S_))
            (broadcastInDim S2x8192x1 ![] bcast_S_S2x8192x1 (constant S_ .f32 0x44800000#32)))))
        (broadcastInDim S2x8192x1024 ![0, 1, 2] bcast_S2x8192x1_S2x8192x1024_0_1_2
          (Host.rsqrt (addf (Host.divf (broadcastInDim S2x8192x1 ![0, 1] bcast_S2x8192_S2x8192x1_0_1
              (Host.reduceAdd (mulf
                  (subf z (broadcastInDim S2x8192x1024 ![0, 1, 2] bcast_S2x8192x1_S2x8192x1024_0_1_2
                    (Host.divf (broadcastInDim S2x8192x1 ![0, 1] bcast_S2x8192_S2x8192x1_0_1 (Host.reduceAdd z (constant S_ .f32 0x00000000#32) reducesTo_S2x8192x1024_S2x8192_d2 h_S_))
                      (broadcastInDim S2x8192x1 ![] bcast_S_S2x8192x1 (constant S_ .f32 0x44800000#32)))))
                  (subf z (broadcastInDim S2x8192x1024 ![0, 1, 2] bcast_S2x8192x1_S2x8192x1024_0_1_2
                    (Host.divf (broadcastInDim S2x8192x1 ![0, 1] bcast_S2x8192_S2x8192x1_0_1 (Host.reduceAdd z (constant S_ .f32 0x00000000#32) reducesTo_S2x8192x1024_S2x8192_d2 h_S_))
                      (broadcastInDim S2x8192x1 ![] bcast_S_S2x8192x1 (constant S_ .f32 0x44800000#32))))))
                (constant S_ .f32 0x00000000#32) reducesTo_S2x8192x1024_S2x8192_d2 h_S_))
              (broadcastInDim S2x8192x1 ![] bcast_S_S2x8192x1 (constant S_ .f32 0x44800000#32)))
            (broadcastInDim S2x8192x1 ![] bcast_S_S2x8192x1 (constant S_ .f32 0x3727C5AC#32))))))
      (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S1x1x1024_S2x8192x1024_0_1_2 (broadcastInDim S1x1x1024 ![2] bcast_S1024_S1x1x1024_2 b))

/-- of the context rows. -/
def normC (z : Vec F S2x256x1024 .f32) (g b : Vec F S1024 .f32) : Vec F S2x256x1024 .f32 :=
  addf (mulf (mulf (subf z (broadcastInDim S2x256x1024 ![0, 1, 2] bcast_S2x256x1_S2x256x1024_0_1_2
          (Host.divf (broadcastInDim S2x256x1 ![0, 1] bcast_S2x256_S2x256x1_0_1 (Host.reduceAdd z (constant S_ .f32 0x00000000#32) reducesTo_S2x256x1024_S2x256_d2 h_S_))
            (broadcastInDim S2x256x1 ![] bcast_S_S2x256x1 (constant S_ .f32 0x44800000#32)))))
        (broadcastInDim S2x256x1024 ![0, 1, 2] bcast_S2x256x1_S2x256x1024_0_1_2
          (Host.rsqrt (addf (Host.divf (broadcastInDim S2x256x1 ![0, 1] bcast_S2x256_S2x256x1_0_1
              (Host.reduceAdd (mulf
                  (subf z (broadcastInDim S2x256x1024 ![0, 1, 2] bcast_S2x256x1_S2x256x1024_0_1_2
                    (Host.divf (broadcastInDim S2x256x1 ![0, 1] bcast_S2x256_S2x256x1_0_1 (Host.reduceAdd z (constant S_ .f32 0x00000000#32) reducesTo_S2x256x1024_S2x256_d2 h_S_))
                      (broadcastInDim S2x256x1 ![] bcast_S_S2x256x1 (constant S_ .f32 0x44800000#32)))))
                  (subf z (broadcastInDim S2x256x1024 ![0, 1, 2] bcast_S2x256x1_S2x256x1024_0_1_2
                    (Host.divf (broadcastInDim S2x256x1 ![0, 1] bcast_S2x256_S2x256x1_0_1 (Host.reduceAdd z (constant S_ .f32 0x00000000#32) reducesTo_S2x256x1024_S2x256_d2 h_S_))
                      (broadcastInDim S2x256x1 ![] bcast_S_S2x256x1 (constant S_ .f32 0x44800000#32))))))
                (constant S_ .f32 0x00000000#32) reducesTo_S2x256x1024_S2x256_d2 h_S_))
              (broadcastInDim S2x256x1 ![] bcast_S_S2x256x1 (constant S_ .f32 0x44800000#32)))
            (broadcastInDim S2x256x1 ![] bcast_S_S2x256x1 (constant S_ .f32 0x3727C5AC#32))))))
      (broadcastInDim S2x256x1024 ![0, 1, 2] bcast_S1x1x1024_S2x256x1024_0_1_2 (broadcastInDim S1x1x1024 ![2] bcast_S1024_S1x1x1024_2 g)))
    (broadcastInDim S2x256x1024 ![0, 1, 2] bcast_S1x1x1024_S2x256x1024_0_1_2 (broadcastInDim S1x1x1024 ![2] bcast_S1024_S1x1x1024_2 b))

/-- Latent rows, then context rows. -/
def both (l : Vec F S2x8192x1024 .f32) (c : Vec F S2x256x1024 .f32) : Vec F S16896x1024 .f32 :=
  concatenate S16896x1024 0 [⟨S16384x1024, (shapeCast _ l shapeCasts_S2x8192x1024_S16384x1024)⟩, ⟨S512x1024, (shapeCast _ c shapeCasts_S2x256x1024_S512x1024)⟩]
    concatenates_S16384x1024_S512x1024_S16896x1024_d0

/-- The reference's result is these stages, one after the other. -/
theorem res_eq (m : (ℓ : Loc nD τ sig) → Buf (Elt F) ℓ) (c : Dev nD) :
    res_main_v74 m c = both
      (normL (mixL (m ((c.tc : Thread nD τ).loc main_arg2)) (branch (m ((c.tc : Thread nD τ).loc main_arg0)) (m ((c.tc : Thread nD τ).loc main_arg1))) (m ((c.tc : Thread nD τ).loc main_arg3)))
        (m ((c.tc : Thread nD τ).loc main_arg4)) (m ((c.tc : Thread nD τ).loc main_arg5)))
      (normC (mixC (m ((c.tc : Thread nD τ).loc main_arg2)) (branch (m ((c.tc : Thread nD τ).loc main_arg0)) (m ((c.tc : Thread nD τ).loc main_arg1))) (m ((c.tc : Thread nD τ).loc main_arg3)))
        (m ((c.tc : Thread nD τ).loc main_arg4)) (m ((c.tc : Thread nD τ).loc main_arg5))) := rfl

end Stages

theorem branch_at (a : FVec Ideal S16896x1024 .bf16) (w : FVec Ideal S1024x1024 .f32) (r : Fin 16896) (k : Fin 1024) :
    branch (F := Ideal) a w (ix2 r k) = ∑ d : Fin 1024, a (ix2 r d) * w (ix2 d k) := by
  unfold branch
  pointwise []

theorem mixL_at (x y : FVec Ideal S16896x1024 .f32) (g : FVec Ideal S3x1x1024 .f32) (b : Fin 2) (r : Fin 8192) (k : Fin 1024) :
    mixL (F := Ideal) x y g (ix3 b r k) = mixed (fun k => x (ix2 ⟨b.val * 8192 + r.val, by omega⟩ k)) (fun k => y (ix2 ⟨b.val * 8192 + r.val, by omega⟩ k))
      (fun k => g (ix3 ⟨b.val, by omega⟩ 0 k)) k := by
  unfold mixL mixed
  pointwise []

theorem mixC_at (x y : FVec Ideal S16896x1024 .f32) (g : FVec Ideal S3x1x1024 .f32) (b : Fin 2) (r : Fin 256) (k : Fin 1024) :
    mixC (F := Ideal) x y g (ix3 b r k) = mixed (fun k => x (ix2 ⟨16384 + (b.val * 256 + r.val), by omega⟩ k)) (fun k => y (ix2 ⟨16384 + (b.val * 256 + r.val), by omega⟩ k))
      (fun k => g (ix3 2 0 k)) k := by
  unfold mixC mixed
  pointwise []

theorem normL_at (z : FVec Ideal S2x8192x1024 .f32) (g b : FVec Ideal S1024 .f32) (i : Fin 2) (r : Fin 8192) (k : Fin 1024) :
    normL (F := Ideal) z g b (ix3 i r k) = lnRow (fun k => z (ix3 i r k)) (fun k => g (ix1 k)) (fun k => b (ix1 k)) k := by
  unfold normL lnRow mean
  pointwise []

theorem normC_at (z : FVec Ideal S2x256x1024 .f32) (g b : FVec Ideal S1024 .f32) (i : Fin 2) (r : Fin 256) (k : Fin 1024) :
    normC (F := Ideal) z g b (ix3 i r k) = lnRow (fun k => z (ix3 i r k)) (fun k => g (ix1 k)) (fun k => b (ix1 k)) k := by
  unfold normC lnRow mean
  pointwise []

theorem both_lat (l : FVec Ideal S2x8192x1024 .f32) (c : FVec Ideal S2x256x1024 .f32) (r : Fin 16896) (k : Fin 1024) (h : r.val < 16384) :
    both (F := Ideal) l c (ix2 r k) = l (ix3 ⟨r.val / 8192, by omega⟩ ⟨r.val % 8192, by omega⟩ k) := by
  unfold both
  pointwise []
  exact dif_pos h

theorem both_ctx (l : FVec Ideal S2x8192x1024 .f32) (c : FVec Ideal S2x256x1024 .f32) (r : Fin 16896) (k : Fin 1024) (h : ¬ r.val < 16384) :
    both (F := Ideal) l c (ix2 r k) = c (ix3 ⟨(r.val - 16384) / 256, by omega⟩ ⟨(r.val - 16384) % 256, by omega⟩ k) := by
  unfold both
  pointwise []
  exact dif_neg h

/-- The stages after the branch `y`, at a row and a column. -/
theorem both_at (x y : FVec Ideal S16896x1024 .f32) (g : FVec Ideal S3x1x1024 .f32) (lg lb : FVec Ideal S1024 .f32) (r : Fin 16896) (k : Fin 1024) :
    both (F := Ideal) (normL (mixL x y g) lg lb) (normC (mixC x y g) lg lb) (ix2 r k)
      = row (fun r d => x (ix2 r d)) (fun r d => y (ix2 r d)) (fun s d => g (ix3 s 0 d)) (fun d => lg (ix1 d)) (fun d => lb (ix1 d)) r k := by
  unfold row
  by_cases h : r.val < 16384
  · rw [both_lat _ _ _ _ h, normL_at]
    simp only [mixL_at]
    have e : (⟨r.val / 8192 * 8192 + r.val % 8192, by omega⟩ : Fin 16896) = r := Fin.ext (show r.val / 8192 * 8192 + r.val % 8192 = r.val by omega)
    have e2 : (⟨r.val / 8192, by omega⟩ : Fin 3) = ⟨min (r.val / 8192) 2, by omega⟩ := Fin.ext (show r.val / 8192 = min (r.val / 8192) 2 by omega)
    simp only [e, e2]
  · rw [both_ctx _ _ _ _ h, normC_at]
    simp only [mixC_at]
    have e : (⟨16384 + ((r.val - 16384) / 256 * 256 + (r.val - 16384) % 256), by omega⟩ : Fin 16896) = r :=
      Fin.ext (show 16384 + ((r.val - 16384) / 256 * 256 + (r.val - 16384) % 256) = r.val by omega)
    have e2 : (2 : Fin 3) = ⟨min (r.val / 8192) 2, by omega⟩ := Fin.ext (show 2 = min (r.val / 8192) 2 by omega)
    simp only [e, e2]

/-- The reference at a row and a column. -/
theorem res_at (m : (ℓ : Loc nD τ sig) → Buf (Elt Ideal) ℓ) (c : Dev nD) (r : Fin 16896) (k : Fin 1024) :
    res_main_v74 (F := Ideal) m c (ix2 r k)
      = res (fun r d => (m ((c.tc : Thread nD τ).loc main_arg0) : FVec Ideal S16896x1024 .bf16) (ix2 r d))
        (fun d k => (m ((c.tc : Thread nD τ).loc main_arg1) : FVec Ideal S1024x1024 .f32) (ix2 d k))
        (fun r d => (m ((c.tc : Thread nD τ).loc main_arg2) : FVec Ideal S16896x1024 .f32) (ix2 r d))
        (fun s d => (m ((c.tc : Thread nD τ).loc main_arg3) : FVec Ideal S3x1x1024 .f32) (ix3 s 0 d))
        (fun d => (m ((c.tc : Thread nD τ).loc main_arg4) : FVec Ideal S1024 .f32) (ix1 d))
        (fun d => (m ((c.tc : Thread nD τ).loc main_arg5) : FVec Ideal S1024 .f32) (ix1 d)) r k := by
  rw [res_eq]
  refine (both_at _ _ _ _ _ r k).trans ?_
  unfold res
  simp only [branch_at]

end Cert.Reference2Ideal.Proj

end
-- ==== Proof.Proj.Claims.lean ====
/- The projection's claims: the reference runs, and the kernel's array and the reference's are equal. -/
module

public import proofs.«01_k».proof.Defs
public import proofs.«01_k».proof.Proof.Gen.Kernel2Ideal
public import proofs.«01_k».proof.Proof.Gen.Reference2Ideal
public import proofs.«01_k».proof.Proof.Proj.Kernel
public import proofs.«01_k».proof.Proof.Proj.Ref
public import Idealize.ShloMosaic.Adequacy
public import Idealize.ShloMosaic.Init

@[expose] public section

noncomputable section

namespace Cert.Proj

open Idealize.ShloMosaic Idealize.ShloMosaic.TcCoe Idealize.SL.Sem

/-- The reference runs, leaves its arguments alone and has no semaphore. -/
theorem ref_frame : Cert.quiescent_Reference2Ideal := fun m g _ =>
  (θ_run (Cert.Reference2Ideal.defs (F := Ideal)) _ _).mono
    (fun r h => ⟨fun c => (h c).2, sem_eq_zero_of_no_sems (by decide) r.2⟩)
    (Cert.Reference2Ideal.Value.run (F := Ideal) m g)

/-- The two arrays agree. -/
theorem equal (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' (c.tc.loc Cert.Reference2Ideal.main_arg0) = m (c.tc.loc Cert.Kernel2Ideal.main_arg0))
    (h1 : m' (c.tc.loc Cert.Reference2Ideal.main_arg1) = m (c.tc.loc Cert.Kernel2Ideal.main_arg1))
    (h2 : m' (c.tc.loc Cert.Reference2Ideal.main_arg2) = m (c.tc.loc Cert.Kernel2Ideal.main_arg2))
    (h3 : m' (c.tc.loc Cert.Reference2Ideal.main_arg3) = m (c.tc.loc Cert.Kernel2Ideal.main_arg3))
    (h4 : m' (c.tc.loc Cert.Reference2Ideal.main_arg4) = m (c.tc.loc Cert.Kernel2Ideal.main_arg4))
    (h5 : m' (c.tc.loc Cert.Reference2Ideal.main_arg5) = m (c.tc.loc Cert.Kernel2Ideal.main_arg5)) :
    (Cert.Reference2Ideal.Value.res_main_v74 (F := Ideal) m' c : FVec Ideal Cert.Kernel2Ideal.S16896x1024 .f32)
      = (Cert.Kernel2Ideal.Gen.dats (F := Ideal) m 0 c).arrAt 6 Cert.Kernel2Ideal.cfg0.N := by
  rw [Cert.Kernel2Ideal.Proj.final m c]
  funext j
  have hj : j = ix2 (show Fin 16896 from j 0) (show Fin 1024 from j 1) := funext fun a => by
    match a with
    | ⟨0, _⟩ => rfl
    | ⟨1, _⟩ => rfl
  rw [hj]
  refine (Cert.Reference2Ideal.Proj.res_at m' c _ _).trans ?_
  rw [h0, h1, h2, h3, h4, h5]
  rfl

theorem algebraic : Cert.algebraic_Kernel2Ideal_Reference2Ideal := fun m g m' g' _ hm =>
  ⟨fun c => (Cert.Kernel2Ideal.Gen.dats (F := Ideal) m 0 c).arrAt 6 Cert.Kernel2Ideal.cfg0.N,
    Cert.Kernel2Ideal.Value.run_blocks m g,
    (θ_run (Cert.Reference2Ideal.defs (F := Ideal)) _ _).mono
      (fun r h c => ⟨(h c).1.trans (equal m m' c (hm c).1 (hm c).2.1 (hm c).2.2.1 (hm c).2.2.2.1 (hm c).2.2.2.2.1 (hm c).2.2.2.2.2), (h c).2⟩)
      (Cert.Reference2Ideal.Value.run (F := Ideal) m' g')⟩

end Cert.Proj

end
-- ==== Proof.Qkv.Rope.lean ====
/- The rotary embedding of one row, as a function of the row: each lane times the cosine, plus its partner sixteen lanes away in the same group of 32 times
   the signed sine. -/
module

public import Idealize.ShloMosaic.Lib.Pointwise
public import Idealize.ShloMosaic.PureOps

@[expose] public section

noncomputable section

namespace Cert.Qkv

/-- The lane a lane is paired with: the same place in the other half of its group of 32. -/
def partner (k : Fin 3072) : Fin 3072 := ⟨if k.val % 32 < 16 then k.val + 16 else k.val - 16, by have := k.isLt; split <;> omega⟩

/-- A row of the product turned by tables of cosines and signed sines over 128 lanes. -/
def turn (y : Fin 3072 → EReal) (cs sn : Fin 128 → EReal) (k : Fin 3072) : EReal :=
  y k * cs ⟨k.val % 128, Nat.mod_lt _ (by decide)⟩ + y (partner k) * sn ⟨k.val % 128, Nat.mod_lt _ (by decide)⟩

/-- A row modulated and multiplied by the weights. -/
def row (x sc sh : Fin 1024 → EReal) (w : Fin 1024 → Fin 3072 → EReal) (k : Fin 3072) : EReal :=
  ∑ d : Fin 1024, (x d * (1 + sc d) + sh d) * w d k

/-- The rotary embedding at a place in the sequence of latent rows and then context rows: a latent row is turned by its angles, one set for each of two
    axes of sixteen frequencies, a context row is left alone. -/
def emb (cs sn : Fin 8192 → Fin 2 → Fin 16 → EReal) (n : Fin 8448) (y : Fin 3072 → EReal) (k : Fin 3072) : EReal :=
  if h : n.val < 8192 then
    turn y (fun l => cs ⟨n.val, h⟩ ⟨l.val % 64 / 32, by omega⟩ ⟨l.val % 16, Nat.mod_lt _ (by decide)⟩)
      (fun l => if l.val % 32 < 16 then - sn ⟨n.val, h⟩ ⟨l.val % 64 / 32, by omega⟩ ⟨l.val % 16, Nat.mod_lt _ (by decide)⟩
        else sn ⟨n.val, h⟩ ⟨l.val % 64 / 32, by omega⟩ ⟨l.val % 16, Nat.mod_lt _ (by decide)⟩) k
  else y k

/-- The six inputs. -/
structure Inputs where
  x : Fin 16896 → Fin 1024 → EReal
  sc : Fin 3 → Fin 1024 → EReal
  sh : Fin 3 → Fin 1024 → EReal
  w : Fin 1024 → Fin 3072 → EReal
  cs : Fin 8192 → Fin 2 → Fin 16 → EReal
  sn : Fin 8192 → Fin 2 → Fin 16 → EReal

namespace Inputs
variable (i : Inputs)

/-- A row of the product, modulated by its sequence's scale and shift (the context has its own). -/
def prod (r : Fin 16896) : Fin 3072 → EReal := row (i.x r) (i.sc ⟨min (r.val / 8192) 2, by omega⟩) (i.sh ⟨min (r.val / 8192) 2, by omega⟩) i.w

/-- A row's place in its sequence. -/
def place (r : Fin 16896) : Fin 8448 := ⟨if r.val < 16384 then r.val % 8192 else 8192 + (r.val - 16384) % 256, by split <;> omega⟩

/-- The row at a place of a sequence. -/
def rowAt (b : Fin 2) (n : Fin 8448) : Fin 16896 :=
  ⟨if n.val < 8192 then b.val * 8192 + n.val else 16384 + (b.val * 256 + (n.val - 8192)), by have := n.isLt; split <;> omega⟩

/-- The queries, before their scale. -/
def query (r : Fin 16896) (k : Fin 1024) : EReal := emb i.cs i.sn (place r) (i.prod r) ⟨k.val, by omega⟩

/-- The keys. -/
def key (b : Fin 2) (n : Fin 8448) (k : Fin 1024) : EReal := emb i.cs i.sn n (i.prod (rowAt b n)) ⟨1024 + k.val, by omega⟩

/-- The values. -/
def val (b : Fin 2) (n : Fin 8448) (k : Fin 1024) : EReal := i.prod (rowAt b n) ⟨2048 + k.val, by omega⟩

end Inputs

end Cert.Qkv

end
-- ==== Proof.Qkv.Pay.lean ====
/- What the query, key and value kernel's body leaves in its three output blocks, at an index. -/
module

public import proofs.«01_k».proof.Proof.Gen.Kernel3Ideal.Value
public import proofs.«01_k».proof.Proof.Gen.Kernel3Ideal.Skeleton
public import proofs.«01_k».proof.Proof.Qkv.Rope
public import Idealize.ShloMosaic.Lib.Pipeline.ValueKit
public import Idealize.ShloMosaic.Lib.Claim

@[expose] public section

set_option maxRecDepth 16384

noncomputable section

namespace Cert.Kernel3Ideal.Qkv

open Cert.Kernel3Ideal Cert.Kernel3Ideal.Gen
open Idealize.ShloMosaic Idealize.ShloMosaic.TcCoe Idealize.SL.Sem
open Cert.Qkv

/-- The lane test: is the lane in the first half of its group of 32. -/
theorem mask_at (r : Fin 256) (l : Fin 128) : k0_pay8 k0_pay7 16#32 (ix2 r l) = if l.val % 32 < 16 then 1#1 else 0#1 := by
  pointwise [k0_pay8, k0_pay7]
  revert l
  decide +kernel

theorem y_at (x : FVec Ideal S256x1024 .f32) (sc sh : FVec Ideal S1x1x1024 .f32) (w : FVec Ideal S1024x3072 .bf16) (r : Fin 256) (k : Fin 3072) :
    k0_pay4 (F := Ideal) x sc sh w (ix2 r k) = row (fun d => x (ix2 r d)) (fun d => sc (ix3 0 0 d)) (fun d => sh (ix3 0 0 d)) (fun d k => w (ix2 d k)) k := by
  unfold row
  pointwise [k0_pay4]

/-- One lane tile of a turned block. -/
theorem tile_at (o : ℕ) (ho : o % 128 = 0) (ho' : o + 128 ≤ 3072) (y : FVec Ideal S256x3072 .f32) (cs sn : FVec Ideal S256x128 .f32) (M : IVec S256x128 1)
    (hM : ∀ r l, M (ix2 r l) = if l.val % 32 < 16 then 1#1 else 0#1) (h : S256x3072.Slices ![0, o] S256x128) (hr : S256x128.Rotates 1 none) (r : Fin 256) (l : Fin 128) :
    (addf (mulf (extractStridedSlice S256x128 ![0, o] y h) cs)
      (mulf (select M (dynamicRotate 1 112#32 none (extractStridedSlice S256x128 ![0, o] y h) hr) (dynamicRotate 1 16#32 none (extractStridedSlice S256x128 ![0, o] y h) hr)) sn)
      : FVec Ideal S256x128 .f32) (ix2 r l)
      = turn (fun k => y (ix2 r k)) (fun l => cs (ix2 r l)) (fun l => sn (ix2 r l)) ⟨o + l.val, by omega⟩ := by
  pointwise []
  rw [hM]
  have e : (⟨(o + l.val) % 128, Nat.mod_lt _ (by decide)⟩ : Fin 128) = l := Fin.ext (show (o + l.val) % 128 = l.val by omega)
  unfold turn
  rw [e]
  by_cases hl : l.val % 32 < 16
  · have p : partner ⟨o + l.val, by omega⟩ = ⟨o + (l.val + 128 - 112) % 128, by omega⟩ :=
      Fin.ext (show (if (o + l.val) % 32 < 16 then o + l.val + 16 else o + l.val - 16) = _ by rw [if_pos (by omega)]; show o + l.val + 16 = o + (l.val + 128 - 112) % 128; omega)
    rw [if_pos hl, p]
    rfl
  · have p : partner ⟨o + l.val, by omega⟩ = ⟨o + (l.val + 128 - 16) % 128, by omega⟩ :=
      Fin.ext (show (if (o + l.val) % 32 < 16 then o + l.val + 16 else o + l.val - 16) = _ by rw [if_neg (by omega)]; show o + l.val - 16 = o + (l.val + 128 - 16) % 128; omega)
    rw [if_neg hl, p]
    rfl

/-- One lane tile of the query block, at an index. -/
theorem q_tile (o : ℕ) (ho : o % 128 = 0) (ho' : o + 128 ≤ 3072) (y : FVec Ideal S256x3072 .f32) (cs sn : FVec Ideal S256x128 .f32) (M : IVec S256x128 1)
    (hM : ∀ r l, M (ix2 r l) = if l.val % 32 < 16 then 1#1 else 0#1) (h : S256x3072.Slices ![0, o] S256x128) (hr : S256x128.Rotates 1 none)
    (q : Ideal .f32) (hb) (x : S256x128.Idx) (r : Fin 256) (k : Fin 3072) (hx : r.val = (x 0).val) (hk : k.val = o + (x 1).val) :
    (truncf .bf16 (mulf (addf (mulf (extractStridedSlice S256x128 ![0, o] y h) cs)
      (mulf (select M (dynamicRotate 1 112#32 none (extractStridedSlice S256x128 ![0, o] y h) hr) (dynamicRotate 1 16#32 none (extractStridedSlice S256x128 ![0, o] y h) hr)) sn))
      (broadcast S256x128 q)) hb : FVec Ideal S256x128 .bf16) x
      = turn (fun k => y (ix2 r k)) (fun l => cs (ix2 r l)) (fun l => sn (ix2 r l)) k * q := by
  have e : x = ix2 r (show Fin 128 from x 1) := funext fun a => by
    match a with
    | ⟨0, _⟩ => exact Fin.ext hx.symm
    | ⟨1, _⟩ => rfl
  have e' : k = ⟨o + (show Fin 128 from x 1).val, by have := (show Fin 128 from x 1).isLt; omega⟩ := Fin.ext hk
  rw [e']
  refine Eq.trans ?_ (congrArg (· * q) (tile_at o ho ho' y cs sn M hM h hr r (show Fin 128 from x 1)))
  exact congrArg (fun i => (addf (mulf (extractStridedSlice S256x128 ![0, o] y h) cs)
      (mulf (select M (dynamicRotate 1 112#32 none (extractStridedSlice S256x128 ![0, o] y h) hr) (dynamicRotate 1 16#32 none (extractStridedSlice S256x128 ![0, o] y h) hr)) sn)
      : FVec Ideal S256x128 .f32) i * q) e

/-- One lane tile of the key block, at an index. -/
theorem k_tile (o : ℕ) (ho : o % 128 = 0) (ho' : o + 128 ≤ 3072) (y : FVec Ideal S256x3072 .f32) (cs sn : FVec Ideal S256x128 .f32) (M : IVec S256x128 1)
    (hM : ∀ r l, M (ix2 r l) = if l.val % 32 < 16 then 1#1 else 0#1) (h : S256x3072.Slices ![0, o] S256x128) (hr : S256x128.Rotates 1 none)
    (hb) (hc : S256x128.ShapeCasts S1x256x128) (x : S1x256x128.Idx) (r : Fin 256) (k : Fin 3072) (hx : r.val = (x 1).val) (hk : k.val = o + (x 2).val) :
    (shapeCast S1x256x128 (truncf .bf16 (addf (mulf (extractStridedSlice S256x128 ![0, o] y h) cs)
      (mulf (select M (dynamicRotate 1 112#32 none (extractStridedSlice S256x128 ![0, o] y h) hr) (dynamicRotate 1 16#32 none (extractStridedSlice S256x128 ![0, o] y h) hr)) sn))
      hb : FVec Ideal S256x128 .bf16) hc : FVec Ideal S1x256x128 .bf16) x
      = turn (fun k => y (ix2 r k)) (fun l => cs (ix2 r l)) (fun l => sn (ix2 r l)) k := by
  have e : x = ix3 0 r (show Fin 128 from x 2) := funext fun a => by
    match a with
    | ⟨0, _⟩ => exact Subsingleton.elim (α := Fin 1) _ _
    | ⟨1, _⟩ => exact Fin.ext hx.symm
    | ⟨2, _⟩ => rfl
  have e' : k = ⟨o + (show Fin 128 from x 2).val, by have := (show Fin 128 from x 2).isLt; omega⟩ := Fin.ext hk
  rw [e', ← tile_at o ho ho' y cs sn M hM h hr r (show Fin 128 from x 2)]
  generalize (show Fin 128 from x 2) = l at e
  rw [e]
  generalize addf (mulf (extractStridedSlice S256x128 ![0, o] y h) cs)
      (mulf (select M (dynamicRotate 1 112#32 none (extractStridedSlice S256x128 ![0, o] y h) hr) (dynamicRotate 1 16#32 none (extractStridedSlice S256x128 ![0, o] y h) hr)) sn) = z
  pointwise []

variable (x0 : FVec Ideal S256x1024 .f32) (x1 x2 : FVec Ideal S1x1x1024 .f32) (x3 : FVec Ideal S1024x3072 .bf16) (x4 x5 : FVec Ideal S256x128 .f32)

/-- The block's row of the product. -/
def prod (r : Fin 256) : Fin 3072 → EReal := row (fun d => x0 (ix2 r d)) (fun d => x1 (ix3 0 0 d)) (fun d => x2 (ix3 0 0 d)) (fun d k => x3 (ix2 d k))

theorem pay29_at (r : Fin 256) (k : Fin 3072) : k0_pay29 (F := Ideal) x0 x1 x2 x3 x4 x5 (ix2 r k) = prod x0 x1 x2 x3 r k := by
  unfold k0_pay29 prod
  rw [y_at]
  pointwise []

theorem pay30_at (r : Fin 256) (l : Fin 128) : k0_pay30 (F := Ideal) x0 x1 x2 x3 x4 x5 (ix2 r l) = x4 (ix2 r l) := by
  pointwise [k0_pay30, k0_pay5]

theorem pay31_at (r : Fin 256) (l : Fin 128) : k0_pay31 (F := Ideal) x0 x1 x2 x3 x4 x5 (ix2 r l) = x5 (ix2 r l) := by
  pointwise [k0_pay31, k0_pay6]

set_option maxHeartbeats 4000000 in
/-- The query block's rows: turned and scaled. -/
theorem q_at (r : Fin 256) (k : Fin 1024) :
    out0_6 (F := Ideal) x0 x1 x2 x3 x4 x5 (ix2 r k)
      = turn (prod x0 x1 x2 x3 r) (fun l => x4 (ix2 r l)) (fun l => x5 (ix2 r l)) ⟨k.val, by omega⟩ * (Scalar.ofBits .f32 0x3E38AA3B#32 : Ideal .f32) := by
  rw [show prod x0 x1 x2 x3 r = fun k => k0_pay29 (F := Ideal) x0 x1 x2 x3 x4 x5 (ix2 r k) from funext fun k => (pay29_at x0 x1 x2 x3 x4 x5 r k).symm]
  simp only [← pay30_at x0 x1 x2 x3 x4 x5, ← pay31_at x0 x1 x2 x3 x4 x5]
  have hM := mask_at
  unfold out0_6 k0_pay33 k0_pay32
  generalize k0_pay29 (F := Ideal) x0 x1 x2 x3 x4 x5 = y
  generalize k0_pay30 (F := Ideal) x0 x1 x2 x3 x4 x5 = cs
  generalize k0_pay31 (F := Ideal) x0 x1 x2 x3 x4 x5 = sn
  generalize k0_pay7 = v at hM ⊢
  canon_tiles x h
  all_goals
    have h0 : r.val = (x 0).val := h0
    have h1 : k.val = _ := h1
    open_payloads
    refine q_tile _ ?_ ?_ y cs sn _ hM _ _ _ _ x r ⟨k.val, by omega⟩ h0 ?_
    · decide
    · decide
    · dsimp only; omega

/-- The key block's rows: turned. -/
theorem k_at (r : Fin 256) (k : Fin 1024) :
    out0_7 (F := Ideal) x0 x1 x2 x3 x4 x5 (ix3 0 r k)
      = turn (prod x0 x1 x2 x3 r) (fun l => x4 (ix2 r l)) (fun l => x5 (ix2 r l)) ⟨1024 + k.val, by omega⟩ := by
  rw [show prod x0 x1 x2 x3 r = fun k => k0_pay29 (F := Ideal) x0 x1 x2 x3 x4 x5 (ix2 r k) from funext fun k => (pay29_at x0 x1 x2 x3 x4 x5 r k).symm]
  simp only [← pay30_at x0 x1 x2 x3 x4 x5, ← pay31_at x0 x1 x2 x3 x4 x5]
  have hM := mask_at
  unfold out0_7 k0_pay33 k0_pay32
  generalize k0_pay29 (F := Ideal) x0 x1 x2 x3 x4 x5 = y
  generalize k0_pay30 (F := Ideal) x0 x1 x2 x3 x4 x5 = cs
  generalize k0_pay31 (F := Ideal) x0 x1 x2 x3 x4 x5 = sn
  generalize k0_pay7 = v at hM ⊢
  canon_tiles x h
  all_goals
    have h1 : r.val = (x 1).val := h1
    have h2 : k.val = _ := h2
    open_payloads
    refine k_tile _ ?_ ?_ y cs sn _ hM _ _ _ _ x r ⟨1024 + k.val, by omega⟩ h1 ?_
    · decide
    · decide
    · dsimp only; omega

/-- The value block, transposed. -/
theorem v_at (k : Fin 1024) (r : Fin 256) :
    out0_8 (F := Ideal) x0 x1 x2 x3 x4 x5 (ix4 0 0 k r) = prod x0 x1 x2 x3 r ⟨2048 + k.val, by omega⟩ := by
  have h : out0_8 (F := Ideal) x0 x1 x2 x3 x4 x5 = k0_pay3 (F := Ideal) (k0_pay29 x0 x1 x2 x3 x4 x5) := by
    frame_out [out0_8]
  rw [h, ← pay29_at x0 x1 x2 x3 x4 x5]
  pointwise [k0_pay3]

end Cert.Kernel3Ideal.Qkv

end
-- ==== Proof.Qkv.Tables.lean ====
/- The kernel's cosine and sine tables, laid out over 128 lanes by the host, at a row and a lane. -/
module

public import proofs.«01_k».proof.Proof.Gen.Kernel3Ideal.Value
public import proofs.«01_k».proof.Proof.Qkv.Rope
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel3Ideal.Qkv

open Cert.Kernel3Ideal Cert.Kernel3Ideal.Gen
open Idealize.ShloMosaic Idealize.ShloMosaic.TcCoe Idealize.SL.Sem
open Cert.Qkv

section Stages
variable {F : FTy → Type} [FloatOps F]

/-- One axis's frequencies. -/
def axis0 (x : Vec F S8192x2x16 .f32) : Vec F S8192x16 .f32 :=
  shapeCast S8192x16 (extractStridedSlice S8192x1x16 ![0, 0, 0] x slices_S8192x2x16_S8192x1x16_0_0_0) shapeCasts_S8192x1x16_S8192x16

def axis1 (x : Vec F S8192x2x16 .f32) : Vec F S8192x16 .f32 :=
  shapeCast S8192x16 (extractStridedSlice S8192x1x16 ![0, 1, 0] x slices_S8192x2x16_S8192x1x16_0_1_0) shapeCasts_S8192x1x16_S8192x16

/-- Four groups of sixteen lanes, twice over, and a constant below. -/
def tab (z : BitVec 32) (a b c d : Vec F S8192x16 .f32) : Vec F S8448x128 .f32 :=
  concatenate S8448x128 0 [⟨S8192x128, shapeCast S8192x128 (broadcastInDim S1x8192x2x64 ![0, 1, 2, 3] bcast_S1x8192x1x64_S1x8192x2x64_0_1_2_3
      (shapeCast S1x8192x1x64 (concatenate S8192x64 1 [⟨S8192x16, a⟩, ⟨S8192x16, b⟩, ⟨S8192x16, c⟩, ⟨S8192x16, d⟩] concatenates_S8192x16_S8192x16_S8192x16_S8192x16_S8192x64_d1)
        shapeCasts_S8192x64_S1x8192x1x64)) shapeCasts_S1x8192x2x64_S8192x128⟩,
    ⟨S256x128, broadcastInDim S256x128 ![] bcast_S_S256x128 (constant S_ .f32 z)⟩] concatenates_S8192x128_S256x128_S8448x128_d0

end Stages

theorem axis0_at (x : FVec Ideal S8192x2x16 .f32) (n : Fin 8192) (f : Fin 16) : axis0 (F := Ideal) x (ix2 n f) = x (ix3 n 0 f) := by
  pointwise [axis0]

theorem axis1_at (x : FVec Ideal S8192x2x16 .f32) (n : Fin 8192) (f : Fin 16) : axis1 (F := Ideal) x (ix2 n f) = x (ix3 n 1 f) := by
  pointwise [axis1]

theorem tab_ctx (z : BitVec 32) (a b c d : FVec Ideal S8192x16 .f32) (n : Fin 8448) (l : Fin 128) (h : ¬ n.val < 8192) :
    tab (F := Ideal) z a b c d (ix2 n l) = (Scalar.ofBits .f32 z : Ideal .f32) := by
  unfold tab
  pointwise []
  exact dif_neg h

theorem tab_lat (z : BitVec 32) (a b c d : FVec Ideal S8192x16 .f32) (n : Fin 8448) (l : Fin 128) (h : n.val < 8192) :
    tab (F := Ideal) z a b c d (ix2 n l) = (if l.val % 64 < 32 then (if l.val % 32 < 16 then a else b) else (if l.val % 32 < 16 then c else d))
      (ix2 ⟨n.val, h⟩ ⟨l.val % 16, Nat.mod_lt _ (by decide)⟩) := by
  unfold tab
  pointwise []
  refine (dif_pos h).trans ?_
  by_cases h1 : l.val % 64 < 32 <;> by_cases h2 : l.val % 32 < 16
  · rw [if_pos h1, if_pos h2, dif_pos (by omega)]
    exact congrArg a (congrArg (ix2 _) (Fin.ext (show l.val % 64 = l.val % 16 by omega)))
  · rw [if_pos h1, if_neg h2, dif_neg (by omega), dif_pos (by omega)]
    exact congrArg b (congrArg (ix2 _) (Fin.ext (show l.val % 64 - 16 = l.val % 16 by omega)))
  · rw [if_neg h1, if_pos h2, dif_neg (by omega), dif_neg (by omega), dif_pos (by omega)]
    exact congrArg c (congrArg (ix2 _) (Fin.ext (show l.val % 64 - 16 - 16 = l.val % 16 by omega)))
  · rw [if_neg h1, if_neg h2, dif_neg (by omega), dif_neg (by omega), dif_neg (by omega)]
    exact congrArg d (congrArg (ix2 _) (Fin.ext (show l.val % 64 - 16 - 16 - 16 = l.val % 16 by omega)))

variable (m : (ℓ : Loc nD τ sig) → Buf (Elt Ideal) ℓ) (c : Dev nD)

theorem cos_eq : (V m c main_v27 : FVec Ideal S8448x128 .f32)
    = tab (F := Ideal) 0x3F800000#32 (axis0 (F := Ideal) (m ((c : Thread nD τ).loc main_arg4))) (axis0 (F := Ideal) (m ((c : Thread nD τ).loc main_arg4)))
        (axis1 (F := Ideal) (m ((c : Thread nD τ).loc main_arg4))) (axis1 (F := Ideal) (m ((c : Thread nD τ).loc main_arg4))) := by
  unfold V
  after_reads_simp
  rfl

theorem sin_eq : (V m c main_v29 : FVec Ideal S8448x128 .f32)
    = tab (F := Ideal) 0x00000000#32 (Host.negf (axis0 (F := Ideal) (m ((c : Thread nD τ).loc main_arg5)) : FVec Ideal S8192x16 .f32) : FVec Ideal S8192x16 .f32) (axis0 (F := Ideal) (m ((c : Thread nD τ).loc main_arg5)))
        (Host.negf (axis1 (F := Ideal) (m ((c : Thread nD τ).loc main_arg5)) : FVec Ideal S8192x16 .f32) : FVec Ideal S8192x16 .f32) (axis1 (F := Ideal) (m ((c : Thread nD τ).loc main_arg5))) := by
  unfold V
  after_reads_simp
  rfl

/-- A row turned by the tables, at its place in the sequence: turned on the latent rows, unchanged on the context's. -/
theorem turn_at (n : Fin 8448) (y : Fin 3072 → EReal) (k : Fin 3072) :
    turn y (fun l => (V m c main_v27 : FVec Ideal S8448x128 .f32) (ix2 n l)) (fun l => (V m c main_v29 : FVec Ideal S8448x128 .f32) (ix2 n l)) k
      = emb (fun n a f => (m ((c : Thread nD τ).loc main_arg4) : FVec Ideal S8192x2x16 .f32) (ix3 n a f))
          (fun n a f => (m ((c : Thread nD τ).loc main_arg5) : FVec Ideal S8192x2x16 .f32) (ix3 n a f)) n y k := by
  rw [cos_eq, sin_eq]
  unfold emb
  by_cases h : n.val < 8192
  · rw [dif_pos h]
    congr 1
    · funext l
      rw [tab_lat _ _ _ _ _ _ _ h]
      by_cases h1 : l.val % 64 < 32
      · have e : (⟨l.val % 64 / 32, by omega⟩ : Fin 2) = 0 := Fin.ext (show l.val % 64 / 32 = 0 by omega)
        rw [if_pos h1, ite_self, axis0_at, e]
      · have e : (⟨l.val % 64 / 32, by omega⟩ : Fin 2) = 1 := Fin.ext (show l.val % 64 / 32 = 1 by omega)
        rw [if_neg h1, ite_self, axis1_at, e]
    · funext l
      rw [tab_lat _ _ _ _ _ _ _ h]
      by_cases h1 : l.val % 64 < 32 <;> by_cases h2 : l.val % 32 < 16
      · have e : (⟨l.val % 64 / 32, by omega⟩ : Fin 2) = 0 := Fin.ext (show l.val % 64 / 32 = 0 by omega)
        rw [if_pos h1, if_pos h2, if_pos h2, e]
        exact congrArg (fun z : EReal => -z) (axis0_at _ _ _)
      · have e : (⟨l.val % 64 / 32, by omega⟩ : Fin 2) = 0 := Fin.ext (show l.val % 64 / 32 = 0 by omega)
        rw [if_pos h1, if_neg h2, if_neg h2, e]
        exact axis0_at _ _ _
      · have e : (⟨l.val % 64 / 32, by omega⟩ : Fin 2) = 1 := Fin.ext (show l.val % 64 / 32 = 1 by omega)
        rw [if_neg h1, if_pos h2, if_pos h2, e]
        exact congrArg (fun z : EReal => -z) (axis1_at _ _ _)
      · have e : (⟨l.val % 64 / 32, by omega⟩ : Fin 2) = 1 := Fin.ext (show l.val % 64 / 32 = 1 by omega)
        rw [if_neg h1, if_neg h2, if_neg h2, e]
        exact axis1_at _ _ _
  · rw [dif_neg h]
    simp only [tab_ctx _ _ _ _ _ _ _ h]
    have h1 : (Scalar.ofBits .f32 0x3F800000#32 : Ideal .f32) = (1 : EReal) := by pointwise []
    have h0 : (Scalar.ofBits .f32 0x00000000#32 : Ideal .f32) = (0 : EReal) := by pointwise []
    unfold turn
    rw [h1, h0, mul_one, mul_zero, add_zero]

end Cert.Kernel3Ideal.Qkv

end
-- ==== Proof.Qkv.Kernel.lean ====
/- The query, key and value kernel's output arrays after the run. -/
module

public import proofs.«01_k».proof.Proof.Qkv.Pay
public import proofs.«01_k».proof.Proof.Qkv.Tables

@[expose] public section

set_option maxRecDepth 16384

noncomputable section

namespace Cert.Kernel3Ideal.Qkv

open Cert.Kernel3Ideal Cert.Kernel3Ideal.Gen
open Idealize.ShloMosaic Idealize.ShloMosaic.TcCoe Idealize.SL.Sem
open Idealize.ShloMosaic.Pipeline (Dat)
open Cert.Qkv

/-- A grid point's sequence, and its tile there: the 64 latent tiles, then one context tile for each sequence. -/
def bOf (t : ℕ) : ℕ := if t < 64 then t / 32 else t - 64
def nOf (t : ℕ) : ℕ := if t < 64 then t % 32 else 32

theorem idx : ∀ t : Fin cfg0.N, win0_0.index t = ![t.val, 0] ∧ win0_1.index t = ![min (t.val / 32) 2, 0, 0] ∧ win0_2.index t = ![min (t.val / 32) 2, 0, 0]
    ∧ win0_3.index t = ![0, 0] ∧ win0_4.index t = ![nOf t.val, 0] ∧ win0_5.index t = ![nOf t.val, 0]
    ∧ win0_6.index t = ![t.val, 0] ∧ win0_7.index t = ![bOf t.val, nOf t.val, 0] ∧ win0_8.index t = ![bOf t.val, nOf t.val, 0, 0] :=
  (by decide +kernel : ∀ t : Fin grid0.N, _)

theorem covers6 : (cfg0.win 6).Covers := by decide +kernel
theorem covers7 : (cfg0.win 7).Covers := by decide +kernel
theorem covers8 : (cfg0.win 8).Covers := by decide +kernel

variable (m : (ℓ : Loc nD τ sig) → Buf (Elt Ideal) ℓ) (c : Dev nD) (t : Fin cfg0.N)

theorem lt (t : Fin cfg0.N) : t.val < 66 := t.isLt
theorem bOf_lt (t : Fin cfg0.N) : bOf t.val < 2 := by have := lt t; unfold bOf; split <;> omega
theorem nOf_lt (t : Fin cfg0.N) : nOf t.val < 33 := by unfold nOf; split <;> omega

theorem x_at (r : Fin 256) (d : Fin 1024) : (iblk m c 0 t : FVec Ideal S256x1024 .f32) (ix2 r d)
    = (m ((c : Thread nD τ).loc main_arg0) : FVec Ideal S16896x1024 .f32) (ix2 ⟨t.val * 256 + r.val, by have := lt t; omega⟩ d) := by
  blk_ext [iblk, V, idx t]

theorem sc_at (d : Fin 1024) : (iblk m c 1 t : FVec Ideal S1x1x1024 .f32) (ix3 0 0 d)
    = (m ((c : Thread nD τ).loc main_arg1) : FVec Ideal S3x1x1024 .f32) (ix3 ⟨min (t.val / 32) 2, by omega⟩ 0 d) := by
  blk_ext [iblk, V, idx t]

theorem sh_at (d : Fin 1024) : (iblk m c 2 t : FVec Ideal S1x1x1024 .f32) (ix3 0 0 d)
    = (m ((c : Thread nD τ).loc main_arg2) : FVec Ideal S3x1x1024 .f32) (ix3 ⟨min (t.val / 32) 2, by omega⟩ 0 d) := by
  blk_ext [iblk, V, idx t]

theorem w_at (d : Fin 1024) (k : Fin 3072) : (iblk m c 3 t : FVec Ideal S1024x3072 .bf16) (ix2 d k)
    = (m ((c : Thread nD τ).loc main_arg3) : FVec Ideal S1024x3072 .f32) (ix2 d k) := by
  have h : (V m c main_v30 : FVec Ideal S1024x3072 .bf16) = (truncf .bf16 (m ((c : Thread nD τ).loc main_arg3) : FVec Ideal S1024x3072 .f32) bitsLt_bf16_f32 : FVec Ideal S1024x3072 .bf16) := by
    unfold V
    after_reads_simp
  have h2 : (iblk m c 3 t : FVec Ideal S1024x3072 .bf16) (ix2 d k) = (V m c main_v30 : FVec Ideal S1024x3072 .bf16) (ix2 d k) := by
    blk_ext [iblk, idx t]
  rw [h2, h]
  pointwise []

theorem cs_at (r : Fin 256) (l : Fin 128) : (iblk m c 4 t : FVec Ideal S256x128 .f32) (ix2 r l)
    = (V m c main_v27 : FVec Ideal S8448x128 .f32) (ix2 ⟨nOf t.val * 256 + r.val, by have := nOf_lt t; omega⟩ l) := by
  blk_ext [iblk, idx t]

theorem sn_at (r : Fin 256) (l : Fin 128) : (iblk m c 5 t : FVec Ideal S256x128 .f32) (ix2 r l)
    = (V m c main_v29 : FVec Ideal S8448x128 .f32) (ix2 ⟨nOf t.val * 256 + r.val, by have := nOf_lt t; omega⟩ l) := by
  blk_ext [iblk, idx t]

/-- The kernel's arguments as functions. -/
def inputs : Inputs where
  x r d := (m ((c : Thread nD τ).loc main_arg0) : FVec Ideal S16896x1024 .f32) (ix2 r d)
  sc s d := (m ((c : Thread nD τ).loc main_arg1) : FVec Ideal S3x1x1024 .f32) (ix3 s 0 d)
  sh s d := (m ((c : Thread nD τ).loc main_arg2) : FVec Ideal S3x1x1024 .f32) (ix3 s 0 d)
  w d k := (m ((c : Thread nD τ).loc main_arg3) : FVec Ideal S1024x3072 .f32) (ix2 d k)
  cs n a f := (m ((c : Thread nD τ).loc main_arg4) : FVec Ideal S8192x2x16 .f32) (ix3 n a f)
  sn n a f := (m ((c : Thread nD τ).loc main_arg5) : FVec Ideal S8192x2x16 .f32) (ix3 n a f)

theorem prod_at (r : Fin 256) : prod (iblk m c 0 t) (iblk m c 1 t) (iblk m c 2 t) (iblk m c 3 t) r
    = (inputs m c).prod ⟨t.val * 256 + r.val, by have := lt t; omega⟩ := by
  have e : (⟨min ((t.val * 256 + r.val) / 8192) 2, by omega⟩ : Fin 3) = ⟨min (t.val / 32) 2, by omega⟩ :=
    Fin.ext (show min ((t.val * 256 + r.val) / 8192) 2 = min (t.val / 32) 2 by omega)
  unfold prod Inputs.prod inputs
  simp only [x_at, sc_at, sh_at, w_at, e]

theorem place_eq (r : Fin 256) : Inputs.place ⟨t.val * 256 + r.val, by have := lt t; omega⟩ = ⟨nOf t.val * 256 + r.val, by have := nOf_lt t; omega⟩ := by
  have := lt t
  refine Fin.ext ?_
  show (if t.val * 256 + r.val < 16384 then (t.val * 256 + r.val) % 8192 else 8192 + (t.val * 256 + r.val - 16384) % 256) = nOf t.val * 256 + r.val
  unfold nOf
  split <;> split <;> omega

theorem rowAt_eq (r : Fin 256) : Inputs.rowAt ⟨bOf t.val, bOf_lt t⟩ ⟨nOf t.val * 256 + r.val, by have := nOf_lt t; omega⟩
    = ⟨t.val * 256 + r.val, by have := lt t; omega⟩ := by
  have := lt t
  refine Fin.ext ?_
  show (if nOf t.val * 256 + r.val < 8192 then bOf t.val * 8192 + (nOf t.val * 256 + r.val) else 16384 + (bOf t.val * 256 + (nOf t.val * 256 + r.val - 8192))) = t.val * 256 + r.val
  unfold nOf bOf
  split <;> split <;> omega

/-- The three arrays. -/
def Q : FVec Ideal S16896x1024 .bf16 := fun j => (inputs m c).query (j 0) (j 1) * (Scalar.ofBits .f32 0x3E38AA3B#32 : Ideal .f32)
def K : FVec Ideal S2x8448x1024 .bf16 := fun j => (inputs m c).key (j 0) (j 1) (j 2)
def Vt : FVec Ideal S2x33x1024x256 .bf16 := fun j =>
  (inputs m c).val (j 0) ⟨(j 1).val * 256 + (j 3).val, by have h1 : (j 1).val < 33 := (j 1).isLt; have h3 : (j 3).val < 256 := (j 3).isLt; omega⟩ (j 2)

theorem q_point (r : Fin 256) (k : Fin 1024) :
    out0_6 (F := Ideal) (iblk m c 0 t) (iblk m c 1 t) (iblk m c 2 t) (iblk m c 3 t) (iblk m c 4 t) (iblk m c 5 t) (ix2 r k)
      = Q m c (ix2 ⟨t.val * 256 + r.val, by have := lt t; omega⟩ k) := by
  rw [q_at]
  simp only [cs_at, sn_at]
  rw [turn_at, prod_at]
  unfold Q Inputs.query
  dsimp only [ix2]
  rw [place_eq]
  rfl

theorem k_point (r : Fin 256) (k : Fin 1024) :
    out0_7 (F := Ideal) (iblk m c 0 t) (iblk m c 1 t) (iblk m c 2 t) (iblk m c 3 t) (iblk m c 4 t) (iblk m c 5 t) (ix3 0 r k)
      = K m c (ix3 ⟨bOf t.val, bOf_lt t⟩ ⟨nOf t.val * 256 + r.val, by have := nOf_lt t; omega⟩ k) := by
  rw [k_at]
  simp only [cs_at, sn_at]
  rw [turn_at, prod_at]
  unfold K Inputs.key
  dsimp only [ix3]
  rw [rowAt_eq]
  rfl

theorem v_point (k : Fin 1024) (r : Fin 256) :
    out0_8 (F := Ideal) (iblk m c 0 t) (iblk m c 1 t) (iblk m c 2 t) (iblk m c 3 t) (iblk m c 4 t) (iblk m c 5 t) (ix4 0 0 k r)
      = Vt m c (ix4 ⟨bOf t.val, bOf_lt t⟩ ⟨nOf t.val, nOf_lt t⟩ k r) := by
  rw [v_at, prod_at]
  unfold Vt Inputs.val
  dsimp only [ix4]
  exact (congrArg (fun R => (inputs m c).prod R ⟨2048 + k.val, by omega⟩) (rowAt_eq t r)).symm

theorem final6_of (o : Fin cfg0.N → FVec Ideal S256x1024 .bf16) (f : FVec Ideal S16896x1024 .bf16) (ho : ∀ t, (dats m 0 c).after 6 t = o t)
    (hf : ∀ (t : Fin cfg0.N) (r : Fin 256) (e : Fin 1024), o t (ix2 r e) = f (ix2 ⟨t.val * 256 + r.val, by have := lt t; omega⟩ e)) :
    (dats m 0 c).arrAt 6 cfg0.N = f := by
  have emb (t : Fin cfg0.N) (y : ((cfg0.win 6).xblock (cfg0.grid.coords t)).Idx) : f ((win0_6.blk t).view.emb y)
      = f (ix2 ⟨t.val * 256 + (show Fin 256 from y 0).val, by have := (show Fin 256 from y 0).isLt; have := lt t; omega⟩ (show Fin 1024 from y 1)) := by
    blk_ext [idx t]
  generalize dats m 0 c = D at ho ⊢
  refine D.arrAt_eq_of_covers 6 f covers6 fun t _ y => ?_
  blk_simp
  rw [ho]
  refine Eq.trans ?_ (emb t y).symm
  refine Eq.trans ?_ (hf t (show Fin 256 from y 0) (show Fin 1024 from y 1))
  have hy : y = ix2 (show Fin 256 from y 0) (show Fin 1024 from y 1) := funext fun a => by
    match a with
    | ⟨0, _⟩ => rfl
    | ⟨1, _⟩ => rfl
  exact congrArg (o t) hy

theorem final7_of (o : Fin cfg0.N → FVec Ideal S1x256x1024 .bf16) (f : FVec Ideal S2x8448x1024 .bf16) (ho : ∀ t, (dats m 0 c).after 7 t = o t)
    (hf : ∀ (t : Fin cfg0.N) (r : Fin 256) (e : Fin 1024), o t (ix3 0 r e) = f (ix3 ⟨bOf t.val, bOf_lt t⟩ ⟨nOf t.val * 256 + r.val, by have := nOf_lt t; omega⟩ e)) :
    (dats m 0 c).arrAt 7 cfg0.N = f := by
  have emb (t : Fin cfg0.N) (y : ((cfg0.win 7).xblock (cfg0.grid.coords t)).Idx) : f ((win0_7.blk t).view.emb y)
      = f (ix3 ⟨bOf t.val, bOf_lt t⟩ ⟨nOf t.val * 256 + (show Fin 256 from y 1).val, by have := (show Fin 256 from y 1).isLt; have := nOf_lt t; omega⟩ (show Fin 1024 from y 2)) := by
    blk_ext [idx t]
  generalize dats m 0 c = D at ho ⊢
  refine D.arrAt_eq_of_covers 7 f covers7 fun t _ y => ?_
  blk_simp
  rw [ho]
  refine Eq.trans ?_ (emb t y).symm
  refine Eq.trans ?_ (hf t (show Fin 256 from y 1) (show Fin 1024 from y 2))
  have hy : y = ix3 0 (show Fin 256 from y 1) (show Fin 1024 from y 2) := funext fun a => by
    match a with
    | ⟨0, _⟩ => exact Subsingleton.elim (α := Fin 1) _ _
    | ⟨1, _⟩ => rfl
    | ⟨2, _⟩ => rfl
  exact congrArg (o t) hy

theorem final8_of (o : Fin cfg0.N → FVec Ideal S1x1x1024x256 .bf16) (f : FVec Ideal S2x33x1024x256 .bf16) (ho : ∀ t, (dats m 0 c).after 8 t = o t)
    (hf : ∀ (t : Fin cfg0.N) (e : Fin 1024) (r : Fin 256), o t (ix4 0 0 e r) = f (ix4 ⟨bOf t.val, bOf_lt t⟩ ⟨nOf t.val, nOf_lt t⟩ e r)) :
    (dats m 0 c).arrAt 8 cfg0.N = f := by
  have emb (t : Fin cfg0.N) (y : ((cfg0.win 8).xblock (cfg0.grid.coords t)).Idx) : f ((win0_8.blk t).view.emb y)
      = f (ix4 ⟨bOf t.val, bOf_lt t⟩ ⟨nOf t.val, nOf_lt t⟩ (show Fin 1024 from y 2) (show Fin 256 from y 3)) := by
    blk_ext [idx t]
  generalize dats m 0 c = D at ho ⊢
  refine D.arrAt_eq_of_covers 8 f covers8 fun t _ y => ?_
  blk_simp
  rw [ho]
  refine Eq.trans ?_ (emb t y).symm
  refine Eq.trans ?_ (hf t (show Fin 1024 from y 2) (show Fin 256 from y 3))
  have hy : y = ix4 0 0 (show Fin 1024 from y 2) (show Fin 256 from y 3) := funext fun a => by
    match a with
    | ⟨0, _⟩ => exact Subsingleton.elim (α := Fin 1) _ _
    | ⟨1, _⟩ => exact Subsingleton.elim (α := Fin 1) _ _
    | ⟨2, _⟩ => rfl
    | ⟨3, _⟩ => rfl
  exact congrArg (o t) hy

/-- The output arrays after the run. -/
theorem final6 : (dats m 0 c).arrAt 6 cfg0.N = Q m c := final6_of m c _ _ (after0_6 m c) (q_point m c)
theorem final7 : (dats m 0 c).arrAt 7 cfg0.N = K m c := final7_of m c _ _ (after0_7 m c) (k_point m c)
theorem final8 : (dats m 0 c).arrAt 8 cfg0.N = Vt m c := final8_of m c _ _ (after0_8 m c) (v_point m c)

end Cert.Kernel3Ideal.Qkv

end
-- ==== Proof.Qkv.Ref.lean ====
/- The reference of the query, key and value products at an index. -/
module

public import proofs.«01_k».proof.Proof.Gen.Reference3Ideal.Run
public import proofs.«01_k».proof.Proof.Qkv.Rope
public import Idealize.ShloMosaic.Lib.Pointwise

@[expose] public section

set_option maxRecDepth 16384

noncomputable section

namespace Cert.Reference3Ideal.Qkv

open Cert.Reference3Ideal Cert.Reference3Ideal.Gen Cert.Reference3Ideal.Value
open Idealize.ShloMosaic Idealize.ShloMosaic.TcCoe
open Cert.Qkv

section Stages

variable {F : FTy → Type} [FloatOps F]

/-- The latent rows, modulated, times the weights; -/
def prodL (x : Vec F S16896x1024 .f32) (sc sh : Vec F S3x1x1024 .f32) (w : Vec F S1024x3072 .f32) : Vec F S2x8192x3072 .f32 :=
  Host.dotGeneral dot_S2x8192x1024_S1024x3072_S2x8192x3072_2_0_01_1_n_n none (addf (mulf (shapeCast _ (extractStridedSlice S16384x1024 ![0, 0] x slices_S16896x1024_S16384x1024_0_0) shapeCasts_S16384x1024_S2x8192x1024)
      (broadcastInDim S2x8192x1024 ![0, 1, 2] bcast_S2x1x1024_S2x8192x1024_0_1_2 (addf (broadcastInDim S2x1x1024 ![] bcast_S_S2x1x1024 (constant S_ .f32 0x3F800000#32))
        (extractStridedSlice S2x1x1024 ![0, 0, 0] sc slices_S3x1x1024_S2x1x1024_0_0_0))))
    (broadcastInDim S2x8192x1024 ![0, 1, 2] bcast_S2x1x1024_S2x8192x1024_0_1_2 (extractStridedSlice S2x1x1024 ![0, 0, 0] sh slices_S3x1x1024_S2x1x1024_0_0_0))) w

/-- the context rows, likewise. -/
def prodC (x : Vec F S16896x1024 .f32) (sc sh : Vec F S3x1x1024 .f32) (w : Vec F S1024x3072 .f32) : Vec F S2x256x3072 .f32 :=
  Host.dotGeneral dot_S2x256x1024_S1024x3072_S2x256x3072_2_0_01_1_n_n none (addf (mulf (shapeCast _ (extractStridedSlice S512x1024 ![16384, 0] x slices_S16896x1024_S512x1024_16384_0) shapeCasts_S512x1024_S2x256x1024)
      (broadcastInDim S2x256x1024 ![0, 1, 2] bcast_S1x1x1024_S2x256x1024_0_1_2 (broadcastInDim S1x1x1024 ![1, 2] bcast_S1x1024_S1x1x1024_1_2 (addf (broadcastInDim S1x1024 ![] bcast_S_S1x1024 (constant S_ .f32 0x3F800000#32))
        (shapeCast _ (extractStridedSlice S1x1x1024 ![2, 0, 0] sc slices_S3x1x1024_S1x1x1024_2_0_0) shapeCasts_S1x1x1024_S1x1024)))))
    (broadcastInDim S2x256x1024 ![0, 1, 2] bcast_S1x1x1024_S2x256x1024_0_1_2 (broadcastInDim S1x1x1024 ![1, 2] bcast_S1x1024_S1x1x1024_1_2
      (shapeCast _ (extractStridedSlice S1x1x1024 ![2, 0, 0] sh slices_S3x1x1024_S1x1x1024_2_0_0) shapeCasts_S1x1x1024_S1x1024)))) w

/-- The first half of every group of 32 lanes; -/
def half0 (z : Vec F S2x8192x1024 .f32) : Vec F S2x8192x8x2x2x16 .f32 :=
  shapeCast _ (extractStridedSlice S2x8192x8x2x2x1x16 ![0, 0, 0, 0, 0, 0, 0] (shapeCast _ (shapeCast _ z shapeCasts_S2x8192x1024_S2x8192x8x2x64) shapeCasts_S2x8192x8x2x64_S2x8192x8x2x2x2x16)
    slices_S2x8192x8x2x2x2x16_S2x8192x8x2x2x1x16_0_0_0_0_0_0_0) shapeCasts_S2x8192x8x2x2x1x16_S2x8192x8x2x2x16

/-- the second half. -/
def half1 (z : Vec F S2x8192x1024 .f32) : Vec F S2x8192x8x2x2x16 .f32 :=
  shapeCast _ (extractStridedSlice S2x8192x8x2x2x1x16 ![0, 0, 0, 0, 0, 1, 0] (shapeCast _ (shapeCast _ z shapeCasts_S2x8192x1024_S2x8192x8x2x64) shapeCasts_S2x8192x8x2x64_S2x8192x8x2x2x2x16)
    slices_S2x8192x8x2x2x2x16_S2x8192x8x2x2x1x16_0_0_0_0_0_1_0) shapeCasts_S2x8192x8x2x2x1x16_S2x8192x8x2x2x16

/-- A table over every sequence and head; -/
def over (t : Vec F S8192x2x16 .f32) : Vec F S2x8192x8x2x2x16 .f32 :=
  broadcastInDim S2x8192x8x2x2x16 ![0, 1, 2, 3, 4, 5] bcast_S1x8192x1x1x2x16_S2x8192x8x2x2x16_0_1_2_3_4_5 (broadcastInDim S1x8192x1x1x2x16 ![1, 4, 5] bcast_S8192x2x16_S1x8192x1x1x2x16_1_4_5 t)

/-- the two halves put back together. -/
def join (a b : Vec F S2x8192x8x2x2x16 .f32) : Vec F S2x8192x8x2x64 .f32 :=
  shapeCast _ (concatenate S2x8192x8x2x2x2x16 5 [⟨S2x8192x8x2x2x1x16, (broadcastInDim S2x8192x8x2x2x1x16 ![0, 1, 2, 3, 4, 6] bcast_S2x8192x8x2x2x16_S2x8192x8x2x2x1x16_0_1_2_3_4_6 a)⟩,
    ⟨S2x8192x8x2x2x1x16, (broadcastInDim S2x8192x8x2x2x1x16 ![0, 1, 2, 3, 4, 6] bcast_S2x8192x8x2x2x16_S2x8192x8x2x2x1x16_0_1_2_3_4_6 b)⟩]
    concatenates_S2x8192x8x2x2x1x16_S2x8192x8x2x2x1x16_S2x8192x8x2x2x2x16_d5) shapeCasts_S2x8192x8x2x2x2x16_S2x8192x8x2x64

/-- The rotary embedding. -/
def rope (z : Vec F S2x8192x1024 .f32) (cs sn : Vec F S8192x2x16 .f32) : Vec F S2x8192x8x2x64 .f32 :=
  join (subf (mulf (half0 z) (over cs)) (mulf (half1 z) (over sn))) (addf (mulf (half1 z) (over cs)) (mulf (half0 z) (over sn)))

/-- The queries, -/
def query (zl : Vec F S2x8192x3072 .f32) (zc : Vec F S2x256x3072 .f32) (cs sn : Vec F S8192x2x16 .f32) : Vec F S16896x1024 .bf16 :=
  truncf .bf16 (mulf (concatenate S16896x1024 0 [⟨S16384x1024, (shapeCast _ (rope (extractStridedSlice S2x8192x1024 ![0, 0, 0] zl slices_S2x8192x3072_S2x8192x1024_0_0_0) cs sn) shapeCasts_S2x8192x8x2x64_S16384x1024)⟩,
      ⟨S512x1024, (shapeCast _ (extractStridedSlice S2x256x1024 ![0, 0, 0] zc slices_S2x256x3072_S2x256x1024_0_0_0) shapeCasts_S2x256x1024_S512x1024)⟩] concatenates_S16384x1024_S512x1024_S16896x1024_d0)
    (broadcastInDim S16896x1024 ![] bcast_S_S16896x1024 (constant S_ .f32 0x3E38AA3B#32))) bitsLt_bf16_f32

/-- the keys, -/
def key (zl : Vec F S2x8192x3072 .f32) (zc : Vec F S2x256x3072 .f32) (cs sn : Vec F S8192x2x16 .f32) : Vec F S2x8448x1024 .bf16 :=
  truncf .bf16 (concatenate S2x8448x1024 1 [⟨S2x8192x1024, (shapeCast _ (rope (extractStridedSlice S2x8192x1024 ![0, 0, 1024] zl slices_S2x8192x3072_S2x8192x1024_0_0_1024) cs sn) shapeCasts_S2x8192x8x2x64_S2x8192x1024)⟩,
      ⟨S2x256x1024, (extractStridedSlice S2x256x1024 ![0, 0, 1024] zc slices_S2x256x3072_S2x256x1024_0_0_1024)⟩] concatenates_S2x8192x1024_S2x256x1024_S2x8448x1024_d1) bitsLt_bf16_f32

/-- the values, transposed tile by tile. -/
def value (zl : Vec F S2x8192x3072 .f32) (zc : Vec F S2x256x3072 .f32) : Vec F S2x33x1024x256 .bf16 :=
  truncf .bf16 (transpose S2x33x1024x256 [0, 1, 3, 2] (shapeCast _ (concatenate S2x8448x1024 1 [⟨S2x8192x1024, (extractStridedSlice S2x8192x1024 ![0, 0, 2048] zl slices_S2x8192x3072_S2x8192x1024_0_0_2048)⟩,
      ⟨S2x256x1024, (extractStridedSlice S2x256x1024 ![0, 0, 2048] zc slices_S2x256x3072_S2x256x1024_0_0_2048)⟩] concatenates_S2x8192x1024_S2x256x1024_S2x8448x1024_d1) shapeCasts_S2x8448x1024_S2x33x256x1024)
    transposes_S2x33x256x1024_S2x33x1024x256_0_1_3_2) bitsLt_bf16_f32

/-- The reference's first two results are these stages, one after the other. -/
theorem query_eq (m : (ℓ : Loc nD τ sig) → Buf (Elt F) ℓ) (c : Dev nD) :
    res_main_v86 m c = query
      (prodL (m ((c.tc : Thread nD τ).loc main_arg0)) (m ((c.tc : Thread nD τ).loc main_arg1)) (m ((c.tc : Thread nD τ).loc main_arg2)) (m ((c.tc : Thread nD τ).loc main_arg3)))
      (prodC (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (m ((c.tc : Thread nD τ).loc main_arg5)) := rfl

theorem key_eq (m : (ℓ : Loc nD τ sig) → Buf (Elt F) ℓ) (c : Dev nD) :
    res_main_v87 m c = key
      (prodL (m ((c.tc : Thread nD τ).loc main_arg0)) (m ((c.tc : Thread nD τ).loc main_arg1)) (m ((c.tc : Thread nD τ).loc main_arg2)) (m ((c.tc : Thread nD τ).loc main_arg3)))
      (prodC (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (m ((c.tc : Thread nD τ).loc main_arg5)) := rfl

end Stages

theorem prodL_at (x : FVec Ideal S16896x1024 .f32) (sc sh : FVec Ideal S3x1x1024 .f32) (w : FVec Ideal S1024x3072 .f32) (b : Fin 2) (n : Fin 8192) (k : Fin 3072) :
    prodL (F := Ideal) x sc sh w (ix3 b n k) = row (fun d => x (ix2 ⟨b.val * 8192 + n.val, by omega⟩ d)) (fun d => sc (ix3 ⟨b.val, by omega⟩ 0 d))
      (fun d => sh (ix3 ⟨b.val, by omega⟩ 0 d)) (fun d k => w (ix2 d k)) k := by
  unfold prodL row
  pointwise []

theorem prodC_at (x : FVec Ideal S16896x1024 .f32) (sc sh : FVec Ideal S3x1x1024 .f32) (w : FVec Ideal S1024x3072 .f32) (b : Fin 2) (n : Fin 256) (k : Fin 3072) :
    prodC (F := Ideal) x sc sh w (ix3 b n k) = row (fun d => x (ix2 ⟨16384 + (b.val * 256 + n.val), by omega⟩ d)) (fun d => sc (ix3 2 0 d))
      (fun d => sh (ix3 2 0 d)) (fun d k => w (ix2 d k)) k := by
  unfold prodC row
  pointwise []

/-- A lane of the rotated row, by which half of its group of 32 it lies in, is the embedding's lane. -/
theorem emb_of (y : Fin 3072 → EReal) (cs sn : Fin 8192 → Fin 2 → Fin 16 → EReal) (n : Fin 8192) (k : Fin 1024) (off : ℕ) (ho : off % 128 = 0) (ho2 : off + 1024 ≤ 3072)
    (z : Fin 1024 → EReal) (hz : ∀ k : Fin 1024, z k = y ⟨off + k.val, by omega⟩) :
    (if h : k.val / 16 % 2 < 1 then
        z ⟨k.val / 128 * 128 + k.val / 64 % 2 * 64 + k.val / 32 % 2 * 32 + k.val % 16, by omega⟩ * cs n ⟨k.val / 32 % 2, by omega⟩ ⟨k.val % 16, by omega⟩
          - z ⟨k.val / 128 * 128 + k.val / 64 % 2 * 64 + k.val / 32 % 2 * 32 + 16 + k.val % 16, by omega⟩ * sn n ⟨k.val / 32 % 2, by omega⟩ ⟨k.val % 16, by omega⟩
      else
        z ⟨k.val / 128 * 128 + k.val / 64 % 2 * 64 + k.val / 32 % 2 * 32 + 16 + k.val % 16, by omega⟩ * cs n ⟨k.val / 32 % 2, by omega⟩ ⟨k.val % 16, by omega⟩
          + z ⟨k.val / 128 * 128 + k.val / 64 % 2 * 64 + k.val / 32 % 2 * 32 + k.val % 16, by omega⟩ * sn n ⟨k.val / 32 % 2, by omega⟩ ⟨k.val % 16, by omega⟩)
      = emb cs sn ⟨n.val, by omega⟩ y ⟨off + k.val, by omega⟩ := by
  have ha : (⟨(off + k.val) % 128 % 64 / 32, by omega⟩ : Fin 2) = ⟨k.val / 32 % 2, by omega⟩ := Fin.ext (show (off + k.val) % 128 % 64 / 32 = k.val / 32 % 2 by omega)
  have hf : (⟨(off + k.val) % 128 % 16, by omega⟩ : Fin 16) = ⟨k.val % 16, by omega⟩ := Fin.ext (show (off + k.val) % 128 % 16 = k.val % 16 by omega)
  unfold emb turn
  rw [dif_pos n.isLt]
  dsimp only
  rw [ha, hf]
  by_cases h : k.val / 16 % 2 < 1
  · rw [dif_pos h, hz, hz, if_pos (show (off + k.val) % 128 % 32 < 16 by omega), mul_neg, sub_eq_add_neg]
    have h0 : (⟨off + (k.val / 128 * 128 + k.val / 64 % 2 * 64 + k.val / 32 % 2 * 32 + k.val % 16), by omega⟩ : Fin 3072) = ⟨off + k.val, by omega⟩ :=
      Fin.ext (show off + (k.val / 128 * 128 + k.val / 64 % 2 * 64 + k.val / 32 % 2 * 32 + k.val % 16) = off + k.val by omega)
    have h1 : (⟨off + (k.val / 128 * 128 + k.val / 64 % 2 * 64 + k.val / 32 % 2 * 32 + 16 + k.val % 16), by omega⟩ : Fin 3072) = partner ⟨off + k.val, by omega⟩ :=
      Fin.ext (by
        show off + (k.val / 128 * 128 + k.val / 64 % 2 * 64 + k.val / 32 % 2 * 32 + 16 + k.val % 16) = if (off + k.val) % 32 < 16 then off + k.val + 16 else off + k.val - 16
        rw [if_pos (by omega)]
        omega)
    rw [h0, h1]
  · rw [dif_neg h, hz, hz, if_neg (show ¬ (off + k.val) % 128 % 32 < 16 by omega)]
    have h0 : (⟨off + (k.val / 128 * 128 + k.val / 64 % 2 * 64 + k.val / 32 % 2 * 32 + 16 + k.val % 16), by omega⟩ : Fin 3072) = ⟨off + k.val, by omega⟩ :=
      Fin.ext (show off + (k.val / 128 * 128 + k.val / 64 % 2 * 64 + k.val / 32 % 2 * 32 + 16 + k.val % 16) = off + k.val by omega)
    have h1 : (⟨off + (k.val / 128 * 128 + k.val / 64 % 2 * 64 + k.val / 32 % 2 * 32 + k.val % 16), by omega⟩ : Fin 3072) = partner ⟨off + k.val, by omega⟩ :=
      Fin.ext (by
        show off + (k.val / 128 * 128 + k.val / 64 % 2 * 64 + k.val / 32 % 2 * 32 + k.val % 16) = if (off + k.val) % 32 < 16 then off + k.val + 16 else off + k.val - 16
        rw [if_neg (by omega)]
        omega)
    rw [h0, h1]
/-- Cutting the sequence into tiles and transposing each. -/
theorem split_at (C : FVec Ideal S2x8448x1024 .f32) (b : Fin 2) (t : Fin 33) (k : Fin 1024) (r : Fin 256) :
    (transpose S2x33x1024x256 [0, 1, 3, 2] (shapeCast S2x33x256x1024 C shapeCasts_S2x8448x1024_S2x33x256x1024) transposes_S2x33x256x1024_S2x33x1024x256_0_1_3_2 : FVec Ideal S2x33x1024x256 .f32) (ix4 b t k r)
      = C (ix3 b ⟨t.val * 256 + r.val, by omega⟩ k) := by
  pointwise []

/-- The latent rows, then the context rows, in each sequence; -/
theorem stack_at (A : FVec Ideal S2x8192x1024 .f32) (B : FVec Ideal S2x256x1024 .f32) (b : Fin 2) (n : Fin 8448) (k : Fin 1024) :
    (concatenate S2x8448x1024 1 [⟨S2x8192x1024, A⟩, ⟨S2x256x1024, B⟩] concatenates_S2x8192x1024_S2x256x1024_S2x8448x1024_d1 : FVec Ideal S2x8448x1024 .f32) (ix3 b n k)
      = if h : n.val < 8192 then A (ix3 b ⟨n.val, h⟩ k) else B (ix3 b ⟨n.val - 8192, by omega⟩ k) := by
  pointwise []

/-- the first columns of the context rows, as one list; -/
theorem unstack_at (C : FVec Ideal S2x256x3072 .f32) (s : Fin 512) (k : Fin 1024) :
    (shapeCast S512x1024 (extractStridedSlice S2x256x1024 ![0, 0, 0] C slices_S2x256x3072_S2x256x1024_0_0_0) shapeCasts_S2x256x1024_S512x1024 : FVec Ideal S512x1024 .f32) (ix2 s k)
      = C (ix3 ⟨s.val / 256, by omega⟩ ⟨s.val % 256, by omega⟩ ⟨k.val, by omega⟩) := by
  pointwise []

/-- and both as one list of rows. -/
theorem rows_at (A : FVec Ideal S16384x1024 .f32) (B : FVec Ideal S512x1024 .f32) (r : Fin 16896) (k : Fin 1024) :
    (concatenate S16896x1024 0 [⟨S16384x1024, A⟩, ⟨S512x1024, B⟩] concatenates_S16384x1024_S512x1024_S16896x1024_d0 : FVec Ideal S16896x1024 .f32) (ix2 r k)
      = if h : r.val < 16384 then A (ix2 ⟨r.val, h⟩ k) else B (ix2 ⟨r.val - 16384, by omega⟩ k) := by
  pointwise []

section Rope

variable (z : FVec Ideal S2x8192x1024 .f32) (cs sn : FVec Ideal S8192x2x16 .f32) (b : Fin 2) (n : Fin 8192) (k : Fin 1024) (y : Fin 3072 → EReal)
    (off : ℕ) (ho : off % 128 = 0) (ho2 : off + 1024 ≤ 3072) (hz : ∀ k : Fin 1024, z (ix3 b n k) = y ⟨off + k.val, by omega⟩)

include ho hz in
/-- The rotated rows, laid out by sequence; -/
theorem rope_at : (shapeCast S2x8192x1024 (rope (F := Ideal) z cs sn) shapeCasts_S2x8192x8x2x64_S2x8192x1024 : FVec Ideal S2x8192x1024 .f32) (ix3 b n k)
    = emb (fun n a f => cs (ix3 n a f)) (fun n a f => sn (ix3 n a f)) ⟨n.val, by omega⟩ y ⟨off + k.val, by omega⟩ := by
  refine Eq.trans ?_ (emb_of y _ _ n k off ho ho2 (fun k => z (ix3 b n k)) hz)
  unfold rope join half0 half1 over
  pointwise []

include ho hz in
/-- and laid out as one list of rows. -/
theorem rope_row (r : Fin 16384) (hr : r.val = b.val * 8192 + n.val) :
    (shapeCast S16384x1024 (rope (F := Ideal) z cs sn) shapeCasts_S2x8192x8x2x64_S16384x1024 : FVec Ideal S16384x1024 .f32) (ix2 r k)
    = emb (fun n a f => cs (ix3 n a f)) (fun n a f => sn (ix3 n a f)) ⟨n.val, by omega⟩ y ⟨off + k.val, by omega⟩ := by
  have e : (shapeCast S16384x1024 (rope (F := Ideal) z cs sn) shapeCasts_S2x8192x8x2x64_S16384x1024 : FVec Ideal S16384x1024 .f32) (ix2 r k)
      = (shapeCast S2x8192x1024 (rope (F := Ideal) z cs sn) shapeCasts_S2x8192x8x2x64_S2x8192x1024 : FVec Ideal S2x8192x1024 .f32) (ix3 ⟨r.val / 8192, by omega⟩ ⟨r.val % 8192, by omega⟩ k) := by
    generalize rope (F := Ideal) z cs sn = R
    pointwise []
  rw [e, show (⟨r.val / 8192, by omega⟩ : Fin 2) = b from Fin.ext (show r.val / 8192 = b.val by omega),
    show (⟨r.val % 8192, by omega⟩ : Fin 8192) = n from Fin.ext (show r.val % 8192 = n.val by omega)]
  exact rope_at z cs sn b n k y off ho ho2 hz

end Rope

section Results

variable (m : (ℓ : Loc nD τ sig) → Buf (Elt Ideal) ℓ) (c : Dev nD)

/-- The arguments as functions. -/
def inputs : Inputs where
  x r d := (m ((c : Thread nD τ).loc main_arg0) : FVec Ideal S16896x1024 .f32) (ix2 r d)
  sc s d := (m ((c : Thread nD τ).loc main_arg1) : FVec Ideal S3x1x1024 .f32) (ix3 s 0 d)
  sh s d := (m ((c : Thread nD τ).loc main_arg2) : FVec Ideal S3x1x1024 .f32) (ix3 s 0 d)
  w d k := (m ((c : Thread nD τ).loc main_arg3) : FVec Ideal S1024x3072 .f32) (ix2 d k)
  cs n a f := (m ((c : Thread nD τ).loc main_arg4) : FVec Ideal S8192x2x16 .f32) (ix3 n a f)
  sn n a f := (m ((c : Thread nD τ).loc main_arg5) : FVec Ideal S8192x2x16 .f32) (ix3 n a f)

/-- The latent rows' products, -/
def lat : FVec Ideal S2x8192x3072 .f32 := prodL (F := Ideal) (m ((c.tc : Thread nD τ).loc main_arg0)) (m ((c.tc : Thread nD τ).loc main_arg1)) (m ((c.tc : Thread nD τ).loc main_arg2)) (m ((c.tc : Thread nD τ).loc main_arg3))

/-- and the context rows'. -/
def ctx : FVec Ideal S2x256x3072 .f32 := prodC (F := Ideal) (m ((c.tc : Thread nD τ).loc main_arg0)) (m ((c.tc : Thread nD τ).loc main_arg1)) (m ((c.tc : Thread nD τ).loc main_arg2)) (m ((c.tc : Thread nD τ).loc main_arg3))

theorem lat_at (b : Fin 2) (n : Fin 8192) (k : Fin 3072) (r : Fin 16896) (hr : r.val = b.val * 8192 + n.val) : lat m c (ix3 b n k) = (inputs m c).prod r k := by
  refine (prodL_at _ _ _ _ b n k).trans ?_
  obtain ⟨r, hlt⟩ := r
  change r = b.val * 8192 + n.val at hr
  subst hr
  have h : (⟨b.val, by omega⟩ : Fin 3) = ⟨min ((b.val * 8192 + n.val) / 8192) 2, by omega⟩ := Fin.ext (show b.val = min ((b.val * 8192 + n.val) / 8192) 2 by omega)
  rw [h]
  rfl

theorem ctx_at (b : Fin 2) (n : Fin 256) (k : Fin 3072) (r : Fin 16896) (hr : r.val = 16384 + (b.val * 256 + n.val)) : ctx m c (ix3 b n k) = (inputs m c).prod r k := by
  refine (prodC_at _ _ _ _ b n k).trans ?_
  obtain ⟨r, hlt⟩ := r
  change r = 16384 + (b.val * 256 + n.val) at hr
  subst hr
  have h : (2 : Fin 3) = ⟨min ((16384 + (b.val * 256 + n.val)) / 8192) 2, by omega⟩ := Fin.ext (show 2 = min ((16384 + (b.val * 256 + n.val)) / 8192) 2 by omega)
  rw [h]
  rfl

/-- The queries at an index; -/
theorem query_at (r : Fin 16896) (k : Fin 1024) :
    (res_main_v86 (F := Ideal) m c : FVec Ideal S16896x1024 .bf16) (ix2 r k) = (inputs m c).query r k * (Scalar.ofBits .f32 0x3E38AA3B#32 : Ideal .f32) := by
  rw [query_eq]
  change query (F := Ideal) (lat m c) (ctx m c) _ _ (ix2 r k) = _
  have e : ∀ C : FVec Ideal S16896x1024 .f32, (truncf .bf16 (mulf C (broadcastInDim S16896x1024 ![] bcast_S_S16896x1024 (constant S_ .f32 0x3E38AA3B#32))) bitsLt_bf16_f32 : FVec Ideal S16896x1024 .bf16) (ix2 r k)
      = C (ix2 r k) * (Scalar.ofBits .f32 0x3E38AA3B#32 : Ideal .f32) := fun C => by pointwise []
  refine (e _).trans (congrArg (fun z : EReal => z * _) ?_)
  refine (rows_at _ _ r k).trans ?_
  unfold Inputs.query
  by_cases h : r.val < 16384
  · rw [dif_pos h]
    refine (rope_row _ _ _ ⟨r.val / 8192, by omega⟩ ⟨r.val % 8192, by omega⟩ k ((inputs m c).prod r) 0 (by decide) (by decide) (fun k => ?_) _
      (show r.val = r.val / 8192 * 8192 + r.val % 8192 by omega)).trans ?_
    · refine Eq.trans ?_ (lat_at m c ⟨r.val / 8192, by omega⟩ ⟨r.val % 8192, by omega⟩ _ r (show r.val = r.val / 8192 * 8192 + r.val % 8192 by omega))
      pointwise []
    · have h1 : (⟨r.val % 8192, by omega⟩ : Fin 8448) = Inputs.place r := Fin.ext (if_pos h).symm
      have h2 : (⟨0 + k.val, by omega⟩ : Fin 3072) = ⟨k.val, by omega⟩ := Fin.ext (Nat.zero_add _)
      rw [← h1, h2]
      rfl
  · rw [dif_neg h]
    have h1 : ¬ (Inputs.place r).val < 8192 := by
      show ¬ (if r.val < 16384 then r.val % 8192 else 8192 + (r.val - 16384) % 256) < 8192
      rw [if_neg h]
      omega
    unfold emb
    rw [dif_neg h1]
    exact (unstack_at (ctx m c) ⟨r.val - 16384, by omega⟩ k).trans (ctx_at m c ⟨(r.val - 16384) / 256, by omega⟩ ⟨(r.val - 16384) % 256, by omega⟩ _ r
      (show r.val = 16384 + ((r.val - 16384) / 256 * 256 + (r.val - 16384) % 256) by omega))

/-- the row of a latent place, -/
theorem rowAt_lat (b : Fin 2) (n : Fin 8448) (h : n.val < 8192) : (Inputs.rowAt b n).val = b.val * 8192 + n.val := if_pos h

/-- and of a context place; -/
theorem rowAt_ctx (b : Fin 2) (n : Fin 8448) (h : ¬ n.val < 8192) : (Inputs.rowAt b n).val = 16384 + (b.val * 256 + (n.val - 8192)) := if_neg h

/-- the keys at an index; -/
theorem key_at (b : Fin 2) (n : Fin 8448) (k : Fin 1024) :
    (res_main_v87 (F := Ideal) m c : FVec Ideal S2x8448x1024 .bf16) (ix3 b n k) = (inputs m c).key b n k := by
  rw [key_eq]
  change key (F := Ideal) (lat m c) (ctx m c) _ _ (ix3 b n k) = _
  have e : ∀ C : FVec Ideal S2x8448x1024 .f32, (truncf .bf16 C bitsLt_bf16_f32 : FVec Ideal S2x8448x1024 .bf16) (ix3 b n k) = C (ix3 b n k) := fun C => by pointwise []
  refine (e _).trans ((stack_at _ _ b n k).trans ?_)
  unfold Inputs.key
  by_cases h : n.val < 8192
  · rw [dif_pos h]
    refine (rope_at _ _ _ b ⟨n.val, h⟩ k ((inputs m c).prod (Inputs.rowAt b n)) 1024 (by decide) (by decide) (fun k => ?_)).trans rfl
    refine Eq.trans ?_ (lat_at m c b ⟨n.val, h⟩ _ _ (rowAt_lat b n h))
    pointwise []
  · rw [dif_neg h]
    unfold emb
    rw [dif_neg h]
    refine Eq.trans ?_ (ctx_at m c b ⟨n.val - 8192, by omega⟩ _ _ (rowAt_ctx b n h))
    pointwise []

/-- the values at an index. -/
theorem value_at (b : Fin 2) (t : Fin 33) (k : Fin 1024) (r : Fin 256) :
    value (F := Ideal) (lat m c) (ctx m c) (ix4 b t k r) = (inputs m c).val b ⟨t.val * 256 + r.val, by omega⟩ k := by
  have e : ∀ C : FVec Ideal S2x33x1024x256 .f32, (truncf .bf16 C bitsLt_bf16_f32 : FVec Ideal S2x33x1024x256 .bf16) (ix4 b t k r) = C (ix4 b t k r) := fun C => by pointwise []
  refine (e _).trans ((split_at _ b t k r).trans ((stack_at _ _ b _ k).trans ?_))
  unfold Inputs.val
  by_cases h : t.val * 256 + r.val < 8192
  · rw [dif_pos h]
    refine Eq.trans ?_ (lat_at m c b ⟨t.val * 256 + r.val, h⟩ _ _ (rowAt_lat b ⟨t.val * 256 + r.val, by omega⟩ h))
    pointwise []
  · rw [dif_neg h]
    refine Eq.trans ?_ (ctx_at m c b ⟨t.val * 256 + r.val - 8192, by omega⟩ _ _ (rowAt_ctx b ⟨t.val * 256 + r.val, by omega⟩ h))
    pointwise []

end Results

end Cert.Reference3Ideal.Qkv

end
-- ==== Proof.Qkv.Claims.lean ====
/- The query, key and value claims: the reference runs, and the kernel's three arrays and the reference's are equal. -/
module

public import proofs.«01_k».proof.Defs
public import proofs.«01_k».proof.Proof.Gen.Kernel3Ideal
public import proofs.«01_k».proof.Proof.Gen.Reference3Ideal
public import proofs.«01_k».proof.Proof.Qkv.Kernel
public import proofs.«01_k».proof.Proof.Qkv.Ref
public import Idealize.ShloMosaic.Adequacy
public import Idealize.ShloMosaic.Init

@[expose] public section

noncomputable section

namespace Cert.Qkv

open Idealize.ShloMosaic Idealize.ShloMosaic.TcCoe Idealize.SL.Sem

/-- The reference runs, leaves its arguments alone and has no semaphore. -/
theorem ref_frame : Cert.quiescent_Reference3Ideal := fun m g _ =>
  (θ_run (Cert.Reference3Ideal.defs (F := Ideal)) _ _).mono
    (fun r h => ⟨fun c => (h c).2.2.2, sem_eq_zero_of_no_sems (by decide) r.2⟩)
    (Cert.Reference3Ideal.Value.run (F := Ideal) m g)

section Equal

variable (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' (c.tc.loc Cert.Reference3Ideal.main_arg0) = m (c.tc.loc Cert.Kernel3Ideal.main_arg0)
      ∧ m' (c.tc.loc Cert.Reference3Ideal.main_arg1) = m (c.tc.loc Cert.Kernel3Ideal.main_arg1)
      ∧ m' (c.tc.loc Cert.Reference3Ideal.main_arg2) = m (c.tc.loc Cert.Kernel3Ideal.main_arg2)
      ∧ m' (c.tc.loc Cert.Reference3Ideal.main_arg3) = m (c.tc.loc Cert.Kernel3Ideal.main_arg3)
      ∧ m' (c.tc.loc Cert.Reference3Ideal.main_arg4) = m (c.tc.loc Cert.Kernel3Ideal.main_arg4)
      ∧ m' (c.tc.loc Cert.Reference3Ideal.main_arg5) = m (c.tc.loc Cert.Kernel3Ideal.main_arg5))

include h in
/-- Equal arguments are equal functions. -/
theorem inputs_eq : Cert.Reference3Ideal.Qkv.inputs m' c = Cert.Kernel3Ideal.Qkv.inputs m c := by
  unfold Cert.Reference3Ideal.Qkv.inputs Cert.Kernel3Ideal.Qkv.inputs
  obtain ⟨h0, h1, h2, h3, h4, h5⟩ := h
  rw [h0, h1, h2, h3, h4, h5]

include h in
theorem query_eq : (Cert.Reference3Ideal.Value.res_main_v86 (F := Ideal) m' c : FVec Ideal Cert.Kernel3Ideal.S16896x1024 .bf16)
    = (Cert.Kernel3Ideal.Gen.dats (F := Ideal) m 0 c).arrAt 6 Cert.Kernel3Ideal.cfg0.N := by
  rw [Cert.Kernel3Ideal.Qkv.final6 m c]
  funext j
  have hj : j = ix2 (show Fin 16896 from j 0) (show Fin 1024 from j 1) := funext fun a => by
    match a with
    | ⟨0, _⟩ => rfl
    | ⟨1, _⟩ => rfl
  rw [hj]
  refine (Cert.Reference3Ideal.Qkv.query_at m' c _ _).trans ?_
  rw [inputs_eq m m' c h]
  rfl

include h in
theorem key_eq : (Cert.Reference3Ideal.Value.res_main_v87 (F := Ideal) m' c : FVec Ideal Cert.Kernel3Ideal.S2x8448x1024 .bf16)
    = (Cert.Kernel3Ideal.Gen.dats (F := Ideal) m 0 c).arrAt 7 Cert.Kernel3Ideal.cfg0.N := by
  rw [Cert.Kernel3Ideal.Qkv.final7 m c]
  funext j
  have hj : j = ix3 (show Fin 2 from j 0) (show Fin 8448 from j 1) (show Fin 1024 from j 2) := funext fun a => by
    match a with
    | ⟨0, _⟩ => rfl
    | ⟨1, _⟩ => rfl
    | ⟨2, _⟩ => rfl
  rw [hj]
  refine (Cert.Reference3Ideal.Qkv.key_at m' c _ _ _).trans ?_
  rw [inputs_eq m m' c h]
  rfl

include h in
theorem value_eq : (Cert.Reference3Ideal.Qkv.value (F := Ideal) (Cert.Reference3Ideal.Qkv.lat m' c) (Cert.Reference3Ideal.Qkv.ctx m' c) : FVec Ideal Cert.Kernel3Ideal.S2x33x1024x256 .bf16)
    = (Cert.Kernel3Ideal.Gen.dats (F := Ideal) m 0 c).arrAt 8 Cert.Kernel3Ideal.cfg0.N := by
  rw [Cert.Kernel3Ideal.Qkv.final8 m c]
  funext j
  have hj : j = ix4 (show Fin 2 from j 0) (show Fin 33 from j 1) (show Fin 1024 from j 2) (show Fin 256 from j 3) := funext fun a => by
    match a with
    | ⟨0, _⟩ => rfl
    | ⟨1, _⟩ => rfl
    | ⟨2, _⟩ => rfl
    | ⟨3, _⟩ => rfl
  rw [hj]
  refine (Cert.Reference3Ideal.Qkv.value_at m' c _ _ _ _).trans ?_
  rw [inputs_eq m m' c h]
  rfl

end Equal

theorem algebraic : Cert.algebraic_Kernel3Ideal_Reference3Ideal := fun m g m' g' _ hm =>
  ⟨fun c => (Cert.Kernel3Ideal.Gen.dats (F := Ideal) m 0 c).arrAt 6 Cert.Kernel3Ideal.cfg0.N,
    fun c => (Cert.Kernel3Ideal.Gen.dats (F := Ideal) m 0 c).arrAt 7 Cert.Kernel3Ideal.cfg0.N,
    fun c => (Cert.Kernel3Ideal.Gen.dats (F := Ideal) m 0 c).arrAt 8 Cert.Kernel3Ideal.cfg0.N,
    Cert.Kernel3Ideal.Value.run_blocks m g,
    (θ_run (Cert.Reference3Ideal.defs (F := Ideal)) _ _).mono
      (fun r h c => ⟨(h c).1.trans (query_eq m m' c (hm c)), (h c).2.1.trans (key_eq m m' c (hm c)), (h c).2.2.1.trans (value_eq m m' c (hm c)), (h c).2.2.2⟩)
      (Cert.Reference3Ideal.Value.run (F := Ideal) m' g')⟩

end Cert.Qkv

end
-- ==== Proof.Moe.IdealBody.lean ====
/- The expert kernel's body: what it leaves in its result's block, for any block number and any words of the tables. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.TableIdle
public import Idealize.ShloMosaic.Lib.VecWindow

@[expose] public section

set_option maxRecDepth 16384

noncomputable section

namespace Cert.Kernel4Ideal.Moe

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them. -/
abbrev experts : Memref sig .tc .smem S164 .i32 := Memref.whole main_arg0
abbrev used : Memref sig .tc .smem S1 .i32 := Memref.whole main_arg1

/-- A table's contents on a core, and the half of it that the body holds. -/
abbrev Words (c : Dev nD) {S : Shape} {e : EltTy} (M : Memref sig .tc .smem S e) : Type := Buf (Elt F) (M.view.loc (c : Thread nD τ))
abbrev half (c : Dev nD) {S : Shape} {e : EltTy} (M : Memref sig .tc .smem S e) (f : Words (F := F) c M) : sProp 𝕄 :=
  M.view.loc (c : Thread nD τ) ↦{fullShare.right} f

/-- How many blocks hold tokens, as the body reads it. -/
def count (c : Dev nD) (n : Words (F := F) c used) : BitVec 32 := (show IVec S1 32 from n) (fun a => ⟨0, by fin_cases a; decide⟩)

/-- The two conditions are each other's opposite. -/
theorem cond_or (i : grid0.Coords) (w : BitVec 32) : k0_cond1 i w = 1#1 ∨ k0_cond2 i w = 1#1 := by
  unfold k0_cond1 k0_cond2
  cases h : BitVec.slt (BitVec.ofNat 32 (i 0).val) w
  · exact Or.inr (by simp [Scalar.cmpi, Scalar.extui, IntOp.cmpi, BitVec.sle, BitVec.slt] at h ⊢; simp [h])
  · exact Or.inl (by simp [Scalar.cmpi, Scalar.extui, IntOp.cmpi, h])

/-- What the body leaves in the block of the result. -/
def out (i : grid0.Coords) (w : BitVec 32) (x : Vec F S512x1024 .f32) (wg : Vec F S1x1024x2048 .bf16) (bg : Vec F S1x1x2048 .f32)
    (wd : Vec F S1x1024x1024 .bf16) (bd : Vec F S1x1x1024 .f32) : Vec F S512x1024 .f32 :=
  if k0_cond2 i w = 1#1 then k0_pay1 (F := F) else k0_pay2 x wg bg wd bd

theorem sound (c : Dev nD) (i : grid0.Coords) (E : Set ℕ)
    (a3 : Memref sig .tc .vmem S512x1024 .f32) (h3 : a3.IsWhole) (a4 : Memref sig .tc .vmem S1x1024x2048 .bf16) (h4 : a4.IsWhole)
    (a5 : Memref sig .tc .vmem S1x1x2048 .f32) (h5 : a5.IsWhole) (a6 : Memref sig .tc .vmem S1x1024x1024 .bf16) (h6 : a6.IsWhole)
    (a7 : Memref sig .tc .vmem S1x1x1024 .f32) (h7 : a7.IsWhole) (a8 : Memref sig .tc .vmem S512x1024 .f32) (h8 : a8.IsWhole)
    (x : Vec F S512x1024 .f32) (wg : Vec F S1x1024x2048 .bf16) (bg : Vec F S1x1x2048 .f32) (wd : Vec F S1x1024x1024 .bf16) (bd : Vec F S1x1x1024 .f32)
    (e : Words (F := F) c experts) (n : Words (F := F) c used) (K : PUnit → sProp 𝕄) :
    iprop(owns (c : Thread nD τ) a3 fullShare x ∗ owns (c : Thread nD τ) a4 fullShare wg ∗ owns (c : Thread nD τ) a5 fullShare bg
        ∗ owns (c : Thread nD τ) a6 fullShare wd ∗ owns (c : Thread nD τ) a7 fullShare bd ∗ (∃ d, owns (c : Thread nD τ) a8 fullShare d)
        ∗ half c experts e ∗ half c used n
        ∗ (iprop(owns (c : Thread nD τ) a3 fullShare x ∗ owns (c : Thread nD τ) a4 fullShare wg ∗ owns (c : Thread nD τ) a5 fullShare bg
            ∗ owns (c : Thread nD τ) a6 fullShare wd ∗ owns (c : Thread nD τ) a7 fullShare bd ∗ owns (c : Thread nD τ) a8 fullShare (out i (count c n) x wg bg wd bd)
            ∗ half c experts e ∗ half c used n) -∗ K ⟨⟩))
      ⊢ wp frame (wpE (defs₀ (F := F)) Variants.none c none) E
          (cc0_moe_experts i experts (Memref.isWhole_whole _) used (Memref.isWhole_whole _) a3 h3 a4 h4 a5 h5 a6 h6 a7 h7 a8 h8) K := by
  simp only [cc0_moe_experts_eq_skeleton]; unfold cc0_moe_experts_skel
  simp only [k0_part1_eq_skeleton]
  simp only [owns_eq_rep]
  iintro ⟨H3, H4, H5, H6, H7, ⟨%d8, H8⟩, HT0, HT1, Hk⟩
  sl_exec
  have hw : sound.sl.r c n = count c n := by
    unfold sound.sl.r count
    exact congrArg (show IVec S1 32 from n) (funext fun a => Fin.ext (by fin_cases a; rfl))
  rw [hw]
  sl_step
  iapply Hk
  isplitl [H3]; · iexact H3
  isplitl [H4]; · iexact H4
  isplitl [H5]; · iexact H5
  isplitl [H6]; · iexact H6
  isplitl [H7]; · iexact H7
  isplitl [H8]
  · iapply (rep_of_owns (c : Thread nD τ) a8 fullShare _)
    unfold owns
    iexists _; isplitr
    swap; · iexact H8
    ipureintro
    unfold out
    by_cases h2 : k0_cond2 i (count c n) = 1#1
    · rw [dif_pos h2, if_pos h2]
      exact View.read_writes_full a8.view _ _ _ _
    · have h1 := (cond_or i (count c n)).resolve_right h2
      rw [dif_neg h2, if_neg h2, dif_pos h1]
      refine (View.read_writes_full a8.view _ _ _ _).trans ?_
      rw [View.readAt_rep_full, View.readAt_rep_full, View.readAt_rep_full, View.readAt_rep_full, View.readAt_rep_full]
  isplitl [HT0]; · iexact HT0
  iexact HT1

end Cert.Kernel4Ideal.Moe

end
-- ==== Proof.Moe.IdealRun.lean ====
/- The expert kernel's run: for any tables whose experts exist, what the arrays hold at its end. -/
module

public import proofs.«01_k».proof.Proof.Moe.IdealBody
public import Idealize.ShloMosaic.Lib.Claim

@[expose] public section

set_option maxRecDepth 16384

noncomputable section

namespace Cert.Kernel4Ideal.Moe

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the kernel starts: after the casts and the reshapes before it. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh main_chain

/-- An array that the host operations do not write is as the program found it. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-- The tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every expert that the table names exists. -/
abbrev Ok : Prop := ok0 (F := F) (tbl m)

abbrev adm (hO : Ok m) : (pcfg0 (F := F)).Adm := ⟨tbl m, hO⟩
abbrev pipe (hO : Ok m) : Pipeline.Cfg sig Λ₀ := cfg0 (adm m hO)

theorem tables_eq (c : Dev nD) : (Pipeline.ΦT pre0 (tbl m) c : sProp 𝕄) = iprop(half c experts (tbl m 0) ∗ half c used (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point of the grid. -/
def blk (hO : Ok m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (V m c (Pipeline.arrRef spec0 w))

abbrev s0 (hO : Ok m) (t : Fin (pipe m hO).N) : Memref sig .tc .vmem S512x1024 .f32 := spec0_0.stage ((pipe m hO).slots t 0)
abbrev s1 (hO : Ok m) (t : Fin (pipe m hO).N) : Memref sig .tc .vmem S1x1024x2048 .bf16 := spec0_1.stage ((pipe m hO).slots t 1)
abbrev s2 (hO : Ok m) (t : Fin (pipe m hO).N) : Memref sig .tc .vmem S1x1x2048 .f32 := spec0_2.stage ((pipe m hO).slots t 2)
abbrev s3 (hO : Ok m) (t : Fin (pipe m hO).N) : Memref sig .tc .vmem S1x1024x1024 .bf16 := spec0_3.stage ((pipe m hO).slots t 3)
abbrev s4 (hO : Ok m) (t : Fin (pipe m hO).N) : Memref sig .tc .vmem S1x1x1024 .f32 := spec0_4.stage ((pipe m hO).slots t 4)
abbrev s5 (hO : Ok m) (t : Fin (pipe m hO).N) : Memref sig .tc .vmem S512x1024 .f32 := spec0_5.stage ((pipe m hO).slots t 5)

/-- The body at a point, on the buffers that the pipeline hands it. -/
abbrev bodyAt (hO : Ok m) (t : Fin (pipe m hO).N) : Prog (TpuEff nD τ sig (Elt F) Λ₀ .tc) PUnit :=
  cc0_moe_experts (grid0.coords t) experts (Memref.isWhole_whole _) used (Memref.isWhole_whole _)
    (s0 m hO t) (hstage0_0 (((pipe m hO).slots t 0).cast nbuf0_0)) (s1 m hO t) (hstage0_1 (((pipe m hO).slots t 1).cast nbuf0_1))
    (s2 m hO t) (hstage0_2 (((pipe m hO).slots t 2).cast nbuf0_2)) (s3 m hO t) (hstage0_3 (((pipe m hO).slots t 3).cast nbuf0_3))
    (s4 m hO t) (hstage0_4 (((pipe m hO).slots t 4).cast nbuf0_4)) (s5 m hO t) (hstage0_5 (((pipe m hO).slots t 5).cast nbuf0_5))

/-- What a point leaves in the result's block. -/
def outAt (hO : Ok m) (c : Dev nD) (t : Fin (pipe m hO).N) : Vec F S512x1024 .f32 :=
  out (grid0.coords t) (count c (tbl m 1)) (blk m hO c 0 t) (blk m hO c 1 t) (blk m hO c 2 t) (blk m hO c 3 t) (blk m hO c 4 t)

/-- The buffers after each point: every input's block still there, the result's computed. -/
def dats (hO : Ok m) (_ : Fin 1) (c : Dev nD) : Dat τ (Elt F) Unit ℕ (UR sig nD τ) ℕ (pipe m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => blk m hO c 4 t
    | ⟨5, _⟩ => outAt m hO c t
  Φ _ := iprop(Pipeline.ΦA spec0 c ∗ Pipeline.ΦT pre0 (tbl m) c)
  q _ := fullShare
  owed _ := 0

theorem A_eq (hO : Ok m) (c : Dev nD) (w : Fin (pipe m hO).W) : (dats m hO 0 c).A w = V m c (Pipeline.arrRef spec0 w) := by
  dsimp only [dats]

theorem after0 (hO : Ok m) (c : Dev nD) (t : Fin (pipe m hO).N) : (dats m hO 0 c).after 0 t = blk m hO c 0 t := by dsimp only [dats]; try rfl
theorem after1 (hO : Ok m) (c : Dev nD) (t : Fin (pipe m hO).N) : (dats m hO 0 c).after 1 t = blk m hO c 1 t := by dsimp only [dats]; try rfl
theorem after2 (hO : Ok m) (c : Dev nD) (t : Fin (pipe m hO).N) : (dats m hO 0 c).after 2 t = blk m hO c 2 t := by dsimp only [dats]; try rfl
theorem after3 (hO : Ok m) (c : Dev nD) (t : Fin (pipe m hO).N) : (dats m hO 0 c).after 3 t = blk m hO c 3 t := by dsimp only [dats]; try rfl
theorem after4 (hO : Ok m) (c : Dev nD) (t : Fin (pipe m hO).N) : (dats m hO 0 c).after 4 t = blk m hO c 4 t := by dsimp only [dats]; try rfl
theorem after5 (hO : Ok m) (c : Dev nD) (t : Fin (pipe m hO).N) : (dats m hO 0 c).after 5 t = outAt m hO c t := by dsimp only [dats]; try rfl

/-! An input's buffer holds its block at every point, also where the pipeline does not fetch it anew. -/

theorem before0 (hO : Ok m) (c : Dev nD) (t : Fin (pipe m hO).N) (d) : (dats m hO 0 c).before 0 t d = blk m hO c 0 t :=
  ((dats m hO 0 c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)

theorem before1 (hO : Ok m) (c : Dev nD) (t : Fin (pipe m hO).N) (d) : (dats m hO 0 c).before 1 t d = blk m hO c 1 t :=
  ((dats m hO 0 c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)

theorem before2 (hO : Ok m) (c : Dev nD) (t : Fin (pipe m hO).N) (d) : (dats m hO 0 c).before 2 t d = blk m hO c 2 t :=
  ((dats m hO 0 c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)

theorem before3 (hO : Ok m) (c : Dev nD) (t : Fin (pipe m hO).N) (d) : (dats m hO 0 c).before 3 t d = blk m hO c 3 t :=
  ((dats m hO 0 c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)

theorem before4 (hO : Ok m) (c : Dev nD) (t : Fin (pipe m hO).N) (d) : (dats m hO 0 c).before 4 t d = blk m hO c 4 t :=
  ((dats m hO 0 c).before_in_eq_fetched 4 rfl (fun _ => rfl) (fun _ _ _ => rfl) (fun t => by rw [after4]; unfold Dat.blockOf blk; rw [A_eq]; try rfl) t d).trans
    (by unfold Dat.fetched Dat.blockOf blk; rw [A_eq]; try rfl)

/-- What the body is given at a point, and what it gives back. -/
def bodyPre (hO : Ok m) (c : Dev nD) (t : Fin (pipe m hO).N) : sProp 𝕄 :=
  iprop((dats m hO 0 c).Φ t.castSucc ∗ (dats m hO 0 c).owesAt () t.castSucc
    ∗ (∃ d, owns (c : Thread nD τ) (s0 m hO t) fullShare ((dats m hO 0 c).before 0 t d))
    ∗ (∃ d, owns (c : Thread nD τ) (s1 m hO t) fullShare ((dats m hO 0 c).before 1 t d))
    ∗ (∃ d, owns (c : Thread nD τ) (s2 m hO t) fullShare ((dats m hO 0 c).before 2 t d))
    ∗ (∃ d, owns (c : Thread nD τ) (s3 m hO t) fullShare ((dats m hO 0 c).before 3 t d))
    ∗ (∃ d, owns (c : Thread nD τ) (s4 m hO t) fullShare ((dats m hO 0 c).before 4 t d))
    ∗ (∃ d, owns (c : Thread nD τ) (s5 m hO t) fullShare ((dats m hO 0 c).before 5 t d)))

def bodyPost (hO : Ok m) (c : Dev nD) (t : Fin (pipe m hO).N) : sProp 𝕄 :=
  iprop((dats m hO 0 c).Φ t.succ ∗ (dats m hO 0 c).owesAt () t.succ
    ∗ owns (c : Thread nD τ) (s0 m hO t) fullShare ((dats m hO 0 c).after 0 t)
    ∗ owns (c : Thread nD τ) (s1 m hO t) fullShare ((dats m hO 0 c).after 1 t)
    ∗ owns (c : Thread nD τ) (s2 m hO t) fullShare ((dats m hO 0 c).after 2 t)
    ∗ owns (c : Thread nD τ) (s3 m hO t) fullShare ((dats m hO 0 c).after 3 t)
    ∗ owns (c : Thread nD τ) (s4 m hO t) fullShare ((dats m hO 0 c).after 4 t)
    ∗ owns (c : Thread nD τ) (s5 m hO t) fullShare ((dats m hO 0 c).after 5 t))

theorem sound_at (hO : Ok m) (c : Dev nD) (t : Fin (pipe m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).Φ t.succ = (dats m hO 0 c).Φ t.castSucc from rfl,
    show (dats m hO 0 c).owesAt () t.succ = (dats m hO 0 c).owesAt () t.castSucc from rfl,
    after0, after1, after2, after3, after4, after5]
  rw [show (dats m hO 0 c).Φ t.castSucc = iprop(Pipeline.ΦA spec0 c ∗ Pipeline.ΦT pre0 (tbl m) c) from rfl, tables_eq]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (sound c (grid0.coords t) Set.univ _ _ _ _ _ _ _ _ _ _ _ _ (blk m hO c 0 t) (blk m hO c 1 t) (blk m hO c 2 t) (blk m hO c 3 t) (blk m hO c 4 t) (tbl m 0) (tbl m 1) _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem row (hO : Ok m) (t : Fin (pipe m hO).N) :
    defs₀ (F := F) .tc (pipe m hO).body ((pipe m hO).bodyArgs t ((pipe m hO).slots t)) = bodyAt m hO t := by
  unfold defs₀; rw [Defs.onTc_tc]

/-- The result's buffer is written at every point, whatever the count: one of the two conditions holds. -/
theorem idle_false (hO : Ok m) (w : Fin (pipe (F := F) m hO).W) (i : (pipe (F := F) m hO).grid.Coords) : (pipe (F := F) m hO).idle w i = false := by
  change idle0 (tbl m) w i = false
  match w with
  | ⟨0, _⟩ => rfl
  | ⟨1, _⟩ => rfl
  | ⟨2, _⟩ => rfl
  | ⟨3, _⟩ => rfl
  | ⟨4, _⟩ => rfl
  | ⟨5, _⟩ =>
    change (!(k0_cond1 i ((tbl (F := F) m).atD 1 ![0]) == 1#1) && !(k0_cond2 i ((tbl (F := F) m).atD 1 ![0]) == 1#1)) = false
    rcases cond_or i ((tbl (F := F) m).atD 1 ![0]) with h | h <;> rw [h] <;> simp

theorem leaves (hO : Ok m) (c : Dev nD) (w : Fin (pipe (F := F) m hO).W) (t : Fin (pipe (F := F) m hO).N) :
    (dats m hO 0 c).leavesExact w t = owns (c : Thread nD τ) (((pipe m hO).win w).stage ((pipe m hO).slots t w)) fullShare ((dats m hO 0 c).after w t) := by
  unfold Dat.leavesExact; rw [idle_false m hO w]

/-- What the body gives back, as the pipeline's rule lists it. -/
theorem post_iff (hO : Ok m) (c : Dev nD) (t : Fin (pipe m hO).N) :
    (bigSep Finset.univ fun w : Fin (pipe m hO).W => (dats m hO 0 c).leavesExact w t)
      = bigSep Finset.univ fun w : Fin (pipe m hO).W => owns (c : Thread nD τ) (((pipe m hO).win w).stage ((pipe m hO).slots t w)) fullShare ((dats m hO 0 c).after w t) :=
  congrArg (bigSep Finset.univ) (funext fun w => leaves m hO c w t)

theorem obligation (hO : Ok m) (c : Dev nD) : BodyObligation (dats (F := F) m hO 0 c) (defs₀ (F := F)) Variants.none () Set.univ := fun t => by
  have h : iprop((dats m hO 0 c).Φ t.castSucc ∗ (dats m hO 0 c).owesAt () t.castSucc
        ∗ bigSep Finset.univ fun w : Fin (pipe m hO).W => iprop(∃ d, owns (c : Thread nD τ) (((pipe m hO).win w).stage ((pipe m hO).slots t w)) fullShare ((dats m hO 0 c).before w t d)))
      ⊢ wp frame (wpE (defs₀ (F := F)) Variants.none c none) Set.univ (defs₀ (F := F) .tc (pipe m hO).body ((pipe m hO).bodyArgs t ((pipe m hO).slots t))) fun _ =>
          iprop((dats m hO 0 c).Φ t.succ ∗ (dats m hO 0 c).owesAt () t.succ
            ∗ bigSep Finset.univ fun w : Fin (pipe m hO).W => (dats m hO 0 c).leavesExact w t) := by
    rw [post_iff, bigSep_W0, bigSep_W0, row m hO]
    exact sound_at m hO c t
  exact h

set_option backward.isDefEq.respectTransparency.types false in
/-- Every run ends with the windows' arrays as computed, the other arrays as the kernel found them, and no signal pending. -/
theorem run_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m) (hA := A_eq m hO) (hpf := V_pre m)
    (hΦ := fun _ _ => rfl)

/-- The run, read at the result and at every argument. -/
theorem run_value (hO : Ok m) : θ_run defs (onTc (τ := τ) (main (F := F))) ⟨m, fun _ => 0, ρ⟩ (fun r => (∀ c : Dev nD,
      r.2.mem ((c.tc : Thread nD τ).loc main_v4) = (dats m hO 0 c).arrAt 5 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => by
    have kept (b : Ref sig .tc) (hb : b ∈ Pipeline.restRefs sig spec0) (h0 : b ≠ main_v0) (h1 : b ≠ main_v1) (h2 : b ≠ main_v2) (h3 : b ≠ main_v3) :=
      ((h.1 c).2 b hb).trans (V_kept m c b h0 h1 h2 h3)
    exact ⟨(h.1 c).1 5, kept _ (by decide) (by decide) (by decide) (by decide) (by decide), kept _ (by decide) (by decide) (by decide) (by decide) (by decide),
      ((h.1 c).1 0).trans (((dats m hO 0 c).arrAt_in 0 rfl _).trans ((A_eq m hO c 0).trans (V_kept m c main_arg2 (by decide) (by decide) (by decide) (by decide)))),
      kept _ (by decide) (by decide) (by decide) (by decide) (by decide), kept _ (by decide) (by decide) (by decide) (by decide) (by decide),
      kept _ (by decide) (by decide) (by decide) (by decide) (by decide), kept _ (by decide) (by decide) (by decide) (by decide) (by decide)⟩, h.2⟩)
    (run_quiescent m ρ hO)

end Cert.Kernel4Ideal.Moe

end
-- ==== Proof.Moe.Pre.lean ====
/- The precondition read back: where it holds, every block's expert exists. -/
module

public import proofs.«01_k».proof.Pre_expert_numbers
public import Idealize.ShloMosaic.Lib.ReduceAll
public import Idealize.ShloMosaic.Lib.Pointwise

@[expose] public section

noncomputable section

namespace Cert.Pre_expert_numbers.Moe

open Cert.Pre_expert_numbers
open Idealize.ShloMosaic

/-- A word that is at least 0 and below 32 as a signed number is below 32 as a natural. -/
theorem lt_of_signed (w : BitVec 32) (h0 : IntOp.cmpi .sge w 0#32 = 1#1) (h1 : IntOp.cmpi .slt w 32#32 = 1#1) : w.toNat < 32 := by
  have bit : ∀ b : Bool, BitVec.ofBool b = 1#1 → b = true := by decide
  have h0' : (0#32).sle w = true := bit _ (by simpa [IntOp.cmpi] using h0)
  have h1' : w.slt 32#32 = true := bit _ (by simpa [IntOp.cmpi] using h1)
  have hm : w.msb = false := by
    have := BitVec.sle_iff_toInt_le.1 h0'
    rw [BitVec.msb_eq_toInt]; simpa using this
  rw [BitVec.slt_eq_ult_of_msb_eq (by rw [hm]; decide)] at h1'
  simpa [BitVec.ult] using h1'

instance : Subsingleton S_.Idx := ⟨fun a b => funext fun i => i.elim0⟩

variable [Facts] {F : FTy → Type} [FloatOps F]

/-- Under the precondition every entry of the table is an expert's number. -/
theorem range (e : IVec S164 32) (n : IVec S1 32) (x : FVec F S83968x1024 .f32) (a : FVec F S32x1024x2048 .f32) (b : FVec F S32x2048 .f32)
    (d : FVec F S32x1024x1024 .f32) (f : FVec F S32x1024 .f32) (h : fn (F := F) e n x a b d f = fun _ => 1#1) (i : S164.Idx) : (e i).toNat < 32 := by
  have h0 := congrFun h ix0
  have hi := Host.reduce_andi_all _ _ _ _ _ h0 i
  obtain ⟨h1, h2⟩ := IntOp.andi_eq_one.1 hi
  exact lt_of_signed _ h1 h2

end Cert.Pre_expert_numbers.Moe

end
-- ==== Proof.Moe.IdealTables.lean ====
/- The expert kernel's tables: the block of each weight that a block of rows reads, and why it is inside the weights. -/
module

public import proofs.«01_k».proof.Proof.Moe.IdealRun
public import proofs.«01_k».proof.Proof.Moe.Pre

@[expose] public section

set_option maxRecDepth 16384

noncomputable section

namespace Cert.Kernel4Ideal.Moe

open Cert.Kernel4Ideal Cert.Kernel4Ideal.Gen
open Idealize.ShloMosaic Idealize.ShloMosaic.TcCoe Idealize.SL.Sem

variable {F : FTy → Type} [FloatOps F]

/-- The expert of a block of rows. -/
def expertOf (pf : pre0.Contents (Elt F)) (i : grid0.Coords) : BitVec 32 := (show IVec S164 32 from pf 0) (fun a => ⟨(i 0).val, by fin_cases a; exact (i 0).isLt⟩)

/-- The word that the index maps read. -/
theorem at_eq (pf : pre0.Contents (Elt F)) (i : grid0.Coords) :
    (pf.at 0 (Rect.unit (s := S164) ![(Scalar.indexCast (BitVec.ofNat 32 (i 0).val) : Index).toNat] S1.size (Facts₀.k0_off1_inb i)) Facts₀.numel1_S1 : BitVec 32) = expertOf pf i := by
  unfold expertOf
  refine congrArg (show IVec S164 32 from pf 0) (funext fun a => Fin.ext ?_)
  fin_cases a
  have hi : (i 0).val < 164 := (i 0).isLt
  show (Scalar.indexCast (BitVec.ofNat 32 (i 0).val) : Index).toNat + 0 * 1 = (i 0).val
  simp [Scalar.indexCast]
  omega

theorem transform1 (pf : pre0.Contents (Elt F)) (i : grid0.Coords) : cc0_transform_1 Facts₀.k0_off1_inb Facts₀.numel1_S1 pf i = ![(expertOf pf i).toNat, 0, 0] := by
  rw [← at_eq]; rfl
theorem transform2 (pf : pre0.Contents (Elt F)) (i : grid0.Coords) : cc0_transform_2 Facts₀.k0_off1_inb Facts₀.numel1_S1 pf i = ![(expertOf pf i).toNat, 0, 0] := by
  rw [← at_eq]; rfl
theorem transform3 (pf : pre0.Contents (Elt F)) (i : grid0.Coords) : cc0_transform_3 Facts₀.k0_off1_inb Facts₀.numel1_S1 pf i = ![(expertOf pf i).toNat, 0, 0] := by
  rw [← at_eq]; rfl
theorem transform4 (pf : pre0.Contents (Elt F)) (i : grid0.Coords) : cc0_transform_4 Facts₀.k0_off1_inb Facts₀.numel1_S1 pf i = ![(expertOf pf i).toNat, 0, 0] := by
  rw [← at_eq]; rfl

/-- Where every expert exists, every block is inside its array. -/
theorem ok_of (pf : pre0.Contents (Elt F)) (h : ∀ i, (expertOf pf i).toNat < 32) : ok0 (F := F) pf := by
  refine ⟨fun i => ⟨fun a => ?_, .inr (.inr ⟨by decide, rfl, ?_, rfl⟩)⟩, fun i => ⟨fun a => ?_, .inl rfl⟩,
    fun i => ⟨fun a => ?_, .inr (.inr ⟨by decide, rfl, ?_, rfl⟩)⟩, fun i => ⟨fun a => ?_, .inl rfl⟩⟩
  · have := h i; rw [transform1]; fin_cases a <;> simp <;> omega
  · show cc0_transform_1 _ _ pf i 1 * 1024 = 0; rw [transform1]; rfl
  · have := h i; rw [transform2]; fin_cases a <;> simp <;> omega
  · have := h i; rw [transform3]; fin_cases a <;> simp <;> omega
  · show cc0_transform_3 _ _ pf i 1 * 1024 = 0; rw [transform3]; rfl
  · have := h i; rw [transform4]; fin_cases a <;> simp <;> omega

variable (m : (ℓ : Loc nD τ sig) → Buf (Elt F) ℓ) (ρ : Dev nD → PrngReg)

/-- The tables are the program's own arguments. -/
theorem tbl0 : tbl m 0 = m (((0 : Dev nD) : Thread nD τ).loc main_arg0) :=
  V_kept m 0 main_arg0 (by decide) (by decide) (by decide) (by decide)
theorem tbl1 : tbl m 1 = m (((0 : Dev nD) : Thread nD τ).loc main_arg1) :=
  V_kept m 0 main_arg1 (by decide) (by decide) (by decide) (by decide)

/-- Where the precondition holds of the arguments, the kernel's side condition does. -/
theorem ok_of_range (h : ∀ i, ((show IVec S164 32 from m (((0 : Dev nD) : Thread nD τ).loc main_arg0)) i).toNat < 32) : Ok m := by
  refine ok_of _ fun i => ?_
  unfold expertOf; rw [tbl0]; exact h _

/-- The run, read at the arguments. -/
theorem run_kept (hO : ∀ i, ((show IVec S164 32 from m (((0 : Dev nD) : Thread nD τ).loc main_arg0)) i).toNat < 32) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun _ h => ⟨fun c => (h.1 c).2, h.2⟩) (run_value (F := F) m ρ (ok_of_range m hO))

end Cert.Kernel4Ideal.Moe

end
-- ==== Proof.Moe.Math.lean ====
/- One row through one expert, as a function of the row. -/
module

public import Idealize.ShloMosaic.Lib.Pointwise
public import Idealize.ShloMosaic.PureOps

@[expose] public section

noncomputable section

namespace Cert.Moe

open Idealize.ShloMosaic

/-- The first layer: a product and a bias. -/
def first (x : Fin 1024 → EReal) (w : Fin 1024 → Fin 2048 → EReal) (b : Fin 2048 → EReal) (k : Fin 2048) : EReal := (∑ d : Fin 1024, x d * w d k) + b k

/-- The clamp's bound, and the activation's slope. -/
def lim : EReal := Ideal.ofBits .f32 0x40E00000#32
def lim' : EReal := Ideal.ofBits .f32 0xC0E00000#32
def slope : EReal := Ideal.ofBits .f32 0x3FD9DB23#32

/-- The gated activation of the first layer's two halves. -/
def act (h : Fin 2048 → EReal) (k : Fin 1024) : EReal :=
  min (h ⟨k.val, by omega⟩) lim * Ideal.div 1 (1 + Ideal.exp (-(min (h ⟨k.val, by omega⟩) lim * slope))) * (min lim (max lim' (h ⟨1024 + k.val, by omega⟩)) + 1)

/-- One row through one expert. -/
def expert (x : Fin 1024 → EReal) (w : Fin 1024 → Fin 2048 → EReal) (b : Fin 2048 → EReal) (v : Fin 1024 → Fin 1024 → EReal) (d : Fin 1024 → EReal) (k : Fin 1024) : EReal :=
  (∑ f : Fin 1024, act (first x w b) f * v f k) + d k

/-- The negative slope's word names the slope's negative. -/
theorem neg_slope : Ideal.ofBits .f32 0xBFD9DB23#32 = -slope := by
  unfold slope Ideal.ofBits Ideal.ieee
  norm_num
  norm_cast

theorem exp_nonneg (x : EReal) : 0 ≤ Ideal.exp x := by
  induction x using EReal.rec with
  | bot => exact le_rfl
  | coe r => exact EReal.coe_nonneg.2 (Real.exp_pos r).le
  | top => exact le_top

/-- Dividing by one plus an exponential is multiplying by its reciprocal. -/
theorem gate_eq (g s : EReal) : Ideal.div g (1 + Ideal.exp (-s * g)) = g * Ideal.div 1 (1 + Ideal.exp (-(g * s))) := by
  rw [EReal.neg_mul, mul_comm s g]
  have h : (1 + Ideal.exp (-(g * s)) : EReal) ≠ 0 := by
    have : (0 : EReal) < 1 + Ideal.exp (-(g * s)) := lt_of_lt_of_le zero_lt_one (le_add_of_nonneg_right (exp_nonneg _))
    exact this.ne'
  unfold Ideal.div
  rw [if_neg h, if_neg h, one_mul]

/-- A table of matrices, one taken for each entry of a column of numbers: where the number is in range, its matrix. -/
theorem take3 {α : Type} {N n A B : ℕ} (d : GatherDims ⟨3, ![N, A, B]⟩ ⟨2, ![n, 1]⟩ ⟨3, ![n, A, B]⟩) (ho : d.offsetDims = [1, 2]) (hc : d.collapsedSliceDims = [0])
    (hb : d.operandBatchingDims = []) (hs : d.startIndicesBatchingDims = []) (hm : d.startIndexMap = [0]) (hi : d.indexVectorDim = 1) (hz : d.sliceSizes = ![1, A, B])
    (x : (⟨3, ![N, A, B]⟩ : Shape).Idx → α) (idx : IVec ⟨2, ![n, 1]⟩ 32) (t : Fin n) (a : Fin A) (b : Fin B) (e : Fin N) (hN : N < 2 ^ 31)
    (he : (idx (ix2 t 0)).toNat = e.val) : Host.gather d x idx (ix3 t a b) = x (ix3 e a b) := by
  obtain ⟨o, c, ob, sb, sm, iv, ss, wf⟩ := d
  dsimp only at ho hc hb hs hm hi hz
  subst ho hc hb hs hm hi hz
  unfold Host.gather
  refine congrArg x (funext fun k => Fin.ext ?_)
  have hI : (idx (ix2 t 0)).toInt.toNat = e.val := by
    have := e.isLt
    rw [BitVec.toInt_eq_toNat_of_lt (by omega), he]; rfl
  match k with
  | ⟨0, _⟩ =>
    let D : GatherDims ⟨3, ![N, A, B]⟩ ⟨2, ![n, 1]⟩ ⟨3, ![n, A, B]⟩ := ⟨[1, 2], [0], [], [], [0], 1, ![1, A, B], wf⟩
    have hl : 0 < D.startIndexMap.length := Nat.one_pos
    have hsi : D.siIdx (ix3 t a b) ⟨0, hl⟩ = ix2 t 0 := funext fun q => by
      match q with
      | ⟨0, _⟩ => rfl
      | ⟨1, _⟩ => rfl
    show min (idx (D.siIdx (ix3 t a b) ⟨0, hl⟩)).toInt.toNat (N - 1) + 0 + 0 = e.val
    rw [hsi, hI]
    have := e.isLt
    omega
  | ⟨1, _⟩ => show 0 + 0 + a.val = a.val; omega
  | ⟨2, _⟩ => show 0 + 0 + b.val = b.val; omega

/-- The same of a table of rows. -/
theorem take2 {α : Type} {N n A : ℕ} (d : GatherDims ⟨2, ![N, A]⟩ ⟨2, ![n, 1]⟩ ⟨2, ![n, A]⟩) (ho : d.offsetDims = [1]) (hc : d.collapsedSliceDims = [0])
    (hb : d.operandBatchingDims = []) (hs : d.startIndicesBatchingDims = []) (hm : d.startIndexMap = [0]) (hi : d.indexVectorDim = 1) (hz : d.sliceSizes = ![1, A])
    (x : (⟨2, ![N, A]⟩ : Shape).Idx → α) (idx : IVec ⟨2, ![n, 1]⟩ 32) (t : Fin n) (a : Fin A) (e : Fin N) (hN : N < 2 ^ 31)
    (he : (idx (ix2 t 0)).toNat = e.val) : Host.gather d x idx (ix2 t a) = x (ix2 e a) := by
  obtain ⟨o, c, ob, sb, sm, iv, ss, wf⟩ := d
  dsimp only at ho hc hb hs hm hi hz
  subst ho hc hb hs hm hi hz
  unfold Host.gather
  refine congrArg x (funext fun k => Fin.ext ?_)
  have hI : (idx (ix2 t 0)).toInt.toNat = e.val := by
    have := e.isLt
    rw [BitVec.toInt_eq_toNat_of_lt (by omega), he]; rfl
  match k with
  | ⟨0, _⟩ =>
    let D : GatherDims ⟨2, ![N, A]⟩ ⟨2, ![n, 1]⟩ ⟨2, ![n, A]⟩ := ⟨[1], [0], [], [], [0], 1, ![1, A], wf⟩
    have hl : 0 < D.startIndexMap.length := Nat.one_pos
    have hsi : D.siIdx (ix2 t a) ⟨0, hl⟩ = ix2 t 0 := funext fun q => by
      match q with
      | ⟨0, _⟩ => rfl
      | ⟨1, _⟩ => rfl
    show min (idx (D.siIdx (ix2 t a) ⟨0, hl⟩)).toInt.toNat (N - 1) + 0 + 0 = e.val
    rw [hsi, hI]
    have := e.isLt
    omega
  | ⟨1, _⟩ => show 0 + 0 + a.val = a.val; omega

end Cert.Moe

end
-- ==== Proof.Moe.Kernel.lean ====
/- The expert kernel's result after the run: every used block's rows through the block's expert, every other row zero. -/
module

public import proofs.«01_k».proof.Proof.Moe.IdealTables
public import proofs.«01_k».proof.Proof.Moe.Math
public import Idealize.ShloMosaic.Lib.Pipeline.ValueKit
public import Idealize.ShloMosaic.Lib.Pipeline.Covers
public import Idealize.ShloMosaic.Lib.StableHlo.RunRead

@[expose] public section

set_option maxRecDepth 16384

noncomputable section

namespace Cert.Kernel4Ideal.Moe

open Cert.Kernel4Ideal Cert.Kernel4Ideal.Gen
open Idealize.ShloMosaic Idealize.ShloMosaic.TcCoe Idealize.SL.Sem
open Idealize.ShloMosaic.Pipeline (Dat)
open Cert.Moe

/-- The first layer of a block; -/
def hid (x : FVec Ideal S512x1024 .f32) (wg : FVec Ideal S1x1024x2048 .bf16) (bg : FVec Ideal S1x1x2048 .f32) : FVec Ideal S512x2048 .f32 :=
  addf (matmul dot_S512x1024_S1024x2048_S512x2048_1_0_0_1_n_n none (truncf .bf16 x bitsLt_bf16_f32) (shapeCast S1024x2048 wg shapeCasts_S1x1024x2048_S1024x2048) (constant S512x2048 .f32 0x00000000#32))
    (broadcastTo S512x2048 (shapeCast S1x2048 bg shapeCasts_S1x1x2048_S1x2048) broadcasts_S1x2048_S512x2048)

/-- its activation; -/
def acts (h : FVec Ideal S512x2048 .f32) : FVec Ideal S512x1024 .f32 :=
  let g : FVec Ideal S512x1024 .f32 := minimumf (extractStridedSlice S512x1024 ![0, 0] h slices_S512x2048_o0_0_S512x1024) (broadcast S512x1024 (Scalar.ofBits .f32 0x40E00000#32))
  mulf (divf g (addf (broadcast S512x1024 (Scalar.ofBits .f32 0x3F800000#32)) (exp (mulf (broadcast S512x1024 (Scalar.ofBits .f32 0xBFD9DB23#32)) g))))
    (addf (minimumf (broadcast S512x1024 (Scalar.ofBits .f32 0x40E00000#32)) (maximumf (broadcast S512x1024 (Scalar.ofBits .f32 0xC0E00000#32)) (extractStridedSlice S512x1024 ![0, 1024] h slices_S512x2048_o0_1024_S512x1024)))
      (broadcast S512x1024 (Scalar.ofBits .f32 0x3F800000#32)))

/-- its second layer. -/
def down (a : FVec Ideal S512x1024 .f32) (wd : FVec Ideal S1x1024x1024 .bf16) (bd : FVec Ideal S1x1x1024 .f32) : FVec Ideal S512x1024 .f32 :=
  addf (matmul dot_S512x1024_S1024x1024_S512x1024_1_0_0_1_n_n none (truncf .bf16 a bitsLt_bf16_f32) (shapeCast S1024x1024 wd shapeCasts_S1x1024x1024_S1024x1024) (constant S512x1024 .f32 0x00000000#32))
    (broadcastTo S512x1024 (shapeCast S1x1024 bd shapeCasts_S1x1x1024_S1x1024) broadcasts_S1x1024_S512x1024)

theorem pay_eq (x : FVec Ideal S512x1024 .f32) (wg : FVec Ideal S1x1024x2048 .bf16) (bg : FVec Ideal S1x1x2048 .f32) (wd : FVec Ideal S1x1024x1024 .bf16) (bd : FVec Ideal S1x1x1024 .f32) :
    k0_pay2 (F := Ideal) x wg bg wd bd = down (acts (hid x wg bg)) wd bd := rfl

theorem hid_at (x : FVec Ideal S512x1024 .f32) (wg : FVec Ideal S1x1024x2048 .bf16) (bg : FVec Ideal S1x1x2048 .f32) (r : Fin 512) (k : Fin 2048) :
    hid x wg bg (ix2 r k) = first (fun d => x (ix2 r d)) (fun d k => wg (ix3 0 d k)) (fun k => bg (ix3 0 0 k)) k := by
  unfold hid first
  pointwise []

theorem acts_at (h : FVec Ideal S512x2048 .f32) (r : Fin 512) (k : Fin 1024) : acts h (ix2 r k) = act (fun k => h (ix2 r k)) k := by
  unfold act lim lim'
  rw [← gate_eq, ← neg_slope]
  unfold acts
  pointwise []

theorem down_at (a : FVec Ideal S512x1024 .f32) (wd : FVec Ideal S1x1024x1024 .bf16) (bd : FVec Ideal S1x1x1024 .f32) (r : Fin 512) (k : Fin 1024) :
    down a wd bd (ix2 r k) = (∑ f : Fin 1024, a (ix2 r f) * wd (ix3 0 f k)) + bd (ix3 0 0 k) := by
  unfold down
  pointwise []

theorem pay_at (x : FVec Ideal S512x1024 .f32) (wg : FVec Ideal S1x1024x2048 .bf16) (bg : FVec Ideal S1x1x2048 .f32) (wd : FVec Ideal S1x1024x1024 .bf16) (bd : FVec Ideal S1x1x1024 .f32)
    (r : Fin 512) (k : Fin 1024) : k0_pay2 (F := Ideal) x wg bg wd bd (ix2 r k) = expert (fun d => x (ix2 r d)) (fun d k => wg (ix3 0 d k)) (fun k => bg (ix3 0 0 k))
      (fun f k => wd (ix3 0 f k)) (fun k => bd (ix3 0 0 k)) k := by
  rw [pay_eq, down_at]
  unfold expert
  simp only [acts_at, hid_at]

theorem zero_at (r : Fin 512) (k : Fin 1024) : k0_pay1 (F := Ideal) (ix2 r k) = 0 := by
  pointwise [k0_pay1]

variable (m : (ℓ : Loc nD τ sig) → Buf (Elt Ideal) ℓ) (hO : Ok m) (c : Dev nD) (t : Fin (pipe m hO).N)

theorem lt (t : Fin (pipe m hO).N) : t.val < 164 := t.isLt

theorem coord (t : Fin (pipe m hO).N) : ((pipe m hO).grid.coords t 0).val = t.val :=
  (by decide +kernel : ∀ t : Fin grid0.N, (grid0.coords t 0).val = t.val) t

/-- Where each window's block lies. -/
theorem idx0 : ((pipe m hO).win 0).index t = ![t.val, 0] :=
  (by decide +kernel : ∀ t : Fin grid0.N, cc0_transform_0 (grid0.coords t) = ![t.val, 0]) t
theorem idx5 : ((pipe m hO).win 5).index t = ![t.val, 0] :=
  (by decide +kernel : ∀ t : Fin grid0.N, cc0_transform_5 (grid0.coords t) = ![t.val, 0]) t
theorem idx1 : ((pipe m hO).win 1).index t = ![(expertOf (tbl m) (grid0.coords t)).toNat, 0, 0] := transform1 _ _
theorem idx2 : ((pipe m hO).win 2).index t = ![(expertOf (tbl m) (grid0.coords t)).toNat, 0, 0] := transform2 _ _
theorem idx3 : ((pipe m hO).win 3).index t = ![(expertOf (tbl m) (grid0.coords t)).toNat, 0, 0] := transform3 _ _
theorem idx4 : ((pipe m hO).win 4).index t = ![(expertOf (tbl m) (grid0.coords t)).toNat, 0, 0] := transform4 _ _

/-- The result's blocks cover its array: one block of rows to a point. -/
theorem covers5 : ((pipe m hO).win 5).Covers := by
  refine Pipeline.Window.covers_of_index_surj _ rfl (show ∀ a : Fin 2, 0 < S512x1024.size a by decide) fun β => ?_
  have h0 : (β (0 : Fin 2)).val < 164 := lt_of_lt_of_eq (β (0 : Fin 2)).isLt (show (83968 + 512 - 1) / 512 = 164 by decide)
  have h1 : (β (1 : Fin 2)).val < 1 := lt_of_lt_of_eq (β (1 : Fin 2)).isLt (show (1024 + 1024 - 1) / 1024 = 1 by decide)
  refine ⟨⟨(β (0 : Fin 2)).val, h0⟩, fun a => ?_⟩
  rw [idx5 m hO]
  match a with
  | ⟨0, _⟩ => rfl
  | ⟨1, _⟩ => show 0 = (β (1 : Fin 2)).val; omega

/-- The expert of a point's block of rows. -/
def exp (hr : ∀ i, ((show IVec S164 32 from m (((0 : Dev nD) : Thread nD τ).loc main_arg0)) i).toNat < 32) (t : Fin 164) : Fin 32 :=
  ⟨((show IVec S164 32 from m (((0 : Dev nD) : Thread nD τ).loc main_arg0)) (ix1 t)).toNat, hr _⟩

theorem x_at (r : Fin 512) (d : Fin 1024) : (blk m hO c 0 t : FVec Ideal S512x1024 .f32) (ix2 r d)
    = (m ((c : Thread nD τ).loc main_arg2) : FVec Ideal S83968x1024 .f32) (ix2 ⟨t.val * 512 + r.val, by have := lt m hO t; omega⟩ d) := by
  rw [← V_kept m c main_arg2 (by decide) (by decide) (by decide) (by decide)]
  blk_ext [blk, idx0 m hO t]

variable (hr : ∀ i, ((show IVec S164 32 from m (((0 : Dev nD) : Thread nD τ).loc main_arg0)) i).toNat < 32)

theorem expertOf_eq : (expertOf (tbl m) (grid0.coords t)).toNat = (exp m hr ⟨t.val, lt m hO t⟩).val := by
  unfold expertOf exp
  rw [tbl0]
  refine congrArg (fun i => ((show IVec S164 32 from m (((0 : Dev nD) : Thread nD τ).loc main_arg0)) i).toNat) (funext fun a => Fin.ext ?_)
  fin_cases a
  exact coord m hO t

theorem w_at (d : Fin 1024) (k : Fin 2048) : (blk m hO c 1 t : FVec Ideal S1x1024x2048 .bf16) (ix3 0 d k)
    = (m ((c : Thread nD τ).loc main_arg3) : FVec Ideal S32x1024x2048 .f32) (ix3 (exp m hr ⟨t.val, lt m hO t⟩) d k) := by
  have h : (V m c main_v0 : FVec Ideal S32x1024x2048 .bf16) = (truncf .bf16 (m ((c : Thread nD τ).loc main_arg3) : FVec Ideal S32x1024x2048 .f32) bitsLt_bf16_f32 : FVec Ideal S32x1024x2048 .bf16) := by
    unfold V
    after_reads_simp
  have h2 : (blk m hO c 1 t : FVec Ideal S1x1024x2048 .bf16) (ix3 0 d k) = (V m c main_v0 : FVec Ideal S32x1024x2048 .bf16) (ix3 (exp m hr ⟨t.val, lt m hO t⟩) d k) := by
    blk_ext [blk, idx1 m hO t, expertOf_eq m hO t hr]
  rw [h2, h]
  pointwise []

theorem b_at (k : Fin 2048) : (blk m hO c 2 t : FVec Ideal S1x1x2048 .f32) (ix3 0 0 k)
    = (m ((c : Thread nD τ).loc main_arg4) : FVec Ideal S32x2048 .f32) (ix2 (exp m hr ⟨t.val, lt m hO t⟩) k) := by
  have h : (V m c main_v2 : FVec Ideal S32x1x2048 .f32) = (shapeCast S32x1x2048 (m ((c : Thread nD τ).loc main_arg4) : FVec Ideal S32x2048 .f32) shapeCasts_S32x2048_S32x1x2048 : FVec Ideal S32x1x2048 .f32) := by
    unfold V
    after_reads_simp
    rfl
  have h2 : (blk m hO c 2 t : FVec Ideal S1x1x2048 .f32) (ix3 0 0 k) = (V m c main_v2 : FVec Ideal S32x1x2048 .f32) (ix3 (exp m hr ⟨t.val, lt m hO t⟩) 0 k) := by
    blk_ext [blk, idx2 m hO t, expertOf_eq m hO t hr]
  rw [h2, h]
  pointwise []

theorem v_at (f : Fin 1024) (k : Fin 1024) : (blk m hO c 3 t : FVec Ideal S1x1024x1024 .bf16) (ix3 0 f k)
    = (m ((c : Thread nD τ).loc main_arg5) : FVec Ideal S32x1024x1024 .f32) (ix3 (exp m hr ⟨t.val, lt m hO t⟩) f k) := by
  have h : (V m c main_v1 : FVec Ideal S32x1024x1024 .bf16) = (truncf .bf16 (m ((c : Thread nD τ).loc main_arg5) : FVec Ideal S32x1024x1024 .f32) bitsLt_bf16_f32 : FVec Ideal S32x1024x1024 .bf16) := by
    unfold V
    after_reads_simp
  have h2 : (blk m hO c 3 t : FVec Ideal S1x1024x1024 .bf16) (ix3 0 f k) = (V m c main_v1 : FVec Ideal S32x1024x1024 .bf16) (ix3 (exp m hr ⟨t.val, lt m hO t⟩) f k) := by
    blk_ext [blk, idx3 m hO t, expertOf_eq m hO t hr]
  rw [h2, h]
  pointwise []

theorem d_at (k : Fin 1024) : (blk m hO c 4 t : FVec Ideal S1x1x1024 .f32) (ix3 0 0 k)
    = (m ((c : Thread nD τ).loc main_arg6) : FVec Ideal S32x1024 .f32) (ix2 (exp m hr ⟨t.val, lt m hO t⟩) k) := by
  have h : (V m c main_v3 : FVec Ideal S32x1x1024 .f32) = (shapeCast S32x1x1024 (m ((c : Thread nD τ).loc main_arg6) : FVec Ideal S32x1024 .f32) shapeCasts_S32x1024_S32x1x1024 : FVec Ideal S32x1x1024 .f32) := by
    unfold V
    after_reads_simp
    rfl
  have h2 : (blk m hO c 4 t : FVec Ideal S1x1x1024 .f32) (ix3 0 0 k) = (V m c main_v3 : FVec Ideal S32x1x1024 .f32) (ix3 (exp m hr ⟨t.val, lt m hO t⟩) 0 k) := by
    blk_ext [blk, idx4 m hO t, expertOf_eq m hO t hr]
  rw [h2, h]
  pointwise []

/-- How many blocks hold tokens. -/
def held : BitVec 32 := (show IVec S1 32 from m (((0 : Dev nD) : Thread nD τ).loc main_arg1)) (ix1 0)

/-- A row of the result, by its block and its place in the block. -/
def rowOf (hr : ∀ i, ((show IVec S164 32 from m (((0 : Dev nD) : Thread nD τ).loc main_arg0)) i).toNat < 32) (c : Dev nD) (t : Fin 164) (r : Fin 512) (k : Fin 1024) : EReal :=
  if BitVec.slt (BitVec.ofNat 32 t.val) (held m) then
    expert (fun d => (m ((c : Thread nD τ).loc main_arg2) : FVec Ideal S83968x1024 .f32) (ix2 ⟨t.val * 512 + r.val, by omega⟩ d))
      (fun d k => (m ((c : Thread nD τ).loc main_arg3) : FVec Ideal S32x1024x2048 .f32) (ix3 (exp m hr t) d k))
      (fun k => (m ((c : Thread nD τ).loc main_arg4) : FVec Ideal S32x2048 .f32) (ix2 (exp m hr t) k))
      (fun f k => (m ((c : Thread nD τ).loc main_arg5) : FVec Ideal S32x1024x1024 .f32) (ix3 (exp m hr t) f k))
      (fun k => (m ((c : Thread nD τ).loc main_arg6) : FVec Ideal S32x1024 .f32) (ix2 (exp m hr t) k)) k
  else 0

/-- The result. -/
def Y (c : Dev nD) : FVec Ideal S83968x1024 .f32 := fun j =>
  rowOf m hr c ⟨(j 0).val / 512, by have : (j 0).val < 83968 := (j 0).isLt; omega⟩ ⟨(j 0).val % 512, Nat.mod_lt _ (by decide)⟩ (j 1)

theorem cond2_iff (i : grid0.Coords) (w : BitVec 32) : k0_cond2 i w = 1#1 ↔ ¬ BitVec.slt (BitVec.ofNat 32 (i 0).val) w = true := by
  unfold k0_cond2
  generalize (BitVec.ofNat 32 (i 0).val) = v
  cases h : BitVec.slt v w
  · have : BitVec.sle w v = true := by simp [BitVec.sle, BitVec.slt] at h ⊢; omega
    simp [Scalar.cmpi, Scalar.extui, IntOp.cmpi, this]
  · have : BitVec.sle w v = false := by simp [BitVec.sle, BitVec.slt] at h ⊢; omega
    simp [Scalar.cmpi, Scalar.extui, IntOp.cmpi, this]

theorem count_eq : count (F := Ideal) c (tbl m 1) = held m := by
  unfold count held
  rw [tbl1]
  refine congrArg (show IVec S1 32 from m (((0 : Dev nD) : Thread nD τ).loc main_arg1)) (funext fun a => Fin.ext ?_)
  fin_cases a
  rfl

theorem out_at (r : Fin 512) (k : Fin 1024) : outAt m hO c t (ix2 r k) = rowOf m hr c ⟨t.val, lt m hO t⟩ r k := by
  unfold outAt out rowOf
  rw [count_eq]
  have hc : (grid0.coords t 0).val = t.val := coord m hO t
  by_cases h : BitVec.slt (BitVec.ofNat 32 t.val) (held m) = true
  · rw [if_pos h, if_neg (fun h' => (cond2_iff _ _).1 h' (by rw [hc]; exact h))]
    refine (pay_at _ _ _ _ _ r k).trans ?_
    simp only [x_at, w_at m hO c t hr, b_at m hO c t hr, v_at m hO c t hr, d_at m hO c t hr]
  · rw [if_neg h, if_pos ((cond2_iff _ _).2 (by rw [hc]; exact h))]
    exact zero_at r k

/-- The result's array after the run. -/
theorem final : (dats m hO 0 c).arrAt 5 (pipe m hO).N = Y m hr c := by
  have emb (t : Fin (pipe m hO).N) (y : (((pipe m hO).win 5).xblock ((pipe m hO).grid.coords t)).Idx) : Y m hr c ((((pipe m hO).win 5).blk t).view.emb y)
      = rowOf m hr c ⟨t.val, lt m hO t⟩ (show Fin 512 from (show S512x1024.Idx from y) 0) (show Fin 1024 from (show S512x1024.Idx from y) 1) := by
    have e : Y m hr c ((((pipe m hO).win 5).blk t).view.emb y) = Y m hr c (ix2 ⟨t.val * 512 + (show Fin 512 from (show S512x1024.Idx from y) 0).val, by have := (show Fin 512 from (show S512x1024.Idx from y) 0).isLt; have := lt m hO t; omega⟩ (show Fin 1024 from (show S512x1024.Idx from y) 1)) := by
      blk_ext [idx5 m hO t]
    rw [e]
    unfold Y
    have hy := (show Fin 512 from (show S512x1024.Idx from y) 0).isLt
    congr 1
    · exact Fin.ext (show (t.val * 512 + (show Fin 512 from (show S512x1024.Idx from y) 0).val) / 512 = t.val by omega)
    · exact Fin.ext (show (t.val * 512 + (show Fin 512 from (show S512x1024.Idx from y) 0).val) % 512 = (show Fin 512 from (show S512x1024.Idx from y) 0).val by omega)
  have ho := after5 m hO c
  have hf := out_at m hO c (hr := hr)
  generalize dats m hO 0 c = D at ho ⊢
  refine D.arrAt_eq_of_covers 5 (Y m hr c) (covers5 m hO) fun t _ y => ?_
  blk_simp
  rw [ho]
  refine Eq.trans ?_ (emb t y).symm
  refine Eq.trans ?_ (hf t (show Fin 512 from (show S512x1024.Idx from y) 0) (show Fin 1024 from (show S512x1024.Idx from y) 1))
  have hy : y = ix2 (show Fin 512 from (show S512x1024.Idx from y) 0) (show Fin 1024 from (show S512x1024.Idx from y) 1) := funext fun a => by
    match a with
    | ⟨0, _⟩ => rfl
    | ⟨1, _⟩ => rfl
  exact congrArg (outAt m hO c t) hy

end Cert.Kernel4Ideal.Moe

end
-- ==== Proof.Moe.Ref.lean ====
/- The reference of the expert blocks at an index. -/
module

public import proofs.«01_k».proof.Proof.Gen.Reference4Ideal.Run
public import proofs.«01_k».proof.Proof.Moe.Math
public import Idealize.ShloMosaic.Lib.Pointwise

@[expose] public section

set_option maxRecDepth 16384

noncomputable section

namespace Cert.Reference4Ideal.Moe

open Cert.Reference4Ideal Cert.Reference4Ideal.Gen Cert.Reference4Ideal.Value
open Idealize.ShloMosaic Idealize.ShloMosaic.TcCoe
open Cert.Moe

section Stages

variable {F : FTy → Type} [FloatOps F]

/-- The blocks' numbers as a column; -/
def col (e : IVec S164 32) : IVec S164x1 32 := broadcastInDim S164x1 ![0] bcast_S164_S164x1_0 e

/-- every block's first layer, its expert's weights at hand; -/
def hid (x : Vec F S83968x1024 .f32) (w : Vec F S164x1024x2048 .f32) (b : Vec F S164x2048 .f32) : Vec F S164x512x2048 .f32 :=
  addf (Host.dotGeneral dot_S164x512x1024_S164x1024x2048_S164x512x2048_2_1_1_2_0_0 none (shapeCast _ x shapeCasts_S83968x1024_S164x512x1024) w)
    (broadcastInDim S164x512x2048 ![0, 1, 2] bcast_S164x1x2048_S164x512x2048_0_1_2 (broadcastInDim S164x1x2048 ![0, 2] bcast_S164x2048_S164x1x2048_0_2 b))

/-- a number in every place; -/
def all (w : BitVec 32) : Vec F S164x512x1024 .f32 := broadcastInDim S164x512x1024 ![] bcast_S_S164x512x1024 (constant S_ .f32 w)

/-- the activation; -/
def acts (h : Vec F S164x512x2048 .f32) : Vec F S164x512x1024 .f32 :=
  let g : Vec F S164x512x1024 .f32 := minimumf (extractStridedSlice S164x512x1024 ![0, 0, 0] h slices_S164x512x2048_S164x512x1024_0_0_0) (all 0x40E00000#32)
  mulf (mulf g (Host.divf (all 0x3F800000#32) (addf (all 0x3F800000#32) (Host.exp (Host.negf (mulf g (all 0x3FD9DB23#32)))))))
    (addf (minimumf (all 0x40E00000#32) (maximumf (all 0xC0E00000#32) (extractStridedSlice S164x512x1024 ![0, 0, 1024] h slices_S164x512x2048_S164x512x1024_0_0_1024))) (all 0x3F800000#32))

/-- the second layer; -/
def down (a : Vec F S164x512x1024 .f32) (v : Vec F S164x1024x1024 .f32) (d : Vec F S164x1024 .f32) : Vec F S164x512x1024 .f32 :=
  addf (Host.dotGeneral dot_S164x512x1024_S164x1024x1024_S164x512x1024_2_1_1_2_0_0 none a v)
    (broadcastInDim S164x512x1024 ![0, 1, 2] bcast_S164x1x1024_S164x512x1024_0_1_2 (broadcastInDim S164x1x1024 ![0, 2] bcast_S164x1024_S164x1x1024_0_2 d))

/-- the blocks that hold tokens, the others zero. -/
def keep (n : IVec S1 32) (y : Vec F S164x512x1024 .f32) : Vec F S83968x1024 .f32 :=
  shapeCast _ (select (broadcastInDim S164x512x1024 ![0, 1, 2] bcast_S164x1x1_S164x512x1024_0_1_2 (broadcastInDim S164x1x1 ![0] bcast_S164_S164x1x1_0
    (cmpi .slt (iotaInDim S164 32 0) (broadcastInDim S164 ![] bcast_S_S164 (shapeCast _ n shapeCasts_S1_S_))))) y (all 0x00000000#32)) shapeCasts_S164x512x1024_S83968x1024

/-- The reference's result is these stages, one after the other. -/
theorem res_eq (m : (ℓ : Loc nD τ sig) → Buf (Elt F) ℓ) (c : Dev nD) :
    res_main_v40 m c = keep (m ((c.tc : Thread nD τ).loc main_arg1))
      (down (acts (hid (m ((c.tc : Thread nD τ).loc main_arg2))
          (Host.gather gather_S32x1024x2048_S164x1_S164x1024x2048_12_0_n_n_0_1_110242048 (m ((c.tc : Thread nD τ).loc main_arg3)) (col (m ((c.tc : Thread nD τ).loc main_arg0))))
          (Host.gather gather_S32x2048_S164x1_S164x2048_1_0_n_n_0_1_12048 (m ((c.tc : Thread nD τ).loc main_arg4)) (col (m ((c.tc : Thread nD τ).loc main_arg0))))))
        (Host.gather gather_S32x1024x1024_S164x1_S164x1024x1024_12_0_n_n_0_1_110241024 (m ((c.tc : Thread nD τ).loc main_arg5)) (col (m ((c.tc : Thread nD τ).loc main_arg0))))
        (Host.gather gather_S32x1024_S164x1_S164x1024_1_0_n_n_0_1_11024 (m ((c.tc : Thread nD τ).loc main_arg6)) (col (m ((c.tc : Thread nD τ).loc main_arg0))))) := rfl

end Stages

theorem hid_at (x : FVec Ideal S83968x1024 .f32) (w : FVec Ideal S164x1024x2048 .f32) (b : FVec Ideal S164x2048 .f32) (t : Fin 164) (r : Fin 512) (k : Fin 2048) :
    hid (F := Ideal) x w b (ix3 t r k) = first (fun d => x (ix2 ⟨t.val * 512 + r.val, by omega⟩ d)) (fun d k => w (ix3 t d k)) (fun k => b (ix2 t k)) k := by
  unfold hid first
  pointwise []

theorem acts_at (h : FVec Ideal S164x512x2048 .f32) (t : Fin 164) (r : Fin 512) (k : Fin 1024) :
    acts (F := Ideal) h (ix3 t r k) = act (fun k => h (ix3 t r k)) k := by
  unfold acts act lim lim' Cert.Moe.slope all
  pointwise []

theorem down_at (a : FVec Ideal S164x512x1024 .f32) (v : FVec Ideal S164x1024x1024 .f32) (d : FVec Ideal S164x1024 .f32) (t : Fin 164) (r : Fin 512) (k : Fin 1024) :
    down (F := Ideal) a v d (ix3 t r k) = (∑ f : Fin 1024, a (ix3 t r f) * v (ix3 t f k)) + d (ix2 t k) := by
  unfold down
  pointwise []

theorem keep_at (n : IVec S1 32) (y : FVec Ideal S164x512x1024 .f32) (R : Fin 83968) (k : Fin 1024) :
    keep (F := Ideal) n y (ix2 R k) = if BitVec.slt (BitVec.ofNat 32 (R.val / 512)) (n (ix1 0)) then
      y (ix3 ⟨R.val / 512, by omega⟩ ⟨R.val % 512, Nat.mod_lt _ (by decide)⟩ k) else 0 := by
  unfold keep all
  pointwise []
  unfold Scalar.select IntOp.cmpi
  cases (BitVec.ofNat 32 (R.val / 512)).slt (n (ix1 0)) <;> rfl

end Cert.Reference4Ideal.Moe

end
-- ==== Proof.Moe.Claims.lean ====
/- The expert claims: both kernels and the reference run, and the kernel's result and the reference's are equal. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Pre_expert_numbers
public import proofs.«01_k».proof.Proof.Moe.Kernel
public import proofs.«01_k».proof.Proof.Moe.Tables
public import proofs.«01_k».proof.Proof.Moe.Pre
public import proofs.«01_k».proof.Proof.Moe.Ref
public import Idealize.ShloMosaic.Adequacy
public import Idealize.ShloMosaic.Init

@[expose] public section

noncomputable section

namespace Cert.Moe

open Idealize.ShloMosaic Idealize.ShloMosaic.TcCoe Idealize.SL.Sem

/-- Where the precondition holds, the kernel runs, leaves its arguments alone and no signal pending. -/
theorem kernel_frame : Cert.quiescent_Kernel4 := fun m g hp =>
  Cert.Kernel4.Moe.run_kept (F := Bits) m g (Cert.Pre_expert_numbers.Moe.range _ _ _ _ _ _ _ (hp 0))

theorem ideal_range (m : (ℓ : Loc Cert.Kernel4Ideal.nD Cert.Kernel4Ideal.τ Cert.Kernel4Ideal.sig) → Buf (Elt Ideal) ℓ) (hp : Cert.Pre_Kernel4Ideal m) :
    ∀ i, ((show IVec Cert.Kernel4Ideal.S164 32 from m (((0 : Dev Cert.Kernel4Ideal.nD) : Thread Cert.Kernel4Ideal.nD Cert.Kernel4Ideal.τ).loc Cert.Kernel4Ideal.main_arg0)) i).toNat < 32 :=
  Cert.Pre_expert_numbers.Moe.range _ _ _ _ _ _ _ (hp 0)

theorem ideal_frame : Cert.quiescent_Kernel4Ideal := fun m g hp => Cert.Kernel4Ideal.Moe.run_kept (F := Ideal) m g (ideal_range m hp)

/-- The reference runs, leaves its arguments alone and has no semaphore. -/
theorem ref_frame : Cert.quiescent_Reference4Ideal := fun m g _ =>
  (θ_run (Cert.Reference4Ideal.defs (F := Ideal)) _ _).mono
    (fun r h => ⟨fun c => (h c).2, sem_eq_zero_of_no_sems (by decide) r.2⟩)
    (Cert.Reference4Ideal.Value.run (F := Ideal) m g)

theorem ref_frame_pre : Cert.quiescent_Reference4Ideal_pre_expert_numbers := fun m g _ => ref_frame m g trivial

section Equal

variable (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (hr : ∀ i, ((show IVec Cert.Kernel4Ideal.S164 32 from m (((0 : Dev Cert.Kernel4Ideal.nD) : Thread Cert.Kernel4Ideal.nD Cert.Kernel4Ideal.τ).loc Cert.Kernel4Ideal.main_arg0)) i).toNat < 32)
    (h : m' (c.tc.loc Cert.Reference4Ideal.main_arg0) = m (c.tc.loc Cert.Kernel4Ideal.main_arg0)
      ∧ m' (c.tc.loc Cert.Reference4Ideal.main_arg1) = m (c.tc.loc Cert.Kernel4Ideal.main_arg1)
      ∧ m' (c.tc.loc Cert.Reference4Ideal.main_arg2) = m (c.tc.loc Cert.Kernel4Ideal.main_arg2)
      ∧ m' (c.tc.loc Cert.Reference4Ideal.main_arg3) = m (c.tc.loc Cert.Kernel4Ideal.main_arg3)
      ∧ m' (c.tc.loc Cert.Reference4Ideal.main_arg4) = m (c.tc.loc Cert.Kernel4Ideal.main_arg4)
      ∧ m' (c.tc.loc Cert.Reference4Ideal.main_arg5) = m (c.tc.loc Cert.Kernel4Ideal.main_arg5)
      ∧ m' (c.tc.loc Cert.Reference4Ideal.main_arg6) = m (c.tc.loc Cert.Kernel4Ideal.main_arg6))

/-- The column of experts holds, at a block, the block's expert. -/
theorem col_at (t : Fin 164) : ((Cert.Reference4Ideal.Moe.col (m (((0 : Dev Cert.Kernel4Ideal.nD) : Thread Cert.Kernel4Ideal.nD Cert.Kernel4Ideal.τ).loc Cert.Kernel4Ideal.main_arg0))) (ix2 t 0)).toNat
    = (Cert.Kernel4Ideal.Moe.exp m hr t).val := by
  unfold Cert.Kernel4Ideal.Moe.exp Cert.Reference4Ideal.Moe.col
  pointwise []

include h in
theorem result_eq : (Cert.Reference4Ideal.Value.res_main_v40 (F := Ideal) m' c : FVec Ideal Cert.Kernel4Ideal.S83968x1024 .f32) = Cert.Kernel4Ideal.Moe.Y m hr c := by
  obtain rfl : c = 0 := Subsingleton.elim _ _
  obtain ⟨h0, h1, h2, h3, h4, h5, h6⟩ := h
  funext j
  have hj : j = ix2 (show Fin 83968 from j 0) (show Fin 1024 from j 1) := funext fun a => by
    match a with
    | ⟨0, _⟩ => rfl
    | ⟨1, _⟩ => rfl
  rw [hj, Cert.Reference4Ideal.Moe.res_eq, h0, h1, h2, h3, h4, h5, h6]
  generalize (show Fin 83968 from j 0) = R
  generalize (show Fin 1024 from j 1) = k
  refine (Cert.Reference4Ideal.Moe.keep_at _ _ R k).trans ?_
  unfold Cert.Kernel4Ideal.Moe.Y Cert.Kernel4Ideal.Moe.rowOf
  refine if_congr Iff.rfl ?_ rfl
  refine (Cert.Reference4Ideal.Moe.down_at _ _ _ _ _ _).trans ?_
  unfold expert
  have ht := col_at m hr ⟨R.val / 512, by omega⟩
  refine congrArg₂ (· + ·) (Finset.sum_congr rfl fun f _ => congrArg₂ (· * ·) ?_ ?_) ?_
  · refine (Cert.Reference4Ideal.Moe.acts_at _ _ _ _).trans (congrArg (fun g => act g f) (funext fun q => ?_))
    refine (Cert.Reference4Ideal.Moe.hid_at _ _ _ _ _ _).trans ?_
    unfold first
    exact congrArg₂ (· + ·) (Finset.sum_congr rfl fun d _ => congrArg₂ (· * ·) rfl (take3 _ rfl rfl rfl rfl rfl rfl rfl _ _ _ d q _ (by decide) ht))
      (take2 _ rfl rfl rfl rfl rfl rfl rfl _ _ _ q _ (by decide) ht)
  · exact take3 _ rfl rfl rfl rfl rfl rfl rfl _ _ _ f k _ (by decide) ht
  · exact take2 _ rfl rfl rfl rfl rfl rfl rfl _ _ _ k _ (by decide) ht

end Equal

theorem algebraic : Cert.algebraic_Kernel4Ideal_Reference4Ideal := fun m g m' g' hp hm =>
  have hr := ideal_range m hp
  ⟨fun c => Cert.Kernel4Ideal.Moe.Y m hr c,
    (θ_run (Cert.Kernel4Ideal.defs (F := Ideal)) _ _).mono
      (fun r h c => ⟨(h.1 c).1.trans (Cert.Kernel4Ideal.Moe.final m _ c hr), (h.1 c).2⟩)
      (Cert.Kernel4Ideal.Moe.run_value (F := Ideal) m g (Cert.Kernel4Ideal.Moe.ok_of_range m hr)),
    (θ_run (Cert.Reference4Ideal.defs (F := Ideal)) _ _).mono
      (fun r h c => ⟨(h c).1.trans (result_eq m m' c hr (hm c)), (h c).2⟩)
      (Cert.Reference4Ideal.Value.run (F := Ideal) m' g')⟩

end Cert.Moe

end
-- ==== Proof.Comb.Math.lean ====
/- The combination of a token's four chosen experts, which the kernel and the reference both compute. -/
module

public import proofs.«01_k».proof.Proof.Proj.Norm

@[expose] public section

noncomputable section

namespace Cert.Comb

open Idealize.ShloMosaic

/-- The rows of the `i`-th choices of all tokens follow those of the choices before, each row as eight of 128. The rows of a token under its gates: -/
def chosen (Y : Fin 544768 → Fin 128 → EReal) (g : Fin 16896 → Fin 128 → EReal) (r : Fin 16896) (k : Fin 1024) : EReal :=
  ∑ i : Fin 4, g r ⟨i.val, by omega⟩ * Y ⟨(i.val * 16896 + r.val) * 8 + k.val / 128, by omega⟩ ⟨k.val % 128, by omega⟩

end Cert.Comb

end
-- ==== Proof.Comb.Kernel.lean ====
/- The combination kernel's output array after the run. -/
module

public import proofs.«01_k».proof.Proof.Gen.Kernel5Ideal.Value
public import proofs.«01_k».proof.Proof.Gen.Kernel5Ideal.Skeleton
public import proofs.«01_k».proof.Proof.Comb.Math
public import Idealize.ShloMosaic.Lib.Pipeline.ValueKit
public import Idealize.ShloMosaic.Lib.Claim

@[expose] public section

set_option maxRecDepth 16384

noncomputable section

namespace Cert.Kernel5Ideal.Comb

open Cert.Kernel5Ideal Cert.Kernel5Ideal.Gen
open Idealize.ShloMosaic Idealize.ShloMosaic.TcCoe Idealize.SL.Sem
open Idealize.ShloMosaic.Pipeline (Dat)
open Cert.Proj Cert.Comb

/-- Every eighth row of a block, from row `q` on. -/
def every (X : FVec Ideal S2048x128 .f32) (q : Fin 8) : FVec Ideal S256x128 .f32 :=
  fun i => X ((⟨![q.val, 0], S256x128.size, ![8, 1], by revert q; decide⟩ : LoadRect S2048x128).idx i)

theorem every_at (X : FVec Ideal S2048x128 .f32) (q : Fin 8) (r : Fin 256) (l : Fin 128) : every X q (ix2 r l) = X (ix2 ⟨r.val * 8 + q.val, by omega⟩ l) := by
  refine congrArg X (funext fun a => Fin.ext ?_)
  match a with
  | ⟨0, _⟩ => exact (show q.val + 8 * r.val = r.val * 8 + q.val by omega)
  | ⟨1, _⟩ => exact (show 0 + 1 * l.val = l.val by omega)

/-- Those eight arrays side by side. -/
def tiles (X : FVec Ideal S2048x128 .f32) : FVec Ideal S256x1024 .f32 :=
  concatenate S256x1024 1 [⟨S256x128, every X 0⟩, ⟨S256x128, every X 1⟩, ⟨S256x128, every X 2⟩, ⟨S256x128, every X 3⟩, ⟨S256x128, every X 4⟩,
    ⟨S256x128, every X 5⟩, ⟨S256x128, every X 6⟩, ⟨S256x128, every X 7⟩]
    concatenates_S256x128_S256x128_S256x128_S256x128_S256x128_S256x128_S256x128_S256x128_S256x1024_d1

/-- They are the block's rows of 128, eight after one another making one row of 1024. -/
theorem tiles_at (X : FVec Ideal S2048x128 .f32) (r : Fin 256) (k : Fin 1024) :
    tiles X (ix2 r k) = X (ix2 ⟨r.val * 8 + k.val / 128, by omega⟩ ⟨k.val % 128, by omega⟩) := by
  have e : ∀ (q : Fin 8) (l : Fin 128), q.val * 128 + l.val = k.val → every X q (ix2 r l) = X (ix2 ⟨r.val * 8 + k.val / 128, by omega⟩ ⟨k.val % 128, by omega⟩) :=
    fun q l h => (every_at X q r l).trans (congrArg X (congrArg₂ ix2 (Fin.ext (show r.val * 8 + q.val = r.val * 8 + k.val / 128 by omega)) (Fin.ext (show l.val = k.val % 128 by omega))))
  unfold tiles
  pointwise []
  split_ifs <;> exact e _ _ (by simp only [Fin.isValue, Fin.val_zero, Fin.val_one, Fin.val_two, Fin.val_ofNat]; omega)

/-- A block's rows for the `i`-th choice under its gate. -/
def share (g : FVec Ideal S256x128 .f32) (x : Fin 4 → FVec Ideal S2048x128 .f32) (r : Fin 256) (k : Fin 1024) (i : Fin 4) : EReal :=
  g (ix2 r ⟨i.val, by omega⟩) * x i (ix2 ⟨r.val * 8 + k.val / 128, by omega⟩ ⟨k.val % 128, by omega⟩)

/-- The gated sum of the four choices. -/
def gated (g : FVec Ideal S256x128 .f32) (x0 x1 x2 x3 : FVec Ideal S2048x128 .f32) : FVec Ideal S256x1024 .f32 :=
  addf (addf (addf (mulf (broadcastTo S256x1024 (extractStridedSlice S256x1 ![0, 0] g slices_S256x128_o0_0_S256x1) broadcasts_S256x1_S256x1024) (tiles x0))
    (mulf (broadcastTo S256x1024 (extractStridedSlice S256x1 ![0, 1] g slices_S256x128_o0_1_S256x1) broadcasts_S256x1_S256x1024) (tiles x1)))
    (mulf (broadcastTo S256x1024 (extractStridedSlice S256x1 ![0, 2] g slices_S256x128_o0_2_S256x1) broadcasts_S256x1_S256x1024) (tiles x2)))
    (mulf (broadcastTo S256x1024 (extractStridedSlice S256x1 ![0, 3] g slices_S256x128_o0_3_S256x1) broadcasts_S256x1_S256x1024) (tiles x3))

theorem gated_at (g : FVec Ideal S256x128 .f32) (x0 x1 x2 x3 : FVec Ideal S2048x128 .f32) (r : Fin 256) (k : Fin 1024) :
    gated g x0 x1 x2 x3 (ix2 r k) = ∑ i : Fin 4, share g ![x0, x1, x2, x3] r k i := by
  rw [Fin.sum_univ_four]
  unfold gated share
  pointwise []
  simp only [tiles_at]

/-- What the body stores, at a row and a column of its block. -/
theorem pay_at (y x : FVec Ideal S256x1024 .f32) (g : FVec Ideal S1x1x1024 .f32) (lg lb : FVec Ideal S1x1024 .f32) (r : Fin 256) (j : Fin 1024) :
    k0_pay1 (F := Ideal) y x g lg lb (ix2 r j)
      = lnRow (mixed (fun k => x (ix2 r k)) (fun k => y (ix2 r k)) (fun k => g (ix3 0 0 k))) (fun k => lg (ix2 0 k)) (fun k => lb (ix2 0 k)) j := by
  unfold lnRow mean mixed
  pointwise [k0_pay1]

variable (m : (ℓ : Loc nD τ sig) → Buf (Elt Ideal) ℓ) (c : Dev nD) (t : Fin cfg0.N)

/-- What a point leaves in the result's block. -/
theorem out_eq : outsAt0 m c t
    = k0_pay1 (F := Ideal) (gated (iblk m c 4 t) (iblk m c 0 t) (iblk m c 1 t) (iblk m c 2 t) (iblk m c 3 t)) (iblk m c 5 t) (iblk m c 6 t) (iblk m c 7 t) (iblk m c 8 t) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_out
  unfold View.readAt
  simp only [Memref.IsWhole.read_unread]
  rfl

theorem idx : ∀ t : Fin cfg0.N, win0_0.index t = ![t.val, 0] ∧ win0_1.index t = ![66 + t.val, 0] ∧ win0_2.index t = ![132 + t.val, 0]
    ∧ win0_3.index t = ![198 + t.val, 0] ∧ win0_4.index t = ![t.val, 0] ∧ win0_5.index t = ![t.val, 0] ∧ win0_6.index t = ![min (t.val / 32) 2, 0, 0]
    ∧ win0_7.index t = ![0, 0] ∧ win0_8.index t = ![0, 0] ∧ win0_9.index t = ![t.val, 0] :=
  (by decide +kernel : ∀ t : Fin grid0.N, _)

theorem covers : (cfg0.win 9).Covers := by decide +kernel

theorem lt (t : Fin cfg0.N) : t.val < 66 := t.isLt

theorem y0_at (a : Fin 2048) (l : Fin 128) : (iblk m c 0 t : FVec Ideal S2048x128 .f32) (ix2 a l)
    = (m ((c : Thread nD τ).loc main_arg0) : FVec Ideal S544768x128 .f32) (ix2 ⟨t.val * 2048 + a.val, by have := lt t; omega⟩ l) := by
  blk_ext [iblk, V, idx t]

theorem y1_at (a : Fin 2048) (l : Fin 128) : (iblk m c 1 t : FVec Ideal S2048x128 .f32) (ix2 a l)
    = (m ((c : Thread nD τ).loc main_arg0) : FVec Ideal S544768x128 .f32) (ix2 ⟨(66 + t.val) * 2048 + a.val, by have := lt t; omega⟩ l) := by
  blk_ext [iblk, V, idx t]

theorem y2_at (a : Fin 2048) (l : Fin 128) : (iblk m c 2 t : FVec Ideal S2048x128 .f32) (ix2 a l)
    = (m ((c : Thread nD τ).loc main_arg0) : FVec Ideal S544768x128 .f32) (ix2 ⟨(132 + t.val) * 2048 + a.val, by have := lt t; omega⟩ l) := by
  blk_ext [iblk, V, idx t]

theorem y3_at (a : Fin 2048) (l : Fin 128) : (iblk m c 3 t : FVec Ideal S2048x128 .f32) (ix2 a l)
    = (m ((c : Thread nD τ).loc main_arg0) : FVec Ideal S544768x128 .f32) (ix2 ⟨(198 + t.val) * 2048 + a.val, by have := lt t; omega⟩ l) := by
  blk_ext [iblk, V, idx t]

theorem gates_at (r : Fin 256) (l : Fin 128) : (iblk m c 4 t : FVec Ideal S256x128 .f32) (ix2 r l)
    = (m ((c : Thread nD τ).loc main_arg1) : FVec Ideal S16896x128 .f32) (ix2 ⟨t.val * 256 + r.val, by have := lt t; omega⟩ l) := by
  blk_ext [iblk, V, idx t]

theorem x_at (r : Fin 256) (d : Fin 1024) : (iblk m c 5 t : FVec Ideal S256x1024 .f32) (ix2 r d)
    = (m ((c : Thread nD τ).loc main_arg2) : FVec Ideal S16896x1024 .f32) (ix2 ⟨t.val * 256 + r.val, by have := lt t; omega⟩ d) := by
  blk_ext [iblk, V, idx t]

theorem g_at (d : Fin 1024) : (iblk m c 6 t : FVec Ideal S1x1x1024 .f32) (ix3 0 0 d)
    = (m ((c : Thread nD τ).loc main_arg3) : FVec Ideal S3x1x1024 .f32) (ix3 ⟨min (t.val / 32) 2, by omega⟩ 0 d) := by
  blk_ext [iblk, V, idx t]

theorem lg_at (d : Fin 1024) : (iblk m c 7 t : FVec Ideal S1x1024 .f32) (ix2 0 d) = (m ((c : Thread nD τ).loc main_arg4) : FVec Ideal S1024 .f32) (ix1 d) := by
  have h : (V m c main_v0 : FVec Ideal S1x1024 .f32) = shapeCast S1x1024 (m ((c : Thread nD τ).loc main_arg4) : FVec Ideal S1024 .f32) shapeCasts_S1024_S1x1024 := by
    entry_read
    rfl
  have h2 : (iblk m c 7 t : FVec Ideal S1x1024 .f32) (ix2 0 d) = (V m c main_v0 : FVec Ideal S1x1024 .f32) (ix2 0 d) := by
    blk_ext [iblk, idx t]
  rw [h2, h]
  pointwise []

theorem lb_at (d : Fin 1024) : (iblk m c 8 t : FVec Ideal S1x1024 .f32) (ix2 0 d) = (m ((c : Thread nD τ).loc main_arg5) : FVec Ideal S1024 .f32) (ix1 d) := by
  have h : (V m c main_v1 : FVec Ideal S1x1024 .f32) = shapeCast S1x1024 (m ((c : Thread nD τ).loc main_arg5) : FVec Ideal S1024 .f32) shapeCasts_S1024_S1x1024 := by
    entry_read
    rfl
  have h2 : (iblk m c 8 t : FVec Ideal S1x1024 .f32) (ix2 0 d) = (V m c main_v1 : FVec Ideal S1x1024 .f32) (ix2 0 d) := by
    blk_ext [iblk, idx t]
  rw [h2, h]
  pointwise []

/-- A block of gated sums is the combination's block. -/
theorem sum_at (r : Fin 256) (k : Fin 1024) :
    gated (iblk m c 4 t) (iblk m c 0 t) (iblk m c 1 t) (iblk m c 2 t) (iblk m c 3 t) (ix2 r k)
      = chosen (fun a l => (m ((c : Thread nD τ).loc main_arg0) : FVec Ideal S544768x128 .f32) (ix2 a l))
        (fun r l => (m ((c : Thread nD τ).loc main_arg1) : FVec Ideal S16896x128 .f32) (ix2 r l)) ⟨t.val * 256 + r.val, by have := lt t; omega⟩ k := by
  refine (gated_at _ _ _ _ _ r k).trans ?_
  unfold chosen share
  refine Finset.sum_congr rfl fun i _ => congrArg₂ (· * ·) (gates_at m c t r _) ?_
  have ht := lt t
  match i with
  | ⟨0, _⟩ => exact (y0_at m c t _ _).trans (congrArg (fun a => (m ((c : Thread nD τ).loc main_arg0) : FVec Ideal S544768x128 .f32) (ix2 a _)) (Fin.ext (by dsimp only; omega)))
  | ⟨1, _⟩ => exact (y1_at m c t _ _).trans (congrArg (fun a => (m ((c : Thread nD τ).loc main_arg0) : FVec Ideal S544768x128 .f32) (ix2 a _)) (Fin.ext (by dsimp only; omega)))
  | ⟨2, _⟩ => exact (y2_at m c t _ _).trans (congrArg (fun a => (m ((c : Thread nD τ).loc main_arg0) : FVec Ideal S544768x128 .f32) (ix2 a _)) (Fin.ext (by dsimp only; omega)))
  | ⟨3, _⟩ => exact (y3_at m c t _ _).trans (congrArg (fun a => (m ((c : Thread nD τ).loc main_arg0) : FVec Ideal S544768x128 .f32) (ix2 a _)) (Fin.ext (by dsimp only; omega)))

/-- The combination as an array. -/
def G : FVec Ideal S16896x1024 .f32 := fun j =>
  row (fun r d => (m ((c : Thread nD τ).loc main_arg2) : FVec Ideal S16896x1024 .f32) (ix2 r d))
    (chosen (fun a l => (m ((c : Thread nD τ).loc main_arg0) : FVec Ideal S544768x128 .f32) (ix2 a l))
      (fun r l => (m ((c : Thread nD τ).loc main_arg1) : FVec Ideal S16896x128 .f32) (ix2 r l)))
    (fun s d => (m ((c : Thread nD τ).loc main_arg3) : FVec Ideal S3x1x1024 .f32) (ix3 s 0 d))
    (fun d => (m ((c : Thread nD τ).loc main_arg4) : FVec Ideal S1024 .f32) (ix1 d))
    (fun d => (m ((c : Thread nD τ).loc main_arg5) : FVec Ideal S1024 .f32) (ix1 d)) (j 0) (j 1)

/-- What a point writes is its block of that array. -/
theorem point (r : Fin 256) (j : Fin 1024) : outsAt0 m c t (ix2 r j) = G m c (ix2 ⟨t.val * 256 + r.val, by have := lt t; omega⟩ j) := by
  rw [out_eq]
  refine (pay_at _ _ _ _ _ r j).trans ?_
  simp only [sum_at, x_at, g_at, lg_at, lb_at]
  unfold G row
  have e : (⟨min ((t.val * 256 + r.val) / 8192) 2, by omega⟩ : Fin 3) = ⟨min (t.val / 32) 2, by omega⟩ :=
    Fin.ext (show min ((t.val * 256 + r.val) / 8192) 2 = min (t.val / 32) 2 by omega)
  dsimp only [ix2]
  simp only [e]

theorem G_emb (f : FVec Ideal S16896x1024 .f32) (y : ((cfg0.win 9).xblock (cfg0.grid.coords t)).Idx) : f ((win0_9.blk t).view.emb y)
    = f (ix2 ⟨t.val * 256 + (show Fin 256 from y 0).val, by have := (show Fin 256 from y 0).isLt; have := lt t; omega⟩ (show Fin 1024 from y 1)) := by
  blk_ext [idx t]

/-- The output array after the run. -/
theorem final : (dats m 0 c).arrAt 9 cfg0.N = G m c := by
  have ho := after0_9 m c
  generalize dats m 0 c = D at ho ⊢
  refine D.arrAt_eq_of_covers 9 (G m c) covers fun t _ y => ?_
  blk_simp
  rw [ho]
  refine Eq.trans ?_ (G_emb t (G m c) y).symm
  refine Eq.trans ?_ (point m c t (show Fin 256 from y 0) (show Fin 1024 from y 1))
  have hy : y = ix2 (show Fin 256 from y 0) (show Fin 1024 from y 1) := funext fun a => by
    match a with
    | ⟨0, _⟩ => rfl
    | ⟨1, _⟩ => rfl
  exact congrArg (outsAt0 m c t) hy

end Cert.Kernel5Ideal.Comb

end
-- ==== Proof.Comb.Ref.lean ====
/- The combination's reference at an index: the gated sum of four rows, then the stages of the projection's reference. -/
module

public import proofs.«01_k».proof.Proof.Gen.Reference5Ideal.Run
public import proofs.«01_k».proof.Proof.Comb.Math
public import proofs.«01_k».proof.Proof.Proj.Ref
public import Idealize.ShloMosaic.Lib.Pointwise

@[expose] public section

set_option maxRecDepth 16384

noncomputable section

namespace Cert.Reference5Ideal.Comb

open Cert.Reference5Ideal Cert.Reference5Ideal.Gen Cert.Reference5Ideal.Value
open Idealize.ShloMosaic Idealize.ShloMosaic.TcCoe
open Cert.Proj Cert.Comb Cert.Reference2Ideal.Proj

/-- The four choices' rows under their gates, added. -/
def gatedSum {F : FTy → Type} [FloatOps F] (y : Vec F S544768x128 .f32) (g : Vec F S16896x128 .f32) : Vec F S16896x1024 .f32 :=
  Host.reduceAdd (mulf (shapeCast _ (extractStridedSlice S67584x1024 ![0, 0] (shapeCast S68096x1024 y shapeCasts_S544768x128_S68096x1024) slices_S68096x1024_S67584x1024_0_0) shapeCasts_S67584x1024_S4x16896x1024)
      (broadcastInDim S4x16896x1024 ![0, 1, 2] bcast_S4x16896x1_S4x16896x1024_0_1_2 (broadcastInDim S4x16896x1 ![0, 1] bcast_S4x16896_S4x16896x1_0_1
        (transpose S4x16896 [1, 0] (extractStridedSlice S16896x4 ![0, 0] g slices_S16896x128_S16896x4_0_0) transposes_S16896x4_S4x16896_1_0))))
    (constant S_ .f32 0x00000000#32) reducesTo_S4x16896x1024_S16896x1024_d0 h_S_

/-- The reference's result is that sum through the projection's stages. -/
theorem res_eq {F : FTy → Type} [FloatOps F] (m : (ℓ : Loc nD τ sig) → Buf (Elt F) ℓ) (c : Dev nD) :
    res_main_v81 m c = both
      (normL (mixL (m ((c.tc : Thread nD τ).loc main_arg2)) (gatedSum (m ((c.tc : Thread nD τ).loc main_arg0)) (m ((c.tc : Thread nD τ).loc main_arg1))) (m ((c.tc : Thread nD τ).loc main_arg3)))
        (m ((c.tc : Thread nD τ).loc main_arg4)) (m ((c.tc : Thread nD τ).loc main_arg5)))
      (normC (mixC (m ((c.tc : Thread nD τ).loc main_arg2)) (gatedSum (m ((c.tc : Thread nD τ).loc main_arg0)) (m ((c.tc : Thread nD τ).loc main_arg1))) (m ((c.tc : Thread nD τ).loc main_arg3)))
        (m ((c.tc : Thread nD τ).loc main_arg4)) (m ((c.tc : Thread nD τ).loc main_arg5))) := rfl

theorem gatedSum_at (y : FVec Ideal S544768x128 .f32) (g : FVec Ideal S16896x128 .f32) (r : Fin 16896) (k : Fin 1024) :
    gatedSum (F := Ideal) y g (ix2 r k) = chosen (fun a l => y (ix2 a l)) (fun r l => g (ix2 r l)) r k := by
  unfold gatedSum chosen
  pointwise []
  exact Finset.sum_congr rfl fun i _ => mul_comm _ _

/-- The reference at a row and a column. -/
theorem res_at (m : (ℓ : Loc nD τ sig) → Buf (Elt Ideal) ℓ) (c : Dev nD) (r : Fin 16896) (k : Fin 1024) :
    res_main_v81 (F := Ideal) m c (ix2 r k)
      = row (fun r d => (m ((c.tc : Thread nD τ).loc main_arg2) : FVec Ideal S16896x1024 .f32) (ix2 r d))
        (chosen (fun a l => (m ((c.tc : Thread nD τ).loc main_arg0) : FVec Ideal S544768x128 .f32) (ix2 a l))
          (fun r l => (m ((c.tc : Thread nD τ).loc main_arg1) : FVec Ideal S16896x128 .f32) (ix2 r l)))
        (fun s d => (m ((c.tc : Thread nD τ).loc main_arg3) : FVec Ideal S3x1x1024 .f32) (ix3 s 0 d))
        (fun d => (m ((c.tc : Thread nD τ).loc main_arg4) : FVec Ideal S1024 .f32) (ix1 d))
        (fun d => (m ((c.tc : Thread nD τ).loc main_arg5) : FVec Ideal S1024 .f32) (ix1 d)) r k := by
  rw [res_eq]
  refine (both_at _ _ _ _ _ r k).trans ?_
  simp only [gatedSum_at]

end Cert.Reference5Ideal.Comb

end
-- ==== Proof.Comb.Claims.lean ====
/- The combination's claims: the reference runs, and the kernel's array and the reference's are equal. -/
module

public import proofs.«01_k».proof.Defs
public import proofs.«01_k».proof.Proof.Gen.Kernel5Ideal
public import proofs.«01_k».proof.Proof.Gen.Reference5Ideal
public import proofs.«01_k».proof.Proof.Comb.Kernel
public import proofs.«01_k».proof.Proof.Comb.Ref
public import Idealize.ShloMosaic.Adequacy
public import Idealize.ShloMosaic.Init

@[expose] public section

noncomputable section

namespace Cert.Comb

open Idealize.ShloMosaic Idealize.ShloMosaic.TcCoe Idealize.SL.Sem

/-- The reference runs, leaves its arguments alone and has no semaphore. -/
theorem ref_frame : Cert.quiescent_Reference5Ideal := fun m g _ =>
  (θ_run (Cert.Reference5Ideal.defs (F := Ideal)) _ _).mono
    (fun r h => ⟨fun c => (h c).2, sem_eq_zero_of_no_sems (by decide) r.2⟩)
    (Cert.Reference5Ideal.Value.run (F := Ideal) m g)

/-- The two arrays agree. -/
theorem equal (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' (c.tc.loc Cert.Reference5Ideal.main_arg0) = m (c.tc.loc Cert.Kernel5Ideal.main_arg0))
    (h1 : m' (c.tc.loc Cert.Reference5Ideal.main_arg1) = m (c.tc.loc Cert.Kernel5Ideal.main_arg1))
    (h2 : m' (c.tc.loc Cert.Reference5Ideal.main_arg2) = m (c.tc.loc Cert.Kernel5Ideal.main_arg2))
    (h3 : m' (c.tc.loc Cert.Reference5Ideal.main_arg3) = m (c.tc.loc Cert.Kernel5Ideal.main_arg3))
    (h4 : m' (c.tc.loc Cert.Reference5Ideal.main_arg4) = m (c.tc.loc Cert.Kernel5Ideal.main_arg4))
    (h5 : m' (c.tc.loc Cert.Reference5Ideal.main_arg5) = m (c.tc.loc Cert.Kernel5Ideal.main_arg5)) :
    (Cert.Reference5Ideal.Value.res_main_v81 (F := Ideal) m' c : FVec Ideal Cert.Kernel5Ideal.S16896x1024 .f32)
      = (Cert.Kernel5Ideal.Gen.dats (F := Ideal) m 0 c).arrAt 9 Cert.Kernel5Ideal.cfg0.N := by
  rw [Cert.Kernel5Ideal.Comb.final m c]
  funext j
  have hj : j = ix2 (show Fin 16896 from j 0) (show Fin 1024 from j 1) := funext fun a => by
    match a with
    | ⟨0, _⟩ => rfl
    | ⟨1, _⟩ => rfl
  rw [hj]
  refine (Cert.Reference5Ideal.Comb.res_at m' c _ _).trans ?_
  rw [h0, h1, h2, h3, h4, h5]
  rfl

theorem algebraic : Cert.algebraic_Kernel5Ideal_Reference5Ideal := fun m g m' g' _ hm =>
  ⟨fun c => (Cert.Kernel5Ideal.Gen.dats (F := Ideal) m 0 c).arrAt 9 Cert.Kernel5Ideal.cfg0.N,
    Cert.Kernel5Ideal.Value.run_blocks m g,
    (θ_run (Cert.Reference5Ideal.defs (F := Ideal)) _ _).mono
      (fun r h c => ⟨(h c).1.trans (equal m m' c (hm c).1 (hm c).2.1 (hm c).2.2.1 (hm c).2.2.2.1 (hm c).2.2.2.2.1 (hm c).2.2.2.2.2), (h c).2⟩)
      (Cert.Reference5Ideal.Value.run (F := Ideal) m' g')⟩

end Cert.Comb

end
-- ==== Proof.Fn.Math.lean ====
/- The Fourier mixing's input stage: a modulated row times the weights, normalised in groups of 128 and taken through a table. -/
module

public import Idealize.ShloMosaic.Lib.Pointwise

@[expose] public section

noncomputable section

namespace Cert.Fn

open Idealize.ShloMosaic

/-- A row modulated and multiplied by the weights. -/
def row (x sc sh : Fin 1024 → EReal) (w : Fin 1024 → Fin 1024 → EReal) (k : Fin 1024) : EReal :=
  ∑ d : Fin 1024, (x d * (1 + sc d) + sh d) * w d k

/-- A lane of a group of 128. -/
def lane (g : Fin 8) (l : Fin 128) : Fin 1024 := ⟨g.val * 128 + l.val, by omega⟩

/-- The normalised row: every group over the root of its mean square, under the gain. -/
def nrm (u gain : Fin 1024 → EReal) (g : Fin 8) (l : Fin 128) : EReal :=
  u (lane g l) * Ideal.rsqrt (Ideal.div (∑ j : Fin 128, u (lane g j) * u (lane g j)) (Ideal.ofBits .f32 0x43000000#32) + Ideal.ofBits .f32 0x3727C5AC#32)
    * gain (lane g l)

/-- A group of it through a table. -/
def tr (u gain : Fin 1024 → EReal) (T : Fin 128 → Fin 128 → EReal) (g : Fin 8) (l : Fin 128) : EReal :=
  ∑ j : Fin 128, nrm u gain g j * T j l

/-- The result at a sequence, a remainder and a quotient of the position by 16, and a column. -/
def part (X : Fin 16896 → Fin 1024 → EReal) (SC SH : Fin 3 → Fin 1024 → EReal) (W : Fin 1024 → Fin 1024 → EReal) (gain : Fin 1024 → EReal)
    (T : Fin 128 → Fin 128 → EReal) (b : Fin 2) (q : Fin 16) (s : Fin 512) (k : Fin 1024) : EReal :=
  tr (row (X ⟨b.val * 8192 + (s.val * 16 + q.val), by omega⟩) (SC ⟨b.val, by omega⟩) (SH ⟨b.val, by omega⟩) W) gain T ⟨k.val / 128, by omega⟩ ⟨k.val % 128, by omega⟩

end Cert.Fn

end
-- ==== Proof.Fn.Pay.lean ====
/- What the Fourier mixing's input kernel stores in its two scratch blocks and, strip by strip, in its output blocks. -/
module

public import proofs.«01_k».proof.Proof.Gen.Kernel6Ideal.Value
public import proofs.«01_k».proof.Proof.Gen.Kernel6Ideal.Skeleton
public import proofs.«01_k».proof.Proof.Fn.Math
public import Idealize.ShloMosaic.Lib.Pipeline.ValueKit
public import Idealize.ShloMosaic.Lib.Claim

@[expose] public section

set_option maxRecDepth 16384

noncomputable section

namespace Cert.Kernel6Ideal.Fn

open Cert.Kernel6Ideal Cert.Kernel6Ideal.Gen
open Idealize.ShloMosaic Idealize.ShloMosaic.TcCoe Idealize.SL.Sem
open Cert.Fn

/-- The product's row. -/
theorem u_at (x : FVec Ideal S256x1024 .f32) (sc sh : FVec Ideal S1x1x1024 .f32) (w : FVec Ideal S1024x1024 .bf16) (r : Fin 256) (k : Fin 1024) :
    k0_pay2 (F := Ideal) x sc sh w (ix2 r k) = row (fun d => x (ix2 r d)) (fun d => sc (ix3 0 0 d)) (fun d => sh (ix3 0 0 d)) (fun d k => w (ix2 d k)) k := by
  unfold row
  pointwise [k0_pay2]

/-- One group of the product, normalised and through both tables side by side. -/
def group (o : ℕ) (hs : S256x1024.Slices ![0, o] S256x128) (hg : S1x1024.Slices ![0, o] S1x128) (P : FVec Ideal S256x1024 .f32) (G : FVec Ideal S1x1024 .f32)
    (C : FVec Ideal S128x256 .bf16) : FVec Ideal S256x256 .f32 :=
  matmul dot_S256x128_S128x256_S256x256_1_0_0_1_n_n none
    (truncf .bf16 (mulf (mulf (extractStridedSlice S256x128 ![0, o] P hs)
        (broadcastTo S256x128 (rsqrt (addf (divf (shapeCast S256x1 (multiReduction .add [1] S256 (mulf (extractStridedSlice S256x128 ![0, o] P hs) (extractStridedSlice S256x128 ![0, o] P hs))
            0x00000000#32 reduces_S256x128_S256 (.inl rfl) rfl) shapeCasts_S256_S256x1) (broadcast S256x1 (Scalar.ofBits .f32 0x43000000#32 : Ideal .f32)))
          (broadcast S256x1 (Scalar.ofBits .f32 0x3727C5AC#32 : Ideal .f32)))) broadcasts_S256x1_S256x128))
      (broadcastTo S256x128 (extractStridedSlice S1x128 ![0, o] G hg) broadcasts_S1x128_S256x128)) bitsLt_bf16_f32)
    C (constant S256x256 .f32 0x00000000#32)

theorem group_at (o : ℕ) (hs hg) (g : Fin 8) (ho : o = g.val * 128) (P : FVec Ideal S256x1024 .f32) (G : FVec Ideal S1x1024 .f32) (C : FVec Ideal S128x256 .bf16)
    (r : Fin 256) (l : Fin 256) :
    group o hs hg P G C (ix2 r l) = ∑ j : Fin 128, nrm (fun k => P (ix2 r k)) (fun k => G (ix2 0 k)) g j * C (ix2 j l) := by
  subst ho
  unfold group nrm lane
  pointwise []

/-- One of the two tables' halves of a group, as it is stored. -/
def half (b : ℕ) (hb : S256x256.Slices ![0, b] S256x128) (M : FVec Ideal S256x256 .f32) : FVec Ideal S1x256x128 .f32 :=
  shapeCast S1x256x128 (extractStridedSlice S256x128 ![0, b] M hb) shapeCasts_S256x128_S1x256x128

theorem half_at (b : ℕ) (hb : S256x256.Slices ![0, b] S256x128) (hb2 : b + 128 ≤ 256) (o : ℕ) (hs hg) (g : Fin 8) (ho : o = g.val * 128) (P : FVec Ideal S256x1024 .f32)
    (G : FVec Ideal S1x1024 .f32) (C : FVec Ideal S128x256 .bf16) (x : S1x256x128.Idx) (r : Fin 256) (l : Fin 128) (hr : r.val = (x 1).val) (hl : l.val = (x 2).val) :
    half b hb (group o hs hg P G C) x = tr (fun k => P (ix2 r k)) (fun k => G (ix2 0 k)) (fun j l => C (ix2 j ⟨b + l.val, by omega⟩)) g l := by
  have e : x = ix3 0 r l := funext fun a => by
    match a with
    | ⟨0, _⟩ => exact Subsingleton.elim (α := Fin 1) _ _
    | ⟨1, _⟩ => exact Fin.ext hr.symm
    | ⟨2, _⟩ => exact Fin.ext hl.symm
  rw [e]
  unfold half tr
  pointwise []
  exact group_at o hs hg g ho P G C r ⟨b + l.val, by omega⟩

theorem inb (g : Fin 8) (q : Fin 16) : ∀ a, S1x16x128.size a = 0 ∨ (![g.val, q.val, 0] : Fin 3 → ℕ) a + (![1, 16, 1] : Fin 3 → ℕ) a * (S1x16x128.size a - 1) < S8x256x128.size a := by
  revert g q
  decide

/-- Every sixteenth row of a group in the scratch block, from row `q` on. -/
def strip (Z : FVec Ideal S8x256x128 .f32) (g : Fin 8) (q : Fin 16) : FVec Ideal S16x128 .f32 :=
  shapeCast S16x128 (fun i => Z ((⟨![g.val, q.val, 0], S1x16x128.size, ![1, 16, 1], inb g q⟩ : LoadRect S8x256x128).idx i) : FVec Ideal S1x16x128 .f32) shapeCasts_S1x16x128_S16x128

theorem strip_at (Z : FVec Ideal S8x256x128 .f32) (g : Fin 8) (q : Fin 16) (s : Fin 16) (l : Fin 128) :
    strip Z g q (ix2 s l) = Z (ix3 g ⟨s.val * 16 + q.val, by omega⟩ l) := by
  unfold strip
  pointwise []
  refine congrArg Z (funext fun a => Fin.ext ?_)
  match a with
  | ⟨0, _⟩ => rfl
  | ⟨1, _⟩ => exact (show q.val + 16 * s.val = s.val * 16 + q.val by omega)
  | ⟨2, _⟩ => rfl

/-- The eight groups' strips side by side, as they are stored. -/
def piece (Z : FVec Ideal S8x256x128 .f32) (q : Fin 16) : FVec Ideal S1x1x16x1024 .bf16 :=
  shapeCast S1x1x16x1024 (truncf .bf16 (concatenate S16x1024 1 [⟨S16x128, strip Z 0 q⟩, ⟨S16x128, strip Z 1 q⟩, ⟨S16x128, strip Z 2 q⟩, ⟨S16x128, strip Z 3 q⟩,
    ⟨S16x128, strip Z 4 q⟩, ⟨S16x128, strip Z 5 q⟩, ⟨S16x128, strip Z 6 q⟩, ⟨S16x128, strip Z 7 q⟩]
    concatenates_S16x128_S16x128_S16x128_S16x128_S16x128_S16x128_S16x128_S16x128_S16x1024_d1) bitsLt_bf16_f32) shapeCasts_S16x1024_S1x1x16x1024

/-- Row `s` of strip `q` is row `16 s + q` of the scratch block, its groups after one another. -/
theorem piece_at (Z : FVec Ideal S8x256x128 .f32) (q : Fin 16) (s : Fin 16) (k : Fin 1024) :
    piece Z q (ix4 0 0 s k) = Z (ix3 ⟨k.val / 128, by omega⟩ ⟨s.val * 16 + q.val, by omega⟩ ⟨k.val % 128, by omega⟩) := by
  have e : ∀ (g : Fin 8) (l : Fin 128), g.val * 128 + l.val = k.val →
      strip Z g q (ix2 s l) = Z (ix3 ⟨k.val / 128, by omega⟩ ⟨s.val * 16 + q.val, by omega⟩ ⟨k.val % 128, by omega⟩) := fun g l hg => by
    have hg1 : (⟨k.val / 128, by omega⟩ : Fin 8) = g := Fin.ext (show k.val / 128 = g.val by omega)
    have hl1 : (⟨k.val % 128, by omega⟩ : Fin 128) = l := Fin.ext (show k.val % 128 = l.val by omega)
    rw [strip_at, hg1, hl1]
  unfold piece
  pointwise []
  split_ifs <;> exact e _ _ (by simp only [Fin.isValue, Fin.val_zero, Fin.val_one, Fin.val_two, Fin.val_ofNat]; omega)

/-- The block a body leaves: strip after strip. -/
def strips (Z : FVec Ideal S8x256x128 .f32) : FVec Ideal S1x16x16x1024 .bf16 := fun y => piece Z (y 1) (ix4 0 0 (y 2) (y 3))

theorem strips_of (Z : FVec Ideal S8x256x128 .f32) (q : Fin 16) (y : S1x16x16x1024.Idx) (x : S1x1x16x1024.Idx) (h1 : (y 1).val = q.val + (x 1).val) (h2 : (y 2).val = (x 2).val)
    (h3 : (y 3).val = (x 3).val) : piece Z q x = strips Z y := by
  have hx : x = ix4 0 0 (show Fin 16 from x 2) (show Fin 1024 from x 3) := funext fun a => by
    match a with
    | ⟨0, _⟩ => exact Subsingleton.elim (α := Fin 1) _ _
    | ⟨1, _⟩ => exact Subsingleton.elim (α := Fin 1) _ _
    | ⟨2, _⟩ => rfl
    | ⟨3, _⟩ => rfl
  have h0 : (x 1).val < 1 := (x 1).isLt
  have e1 : (show Fin 16 from y 1) = q := Fin.ext (by show (y 1).val = q.val; omega)
  have e2 : (show Fin 16 from y 2) = (show Fin 16 from x 2) := Fin.ext h2
  have e3 : (show Fin 1024 from y 3) = (show Fin 1024 from x 3) := Fin.ext h3
  refine (congrArg (piece Z q) hx).trans ?_
  show _ = piece Z (show Fin 16 from y 1) (ix4 0 0 (show Fin 16 from y 2) (show Fin 1024 from y 3))
  rw [e1, e2, e3]

end Cert.Kernel6Ideal.Fn

end
-- ==== Proof.Fn.Body.lean ====
/- What a point of the Fourier mixing's input kernel leaves in its two output blocks, at an index. -/
module

public import proofs.«01_k».proof.Proof.Fn.Pay

@[expose] public section

set_option maxRecDepth 16384

noncomputable section

namespace Cert.Kernel6Ideal.Fn

open Cert.Kernel6Ideal Cert.Kernel6Ideal.Gen
open Idealize.ShloMosaic Idealize.ShloMosaic.TcCoe Idealize.SL.Sem
open Cert.Fn

variable (m : (ℓ : Loc nD τ sig) → Buf (Elt Ideal) ℓ) (c : Dev nD) (t : Fin cfg0.N)
  (x0 : FVec Ideal S256x1024 .f32) (x1 x2 : FVec Ideal S1x1x1024 .f32) (x3 : FVec Ideal S1024x1024 .bf16) (x4 : FVec Ideal S1x1024 .f32) (x5 : FVec Ideal S128x256 .bf16)

/-- The product, the gain and the tables as the body reads them. -/
def P : FVec Ideal S256x1024 .f32 := kernelRun0_A.sl.r c (ms0_0 t) (hs0_0 t) (ms0_1 t) (hs0_1 t) (ms0_2 t) (hs0_2 t) (ms0_3 t) (hs0_3 t) x0 x1 x2 x3
def G : FVec Ideal S1x1024 .f32 := kernelRun0_A.sl.r_1 c (ms0_4 t) (hs0_4 t) x4
def C : FVec Ideal S128x256 .bf16 := kernelRun0_A.sl.r_2 c (ms0_5 t) (hs0_5 t) x5

theorem P_at (r : Fin 256) (k : Fin 1024) : P c t x0 x1 x2 x3 (ix2 r k)
    = row (fun d => x0 (ix2 r d)) (fun d => x1 (ix3 0 0 d)) (fun d => x2 (ix3 0 0 d)) (fun d k => x3 (ix2 d k)) k := by
  unfold P kernelRun0_A.sl.r View.readAt row
  simp only [Memref.IsWhole.read_unread]
  pointwise [k0_pay2]

theorem G_at (k : Fin 1024) : G c t x4 (ix2 0 k) = x4 (ix2 0 k) := by
  unfold G kernelRun0_A.sl.r_1 View.readAt
  simp only [Memref.IsWhole.read_unread]
  pointwise [k0_pay3]

theorem C_at (j : Fin 128) (l : Fin 256) : C c t x5 (ix2 j l) = x5 (ix2 j l) := by
  unfold C kernelRun0_A.sl.r_2 View.readAt
  simp only [Memref.IsWhole.read_unread]
  pointwise [k0_pay4]

/-- The first scratch block: every group through the first table. -/
def Z0 : FVec Ideal S8x256x128 .f32 :=
  scM0_0.view.read (Elt Ideal) (scM0_0.view.writes (Elt Ideal) scM0_0.view.junk (kernelRun0_A.sl.HS0_8 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5))

theorem Z0_at (g : Fin 8) (r : Fin 256) (l : Fin 128) : Z0 c t x0 x1 x2 x3 x4 x5 (ix3 g r l)
    = tr (fun k => P c t x0 x1 x2 x3 (ix2 r k)) (fun k => G c t x4 (ix2 0 k)) (fun j l => C c t x5 (ix2 j ⟨0 + l.val, by omega⟩)) g l := by
  unfold Z0
  rw [View.read_writes_junk_eq_canon]
  unfold kernelRun0_A.sl.HS0_8
  canon_tiles x h
  · obtain rfl : g = 7 := Fin.ext (by have := x0_lt; change g.val = 7 + (x 0).val at h0; omega)
    exact half_at 0 slices_S256x256_o0_0_S256x128 (by decide) 896 slices_S256x1024_o0_896_S256x128 slices_S1x1024_o0_896_S1x128 7 rfl (P c t x0 x1 x2 x3) (G c t x4) (C c t x5) x r l h1 h2
  · obtain rfl : g = 6 := Fin.ext (by have := x0_lt; change g.val = 6 + (x 0).val at h0; omega)
    exact half_at 0 slices_S256x256_o0_0_S256x128 (by decide) 768 slices_S256x1024_o0_768_S256x128 slices_S1x1024_o0_768_S1x128 6 rfl (P c t x0 x1 x2 x3) (G c t x4) (C c t x5) x r l h1 h2
  · obtain rfl : g = 5 := Fin.ext (by have := x0_lt; change g.val = 5 + (x 0).val at h0; omega)
    exact half_at 0 slices_S256x256_o0_0_S256x128 (by decide) 640 slices_S256x1024_o0_640_S256x128 slices_S1x1024_o0_640_S1x128 5 rfl (P c t x0 x1 x2 x3) (G c t x4) (C c t x5) x r l h1 h2
  · obtain rfl : g = 4 := Fin.ext (by have := x0_lt; change g.val = 4 + (x 0).val at h0; omega)
    exact half_at 0 slices_S256x256_o0_0_S256x128 (by decide) 512 slices_S256x1024_o0_512_S256x128 slices_S1x1024_o0_512_S1x128 4 rfl (P c t x0 x1 x2 x3) (G c t x4) (C c t x5) x r l h1 h2
  · obtain rfl : g = 3 := Fin.ext (by have := x0_lt; change g.val = 3 + (x 0).val at h0; omega)
    exact half_at 0 slices_S256x256_o0_0_S256x128 (by decide) 384 slices_S256x1024_o0_384_S256x128 slices_S1x1024_o0_384_S1x128 3 rfl (P c t x0 x1 x2 x3) (G c t x4) (C c t x5) x r l h1 h2
  · obtain rfl : g = 2 := Fin.ext (by have := x0_lt; change g.val = 2 + (x 0).val at h0; omega)
    exact half_at 0 slices_S256x256_o0_0_S256x128 (by decide) 256 slices_S256x1024_o0_256_S256x128 slices_S1x1024_o0_256_S1x128 2 rfl (P c t x0 x1 x2 x3) (G c t x4) (C c t x5) x r l h1 h2
  · obtain rfl : g = 1 := Fin.ext (by have := x0_lt; change g.val = 1 + (x 0).val at h0; omega)
    exact half_at 0 slices_S256x256_o0_0_S256x128 (by decide) 128 slices_S256x1024_o0_128_S256x128 slices_S1x1024_o0_128_S1x128 1 rfl (P c t x0 x1 x2 x3) (G c t x4) (C c t x5) x r l h1 h2
  · obtain rfl : g = 0 := Fin.ext (by have := x0_lt; change g.val = (x 0).val at h0; omega)
    exact half_at 0 slices_S256x256_o0_0_S256x128 (by decide) 0 slices_S256x1024_o0_0_S256x128 slices_S1x1024_o0_0_S1x128 0 rfl (P c t x0 x1 x2 x3) (G c t x4) (C c t x5) x r l h1 h2

/-- The second scratch block: every group through the second table. -/
def Z1 : FVec Ideal S8x256x128 .f32 :=
  scM0_1.view.read (Elt Ideal) (scM0_1.view.writes (Elt Ideal) scM0_1.view.junk (kernelRun0_A.sl.HS1_8 c (ms0_0 t) (hs0_0 t) (ms0_1 t) (hs0_1 t) (ms0_2 t) (hs0_2 t) (ms0_3 t) (hs0_3 t) (ms0_4 t) (hs0_4 t) (ms0_5 t) (hs0_5 t) x0 x1 x2 x3 x4 x5))

theorem Z1_at (g : Fin 8) (r : Fin 256) (l : Fin 128) : Z1 c t x0 x1 x2 x3 x4 x5 (ix3 g r l)
    = tr (fun k => P c t x0 x1 x2 x3 (ix2 r k)) (fun k => G c t x4 (ix2 0 k)) (fun j l => C c t x5 (ix2 j ⟨128 + l.val, by omega⟩)) g l := by
  unfold Z1
  rw [View.read_writes_junk_eq_canon]
  unfold kernelRun0_A.sl.HS1_8
  canon_tiles x h
  · obtain rfl : g = 7 := Fin.ext (by have := x0_lt; change g.val = 7 + (x 0).val at h0; omega)
    exact half_at 128 slices_S256x256_o0_128_S256x128 (by decide) 896 slices_S256x1024_o0_896_S256x128 slices_S1x1024_o0_896_S1x128 7 rfl (P c t x0 x1 x2 x3) (G c t x4) (C c t x5) x r l h1 h2
  · obtain rfl : g = 6 := Fin.ext (by have := x0_lt; change g.val = 6 + (x 0).val at h0; omega)
    exact half_at 128 slices_S256x256_o0_128_S256x128 (by decide) 768 slices_S256x1024_o0_768_S256x128 slices_S1x1024_o0_768_S1x128 6 rfl (P c t x0 x1 x2 x3) (G c t x4) (C c t x5) x r l h1 h2
  · obtain rfl : g = 5 := Fin.ext (by have := x0_lt; change g.val = 5 + (x 0).val at h0; omega)
    exact half_at 128 slices_S256x256_o0_128_S256x128 (by decide) 640 slices_S256x1024_o0_640_S256x128 slices_S1x1024_o0_640_S1x128 5 rfl (P c t x0 x1 x2 x3) (G c t x4) (C c t x5) x r l h1 h2
  · obtain rfl : g = 4 := Fin.ext (by have := x0_lt; change g.val = 4 + (x 0).val at h0; omega)
    exact half_at 128 slices_S256x256_o0_128_S256x128 (by decide) 512 slices_S256x1024_o0_512_S256x128 slices_S1x1024_o0_512_S1x128 4 rfl (P c t x0 x1 x2 x3) (G c t x4) (C c t x5) x r l h1 h2
  · obtain rfl : g = 3 := Fin.ext (by have := x0_lt; change g.val = 3 + (x 0).val at h0; omega)
    exact half_at 128 slices_S256x256_o0_128_S256x128 (by decide) 384 slices_S256x1024_o0_384_S256x128 slices_S1x1024_o0_384_S1x128 3 rfl (P c t x0 x1 x2 x3) (G c t x4) (C c t x5) x r l h1 h2
  · obtain rfl : g = 2 := Fin.ext (by have := x0_lt; change g.val = 2 + (x 0).val at h0; omega)
    exact half_at 128 slices_S256x256_o0_128_S256x128 (by decide) 256 slices_S256x1024_o0_256_S256x128 slices_S1x1024_o0_256_S1x128 2 rfl (P c t x0 x1 x2 x3) (G c t x4) (C c t x5) x r l h1 h2
  · obtain rfl : g = 1 := Fin.ext (by have := x0_lt; change g.val = 1 + (x 0).val at h0; omega)
    exact half_at 128 slices_S256x256_o0_128_S256x128 (by decide) 128 slices_S256x1024_o0_128_S256x128 slices_S1x1024_o0_128_S1x128 1 rfl (P c t x0 x1 x2 x3) (G c t x4) (C c t x5) x r l h1 h2
  · obtain rfl : g = 0 := Fin.ext (by have := x0_lt; change g.val = (x 0).val at h0; omega)
    exact half_at 128 slices_S256x256_o0_128_S256x128 (by decide) 0 slices_S256x1024_o0_0_S256x128 slices_S1x1024_o0_0_S1x128 0 rfl (P c t x0 x1 x2 x3) (G c t x4) (C c t x5) x r l h1 h2

/-- What a point leaves in the first result's block: the scratch block's strips. -/
theorem out6_eq : (outsAt0 m c t).1 = strips (Z0 c t (iblk m c 0 t) (iblk m c 1 t) (iblk m c 2 t) (iblk m c 3 t) (iblk m c 4 t) (iblk m c 5 t)) := by
  unfold outsAt0
  generalize iblk m c 0 t = x0
  generalize iblk m c 1 t = x1
  generalize iblk m c 2 t = x2
  generalize iblk m c 3 t = x3
  generalize iblk m c 4 t = x4
  generalize iblk m c 5 t = x5
  dsimp only
  unfold out0_A_6 kernelRun0_A
  dsimp only
  rw [View.read_writes_junk_eq_canon]
  funext y
  canon_tiles x h
  · exact strips_of (Z0 c t x0 x1 x2 x3 x4 x5) 15 y x (by exact h1) h2 h3
  · exact strips_of (Z0 c t x0 x1 x2 x3 x4 x5) 14 y x (by exact h1) h2 h3
  · exact strips_of (Z0 c t x0 x1 x2 x3 x4 x5) 13 y x (by exact h1) h2 h3
  · exact strips_of (Z0 c t x0 x1 x2 x3 x4 x5) 12 y x (by exact h1) h2 h3
  · exact strips_of (Z0 c t x0 x1 x2 x3 x4 x5) 11 y x (by exact h1) h2 h3
  · exact strips_of (Z0 c t x0 x1 x2 x3 x4 x5) 10 y x (by exact h1) h2 h3
  · exact strips_of (Z0 c t x0 x1 x2 x3 x4 x5) 9 y x (by exact h1) h2 h3
  · exact strips_of (Z0 c t x0 x1 x2 x3 x4 x5) 8 y x (by exact h1) h2 h3
  · exact strips_of (Z0 c t x0 x1 x2 x3 x4 x5) 7 y x (by exact h1) h2 h3
  · exact strips_of (Z0 c t x0 x1 x2 x3 x4 x5) 6 y x (by exact h1) h2 h3
  · exact strips_of (Z0 c t x0 x1 x2 x3 x4 x5) 5 y x (by exact h1) h2 h3
  · exact strips_of (Z0 c t x0 x1 x2 x3 x4 x5) 4 y x (by exact h1) h2 h3
  · exact strips_of (Z0 c t x0 x1 x2 x3 x4 x5) 3 y x (by exact h1) h2 h3
  · exact strips_of (Z0 c t x0 x1 x2 x3 x4 x5) 2 y x (by exact h1) h2 h3
  · exact strips_of (Z0 c t x0 x1 x2 x3 x4 x5) 1 y x (by exact h1) h2 h3
  · exact strips_of (Z0 c t x0 x1 x2 x3 x4 x5) 0 y x (by have := h1; simp only [Fin.isValue, Fin.val_zero]; omega) h2 h3

/-- What a point leaves in the second result's block: the scratch block's strips. -/
theorem out7_eq : (outsAt0 m c t).2 = strips (Z1 c t (iblk m c 0 t) (iblk m c 1 t) (iblk m c 2 t) (iblk m c 3 t) (iblk m c 4 t) (iblk m c 5 t)) := by
  unfold outsAt0
  generalize iblk m c 0 t = x0
  generalize iblk m c 1 t = x1
  generalize iblk m c 2 t = x2
  generalize iblk m c 3 t = x3
  generalize iblk m c 4 t = x4
  generalize iblk m c 5 t = x5
  dsimp only
  unfold out0_A_7 kernelRun0_A
  dsimp only
  rw [View.read_writes_junk_eq_canon]
  funext y
  canon_tiles x h
  · exact strips_of (Z1 c t x0 x1 x2 x3 x4 x5) 15 y x (by exact h1) h2 h3
  · exact strips_of (Z1 c t x0 x1 x2 x3 x4 x5) 14 y x (by exact h1) h2 h3
  · exact strips_of (Z1 c t x0 x1 x2 x3 x4 x5) 13 y x (by exact h1) h2 h3
  · exact strips_of (Z1 c t x0 x1 x2 x3 x4 x5) 12 y x (by exact h1) h2 h3
  · exact strips_of (Z1 c t x0 x1 x2 x3 x4 x5) 11 y x (by exact h1) h2 h3
  · exact strips_of (Z1 c t x0 x1 x2 x3 x4 x5) 10 y x (by exact h1) h2 h3
  · exact strips_of (Z1 c t x0 x1 x2 x3 x4 x5) 9 y x (by exact h1) h2 h3
  · exact strips_of (Z1 c t x0 x1 x2 x3 x4 x5) 8 y x (by exact h1) h2 h3
  · exact strips_of (Z1 c t x0 x1 x2 x3 x4 x5) 7 y x (by exact h1) h2 h3
  · exact strips_of (Z1 c t x0 x1 x2 x3 x4 x5) 6 y x (by exact h1) h2 h3
  · exact strips_of (Z1 c t x0 x1 x2 x3 x4 x5) 5 y x (by exact h1) h2 h3
  · exact strips_of (Z1 c t x0 x1 x2 x3 x4 x5) 4 y x (by exact h1) h2 h3
  · exact strips_of (Z1 c t x0 x1 x2 x3 x4 x5) 3 y x (by exact h1) h2 h3
  · exact strips_of (Z1 c t x0 x1 x2 x3 x4 x5) 2 y x (by exact h1) h2 h3
  · exact strips_of (Z1 c t x0 x1 x2 x3 x4 x5) 1 y x (by exact h1) h2 h3
  · exact strips_of (Z1 c t x0 x1 x2 x3 x4 x5) 0 y x (by have := h1; simp only [Fin.isValue, Fin.val_zero]; omega) h2 h3

end Cert.Kernel6Ideal.Fn

end
-- ==== Proof.Fn.Kernel.lean ====
/- The output arrays of the Fourier mixing's input kernel after the run. -/
module

public import proofs.«01_k».proof.Proof.Fn.Body
public import Idealize.ShloMosaic.Lib.StableHlo.RunRead

@[expose] public section

set_option maxRecDepth 16384

noncomputable section

namespace Cert.Kernel6Ideal.Fn

open Cert.Kernel6Ideal Cert.Kernel6Ideal.Gen
open Idealize.ShloMosaic Idealize.ShloMosaic.TcCoe Idealize.SL.Sem
open Idealize.ShloMosaic.Pipeline (Dat)
open Cert.Fn

theorem idx : ∀ t : Fin cfg0.N, win0_0.index t = ![t.val, 0] ∧ win0_1.index t = ![t.val / 32, 0, 0] ∧ win0_2.index t = ![t.val / 32, 0, 0]
    ∧ win0_3.index t = ![0, 0] ∧ win0_4.index t = ![0, 0] ∧ win0_5.index t = ![0, 0]
    ∧ win0_6.index t = ![t.val / 32, 0, t.val % 32, 0] ∧ win0_7.index t = ![t.val / 32, 0, t.val % 32, 0] :=
  (by decide +kernel : ∀ t : Fin grid0.N, _)

theorem covers6 : (cfg0.win 6).Covers := by decide +kernel
theorem covers7 : (cfg0.win 7).Covers := by decide +kernel

variable (m : (ℓ : Loc nD τ sig) → Buf (Elt Ideal) ℓ) (c : Dev nD) (t : Fin cfg0.N)

theorem lt (t : Fin cfg0.N) : t.val < 64 := t.isLt

theorem x_at (r : Fin 256) (d : Fin 1024) : (iblk m c 0 t : FVec Ideal S256x1024 .f32) (ix2 r d)
    = (m ((c : Thread nD τ).loc main_arg0) : FVec Ideal S16896x1024 .f32) (ix2 ⟨t.val * 256 + r.val, by have := lt t; omega⟩ d) := by
  blk_ext [iblk, V, idx t]

theorem sc_at (d : Fin 1024) : (iblk m c 1 t : FVec Ideal S1x1x1024 .f32) (ix3 0 0 d)
    = (m ((c : Thread nD τ).loc main_arg1) : FVec Ideal S3x1x1024 .f32) (ix3 ⟨t.val / 32, by have := lt t; omega⟩ 0 d) := by
  blk_ext [iblk, V, idx t]

theorem sh_at (d : Fin 1024) : (iblk m c 2 t : FVec Ideal S1x1x1024 .f32) (ix3 0 0 d)
    = (m ((c : Thread nD τ).loc main_arg2) : FVec Ideal S3x1x1024 .f32) (ix3 ⟨t.val / 32, by have := lt t; omega⟩ 0 d) := by
  blk_ext [iblk, V, idx t]

theorem w_at (d k : Fin 1024) : (iblk m c 3 t : FVec Ideal S1024x1024 .bf16) (ix2 d k)
    = (m ((c : Thread nD τ).loc main_arg3) : FVec Ideal S1024x1024 .f32) (ix2 d k) := by
  have h : (V m c main_v2 : FVec Ideal S1024x1024 .bf16) = (truncf .bf16 (m ((c : Thread nD τ).loc main_arg3) : FVec Ideal S1024x1024 .f32) bitsLt_bf16_f32 : FVec Ideal S1024x1024 .bf16) := by
    unfold V
    after_reads_simp
  have h2 : (iblk m c 3 t : FVec Ideal S1024x1024 .bf16) (ix2 d k) = (V m c main_v2 : FVec Ideal S1024x1024 .bf16) (ix2 d k) := by
    blk_ext [iblk, idx t]
  rw [h2, h]
  pointwise []

theorem gain_at (d : Fin 1024) : (iblk m c 4 t : FVec Ideal S1x1024 .f32) (ix2 0 d) = (m ((c : Thread nD τ).loc main_arg4) : FVec Ideal S1024 .f32) (ix1 d) := by
  have h : (V m c main_v3 : FVec Ideal S1x1024 .f32) = shapeCast S1x1024 (m ((c : Thread nD τ).loc main_arg4) : FVec Ideal S1024 .f32) shapeCasts_S1024_S1x1024 := by
    unfold V
    after_reads_simp
    rfl
  have h2 : (iblk m c 4 t : FVec Ideal S1x1024 .f32) (ix2 0 d) = (V m c main_v3 : FVec Ideal S1x1024 .f32) (ix2 0 d) := by
    blk_ext [iblk, idx t]
  rw [h2, h]
  pointwise []

/-- The two tables side by side. -/
theorem tables_at (j : Fin 128) (l : Fin 256) : (iblk m c 5 t : FVec Ideal S128x256 .bf16) (ix2 j l)
    = (concatenate S128x256 1 [⟨S128x128, (m ((c : Thread nD τ).loc main_arg5) : FVec Ideal S128x128 .f32)⟩, ⟨S128x128, (m ((c : Thread nD τ).loc main_arg6) : FVec Ideal S128x128 .f32)⟩]
      concatenates_S128x128_S128x128_S128x256_d1 : FVec Ideal S128x256 .f32) (ix2 j l) := by
  have h : (V m c main_v1 : FVec Ideal S128x256 .bf16) = (truncf .bf16 (concatenate S128x256 1 [⟨S128x128, (m ((c : Thread nD τ).loc main_arg5) : FVec Ideal S128x128 .f32)⟩,
      ⟨S128x128, (m ((c : Thread nD τ).loc main_arg6) : FVec Ideal S128x128 .f32)⟩] concatenates_S128x128_S128x128_S128x256_d1 : FVec Ideal S128x256 .f32) bitsLt_bf16_f32 : FVec Ideal S128x256 .bf16) := by
    unfold V
    after_reads_simp
    rfl
  have h2 : (iblk m c 5 t : FVec Ideal S128x256 .bf16) (ix2 j l) = (V m c main_v1 : FVec Ideal S128x256 .bf16) (ix2 j l) := by
    blk_ext [iblk, idx t]
  rw [h2, h]
  rfl

theorem cos_at (j l : Fin 128) : (iblk m c 5 t : FVec Ideal S128x256 .bf16) (ix2 j ⟨0 + l.val, by omega⟩) = (m ((c : Thread nD τ).loc main_arg5) : FVec Ideal S128x128 .f32) (ix2 j l) := by
  rw [tables_at]
  generalize (m ((c : Thread nD τ).loc main_arg5) : FVec Ideal S128x128 .f32) = a
  generalize (m ((c : Thread nD τ).loc main_arg6) : FVec Ideal S128x128 .f32) = b
  pointwise []

theorem sin_at (j l : Fin 128) : (iblk m c 5 t : FVec Ideal S128x256 .bf16) (ix2 j ⟨128 + l.val, by omega⟩) = (m ((c : Thread nD τ).loc main_arg6) : FVec Ideal S128x128 .f32) (ix2 j l) := by
  rw [tables_at]
  generalize (m ((c : Thread nD τ).loc main_arg5) : FVec Ideal S128x128 .f32) = a
  generalize (m ((c : Thread nD τ).loc main_arg6) : FVec Ideal S128x128 .f32) = b
  pointwise []

/-- The results, from the arguments. -/
def res (T : Fin 128 → Fin 128 → EReal) : FVec Ideal S2x16x512x1024 .bf16 := fun j =>
  part (fun r d => (m ((c : Thread nD τ).loc main_arg0) : FVec Ideal S16896x1024 .f32) (ix2 r d))
    (fun s d => (m ((c : Thread nD τ).loc main_arg1) : FVec Ideal S3x1x1024 .f32) (ix3 s 0 d))
    (fun s d => (m ((c : Thread nD τ).loc main_arg2) : FVec Ideal S3x1x1024 .f32) (ix3 s 0 d))
    (fun d k => (m ((c : Thread nD τ).loc main_arg3) : FVec Ideal S1024x1024 .f32) (ix2 d k))
    (fun d => (m ((c : Thread nD τ).loc main_arg4) : FVec Ideal S1024 .f32) (ix1 d)) T (j 0) (j 1) (j 2) (j 3)

def A : FVec Ideal S2x16x512x1024 .bf16 := res m c fun j l => (m ((c : Thread nD τ).loc main_arg5) : FVec Ideal S128x128 .f32) (ix2 j l)
def B : FVec Ideal S2x16x512x1024 .bf16 := res m c fun j l => (m ((c : Thread nD τ).loc main_arg6) : FVec Ideal S128x128 .f32) (ix2 j l)

theorem row_eq (q s : Fin 16) : (⟨t.val * 256 + (s.val * 16 + q.val), by have := lt t; omega⟩ : Fin 16896)
    = ⟨t.val / 32 * 8192 + ((t.val % 32 * 16 + s.val) * 16 + q.val), by have := lt t; omega⟩ :=
  Fin.ext (show t.val * 256 + (s.val * 16 + q.val) = t.val / 32 * 8192 + ((t.val % 32 * 16 + s.val) * 16 + q.val) by omega)

theorem point6 (q s : Fin 16) (k : Fin 1024) : (outsAt0 m c t).1 (ix4 0 q s k)
    = A m c (ix4 ⟨t.val / 32, by have := lt t; omega⟩ q ⟨t.val % 32 * 16 + s.val, by omega⟩ k) := by
  rw [out6_eq]
  show piece _ q (ix4 0 0 s k) = _
  rw [piece_at, Z0_at]
  simp only [P_at, G_at, C_at, x_at, sc_at, sh_at, w_at, gain_at, cos_at]
  unfold A res part
  dsimp only [ix4]
  exact congrArg (fun R => tr (row (fun d => (m ((c : Thread nD τ).loc main_arg0) : FVec Ideal S16896x1024 .f32) (ix2 R d)) _ _ _) _ _ _ _) (row_eq t q s)

theorem point7 (q s : Fin 16) (k : Fin 1024) : (outsAt0 m c t).2 (ix4 0 q s k)
    = B m c (ix4 ⟨t.val / 32, by have := lt t; omega⟩ q ⟨t.val % 32 * 16 + s.val, by omega⟩ k) := by
  rw [out7_eq]
  show piece _ q (ix4 0 0 s k) = _
  rw [piece_at, Z1_at]
  simp only [P_at, G_at, C_at, x_at, sc_at, sh_at, w_at, gain_at, sin_at]
  unfold B res part
  dsimp only [ix4]
  exact congrArg (fun R => tr (row (fun d => (m ((c : Thread nD τ).loc main_arg0) : FVec Ideal S16896x1024 .f32) (ix2 R d)) _ _ _) _ _ _ _) (row_eq t q s)

theorem final6_of (o : Fin cfg0.N → FVec Ideal S1x16x16x1024 .bf16) (f : FVec Ideal S2x16x512x1024 .bf16) (ho : ∀ t, (dats m 0 c).after 6 t = o t)
    (hf : ∀ (t : Fin cfg0.N) (q s : Fin 16) (k : Fin 1024), o t (ix4 0 q s k) = f (ix4 ⟨t.val / 32, by have := lt t; omega⟩ q ⟨t.val % 32 * 16 + s.val, by omega⟩ k)) :
    (dats m 0 c).arrAt 6 cfg0.N = f := by
  have emb (t : Fin cfg0.N) (y : ((cfg0.win 6).xblock (cfg0.grid.coords t)).Idx) : f ((win0_6.blk t).view.emb y)
      = f (ix4 ⟨t.val / 32, by have := lt t; omega⟩ (show Fin 16 from y 1) ⟨t.val % 32 * 16 + (show Fin 16 from y 2).val, by have := (show Fin 16 from y 2).isLt; omega⟩ (show Fin 1024 from y 3)) := by
    blk_ext [idx t]
  generalize dats m 0 c = D at ho ⊢
  refine D.arrAt_eq_of_covers 6 f covers6 fun t _ y => ?_
  blk_simp
  rw [ho]
  refine Eq.trans ?_ (emb t y).symm
  refine Eq.trans ?_ (hf t (show Fin 16 from y 1) (show Fin 16 from y 2) (show Fin 1024 from y 3))
  have hy : y = ix4 0 (show Fin 16 from y 1) (show Fin 16 from y 2) (show Fin 1024 from y 3) := funext fun a => by
    match a with
    | ⟨0, _⟩ => exact Subsingleton.elim (α := Fin 1) _ _
    | ⟨1, _⟩ => rfl
    | ⟨2, _⟩ => rfl
    | ⟨3, _⟩ => rfl
  exact congrArg (o t) hy

theorem final7_of (o : Fin cfg0.N → FVec Ideal S1x16x16x1024 .bf16) (f : FVec Ideal S2x16x512x1024 .bf16) (ho : ∀ t, (dats m 0 c).after 7 t = o t)
    (hf : ∀ (t : Fin cfg0.N) (q s : Fin 16) (k : Fin 1024), o t (ix4 0 q s k) = f (ix4 ⟨t.val / 32, by have := lt t; omega⟩ q ⟨t.val % 32 * 16 + s.val, by omega⟩ k)) :
    (dats m 0 c).arrAt 7 cfg0.N = f := by
  have emb (t : Fin cfg0.N) (y : ((cfg0.win 7).xblock (cfg0.grid.coords t)).Idx) : f ((win0_7.blk t).view.emb y)
      = f (ix4 ⟨t.val / 32, by have := lt t; omega⟩ (show Fin 16 from y 1) ⟨t.val % 32 * 16 + (show Fin 16 from y 2).val, by have := (show Fin 16 from y 2).isLt; omega⟩ (show Fin 1024 from y 3)) := by
    blk_ext [idx t]
  generalize dats m 0 c = D at ho ⊢
  refine D.arrAt_eq_of_covers 7 f covers7 fun t _ y => ?_
  blk_simp
  rw [ho]
  refine Eq.trans ?_ (emb t y).symm
  refine Eq.trans ?_ (hf t (show Fin 16 from y 1) (show Fin 16 from y 2) (show Fin 1024 from y 3))
  have hy : y = ix4 0 (show Fin 16 from y 1) (show Fin 16 from y 2) (show Fin 1024 from y 3) := funext fun a => by
    match a with
    | ⟨0, _⟩ => exact Subsingleton.elim (α := Fin 1) _ _
    | ⟨1, _⟩ => rfl
    | ⟨2, _⟩ => rfl
    | ⟨3, _⟩ => rfl
  exact congrArg (o t) hy

/-- The output arrays after the run. -/
theorem final6 : (dats m 0 c).arrAt 6 cfg0.N = A m c := final6_of m c _ _ (after0_6 m c) (point6 m c)
theorem final7 : (dats m 0 c).arrAt 7 cfg0.N = B m c := final7_of m c _ _ (after0_7 m c) (point7 m c)

end Cert.Kernel6Ideal.Fn

end
-- ==== Proof.Fn.Ref.lean ====
/- The Fourier mixing's input reference at an index. -/
module

public import proofs.«01_k».proof.Proof.Gen.Reference6Ideal.Run
public import proofs.«01_k».proof.Proof.Fn.Math
public import Idealize.ShloMosaic.Lib.Pointwise

@[expose] public section

set_option maxRecDepth 16384

noncomputable section

namespace Cert.Reference6Ideal.Fn

open Cert.Reference6Ideal Cert.Reference6Ideal.Gen Cert.Reference6Ideal.Value
open Idealize.ShloMosaic Idealize.ShloMosaic.TcCoe
open Cert.Fn

section Stages

variable {F : FTy → Type} [FloatOps F]

/-- The modulated rows times the weights. -/
def prod (x : Vec F S16896x1024 .f32) (sc sh : Vec F S3x1x1024 .f32) (w : Vec F S1024x1024 .f32) : Vec F S2x8192x1024 .f32 :=
  Host.dotGeneral dot_S2x8192x1024_S1024x1024_S2x8192x1024_2_0_01_1_n_n none (addf (mulf (shapeCast _ (extractStridedSlice S16384x1024 ![0, 0] x slices_S16896x1024_S16384x1024_0_0) shapeCasts_S16384x1024_S2x8192x1024)
      (broadcastInDim S2x8192x1024 ![0, 1, 2] bcast_S2x1x1024_S2x8192x1024_0_1_2 (addf (broadcastInDim S2x1x1024 ![] bcast_S_S2x1x1024 (constant S_ .f32 0x3F800000#32))
        (extractStridedSlice S2x1x1024 ![0, 0, 0] sc slices_S3x1x1024_S2x1x1024_0_0_0))))
    (broadcastInDim S2x8192x1024 ![0, 1, 2] bcast_S2x1x1024_S2x8192x1024_0_1_2 (extractStridedSlice S2x1x1024 ![0, 0, 0] sh slices_S3x1x1024_S2x1x1024_0_0_0))) w

/-- Every group of 128 over the root of its mean square, under the gain. -/
def normed (u : Vec F S2x8192x8x128 .f32) (g : Vec F S1024 .f32) : Vec F S2x8192x8x128 .f32 :=
  mulf (mulf u (broadcastInDim S2x8192x8x128 ![0, 1, 2, 3] bcast_S2x8192x8x1_S2x8192x8x128_0_1_2_3 (Host.rsqrt (addf
      (Host.divf (broadcastInDim S2x8192x8x1 ![0, 1, 2] bcast_S2x8192x8_S2x8192x8x1_0_1_2 (Host.reduceAdd (mulf u u) (constant S_ .f32 0x00000000#32) reducesTo_S2x8192x8x128_S2x8192x8_d3 h_S_))
        (broadcastInDim S2x8192x8x1 ![] bcast_S_S2x8192x8x1 (constant S_ .f32 0x43000000#32)))
      (broadcastInDim S2x8192x8x1 ![] bcast_S_S2x8192x8x1 (constant S_ .f32 0x3727C5AC#32))))))
    (broadcastInDim S2x8192x8x128 ![0, 1, 2, 3] bcast_S1x1x8x128_S2x8192x8x128_0_1_2_3 (broadcastInDim S1x1x8x128 ![2, 3] bcast_S8x128_S1x1x8x128_2_3
      (shapeCast _ g shapeCasts_S1024_S8x128)))

/-- Those through a table, the positions split by 16. -/
def through (v : Vec F S2x8192x8x128 .f32) (T : Vec F S128x128 .f32) : Vec F S2x16x512x1024 .bf16 :=
  truncf .bf16 (transpose S2x16x512x1024 [0, 2, 1, 3] (shapeCast _ (Host.dotGeneral dot_S2x8192x8x128_S128x128_S2x8192x8x128_3_0_012_1_n_n none v T) shapeCasts_S2x8192x8x128_S2x512x16x1024)
    transposes_S2x512x16x1024_S2x16x512x1024_0_2_1_3) bitsLt_bf16_f32

/-- A result. -/
def res (x : Vec F S16896x1024 .f32) (sc sh : Vec F S3x1x1024 .f32) (w : Vec F S1024x1024 .f32) (g : Vec F S1024 .f32) (T : Vec F S128x128 .f32) : Vec F S2x16x512x1024 .bf16 :=
  through (normed (shapeCast _ (prod x sc sh w) shapeCasts_S2x8192x1024_S2x8192x8x128) g) T

end Stages

theorem prod_at (x : FVec Ideal S16896x1024 .f32) (sc sh : FVec Ideal S3x1x1024 .f32) (w : FVec Ideal S1024x1024 .f32) (b : Fin 2) (n : Fin 8192) (k : Fin 1024) :
    prod (F := Ideal) x sc sh w (ix3 b n k) = row (fun d => x (ix2 ⟨b.val * 8192 + n.val, by omega⟩ d)) (fun d => sc (ix3 ⟨b.val, by omega⟩ 0 d))
      (fun d => sh (ix3 ⟨b.val, by omega⟩ 0 d)) (fun d k => w (ix2 d k)) k := by
  unfold prod row
  pointwise []

theorem normed_at (y : FVec Ideal S2x8192x1024 .f32) (g : FVec Ideal S1024 .f32) (b : Fin 2) (n : Fin 8192) (a : Fin 8) (l : Fin 128) :
    normed (F := Ideal) (shapeCast S2x8192x8x128 y shapeCasts_S2x8192x1024_S2x8192x8x128) g (ix4 b n a l) = nrm (fun k => y (ix3 b n k)) (fun k => g (ix1 k)) a l := by
  unfold normed nrm lane
  pointwise []

theorem through_at (v : FVec Ideal S2x8192x8x128 .f32) (T : FVec Ideal S128x128 .f32) (b : Fin 2) (q : Fin 16) (s : Fin 512) (k : Fin 1024) :
    through (F := Ideal) v T (ix4 b q s k) = ∑ j : Fin 128, v (ix4 b ⟨s.val * 16 + q.val, by omega⟩ ⟨k.val / 128, by omega⟩ j) * T (ix2 j ⟨k.val % 128, by omega⟩) := by
  unfold through
  pointwise []

theorem res_at (x : FVec Ideal S16896x1024 .f32) (sc sh : FVec Ideal S3x1x1024 .f32) (w : FVec Ideal S1024x1024 .f32) (g : FVec Ideal S1024 .f32) (T : FVec Ideal S128x128 .f32)
    (b : Fin 2) (q : Fin 16) (s : Fin 512) (k : Fin 1024) :
    res (F := Ideal) x sc sh w g T (ix4 b q s k) = part (fun r d => x (ix2 r d)) (fun a d => sc (ix3 a 0 d)) (fun a d => sh (ix3 a 0 d)) (fun d k => w (ix2 d k))
      (fun d => g (ix1 d)) (fun j l => T (ix2 j l)) b q s k := by
  unfold res
  rw [through_at]
  exact Finset.sum_congr rfl fun j _ => congrArg (· * _) ((normed_at _ _ _ _ _ _).trans (congrArg (fun u => nrm u _ _ j) (funext fun k => prod_at x sc sh w _ _ k)))

end Cert.Reference6Ideal.Fn

end
-- ==== Proof.Fn.Claims.lean ====
/- The claims of the Fourier mixing's input call: the reference runs, and the kernel's two arrays and the reference's are equal. -/
module

public import proofs.«01_k».proof.Defs
public import proofs.«01_k».proof.Proof.Gen.Kernel6Ideal
public import proofs.«01_k».proof.Proof.Gen.Reference6Ideal
public import proofs.«01_k».proof.Proof.Fn.Kernel
public import proofs.«01_k».proof.Proof.Fn.Ref
public import Idealize.ShloMosaic.Adequacy
public import Idealize.ShloMosaic.Init

@[expose] public section

noncomputable section

namespace Cert.Fn

open Idealize.ShloMosaic Idealize.ShloMosaic.TcCoe Idealize.SL.Sem

/-- The reference runs, leaves its arguments alone and has no semaphore. -/
theorem ref_frame : Cert.quiescent_Reference6Ideal := fun m g _ =>
  (θ_run (Cert.Reference6Ideal.defs (F := Ideal)) _ _).mono
    (fun r h => ⟨fun c => (h c).2.2, sem_eq_zero_of_no_sems (by decide) r.2⟩)
    (Cert.Reference6Ideal.Value.run (F := Ideal) m g)

section Equal

variable (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)

/-- A result of the reference on the kernel's arguments is the kernel's. -/
theorem res_eq (T : FVec Ideal Cert.Kernel6Ideal.S128x128 .f32) :
    (Cert.Reference6Ideal.Fn.res (F := Ideal) (m (c.tc.loc Cert.Kernel6Ideal.main_arg0)) (m (c.tc.loc Cert.Kernel6Ideal.main_arg1)) (m (c.tc.loc Cert.Kernel6Ideal.main_arg2))
      (m (c.tc.loc Cert.Kernel6Ideal.main_arg3)) (m (c.tc.loc Cert.Kernel6Ideal.main_arg4)) T : FVec Ideal Cert.Kernel6Ideal.S2x16x512x1024 .bf16)
      = Cert.Kernel6Ideal.Fn.res m c fun j l => T (ix2 j l) := by
  funext j
  have hj : j = ix4 (show Fin 2 from j 0) (show Fin 16 from j 1) (show Fin 512 from j 2) (show Fin 1024 from j 3) := funext fun a => by
    match a with
    | ⟨0, _⟩ => rfl
    | ⟨1, _⟩ => rfl
    | ⟨2, _⟩ => rfl
    | ⟨3, _⟩ => rfl
  rw [hj]
  exact Cert.Reference6Ideal.Fn.res_at _ _ _ _ _ _ _ _ _ _

variable (h : m' (c.tc.loc Cert.Reference6Ideal.main_arg0) = m (c.tc.loc Cert.Kernel6Ideal.main_arg0)
      ∧ m' (c.tc.loc Cert.Reference6Ideal.main_arg1) = m (c.tc.loc Cert.Kernel6Ideal.main_arg1)
      ∧ m' (c.tc.loc Cert.Reference6Ideal.main_arg2) = m (c.tc.loc Cert.Kernel6Ideal.main_arg2)
      ∧ m' (c.tc.loc Cert.Reference6Ideal.main_arg3) = m (c.tc.loc Cert.Kernel6Ideal.main_arg3)
      ∧ m' (c.tc.loc Cert.Reference6Ideal.main_arg4) = m (c.tc.loc Cert.Kernel6Ideal.main_arg4)
      ∧ m' (c.tc.loc Cert.Reference6Ideal.main_arg5) = m (c.tc.loc Cert.Kernel6Ideal.main_arg5)
      ∧ m' (c.tc.loc Cert.Reference6Ideal.main_arg6) = m (c.tc.loc Cert.Kernel6Ideal.main_arg6))

include h in
theorem cos_eq : (Cert.Reference6Ideal.Fn.res (F := Ideal) (m' (c.tc.loc Cert.Reference6Ideal.main_arg0)) (m' (c.tc.loc Cert.Reference6Ideal.main_arg1)) (m' (c.tc.loc Cert.Reference6Ideal.main_arg2))
      (m' (c.tc.loc Cert.Reference6Ideal.main_arg3)) (m' (c.tc.loc Cert.Reference6Ideal.main_arg4)) (m' (c.tc.loc Cert.Reference6Ideal.main_arg5)) : FVec Ideal Cert.Kernel6Ideal.S2x16x512x1024 .bf16)
      = (Cert.Kernel6Ideal.Gen.dats (F := Ideal) m 0 c).arrAt 6 Cert.Kernel6Ideal.cfg0.N := by
  obtain ⟨h0, h1, h2, h3, h4, h5, h6⟩ := h
  rw [Cert.Kernel6Ideal.Fn.final6 m c, h0, h1, h2, h3, h4, h5]
  exact res_eq m c _

include h in
theorem sin_eq : (Cert.Reference6Ideal.Fn.res (F := Ideal) (m' (c.tc.loc Cert.Reference6Ideal.main_arg0)) (m' (c.tc.loc Cert.Reference6Ideal.main_arg1)) (m' (c.tc.loc Cert.Reference6Ideal.main_arg2))
      (m' (c.tc.loc Cert.Reference6Ideal.main_arg3)) (m' (c.tc.loc Cert.Reference6Ideal.main_arg4)) (m' (c.tc.loc Cert.Reference6Ideal.main_arg6)) : FVec Ideal Cert.Kernel6Ideal.S2x16x512x1024 .bf16)
      = (Cert.Kernel6Ideal.Gen.dats (F := Ideal) m 0 c).arrAt 7 Cert.Kernel6Ideal.cfg0.N := by
  obtain ⟨h0, h1, h2, h3, h4, h5, h6⟩ := h
  rw [Cert.Kernel6Ideal.Fn.final7 m c, h0, h1, h2, h3, h4, h6]
  exact res_eq m c _

end Equal

theorem algebraic : Cert.algebraic_Kernel6Ideal_Reference6Ideal := fun m g m' g' _ hm =>
  ⟨fun c => (Cert.Kernel6Ideal.Gen.dats (F := Ideal) m 0 c).arrAt 6 Cert.Kernel6Ideal.cfg0.N,
    fun c => (Cert.Kernel6Ideal.Gen.dats (F := Ideal) m 0 c).arrAt 7 Cert.Kernel6Ideal.cfg0.N,
    Cert.Kernel6Ideal.Value.run_blocks m g,
    (θ_run (Cert.Reference6Ideal.defs (F := Ideal)) _ _).mono
      (fun r h c => ⟨(h c).1.trans (cos_eq m m' c (hm c)), (h c).2.1.trans (sin_eq m m' c (hm c)), (h c).2.2⟩)
      (Cert.Reference6Ideal.Value.run (F := Ideal) m' g')⟩

end Cert.Fn

end
-- ==== Proof.lean ====
/- The certificate of seven calls: the differential attention in each of its two layers, the projection with its normalisation, the product that makes queries, keys and
   values, the experts' layers on the dispatched rows, the combination of the experts' rows with its normalisation, and the Fourier mixing's input with its
   transform over channels. Each kernel, its idealization and its reference run and leave their arguments alone, and the kernel's results are the reference's, for the attention when queries, keys, values and lambda vectors are finite, for the experts when every
   block's expert is below 32.
     * `Att/KernelBody`, `Att/KernelIdealBody`: what the body leaves in its buffers; `Att/KernelRun`, `Att/KernelIdealRun`: the runs.
     * `Att/Online`: the running maximum and sums; `Att/Pay`, `Att/Out`, `Att/OutReal`: a block's result over the reals; `Att/Array`: the whole array.
     * `Att/Ref`, `Att/RefValue`: the reference at an index; `Att/Math`: the function both compute; `Att/Pre`: the precondition.
     * `Att2/…`: the same modules for the second attention layer, whose initial mixing coefficient is another; `Att2/Claims`: its claims.
     * `Proj/Norm`: a normalised row; `Proj/Kernel`, `Proj/Ref`: both programs at an index; `Proj/Claims`: the claims.
     * `Qkv/Rope`: the function both compute; `Qkv/Pay`, `Qkv/Tables`, `Qkv/Kernel`: the kernel's arrays; `Qkv/Ref`: the reference's; `Qkv/Claims`: the claims.
     * `Moe/Body`, `Moe/IdealBody`: what the body leaves in its buffers; `Moe/Run`, `Moe/IdealRun`: the runs; `Moe/Tables`, `Moe/IdealTables`: where the
       expert table sends the weights' windows; `Moe/Math`: the function both compute; `Moe/Pre`: the precondition; `Moe/Kernel`, `Moe/Ref`: both
       programs at an index; `Moe/Claims`: the claims.
     * `Comb/Math`: the gated sum of a token's four rows; `Comb/Kernel`, `Comb/Ref`: both programs at an index; `Comb/Claims`: the claims.
     * `Fn/Math`: a group of a row, normalised and through a table; `Fn/Pay`, `Fn/Body`: the scratch blocks and the strips read from them;
       `Fn/Kernel`, `Fn/Ref`: both programs' arrays; `Fn/Claims`: the claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Skeleton
public import proofs.«01_k».proof.Proof.Gen.Kernel4.Launch
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Pre_expert_numbers
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Att.KernelRun
public import proofs.«01_k».proof.Proof.Att.Array
public import proofs.«01_k».proof.Proof.Att.RefValue
public import proofs.«01_k».proof.Proof.Att.Pre
public import proofs.«01_k».proof.Proof.Att2.KernelRun
public import proofs.«01_k».proof.Proof.Att2.Claims
public import proofs.«01_k».proof.Proof.Proj.Claims
public import proofs.«01_k».proof.Proof.Qkv.Claims
public import proofs.«01_k».proof.Proof.Moe.Claims
public import proofs.«01_k».proof.Proof.Comb.Claims
public import proofs.«01_k».proof.Proof.Fn.Claims
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments alone and has no semaphore. -/
theorem ref_frame : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The two arrays agree. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) = fun _ => 1#1)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4)) :
    (Cert.ReferenceIdeal.Value.res_main_v67 (F := Ideal) m' c : FVec Ideal Cert.KernelIdeal.S16384x1024 .bf16)
      = (Cert.KernelIdeal.Att.dats (F := Ideal) m 0 c).arrAt 5 Cert.KernelIdeal.cfg0.N := by
  obtain ⟨hq, hk, hv, hl⟩ := Cert.Pre_finite_inputs.Att.reals _ _ _ _ _ hpre
  choose q hq using hq
  choose k hk using hk
  choose v hv using hv
  choose l hl using hl
  obtain ⟨L, hL⟩ := Cert.Online.lamE_real fun i j => l (ix2 i j)
  have hL' : Cert.Online.lamE (fun i j => (m (c.tc.loc Cert.KernelIdeal.main_arg3) : FVec Ideal Cert.KernelIdeal.S4x64 .f32) (ix2 i j)) = (L : EReal) :=
    (congrArg Cert.Online.lamE (funext fun i => funext fun j => hl (ix2 i j))).trans hL
  rw [Cert.KernelIdeal.Att.final m c (fun a b => q (ix2 a b)) (fun a b d => k (ix3 a b d)) (fun a b d e => v (ix4 a b d e)) (fun a b => hq _) (fun a b d => hk _)
    (fun a b d e => hv _) L hL', Cert.ReferenceIdeal.Att.res_eq, h0, h1, h2, h3, h4]
  funext j
  have hj : j = ix2 (show Fin 16384 from j 0) (show Fin 1024 from j 1) := funext fun a => by
    match a with
    | ⟨0, _⟩ => rfl
    | ⟨1, _⟩ => rfl
  rw [hj]
  exact Cert.ReferenceIdeal.Att.res_real (fun a b => q (ix2 a b)) (fun a b d => k (ix3 a b d)) (fun a b d e => v (ix4 a b d e)) _ _ _ (fun a b => hq _)
    (fun a b d => hk _) (fun a b d e => hv _) _ _ L hL' _ _

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts, Cert.Pre_finite_inputs.Gen.facts, Cert.Pre_expert_numbers.Gen.facts,
  fun m g _ => Cert.Kernel.Att.frame_claim m g,
  fun m g _ => Cert.KernelIdeal.Att.frame_claim m g,
  fun m g _ => Cert.KernelIdeal.Att.frame_claim m g,
  ref_frame,
  fun m g _ => ref_frame m g trivial,
  fun m g _ => Cert.Kernel2.Gen.frame m g,
  fun m g _ => Cert.Kernel2Ideal.Gen.frame m g,
  Cert.Proj.ref_frame,
  fun m g _ => Cert.Kernel3.Gen.frame m g,
  fun m g _ => Cert.Kernel3Ideal.Gen.frame m g,
  Cert.Qkv.ref_frame,
  Cert.Moe.kernel_frame,
  Cert.Moe.ideal_frame,
  Cert.Moe.ref_frame,
  Cert.Moe.ref_frame_pre,
  fun m g _ => Cert.Kernel5.Gen.frame m g,
  fun m g _ => Cert.Kernel5Ideal.Gen.frame m g,
  Cert.Comb.ref_frame,
  fun m g _ => Cert.Kernel6.Gen.frame m g,
  fun m g _ => Cert.Kernel6Ideal.Gen.frame m g,
  Cert.Fn.ref_frame,
  fun m g _ => Cert.Kernel7.Att.frame_claim m g,
  fun m g _ => Cert.Kernel7Ideal.Att.frame_claim m g,
  fun m g _ => Cert.Kernel7Ideal.Att.frame_claim m g,
  Cert.Att2.ref_frame,
  fun m g _ => Cert.Att2.ref_frame m g trivial,
  trivial,
  fun m g m' g' hpre hm => ⟨fun c => (Cert.KernelIdeal.Att.dats (F := Ideal) m 0 c).arrAt 5 Cert.KernelIdeal.cfg0.N,
    Cert.KernelIdeal.Att.run_value m g,
    (θ_run (Cert.ReferenceIdeal.defs (F := Ideal)) _ _).mono
      (fun r h c => ⟨(h c).1.trans (equal m m' c (hpre c) (hm c).1 (hm c).2.1 (hm c).2.2.1 (hm c).2.2.2.1 (hm c).2.2.2.2), (h c).2⟩)
      (Cert.ReferenceIdeal.Value.run (F := Ideal) m' g')⟩,
  trivial,
  Cert.Proj.algebraic,
  trivial,
  Cert.Qkv.algebraic,
  trivial,
  Cert.Moe.algebraic,
  trivial,
  Cert.Comb.algebraic,
  trivial,
  Cert.Fn.algebraic,
  trivial,
  Cert.Att2.algebraic⟩

end Cert.Proof

end
